-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_below_infinity [hPre_gates_below_infinity : Cert.Pre_gates_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_gates_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_below_infinity [hPre_gates_below_infinity : Cert.Pre_gates_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_gates_below_infinity_back [hPre_gates_below_infinity_back : Cert.Pre_gates_below_infinity_back.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_gates_below_infinity_back.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_gates_below_infinity_back [hPre_gates_below_infinity_back : Cert.Pre_gates_below_infinity_back.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_gates_below_infinity_back.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_gates_finite [hPre_gates_finite : Cert.Pre_gates_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_gates_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_gates_finite [hPre_gates_finite : Cert.Pre_gates_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_gates_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gates_below_infinity [hKernelIdeal : Cert.KernelIdeal.Facts] [hPre_gates_below_infinity : Cert.Pre_gates_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gates_below_infinity [hReferenceIdeal : Cert.ReferenceIdeal.Facts] [hPre_gates_below_infinity : Cert.Pre_gates_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_gates_below_infinity_back [hKernel5Ideal : Cert.Kernel5Ideal.Facts] [hPre_gates_below_infinity_back : Cert.Pre_gates_below_infinity_back.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_gates_below_infinity_back m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_gates_below_infinity_back [hReference5Ideal : Cert.Reference5Ideal.Facts] [hPre_gates_below_infinity_back : Cert.Pre_gates_below_infinity_back.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_gates_below_infinity_back m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_gates_finite [hKernel6Ideal : Cert.Kernel6Ideal.Facts] [hPre_gates_finite : Cert.Pre_gates_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_gates_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_gates_finite [hReference6Ideal : Cert.Reference6Ideal.Facts] [hPre_gates_finite : Cert.Pre_gates_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_gates_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  True

def algebraic_KernelIdeal_ReferenceIdeal_pre_gates_below_infinity [hKernelIdeal : Cert.KernelIdeal.Facts] [hReferenceIdeal : Cert.ReferenceIdeal.Facts] [hPre_gates_below_infinity : Cert.Pre_gates_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)) (v2 : (c : Dev Cert.Kernel3Ideal.nD) → Buf (Elt Ideal) ((c.tc : Thread Cert.Kernel3Ideal.nD Cert.Kernel3Ideal.τ).loc Cert.Kernel3Ideal.main_v17_2)) (v3 : (c : Dev Cert.Kernel3Ideal.nD) → Buf (Elt Ideal) ((c.tc : Thread Cert.Kernel3Ideal.nD Cert.Kernel3Ideal.τ).loc Cert.Kernel3Ideal.main_v17_3)) (v4 : (c : Dev Cert.Kernel3Ideal.nD) → Buf (Elt Ideal) ((c.tc : Thread Cert.Kernel3Ideal.nD Cert.Kernel3Ideal.τ).loc Cert.Kernel3Ideal.main_v17_4)) (v5 : (c : Dev Cert.Kernel3Ideal.nD) → Buf (Elt Ideal) ((c.tc : Thread Cert.Kernel3Ideal.nD Cert.Kernel3Ideal.τ).loc Cert.Kernel3Ideal.main_v17_5)) (v6 : (c : Dev Cert.Kernel3Ideal.nD) → Buf (Elt Ideal) ((c.tc : Thread Cert.Kernel3Ideal.nD Cert.Kernel3Ideal.τ).loc Cert.Kernel3Ideal.main_v17_6)) (v7 : (c : Dev Cert.Kernel3Ideal.nD) → Buf (Elt Ideal) ((c.tc : Thread Cert.Kernel3Ideal.nD Cert.Kernel3Ideal.τ).loc Cert.Kernel3Ideal.main_v17_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_v17_2) = v2 c
          ∧ r.2.mem ((c.tc : Thread Cert.Kernel3Ideal.nD Cert.Kernel3Ideal.τ).loc Cert.Kernel3Ideal.main_v17_3) = v3 c
          ∧ r.2.mem ((c.tc : Thread Cert.Kernel3Ideal.nD Cert.Kernel3Ideal.τ).loc Cert.Kernel3Ideal.main_v17_4) = v4 c
          ∧ r.2.mem ((c.tc : Thread Cert.Kernel3Ideal.nD Cert.Kernel3Ideal.τ).loc Cert.Kernel3Ideal.main_v17_5) = v5 c
          ∧ r.2.mem ((c.tc : Thread Cert.Kernel3Ideal.nD Cert.Kernel3Ideal.τ).loc Cert.Kernel3Ideal.main_v17_6) = v6 c
          ∧ r.2.mem ((c.tc : Thread Cert.Kernel3Ideal.nD Cert.Kernel3Ideal.τ).loc Cert.Kernel3Ideal.main_v17_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v65) = v0 c
          ∧ r.2.mem ((c.tc : Thread Cert.Reference3Ideal.nD Cert.Reference3Ideal.τ).loc Cert.Reference3Ideal.main_v67) = v1 c
          ∧ r.2.mem ((c.tc : Thread Cert.Reference3Ideal.nD Cert.Reference3Ideal.τ).loc Cert.Reference3Ideal.main_v68) = v2 c
          ∧ r.2.mem ((c.tc : Thread Cert.Reference3Ideal.nD Cert.Reference3Ideal.τ).loc Cert.Reference3Ideal.main_v69) = v3 c
          ∧ r.2.mem ((c.tc : Thread Cert.Reference3Ideal.nD Cert.Reference3Ideal.τ).loc Cert.Reference3Ideal.main_v70) = v4 c
          ∧ r.2.mem ((c.tc : Thread Cert.Reference3Ideal.nD Cert.Reference3Ideal.τ).loc Cert.Reference3Ideal.main_v71) = v5 c
          ∧ r.2.mem ((c.tc : Thread Cert.Reference3Ideal.nD Cert.Reference3Ideal.τ).loc Cert.Reference3Ideal.main_v78) = v6 c
          ∧ r.2.mem ((c.tc : Thread Cert.Reference3Ideal.nD Cert.Reference3Ideal.τ).loc Cert.Reference3Ideal.main_v85) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v17_0)) (v1 : (c : Dev Cert.Kernel4Ideal.nD) → Buf (Elt Ideal) ((c.tc : Thread Cert.Kernel4Ideal.nD Cert.Kernel4Ideal.τ).loc Cert.Kernel4Ideal.main_v17_1)) (v2 : (c : Dev Cert.Kernel4Ideal.nD) → Buf (Elt Ideal) ((c.tc : Thread Cert.Kernel4Ideal.nD Cert.Kernel4Ideal.τ).loc Cert.Kernel4Ideal.main_v17_2)) (v3 : (c : Dev Cert.Kernel4Ideal.nD) → Buf (Elt Ideal) ((c.tc : Thread Cert.Kernel4Ideal.nD Cert.Kernel4Ideal.τ).loc Cert.Kernel4Ideal.main_v17_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17_0) = v0 c
          ∧ r.2.mem ((c.tc : Thread Cert.Kernel4Ideal.nD Cert.Kernel4Ideal.τ).loc Cert.Kernel4Ideal.main_v17_1) = v1 c
          ∧ r.2.mem ((c.tc : Thread Cert.Kernel4Ideal.nD Cert.Kernel4Ideal.τ).loc Cert.Kernel4Ideal.main_v17_2) = v2 c
          ∧ r.2.mem ((c.tc : Thread Cert.Kernel4Ideal.nD Cert.Kernel4Ideal.τ).loc Cert.Kernel4Ideal.main_v17_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_v36) = v1 c
          ∧ r.2.mem ((c.tc : Thread Cert.Reference4Ideal.nD Cert.Reference4Ideal.τ).loc Cert.Reference4Ideal.main_v43) = v2 c
          ∧ r.2.mem ((c.tc : Thread Cert.Reference4Ideal.nD Cert.Reference4Ideal.τ).loc Cert.Reference4Ideal.main_v50) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_gates_below_infinity_back [hKernel5Ideal : Cert.Kernel5Ideal.Facts] [hReference5Ideal : Cert.Reference5Ideal.Facts] [hPre_gates_below_infinity_back : Cert.Pre_gates_below_infinity_back.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_gates_below_infinity_back m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal_pre_gates_finite [hKernel6Ideal : Cert.Kernel6Ideal.Facts] [hReference6Ideal : Cert.Reference6Ideal.Facts] [hPre_gates_finite : Cert.Pre_gates_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_gates_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v19)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v19) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v26) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_gates_below_infinity : Cert.Pre_gates_below_infinity.Facts) (hPre_gates_below_infinity_back : Cert.Pre_gates_below_infinity_back.Facts) (hPre_gates_finite : Cert.Pre_gates_finite.Facts),
    quiescent_Kernel (hKernel := hKernel)
    ∧ quiescent_KernelIdeal (hKernelIdeal := hKernelIdeal)
    ∧ quiescent_KernelIdeal_pre_gates_below_infinity (hKernelIdeal := hKernelIdeal) (hPre_gates_below_infinity := hPre_gates_below_infinity)
    ∧ quiescent_ReferenceIdeal (hReferenceIdeal := hReferenceIdeal)
    ∧ quiescent_ReferenceIdeal_pre_gates_below_infinity (hReferenceIdeal := hReferenceIdeal) (hPre_gates_below_infinity := hPre_gates_below_infinity)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_gates_below_infinity_back (hKernel5Ideal := hKernel5Ideal) (hPre_gates_below_infinity_back := hPre_gates_below_infinity_back)
    ∧ quiescent_Reference5Ideal (hReference5Ideal := hReference5Ideal)
    ∧ quiescent_Reference5Ideal_pre_gates_below_infinity_back (hReference5Ideal := hReference5Ideal) (hPre_gates_below_infinity_back := hPre_gates_below_infinity_back)
    ∧ quiescent_Kernel6 (hKernel6 := hKernel6)
    ∧ quiescent_Kernel6Ideal (hKernel6Ideal := hKernel6Ideal)
    ∧ quiescent_Kernel6Ideal_pre_gates_finite (hKernel6Ideal := hKernel6Ideal) (hPre_gates_finite := hPre_gates_finite)
    ∧ quiescent_Reference6Ideal (hReference6Ideal := hReference6Ideal)
    ∧ quiescent_Reference6Ideal_pre_gates_finite (hReference6Ideal := hReference6Ideal) (hPre_gates_finite := hPre_gates_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_gates_below_infinity (hKernelIdeal := hKernelIdeal) (hReferenceIdeal := hReferenceIdeal) (hPre_gates_below_infinity := hPre_gates_below_infinity)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_gates_below_infinity_back (hKernel5Ideal := hKernel5Ideal) (hReference5Ideal := hReference5Ideal) (hPre_gates_below_infinity_back := hPre_gates_below_infinity_back)
    ∧ preserves_Kernel6_Kernel6Ideal
    ∧ algebraic_Kernel6Ideal_Reference6Ideal_pre_gates_finite (hKernel6Ideal := hKernel6Ideal) (hReference6Ideal := hReference6Ideal) (hPre_gates_finite := hPre_gates_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_gates_below_infinity.lean ====
abbrev S8x4096x256 : Shape := ⟨3, ![8, 4096, 256]⟩
abbrev S8x4096x512 : Shape := ⟨3, ![8, 4096, 512]⟩
abbrev S8x4x64x128 : Shape := ⟨4, ![8, 4, 64, 128]⟩
abbrev S_ : Shape := ⟨0, ![]⟩

class Facts : Prop where
  bcast_S_S8x4096x256 : S_.BroadcastsInDim S8x4096x256 (![] : Fin 0 → Fin S8x4096x256.rank)

variable [Facts]

def fn {F : FTy → Type} [FloatOps F] (main_arg0 : FVec F S8x4096x256 .bf16) (main_arg1 : FVec F S8x4096x256 .bf16) (main_arg2 : FVec F S8x4096x512 .bf16) (main_arg3 : FVec F S8x4096x256 .f32) (main_arg4 : FVec F S8x4x64x128 .f32) : IVec S8x4096x256 1 :=
  let main_cst : FVec F S_ .f32 := constant S_ .f32 0x7F800000#32
  let main_v0 : FVec F S8x4096x256 .f32 := broadcastInDim S8x4096x256 ![] bcast_S_S8x4096x256 main_cst
  let main_v1 : IVec S8x4096x256 1 := cmpf .olt main_arg3 main_v0
  main_v1
-- ==== Pre_gates_below_infinity_back.lean ====
abbrev S8x4096x256 : Shape := ⟨3, ![8, 4096, 256]⟩
abbrev S8x4096x512 : Shape := ⟨3, ![8, 4096, 512]⟩
abbrev S8x4x64x128 : Shape := ⟨4, ![8, 4, 64, 128]⟩
abbrev S128 : Shape := ⟨1, ![128]⟩
abbrev S_ : Shape := ⟨0, ![]⟩

class Facts : Prop where
  bcast_S_S8x4096x256 : S_.BroadcastsInDim S8x4096x256 (![] : Fin 0 → Fin S8x4096x256.rank)

variable [Facts]

def fn {F : FTy → Type} [FloatOps F] (main_arg0 : FVec F S8x4096x256 .bf16) (main_arg1 : FVec F S8x4096x256 .bf16) (main_arg2 : FVec F S8x4096x512 .bf16) (main_arg3 : FVec F S8x4096x256 .f32) (main_arg4 : FVec F S8x4x64x128 .f32) (main_arg5 : FVec F S8x4096x512 .f32) (main_arg6 : FVec F S8x4096x512 .bf16) (main_arg7 : FVec F S128 .f32) : IVec S8x4096x256 1 :=
  let main_cst : FVec F S_ .f32 := constant S_ .f32 0x7F800000#32
  let main_v0 : FVec F S8x4096x256 .f32 := broadcastInDim S8x4096x256 ![] bcast_S_S8x4096x256 main_cst
  let main_v1 : IVec S8x4096x256 1 := cmpf .olt main_arg3 main_v0
  main_v1
-- ==== Pre_gates_finite.lean ====
abbrev S8x256x256 : Shape := ⟨3, ![8, 256, 256]⟩
abbrev S8x256x512 : Shape := ⟨3, ![8, 256, 512]⟩
abbrev S_ : Shape := ⟨0, ![]⟩

class Facts : Prop where
  bcast_S_S8x256x256 : S_.BroadcastsInDim S8x256x256 (![] : Fin 0 → Fin S8x256x256.rank)

variable [Facts]

def fn {F : FTy → Type} [FloatOps F] (main_arg0 : FVec F S8x256x256 .bf16) (main_arg1 : FVec F S8x256x512 .bf16) (main_arg2 : FVec F S8x256x256 .f32) (main_arg3 : FVec F S8x256x256 .f32) : IVec S8x256x256 1 :=
  let main_v0 : FVec F S8x256x256 .f32 := Host.absf main_arg2
  let main_cst : FVec F S_ .f32 := constant S_ .f32 0x7F800000#32
  let main_v1 : FVec F S8x256x256 .f32 := broadcastInDim S8x256x256 ![] bcast_S_S8x256x256 main_cst
  let main_v2 : IVec S8x256x256 1 := cmpf .olt main_v0 main_v1
  let main_v3 : FVec F S8x256x256 .f32 := Host.absf main_arg3
  let main_cst_0 : FVec F S_ .f32 := constant S_ .f32 0x7F800000#32
  let main_v4 : FVec F S8x256x256 .f32 := broadcastInDim S8x256x256 ![] bcast_S_S8x256x256 main_cst_0
  let main_v5 : IVec S8x256x256 1 := cmpf .olt main_v3 main_v4
  let main_v6 : IVec S8x256x256 1 := andi main_v2 main_v5
  main_v6
-- ==== Kernel.lean ====
abbrev S8x4096x256 : Shape := ⟨3, ![8, 4096, 256]⟩
abbrev S8x4096x512 : Shape := ⟨3, ![8, 4096, 512]⟩
abbrev S8x4x64x128 : Shape := ⟨4, ![8, 4, 64, 128]⟩
abbrev S1x2048x256 : Shape := ⟨3, ![1, 2048, 256]⟩
abbrev S1x2048x512 : Shape := ⟨3, ![1, 2048, 512]⟩
abbrev S1x4x64x128 : Shape := ⟨4, ![1, 4, 64, 128]⟩
abbrev S4x64x128 : Shape := ⟨3, ![4, 64, 128]⟩
abbrev S2048x256 : Shape := ⟨2, ![2048, 256]⟩
abbrev S1x64x128 : Shape := ⟨3, ![1, 64, 128]⟩
abbrev S64x128 : Shape := ⟨2, ![64, 128]⟩
abbrev S1x64x256 : Shape := ⟨3, ![1, 64, 256]⟩
abbrev S64x256 : Shape := ⟨2, ![64, 256]⟩
abbrev S1x64x512 : Shape := ⟨3, ![1, 64, 512]⟩
abbrev S64x512 : Shape := ⟨2, ![64, 512]⟩
abbrev S1x256 : Shape := ⟨2, ![1, 256]⟩
abbrev S8x256 : Shape := ⟨2, ![8, 256]⟩
abbrev S56x256 : Shape := ⟨2, ![56, 256]⟩
abbrev S128x256 : Shape := ⟨2, ![128, 256]⟩
abbrev S256x128 : Shape := ⟨2, ![256, 128]⟩
abbrev S128x128 : Shape := ⟨2, ![128, 128]⟩
abbrev S256x256 : Shape := ⟨2, ![256, 256]⟩

abbrev nBuf : Space → Nat
  | .hbm => 6
  | .vmem => 14
  | .smem => 0
  | _ => 0

abbrev bufTy : (tb : Table) → Fin (tcTables nBuf tb) → BufTy
  | .hbm, ⟨0, _⟩ => ⟨S8x4096x256, .bf16⟩
  | .hbm, ⟨1, _⟩ => ⟨S8x4096x256, .bf16⟩
  | .hbm, ⟨2, _⟩ => ⟨S8x4096x512, .bf16⟩
  | .hbm, ⟨3, _⟩ => ⟨S8x4096x256, .f32⟩
  | .hbm, ⟨4, _⟩ => ⟨S8x4x64x128, .f32⟩
  | .hbm, ⟨5, _⟩ => ⟨S8x4096x512, .f32⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x256, .f32⟩
  | .local _ .vmem, ⟨7, _⟩ => ⟨S1x2048x256, .f32⟩
  | .local _ .vmem, ⟨8, _⟩ => ⟨S1x4x64x128, .f32⟩
  | .local _ .vmem, ⟨9, _⟩ => ⟨S1x4x64x128, .f32⟩
  | .local _ .vmem, ⟨10, _⟩ => ⟨S1x2048x512, .f32⟩
  | .local _ .vmem, ⟨11, _⟩ => ⟨S1x2048x512, .f32⟩
  | .local _ .vmem, ⟨12, _⟩ => ⟨S4x64x128, .f32⟩
  | .local _ .vmem, ⟨13, _⟩ => ⟨S2048x256, .f32⟩
  | _, _ => ⟨S8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x4096x256 : Shape := ⟨3, ![8, 4096, 256]⟩
abbrev S8x4096x512 : Shape := ⟨3, ![8, 4096, 512]⟩
abbrev S8x4x64x128 : Shape := ⟨4, ![8, 4, 64, 128]⟩
abbrev S8x4096x4x64 : Shape := ⟨4, ![8, 4096, 4, 64]⟩
abbrev S8x4x4096x64 : Shape := ⟨4, ![8, 4, 4096, 64]⟩
abbrev S8x4096x4x128 : Shape := ⟨4, ![8, 4096, 4, 128]⟩
abbrev S8x4x4096x128 : Shape := ⟨4, ![8, 4, 4096, 128]⟩
abbrev S8x4x64x64x64 : Shape := ⟨5, ![8, 4, 64, 64, 64]⟩
abbrev S8x4x64x64x128 : Shape := ⟨5, ![8, 4, 64, 64, 128]⟩
abbrev S_ : Shape := ⟨0, ![]⟩
abbrev S8x4x64x1x64 : Shape := ⟨5, ![8, 4, 64, 1, 64]⟩
abbrev S64x64 : Shape := ⟨2, ![64, 64]⟩
abbrev S64x8x4x64x128 : Shape := ⟨5, ![64, 8, 4, 64, 128]⟩
abbrev S8x4x64x64 : Shape := ⟨4, ![8, 4, 64, 64]⟩
abbrev S64x8x4x64 : Shape := ⟨4, ![64, 8, 4, 64]⟩
abbrev S1x8x4x64 : Shape := ⟨4, ![1, 8, 4, 64]⟩
abbrev S8x4x64 : Shape := ⟨3, ![8, 4, 64]⟩
abbrev S1x8x4x64x128 : Shape := ⟨5, ![1, 8, 4, 64, 128]⟩
abbrev S8x4x64x1 : Shape := ⟨4, ![8, 4, 64, 1]⟩

abbrev nBuf : Space → Nat
  | .hbm => 93
  | .vmem => 0
  | .smem => 0
  | _ => 0

abbrev bufTy : (tb : Table) → Fin (tcTables nBuf tb) → BufTy
  | .hbm, ⟨0, _⟩ => ⟨S8x4096x256, .bf16⟩
  | .hbm, ⟨1, _⟩ => ⟨S8x4096x256, .bf16⟩
  | .hbm, ⟨2, _⟩ => ⟨S8x4096x512, .bf16⟩
  | .hbm, ⟨3, _⟩ => ⟨S8x4096x256, .f32⟩
  | .hbm, ⟨4, _⟩ => ⟨S8x4x64x128, .f32⟩
  | .hbm, ⟨5, _⟩ => ⟨S8x4096x256, .f32⟩
  | .hbm, ⟨6, _⟩ => ⟨S8x4096x4x64, .f32⟩
  | .hbm, ⟨7, _⟩ => ⟨S8x4x4096x64, .f32⟩
  | .hbm, ⟨8, _⟩ => ⟨S8x4096x256, .f32⟩
  | .hbm, ⟨9, _⟩ => ⟨S8x4096x4x64, .f32⟩
  | .hbm, ⟨10, _⟩ => ⟨S8x4x4096x64, .f32⟩
  | .hbm, ⟨11, _⟩ => ⟨S8x4096x512, .f32⟩
  | .hbm, ⟨12, _⟩ => ⟨S8x4096x4x128, .f32⟩
  | .hbm, ⟨13, _⟩ => ⟨S8x4x4096x128, .f32⟩
  | .hbm, ⟨14, _⟩ => ⟨S8x4096x4x64, .f32⟩
  | .hbm, ⟨15, _⟩ => ⟨S8x4x4096x64, .f32⟩
  | .hbm, ⟨16, _⟩ => ⟨S8x4x64x64x64, .f32⟩
  | .hbm, ⟨17, _⟩ => ⟨S8x4x64x64x64, .f32⟩
  | .hbm, ⟨18, _⟩ => ⟨S8x4x64x64x64, .f32⟩
  | .hbm, ⟨19, _⟩ => ⟨S8x4x64x64x128, .f32⟩
  | .hbm, ⟨20, _⟩ => ⟨S_, .f32⟩
  | .hbm, ⟨21, _⟩ => ⟨S_, .f32⟩
  | .hbm, ⟨22, _⟩ => ⟨S8x4x64x64x64, .f32⟩
  | .hbm, ⟨23, _⟩ => ⟨S8x4x64x1x64, .f32⟩
  | .hbm, ⟨24, _⟩ => ⟨S8x4x64x64x64, .f32⟩
  | .hbm, ⟨25, _⟩ => ⟨S8x4x64x64x64, .f32⟩
  | .hbm, ⟨26, _⟩ => ⟨S8x4x64x64x64, .f32⟩
  | .hbm, ⟨27, _⟩ => ⟨S8x4x64x64x64, .f32⟩
  | .hbm, ⟨28, _⟩ => ⟨S8x4x64x64x64, .f32⟩
  | .hbm, ⟨29, _⟩ => ⟨S8x4x64x64x64, .f32⟩
  | .hbm, ⟨30, _⟩ => ⟨S8x4x64x64x64, .f32⟩
  | .hbm, ⟨31, _⟩ => ⟨S8x4x64x64x64, .f32⟩
  | .hbm, ⟨32, _⟩ => ⟨S8x4x64x64x64, .f32⟩
  | .hbm, ⟨33, _⟩ => ⟨S_, .i1⟩
  | .hbm, ⟨34, _⟩ => ⟨S64x64, .i1⟩
  | .hbm, ⟨35, _⟩ => ⟨S64x64, .i32⟩
  | .hbm, ⟨36, _⟩ => ⟨S_, .i32⟩
  | .hbm, ⟨37, _⟩ => ⟨S64x64, .i32⟩
  | .hbm, ⟨38, _⟩ => ⟨S64x64, .i32⟩
  | .hbm, ⟨39, _⟩ => ⟨S64x64, .i32⟩
  | .hbm, ⟨40, _⟩ => ⟨S64x64, .i1⟩
  | .hbm, ⟨41, _⟩ => ⟨S_, .i1⟩
  | .hbm, ⟨42, _⟩ => ⟨S64x64, .i1⟩
  | .hbm, ⟨43, _⟩ => ⟨S64x64, .i1⟩
  | .hbm, ⟨44, _⟩ => ⟨S8x4x64x64x64, .f32⟩
  | .hbm, ⟨45, _⟩ => ⟨S_, .f32⟩
  | .hbm, ⟨46, _⟩ => ⟨S_, .f32⟩
  | .hbm, ⟨47, _⟩ => ⟨S8x4x64x64x64, .i1⟩
  | .hbm, ⟨48, _⟩ => ⟨S8x4x64x64x64, .f32⟩
  | .hbm, ⟨49, _⟩ => ⟨S8x4x64x64x64, .f32⟩
  | .hbm, ⟨50, _⟩ => ⟨S8x4x64x64x128, .f32⟩
  | .hbm, ⟨51, _⟩ => ⟨S64x8x4x64x128, .f32⟩
  | .hbm, ⟨52, _⟩ => ⟨S8x4x64x64, .f32⟩
  | .hbm, ⟨53, _⟩ => ⟨S8x4x64x64, .f32⟩
  | .hbm, ⟨54, _⟩ => ⟨S64x8x4x64, .f32⟩
  | .hbm, ⟨55, _⟩ => ⟨S_, .f32⟩
  | .hbm, ⟨56, _⟩ => ⟨S64x8x4x64x128, .f32⟩
  | .hbm, ⟨57, _⟩ => ⟨S_, .i32⟩
  | .hbm, ⟨58, _⟩ => ⟨S64x8x4x64, .f32⟩
  | .hbm, ⟨59, _⟩ => ⟨S64x8x4x64x128, .f32⟩
  | .hbm, ⟨60, _⟩ => ⟨S_, .i32⟩
  | .hbm, ⟨61, _⟩ => ⟨S8x4x64x128, .f32⟩
  | .hbm, ⟨62, _⟩ => ⟨S64x8x4x64x128, .f32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1x8x4x64, .f32⟩
  | .hbm, ⟨69, _⟩ => ⟨S8x4x64, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S1x8x4x64x128, .f32⟩
  | .hbm, ⟨75, _⟩ => ⟨S8x4x64x128, .f32⟩
  | .hbm, ⟨76, _⟩ => ⟨S8x4x64x1, .f32⟩
  | .hbm, ⟨77, _⟩ => ⟨S8x4x64x128, .f32⟩
  | .hbm, ⟨78, _⟩ => ⟨S8x4x64x128, .f32⟩
  | .hbm, ⟨79, _⟩ => ⟨S8x4x64x128, .f32⟩
  | .hbm, ⟨80, _⟩ => ⟨S1x8x4x64x128, .f32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S64x8x4x64x128, .f32⟩
  | .hbm, ⟨86, _⟩ => ⟨S_, .i32⟩
  | .hbm, ⟨87, _⟩ => ⟨S_, .i32⟩
  | .hbm, ⟨88, _⟩ => ⟨S8x4x64x64x128, .f32⟩
  | .hbm, ⟨89, _⟩ => ⟨S8x4x64x64x128, .f32⟩
  | .hbm, ⟨90, _⟩ => ⟨S8x4x4096x128, .f32⟩
  | .hbm, ⟨91, _⟩ => ⟨S8x4096x4x128, .f32⟩
  | .hbm, ⟨92, _⟩ => ⟨S8x4096x512, .f32⟩
  | _, _ => ⟨S8x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_call0_cst : Ref sig .tc := ⟨.hbm, 20, rfl⟩
abbrev main_call0_call0_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_v26 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_0 : Ref sig .tc := ⟨.hbm, 41, rfl⟩
abbrev main_call1_v5 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_0 : Ref sig .tc := ⟨.hbm, 55, rfl⟩
abbrev main_v35 : Ref sig .tc := ⟨.hbm, 56, rfl⟩
abbrev main_c_1 : Ref sig .tc := ⟨.hbm, 57, rfl⟩
abbrev main_v36_0 : Ref sig .tc := ⟨.hbm, 58, rfl⟩
abbrev main_v36_1 : Ref sig .tc := ⟨.hbm, 59, rfl⟩
abbrev main_v36_2 : Ref sig .tc := ⟨.hbm, 60, rfl⟩
abbrev main_v36_3 : Ref sig .tc := ⟨.hbm, 61, rfl⟩
abbrev main_v36_4 : Ref sig .tc := ⟨.hbm, 62, rfl⟩
abbrev main_while0c_c_6 : Ref sig .tc := ⟨.hbm, 63, rfl⟩
abbrev main_while0c_v42 : Ref sig .tc := ⟨.hbm, 64, rfl⟩
abbrev main_while0b_call3_c : Ref sig .tc := ⟨.hbm, 65, rfl⟩
abbrev main_while0b_call3_c_0 : Ref sig .tc := ⟨.hbm, 66, rfl⟩
abbrev main_while0b_call3_c_1 : Ref sig .tc := ⟨.hbm, 67, rfl⟩
abbrev main_while0b_call3_v0 : Ref sig .tc := ⟨.hbm, 68, rfl⟩
abbrev main_while0b_v42 : Ref sig .tc := ⟨.hbm, 69, rfl⟩
abbrev main_while0b_call4_c : Ref sig .tc := ⟨.hbm, 70, rfl⟩
abbrev main_while0b_call4_c_0 : Ref sig .tc := ⟨.hbm, 71, rfl⟩
abbrev main_while0b_call4_c_1 : Ref sig .tc := ⟨.hbm, 72, rfl⟩
abbrev main_while0b_call4_c_2 : Ref sig .tc := ⟨.hbm, 73, rfl⟩
abbrev main_while0b_call4_v0 : Ref sig .tc := ⟨.hbm, 74, rfl⟩
abbrev main_while0b_v43 : Ref sig .tc := ⟨.hbm, 75, rfl⟩
abbrev main_while0b_v44 : Ref sig .tc := ⟨.hbm, 76, rfl⟩
abbrev main_while0b_v45 : Ref sig .tc := ⟨.hbm, 77, rfl⟩
abbrev main_while0b_v46 : Ref sig .tc := ⟨.hbm, 78, rfl⟩
abbrev main_while0b_v47 : Ref sig .tc := ⟨.hbm, 79, rfl⟩
abbrev main_while0b_call5_v0 : Ref sig .tc := ⟨.hbm, 80, rfl⟩
abbrev main_while0b_call5_c : Ref sig .tc := ⟨.hbm, 81, rfl⟩
abbrev main_while0b_call5_c_0 : Ref sig .tc := ⟨.hbm, 82, rfl⟩
abbrev main_while0b_call5_c_1 : Ref sig .tc := ⟨.hbm, 83, rfl⟩
abbrev main_while0b_call5_c_2 : Ref sig .tc := ⟨.hbm, 84, rfl⟩
abbrev main_while0b_v48 : Ref sig .tc := ⟨.hbm, 85, rfl⟩
abbrev main_while0b_c_6 : Ref sig .tc := ⟨.hbm, 86, rfl⟩
abbrev main_while0b_v49 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8x4096x1024 : Shape := ⟨3, ![8, 4096, 1024]⟩
abbrev S8x4096x512 : Shape := ⟨3, ![8, 4096, 512]⟩
abbrev S8x6144 : Shape := ⟨2, ![8, 6144]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8x1x6144 : Shape := ⟨3, ![8, 1, 6144]⟩
abbrev S1x1024 : Shape := ⟨2, ![1, 1024]⟩
abbrev S1x512x1024 : Shape := ⟨3, ![1, 512, 1024]⟩
abbrev S1x512x512 : Shape := ⟨3, ![1, 512, 512]⟩
abbrev S1x1x6144 : Shape := ⟨3, ![1, 1, 6144]⟩
abbrev S1x1x1024 : Shape := ⟨3, ![1, 1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x6144, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S8x1x6144, .f32⟩
  | .hbm, ⟨10, _⟩ => ⟨S1024x1024, .bf16⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x1x6144, .f32⟩
  | .local _ .vmem, ⟨7, _⟩ => ⟨S1x1x6144, .f32⟩
  | .local _ .vmem, ⟨8, _⟩ => ⟨S1024x1024, .bf16⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S8x4096x1024 : Shape := ⟨3, ![8, 4096, 1024]⟩
abbrev S8x4096x512 : Shape := ⟨3, ![8, 4096, 512]⟩
abbrev S8x6144 : Shape := ⟨2, ![8, 6144]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8x1x6144 : Shape := ⟨3, ![8, 1, 6144]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩

abbrev nBuf : Space → Nat
  | .hbm => 71
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x6144, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S8x4096x512, .f32⟩
  | .hbm, ⟨10, _⟩ => ⟨S8x4096x512, .f32⟩
  | .hbm, ⟨11, _⟩ => ⟨S8x1x6144, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S8x4096x1, .f32⟩
  | .hbm, ⟨34, _⟩ => ⟨S8x4096x1024, .f32⟩
  | .hbm, ⟨35, _⟩ => ⟨S8x4096x1024, .f32⟩
  | .hbm, ⟨36, _⟩ => ⟨S1x1x1024, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x1x1024, .f32⟩
  | .hbm, ⟨41, _⟩ => ⟨S8x1x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x4096x4096, .f32⟩
  | .hbm, ⟨47, _⟩ => ⟨S_, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S_, .f32⟩
  | .hbm, ⟨57, _⟩ => ⟨S8x4096, .f32⟩
  | .hbm, ⟨58, _⟩ => ⟨S8x4096x1, .f32⟩
  | .hbm, ⟨59, _⟩ => ⟨S_, .f32⟩
  | .hbm, ⟨60, _⟩ => ⟨S8x4096x1, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S8x4096x1, .f32⟩
  | .hbm, ⟨66, _⟩ => ⟨S8x4096x1024, .f32⟩
  | .hbm, ⟨67, _⟩ => ⟨S8x4096x1024, .f32⟩
  | .hbm, ⟨68, _⟩ => ⟨S1x1x1024, .f32⟩
  | .hbm, ⟨69, _⟩ => ⟨S8x4096x1024, .f32⟩
  | .hbm, ⟨70, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call0_cst : Ref sig .tc := ⟨.hbm, 47, rfl⟩
abbrev main_call0_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x6144 : Shape := ⟨2, ![8, 6144]⟩
abbrev S1024 : Shape := ⟨1, ![1024]⟩
abbrev S1024x3104 : Shape := ⟨2, ![1024, 3104]⟩
abbrev S3x1536 : Shape := ⟨2, ![3, 1536]⟩
abbrev S1536 : Shape := ⟨1, ![1536]⟩
abbrev S16x256 : Shape := ⟨2, ![16, 256]⟩
abbrev S256 : Shape := ⟨1, ![256]⟩
abbrev S_ : Shape := ⟨0, ![]⟩
abbrev S1024x3200 : Shape := ⟨2, ![1024, 3200]⟩
abbrev S128x512 : Shape := ⟨2, ![128, 512]⟩
abbrev S1 : Shape := ⟨1, ![1]⟩
abbrev S2 : Shape := ⟨1, ![2]⟩
abbrev S512 : Shape := ⟨1, ![512]⟩
abbrev S1x512 : Shape := ⟨2, ![1, 512]⟩
abbrev S8x1x6144 : Shape := ⟨3, ![8, 1, 6144]⟩
abbrev S1x1024 : Shape := ⟨2, ![1, 1024]⟩
abbrev S1x1536 : Shape := ⟨2, ![1, 1536]⟩
abbrev S8x4096x512 : Shape := ⟨3, ![8, 4096, 512]⟩
abbrev S8x4096x256 : Shape := ⟨3, ![8, 4096, 256]⟩
abbrev S1x512x1024 : Shape := ⟨3, ![1, 512, 1024]⟩
abbrev S1x1x6144 : Shape := ⟨3, ![1, 1, 6144]⟩
abbrev S1x512x512 : Shape := ⟨3, ![1, 512, 512]⟩
abbrev S1x512x256 : Shape := ⟨3, ![1, 512, 256]⟩
abbrev S512x1024 : Shape := ⟨2, ![512, 1024]⟩
abbrev S1x1x1024 : Shape := ⟨3, ![1, 1, 1024]⟩
abbrev S512x1 : Shape := ⟨2, ![512, 1]⟩
abbrev S1024x128 : Shape := ⟨2, ![1024, 128]⟩
abbrev S512x128 : Shape := ⟨2, ![512, 128]⟩
abbrev S1024x512 : Shape := ⟨2, ![1024, 512]⟩
abbrev S512x512 : Shape := ⟨2, ![512, 512]⟩
abbrev S3x512 : Shape := ⟨2, ![3, 512]⟩
abbrev S1024x256 : Shape := ⟨2, ![1024, 256]⟩
abbrev S512x256 : Shape := ⟨2, ![512, 256]⟩

abbrev nBuf : Space → Nat
  | .hbm => 42
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024x3104, .f32⟩
  | .hbm, ⟨4, _⟩ => ⟨S3x1536, .f32⟩
  | .hbm, ⟨5, _⟩ => ⟨S1536, .f32⟩
  | .hbm, ⟨6, _⟩ => ⟨S16x256, .f32⟩
  | .hbm, ⟨7, _⟩ => ⟨S256, .f32⟩
  | .hbm, ⟨8, _⟩ => ⟨S16x256, .f32⟩
  | .hbm, ⟨9, _⟩ => ⟨S256, .f32⟩
  | .hbm, ⟨10, _⟩ => ⟨S_, .i32⟩
  | .hbm, ⟨11, _⟩ => ⟨S_, .f32⟩
  | .hbm, ⟨12, _⟩ => ⟨S1024x3200, .f32⟩
  | .hbm, ⟨13, _⟩ => ⟨S1024x3200, .bf16⟩
  | .hbm, ⟨14, _⟩ => ⟨S_, .f32⟩
  | .hbm, ⟨15, _⟩ => ⟨S128x512, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S128x512, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S128x512, .f32⟩
  | .hbm, ⟨28, _⟩ => ⟨S128x512, .bf16⟩
  | .hbm, ⟨29, _⟩ => ⟨S512, .f32⟩
  | .hbm, ⟨30, _⟩ => ⟨S1x512, .f32⟩
  | .hbm, ⟨31, _⟩ => ⟨S8x1x6144, .f32⟩
  | .hbm, ⟨32, _⟩ => ⟨S1x1024, .f32⟩
  | .hbm, ⟨33, _⟩ => ⟨S1x1536, .f32⟩
  | .hbm, ⟨34, _⟩ => ⟨S8x4096x512, .bf16⟩
  | .hbm, ⟨35, _⟩ => ⟨S8x4096x512, .bf16⟩
  | .hbm, ⟨36, _⟩ => ⟨S8x4096x256, .bf16⟩
  | .hbm, ⟨37, _⟩ => ⟨S8x4096x256, .bf16⟩
  | .hbm, ⟨38, _⟩ => ⟨S8x4096x512, .bf16⟩
  | .hbm, ⟨39, _⟩ => ⟨S8x4096x512, .bf16⟩
  | .hbm, ⟨40, _⟩ => ⟨S8x4096x256, .f32⟩
  | .hbm, ⟨41, _⟩ => ⟨S8x4096x256, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x3200, .bf16⟩
  | .local _ .vmem, ⟨6, _⟩ => ⟨S128x512, .bf16⟩
  | .local _ .vmem, ⟨7, _⟩ => ⟨S1x512, .f32⟩
  | .local _ .vmem, ⟨8, _⟩ => ⟨S3x1536, .f32⟩
  | .local _ .vmem, ⟨9, _⟩ => ⟨S1x1536, .f32⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x256, .bf16⟩
  | .local _ .vmem, ⟨15, _⟩ => ⟨S1x512x256, .bf16⟩
  | .local _ .vmem, ⟨16, _⟩ => ⟨S1x512x256, .bf16⟩
  | .local _ .vmem, ⟨17, _⟩ => ⟨S1x512x256, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x256, .f32⟩
  | .local _ .vmem, ⟨23, _⟩ => ⟨S1x512x256, .f32⟩
  | .local _ .vmem, ⟨24, _⟩ => ⟨S1x512x256, .f32⟩
  | .local _ .vmem, ⟨25, _⟩ => ⟨S1x512x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_c_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_2 : Ref sig .tc := ⟨.hbm, 22, rfl⟩
abbrev main_v7 : Ref sig .tc := ⟨.hbm, 23, rfl⟩
abbrev main_c_3 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev main_v17_2 : Ref sig .tc := ⟨.hbm, 36, rfl⟩
abbrev main_v17_3 : Ref sig .tc := ⟨.hbm, 37, rfl⟩
abbrev main_v17_4 : Ref sig .tc := ⟨.hbm, 38, rfl⟩
abbrev main_v17_5 : Ref sig .tc := ⟨.hbm, 39, rfl⟩
abbrev main_v17_6 : Ref sig .tc := ⟨.hbm, 40, rfl⟩
abbrev main_v17_7 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S8x4096x1024 : Shape := ⟨3, ![8, 4096, 1024]⟩
abbrev S8x6144 : Shape := ⟨2, ![8, 6144]⟩
abbrev S1024 : Shape := ⟨1, ![1024]⟩
abbrev S1024x3104 : Shape := ⟨2, ![1024, 3104]⟩
abbrev S3x1536 : Shape := ⟨2, ![3, 1536]⟩
abbrev S1536 : Shape := ⟨1, ![1536]⟩
abbrev S16x256 : Shape := ⟨2, ![16, 256]⟩
abbrev S256 : Shape := ⟨1, ![256]⟩
abbrev S8x1x6144 : Shape := ⟨3, ![8, 1, 6144]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3104 : Shape := ⟨3, ![8, 4096, 3104]⟩
abbrev S8x4096x1536 : Shape := ⟨3, ![8, 4096, 1536]⟩
abbrev S8x4096x256 : Shape := ⟨3, ![8, 4096, 256]⟩
abbrev S8x4096x512 : Shape := ⟨3, ![8, 4096, 512]⟩
abbrev S8x4096x16 : Shape := ⟨3, ![8, 4096, 16]⟩
abbrev S8x64x64x1536 : Shape := ⟨4, ![8, 64, 64, 1536]⟩
abbrev S8x64x66x1536 : Shape := ⟨4, ![8, 64, 66, 1536]⟩
abbrev S1x1536 : Shape := ⟨2, ![1, 1536]⟩
abbrev S1x1x1x1536 : Shape := ⟨4, ![1, 1, 1, 1536]⟩
abbrev S1x1x256 : Shape := ⟨3, ![1, 1, 256]⟩

abbrev nBuf : Space → Nat
  | .hbm => 135
  | .vmem => 0
  | .smem => 0
  | _ => 0

abbrev hbmTy0_0 (i : Nat) : BufTy := match i % 128 with
  | 0 => ⟨S8x4096x1024, .f32⟩
  | 1 => ⟨S8x6144, .f32⟩
  | 2 => ⟨S1024, .f32⟩
  | 3 => ⟨S1024x3104, .f32⟩
  | 4 => ⟨S3x1536, .f32⟩
  | 5 => ⟨S1536, .f32⟩
  | 6 => ⟨S16x256, .f32⟩
  | 7 => ⟨S256, .f32⟩
  | 8 => ⟨S16x256, .f32⟩
  | 9 => ⟨S256, .f32⟩
  | 10 => ⟨S8x1x6144, .f32⟩
  | 11 => ⟨S8x1x1024, .f32⟩
  | 12 => ⟨S8x1x1024, .f32⟩
  | 13 => ⟨S8x1x1024, .f32⟩
  | 14 => ⟨S8x1x1024, .f32⟩
  | 15 => ⟨S8x1x1024, .f32⟩
  | 16 => ⟨S8x1x1024, .f32⟩
  | 17 => ⟨S8x4096x1024, .f32⟩
  | 18 => ⟨S_, .f32⟩
  | 19 => ⟨S8x4096, .f32⟩
  | 20 => ⟨S8x4096x1, .f32⟩
  | 21 => ⟨S_, .f32⟩
  | 22 => ⟨S8x4096x1, .f32⟩
  | 23 => ⟨S8x4096x1, .f32⟩
  | 24 => ⟨S_, .f32⟩
  | 25 => ⟨S8x4096x1, .f32⟩
  | 26 => ⟨S8x4096x1, .f32⟩
  | 27 => ⟨S8x4096x1, .f32⟩
  | 28 => ⟨S8x4096x1024, .f32⟩
  | 29 => ⟨S8x4096x1024, .f32⟩
  | 30 => ⟨S1x1x1024, .f32⟩
  | 31 => ⟨S8x4096x1024, .f32⟩
  | 32 => ⟨S8x4096x1024, .f32⟩
  | 33 => ⟨S_, .f32⟩
  | 34 => ⟨S8x1x1024, .f32⟩
  | 35 => ⟨S8x1x1024, .f32⟩
  | 36 => ⟨S8x4096x1024, .f32⟩
  | 37 => ⟨S8x4096x1024, .f32⟩
  | 38 => ⟨S8x4096x1024, .f32⟩
  | 39 => ⟨S8x4096x1024, .f32⟩
  | 40 => ⟨S8x4096x3104, .f32⟩
  | 41 => ⟨S8x4096x1536, .f32⟩
  | 42 => ⟨S8x4096x256, .f32⟩
  | 43 => ⟨S8x4096x256, .f32⟩
  | 44 => ⟨S8x4096x512, .f32⟩
  | 45 => ⟨S8x4096x512, .f32⟩
  | 46 => ⟨S8x4096x16, .f32⟩
  | 47 => ⟨S8x4096x16, .f32⟩
  | 48 => ⟨S8x64x64x1536, .f32⟩
  | 49 => ⟨S_, .i32⟩
  | 50 => ⟨S_, .f32⟩
  | 51 => ⟨S8x64x66x1536, .f32⟩
  | 52 => ⟨S1x1536, .f32⟩
  | 53 => ⟨S1536, .f32⟩
  | 54 => ⟨S8x64x64x1536, .f32⟩
  | 55 => ⟨S1x1x1x1536, .f32⟩
  | 56 => ⟨S8x64x64x1536, .f32⟩
  | 57 => ⟨S8x64x64x1536, .f32⟩
  | 58 => ⟨S1x1x1x1536, .f32⟩
  | 59 => ⟨S8x64x64x1536, .f32⟩
  | 60 => ⟨S8x64x64x1536, .f32⟩
  | 61 => ⟨S1x1536, .f32⟩
  | 62 => ⟨S1536, .f32⟩
  | 63 => ⟨S8x64x64x1536, .f32⟩
  | 64 => ⟨S1x1x1x1536, .f32⟩
  | 65 => ⟨S8x64x64x1536, .f32⟩
  | 66 => ⟨S8x64x64x1536, .f32⟩
  | 67 => ⟨S8x64x64x1536, .f32⟩
  | 68 => ⟨S1x1536, .f32⟩
  | 69 => ⟨S1536, .f32⟩
  | 70 => ⟨S8x64x64x1536, .f32⟩
  | 71 => ⟨S1x1x1x1536, .f32⟩
  | 72 => ⟨S8x64x64x1536, .f32⟩
  | 73 => ⟨S8x64x64x1536, .f32⟩
  | 74 => ⟨S8x64x64x1536, .f32⟩
  | 75 => ⟨S8x4096x1536, .f32⟩
  | 76 => ⟨S8x4096x512, .f32⟩
  | 77 => ⟨S8x4096x512, .f32⟩
  | 78 => ⟨S8x4096x512, .f32⟩
  | 79 => ⟨S_, .f32⟩
  | 80 => ⟨S8x4096x256, .f32⟩
  | 81 => ⟨S8x4096x256, .f32⟩
  | 82 => ⟨S8x4096x512, .bf16⟩
  | 83 => ⟨S8x4096x512, .f32⟩
  | 84 => ⟨S8x4096x512, .bf16⟩
  | 85 => ⟨S8x4096x256, .bf16⟩
  | 86 => ⟨S8x4096x256, .bf16⟩
  | 87 => ⟨S8x4096x512, .bf16⟩
  | 88 => ⟨S8x4096x512, .bf16⟩
  | 89 => ⟨S8x4096x256, .f32⟩
  | 90 => ⟨S1x1x256, .f32⟩
  | 91 => ⟨S8x4096x256, .f32⟩
  | 92 => ⟨S8x4096x256, .f32⟩
  | 93 => ⟨S8x4096x256, .f32⟩
  | 94 => ⟨S_, .f32⟩
  | 95 => ⟨S8x4096x256, .f32⟩
  | 96 => ⟨S8x4096x256, .f32⟩
  | 97 => ⟨S8x4096x256, .f32⟩
  | 98 => ⟨S8x4096x256, .f32⟩
  | 99 => ⟨S8x4096x256, .i1⟩
  | 100 => ⟨S8x4096x256, .f32⟩
  | 101 => ⟨S8x4096x256, .f32⟩
  | 102 => ⟨S8x4096x256, .f32⟩
  | 103 => ⟨S8x4096x256, .f32⟩
  | 104 => ⟨S8x4096x256, .f32⟩
  | 105 => ⟨S8x4096x256, .f32⟩
  | 106 => ⟨S8x4096x256, .f32⟩
  | 107 => ⟨S8x4096x256, .f32⟩
  | 108 => ⟨S8x4096x256, .f32⟩
  | 109 => ⟨S_, .f32⟩
  | 110 => ⟨S8x4096x256, .f32⟩
  | 111 => ⟨S8x4096x256, .f32⟩
  | 112 => ⟨S8x4096x256, .f32⟩
  | 113 => ⟨S1x1x256, .f32⟩
  | 114 => ⟨S8x4096x256, .f32⟩
  | 115 => ⟨S8x4096x256, .f32⟩
  | 116 => ⟨S8x4096x256, .f32⟩
  | 117 => ⟨S_, .f32⟩
  | 118 => ⟨S8x4096x256, .f32⟩
  | 119 => ⟨S8x4096x256, .f32⟩
  | 120 => ⟨S8x4096x256, .f32⟩
  | 121 => ⟨S8x4096x256, .f32⟩
  | 122 => ⟨S8x4096x256, .i1⟩
  | 123 => ⟨S8x4096x256, .f32⟩
  | 124 => ⟨S8x4096x256, .f32⟩
  | 125 => ⟨S8x4096x256, .f32⟩
  | 126 => ⟨S8x4096x256, .f32⟩
  | 127 => ⟨S8x4096x256, .f32⟩
  | _ => ⟨S8x4096x1024, .f32⟩

abbrev hbmTy0_1 (i : Nat) : BufTy := match i % 128 with
  | 0 => ⟨S8x4096x256, .f32⟩
  | 1 => ⟨S8x4096x256, .f32⟩
  | 2 => ⟨S8x4096x256, .f32⟩
  | 3 => ⟨S8x4096x256, .f32⟩
  | 4 => ⟨S_, .f32⟩
  | 5 => ⟨S8x4096x256, .f32⟩
  | 6 => ⟨S8x4096x256, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c : Ref sig .tc := ⟨.hbm, 49, rfl⟩
abbrev main_call0_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_3 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_call1_v0 : Ref sig .tc := ⟨.hbm, 93, rfl⟩
abbrev main_call1_call0_cst : Ref sig .tc := ⟨.hbm, 94, rfl⟩
abbrev main_call1_call0_v0 : Ref sig .tc := ⟨.hbm, 95, rfl⟩
abbrev main_call1_call0_v1 : Ref sig .tc := ⟨.hbm, 96, rfl⟩
abbrev main_call1_call0_v2 : Ref sig .tc := ⟨.hbm, 97, rfl⟩
abbrev main_call1_call0_v3 : Ref sig .tc := ⟨.hbm, 98, rfl⟩
abbrev main_call1_call0_v4 : Ref sig .tc := ⟨.hbm, 99, rfl⟩
abbrev main_call1_call0_v5 : Ref sig .tc := ⟨.hbm, 100, rfl⟩
abbrev main_call1_call0_v6 : Ref sig .tc := ⟨.hbm, 101, rfl⟩
abbrev main_call1_call0_v7 : Ref sig .tc := ⟨.hbm, 102, rfl⟩
abbrev main_call1_call0_v8 : Ref sig .tc := ⟨.hbm, 103, rfl⟩
abbrev main_call1_call0_v9 : Ref sig .tc := ⟨.hbm, 104, rfl⟩
abbrev main_call1_call0_v10 : Ref sig .tc := ⟨.hbm, 105, rfl⟩
abbrev main_call1_call0_v11 : Ref sig .tc := ⟨.hbm, 106, rfl⟩
abbrev main_call1_v1 : Ref sig .tc := ⟨.hbm, 107, rfl⟩
abbrev main_v76 : Ref sig .tc := ⟨.hbm, 108, rfl⟩
abbrev main_cst_4 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call2_v0 : Ref sig .tc := ⟨.hbm, 116, rfl⟩
abbrev main_call2_call0_cst : Ref sig .tc := ⟨.hbm, 117, rfl⟩
abbrev main_call2_call0_v0 : Ref sig .tc := ⟨.hbm, 118, rfl⟩
abbrev main_call2_call0_v1 : Ref sig .tc := ⟨.hbm, 119, rfl⟩
abbrev main_call2_call0_v2 : Ref sig .tc := ⟨.hbm, 120, rfl⟩
abbrev main_call2_call0_v3 : Ref sig .tc := ⟨.hbm, 121, rfl⟩
abbrev main_call2_call0_v4 : Ref sig .tc := ⟨.hbm, 122, rfl⟩
abbrev main_call2_call0_v5 : Ref sig .tc := ⟨.hbm, 123, rfl⟩
abbrev main_call2_call0_v6 : Ref sig .tc := ⟨.hbm, 124, rfl⟩
abbrev main_call2_call0_v7 : Ref sig .tc := ⟨.hbm, 125, rfl⟩
abbrev main_call2_call0_v8 : Ref sig .tc := ⟨.hbm, 126, rfl⟩
abbrev main_call2_call0_v9 : Ref sig .tc := ⟨.hbm, 127, rfl⟩
abbrev main_call2_call0_v10 : Ref sig .tc := ⟨.hbm, 128, rfl⟩
abbrev main_call2_call0_v11 : Ref sig .tc := ⟨.hbm, 129, rfl⟩
abbrev main_call2_v1 : Ref sig .tc := ⟨.hbm, 130, rfl⟩
abbrev main_v83 : Ref sig .tc := ⟨.hbm, 131, rfl⟩
abbrev main_cst_5 : Ref sig .tc := ⟨.hbm, 132, rfl⟩
abbrev main_v84 : Ref sig .tc := ⟨.hbm, 133, rfl⟩
abbrev main_v85 : Ref sig .tc := ⟨.hbm, 134, rfl⟩

abbrev nD : Nat := 1
abbrev τ : Topo := Topo.v7x

variable {F : FTy → Type} [FloatOps F]
-- ==== Kernel4.lean ====
abbrev S8x256x1024 : Shape := ⟨3, ![8, 256, 1024]⟩
abbrev S6144 : Shape := ⟨1, ![6144]⟩
abbrev S1024 : Shape := ⟨1, ![1024]⟩
abbrev S1024x3104 : Shape := ⟨2, ![1024, 3104]⟩
abbrev S16x256 : Shape := ⟨2, ![16, 256]⟩
abbrev S256 : Shape := ⟨1, ![256]⟩
abbrev S_ : Shape := ⟨0, ![]⟩
abbrev S1024x3200 : Shape := ⟨2, ![1024, 3200]⟩
abbrev S128x512 : Shape := ⟨2, ![128, 512]⟩
abbrev S1 : Shape := ⟨1, ![1]⟩
abbrev S2 : Shape := ⟨1, ![2]⟩
abbrev S512 : Shape := ⟨1, ![512]⟩
abbrev S1x512 : Shape := ⟨2, ![1, 512]⟩
abbrev S1x1x6144 : Shape := ⟨3, ![1, 1, 6144]⟩
abbrev S8x1x6144 : Shape := ⟨3, ![8, 1, 6144]⟩
abbrev S1x1024 : Shape := ⟨2, ![1, 1024]⟩
abbrev S8x256x256 : Shape := ⟨3, ![8, 256, 256]⟩
abbrev S8x256x512 : Shape := ⟨3, ![8, 256, 512]⟩
abbrev S1x256x1024 : Shape := ⟨3, ![1, 256, 1024]⟩
abbrev S1x256x256 : Shape := ⟨3, ![1, 256, 256]⟩
abbrev S1x256x512 : Shape := ⟨3, ![1, 256, 512]⟩
abbrev S256x1024 : Shape := ⟨2, ![256, 1024]⟩
abbrev S1x1x1024 : Shape := ⟨3, ![1, 1, 1024]⟩
abbrev S256x1 : Shape := ⟨2, ![256, 1]⟩
abbrev S1024x128 : Shape := ⟨2, ![1024, 128]⟩
abbrev S256x128 : Shape := ⟨2, ![256, 128]⟩
abbrev S256x512 : Shape := ⟨2, ![256, 512]⟩
abbrev S256x256 : Shape := ⟨2, ![256, 256]⟩
abbrev S1024x256 : Shape := ⟨2, ![1024, 256]⟩
abbrev S1024x512 : Shape := ⟨2, ![1024, 512]⟩

abbrev nBuf : Space → Nat
  | .hbm => 36
  | .vmem => 16
  | .smem => 0
  | _ => 0

abbrev bufTy : (tb : Table) → Fin (tcTables nBuf tb) → BufTy
  | .hbm, ⟨0, _⟩ => ⟨S8x256x1024, .f32⟩
  | .hbm, ⟨1, _⟩ => ⟨S6144, .f32⟩
  | .hbm, ⟨2, _⟩ => ⟨S1024, .f32⟩
  | .hbm, ⟨3, _⟩ => ⟨S1024x3104, .f32⟩
  | .hbm, ⟨4, _⟩ => ⟨S16x256, .f32⟩
  | .hbm, ⟨5, _⟩ => ⟨S256, .f32⟩
  | .hbm, ⟨6, _⟩ => ⟨S16x256, .f32⟩
  | .hbm, ⟨7, _⟩ => ⟨S256, .f32⟩
  | .hbm, ⟨8, _⟩ => ⟨S_, .i32⟩
  | .hbm, ⟨9, _⟩ => ⟨S_, .f32⟩
  | .hbm, ⟨10, _⟩ => ⟨S1024x3200, .f32⟩
  | .hbm, ⟨11, _⟩ => ⟨S1024x3200, .bf16⟩
  | .hbm, ⟨12, _⟩ => ⟨S_, .f32⟩
  | .hbm, ⟨13, _⟩ => ⟨S128x512, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S128x512, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S128x512, .f32⟩
  | .hbm, ⟨26, _⟩ => ⟨S128x512, .bf16⟩
  | .hbm, ⟨27, _⟩ => ⟨S512, .f32⟩
  | .hbm, ⟨28, _⟩ => ⟨S1x512, .f32⟩
  | .hbm, ⟨29, _⟩ => ⟨S1x1x6144, .f32⟩
  | .hbm, ⟨30, _⟩ => ⟨S8x1x6144, .f32⟩
  | .hbm, ⟨31, _⟩ => ⟨S1x1024, .f32⟩
  | .hbm, ⟨32, _⟩ => ⟨S8x256x256, .bf16⟩
  | .hbm, ⟨33, _⟩ => ⟨S8x256x512, .bf16⟩
  | .hbm, ⟨34, _⟩ => ⟨S8x256x256, .f32⟩
  | .hbm, ⟨35, _⟩ => ⟨S8x256x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x3200, .bf16⟩
  | .local _ .vmem, ⟨6, _⟩ => ⟨S128x512, .bf16⟩
  | .local _ .vmem, ⟨7, _⟩ => ⟨S1x512, .f32⟩
  | .local _ .vmem, ⟨8, _⟩ => ⟨S1x256x256, .bf16⟩
  | .local _ .vmem, ⟨9, _⟩ => ⟨S1x256x256, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_c_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_c_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev main_v17_2 : Ref sig .tc := ⟨.hbm, 34, rfl⟩
abbrev main_v17_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S8x256x1024 : Shape := ⟨3, ![8, 256, 1024]⟩
abbrev S6144 : Shape := ⟨1, ![6144]⟩
abbrev S1024 : Shape := ⟨1, ![1024]⟩
abbrev S1024x3104 : Shape := ⟨2, ![1024, 3104]⟩
abbrev S16x256 : Shape := ⟨2, ![16, 256]⟩
abbrev S256 : Shape := ⟨1, ![256]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x3104 : Shape := ⟨3, ![8, 256, 3104]⟩
abbrev S8x256x1536 : Shape := ⟨3, ![8, 256, 1536]⟩
abbrev S8x256x256 : Shape := ⟨3, ![8, 256, 256]⟩
abbrev S8x256x512 : Shape := ⟨3, ![8, 256, 512]⟩
abbrev S8x256x16 : Shape := ⟨3, ![8, 256, 16]⟩
abbrev S1x1x256 : Shape := ⟨3, ![1, 1, 256]⟩

abbrev nBuf : Space → Nat
  | .hbm => 95
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S6144, .f32⟩
  | .hbm, ⟨2, _⟩ => ⟨S1024, .f32⟩
  | .hbm, ⟨3, _⟩ => ⟨S1024x3104, .f32⟩
  | .hbm, ⟨4, _⟩ => ⟨S16x256, .f32⟩
  | .hbm, ⟨5, _⟩ => ⟨S256, .f32⟩
  | .hbm, ⟨6, _⟩ => ⟨S16x256, .f32⟩
  | .hbm, ⟨7, _⟩ => ⟨S256, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S8x256x1024, .f32⟩
  | .hbm, ⟨15, _⟩ => ⟨S_, .f32⟩
  | .hbm, ⟨16, _⟩ => ⟨S8x256, .f32⟩
  | .hbm, ⟨17, _⟩ => ⟨S8x256x1, .f32⟩
  | .hbm, ⟨18, _⟩ => ⟨S_, .f32⟩
  | .hbm, ⟨19, _⟩ => ⟨S8x256x1, .f32⟩
  | .hbm, ⟨20, _⟩ => ⟨S8x256x1, .f32⟩
  | .hbm, ⟨21, _⟩ => ⟨S_, .f32⟩
  | .hbm, ⟨22, _⟩ => ⟨S8x256x1, .f32⟩
  | .hbm, ⟨23, _⟩ => ⟨S8x256x1, .f32⟩
  | .hbm, ⟨24, _⟩ => ⟨S8x256x1, .f32⟩
  | .hbm, ⟨25, _⟩ => ⟨S8x256x1024, .f32⟩
  | .hbm, ⟨26, _⟩ => ⟨S8x256x1024, .f32⟩
  | .hbm, ⟨27, _⟩ => ⟨S1x1x1024, .f32⟩
  | .hbm, ⟨28, _⟩ => ⟨S8x256x1024, .f32⟩
  | .hbm, ⟨29, _⟩ => ⟨S8x256x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1x1024, .f32⟩
  | .hbm, ⟨34, _⟩ => ⟨S8x256x1024, .f32⟩
  | .hbm, ⟨35, _⟩ => ⟨S8x256x1024, .f32⟩
  | .hbm, ⟨36, _⟩ => ⟨S1x1x1024, .f32⟩
  | .hbm, ⟨37, _⟩ => ⟨S8x256x1024, .f32⟩
  | .hbm, ⟨38, _⟩ => ⟨S8x256x1024, .f32⟩
  | .hbm, ⟨39, _⟩ => ⟨S8x256x3104, .f32⟩
  | .hbm, ⟨40, _⟩ => ⟨S8x256x1536, .f32⟩
  | .hbm, ⟨41, _⟩ => ⟨S8x256x256, .f32⟩
  | .hbm, ⟨42, _⟩ => ⟨S8x256x256, .f32⟩
  | .hbm, ⟨43, _⟩ => ⟨S8x256x512, .f32⟩
  | .hbm, ⟨44, _⟩ => ⟨S8x256x512, .f32⟩
  | .hbm, ⟨45, _⟩ => ⟨S8x256x16, .f32⟩
  | .hbm, ⟨46, _⟩ => ⟨S8x256x16, .f32⟩
  | .hbm, ⟨47, _⟩ => ⟨S8x256x256, .bf16⟩
  | .hbm, ⟨48, _⟩ => ⟨S8x256x512, .bf16⟩
  | .hbm, ⟨49, _⟩ => ⟨S8x256x256, .f32⟩
  | .hbm, ⟨50, _⟩ => ⟨S1x1x256, .f32⟩
  | .hbm, ⟨51, _⟩ => ⟨S8x256x256, .f32⟩
  | .hbm, ⟨52, _⟩ => ⟨S8x256x256, .f32⟩
  | .hbm, ⟨53, _⟩ => ⟨S8x256x256, .f32⟩
  | .hbm, ⟨54, _⟩ => ⟨S_, .f32⟩
  | .hbm, ⟨55, _⟩ => ⟨S8x256x256, .f32⟩
  | .hbm, ⟨56, _⟩ => ⟨S8x256x256, .f32⟩
  | .hbm, ⟨57, _⟩ => ⟨S8x256x256, .f32⟩
  | .hbm, ⟨58, _⟩ => ⟨S8x256x256, .f32⟩
  | .hbm, ⟨59, _⟩ => ⟨S8x256x256, .i1⟩
  | .hbm, ⟨60, _⟩ => ⟨S8x256x256, .f32⟩
  | .hbm, ⟨61, _⟩ => ⟨S8x256x256, .f32⟩
  | .hbm, ⟨62, _⟩ => ⟨S8x256x256, .f32⟩
  | .hbm, ⟨63, _⟩ => ⟨S8x256x256, .f32⟩
  | .hbm, ⟨64, _⟩ => ⟨S8x256x256, .f32⟩
  | .hbm, ⟨65, _⟩ => ⟨S8x256x256, .f32⟩
  | .hbm, ⟨66, _⟩ => ⟨S8x256x256, .f32⟩
  | .hbm, ⟨67, _⟩ => ⟨S8x256x256, .f32⟩
  | .hbm, ⟨68, _⟩ => ⟨S8x256x256, .f32⟩
  | .hbm, ⟨69, _⟩ => ⟨S_, .f32⟩
  | .hbm, ⟨70, _⟩ => ⟨S8x256x256, .f32⟩
  | .hbm, ⟨71, _⟩ => ⟨S8x256x256, .f32⟩
  | .hbm, ⟨72, _⟩ => ⟨S8x256x256, .f32⟩
  | .hbm, ⟨73, _⟩ => ⟨S1x1x256, .f32⟩
  | .hbm, ⟨74, _⟩ => ⟨S8x256x256, .f32⟩
  | .hbm, ⟨75, _⟩ => ⟨S8x256x256, .f32⟩
  | .hbm, ⟨76, _⟩ => ⟨S8x256x256, .f32⟩
  | .hbm, ⟨77, _⟩ => ⟨S_, .f32⟩
  | .hbm, ⟨78, _⟩ => ⟨S8x256x256, .f32⟩
  | .hbm, ⟨79, _⟩ => ⟨S8x256x256, .f32⟩
  | .hbm, ⟨80, _⟩ => ⟨S8x256x256, .f32⟩
  | .hbm, ⟨81, _⟩ => ⟨S8x256x256, .f32⟩
  | .hbm, ⟨82, _⟩ => ⟨S8x256x256, .i1⟩
  | .hbm, ⟨83, _⟩ => ⟨S8x256x256, .f32⟩
  | .hbm, ⟨84, _⟩ => ⟨S8x256x256, .f32⟩
  | .hbm, ⟨85, _⟩ => ⟨S8x256x256, .f32⟩
  | .hbm, ⟨86, _⟩ => ⟨S8x256x256, .f32⟩
  | .hbm, ⟨87, _⟩ => ⟨S8x256x256, .f32⟩
  | .hbm, ⟨88, _⟩ => ⟨S8x256x256, .f32⟩
  | .hbm, ⟨89, _⟩ => ⟨S8x256x256, .f32⟩
  | .hbm, ⟨90, _⟩ => ⟨S8x256x256, .f32⟩
  | .hbm, ⟨91, _⟩ => ⟨S8x256x256, .f32⟩
  | .hbm, ⟨92, _⟩ => ⟨S_, .f32⟩
  | .hbm, ⟨93, _⟩ => ⟨S8x256x256, .f32⟩
  | .hbm, ⟨94, _⟩ => ⟨S8x256x256, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_call0_v0 : Ref sig .tc := ⟨.hbm, 53, rfl⟩
abbrev main_call0_call0_cst : Ref sig .tc := ⟨.hbm, 54, rfl⟩
abbrev main_call0_call0_v0 : Ref sig .tc := ⟨.hbm, 55, rfl⟩
abbrev main_call0_call0_v1 : Ref sig .tc := ⟨.hbm, 56, rfl⟩
abbrev main_call0_call0_v2 : Ref sig .tc := ⟨.hbm, 57, rfl⟩
abbrev main_call0_call0_v3 : Ref sig .tc := ⟨.hbm, 58, rfl⟩
abbrev main_call0_call0_v4 : Ref sig .tc := ⟨.hbm, 59, rfl⟩
abbrev main_call0_call0_v5 : Ref sig .tc := ⟨.hbm, 60, rfl⟩
abbrev main_call0_call0_v6 : Ref sig .tc := ⟨.hbm, 61, rfl⟩
abbrev main_call0_call0_v7 : Ref sig .tc := ⟨.hbm, 62, rfl⟩
abbrev main_call0_call0_v8 : Ref sig .tc := ⟨.hbm, 63, rfl⟩
abbrev main_call0_call0_v9 : Ref sig .tc := ⟨.hbm, 64, rfl⟩
abbrev main_call0_call0_v10 : Ref sig .tc := ⟨.hbm, 65, rfl⟩
abbrev main_call0_call0_v11 : Ref sig .tc := ⟨.hbm, 66, rfl⟩
abbrev main_call0_v1 : Ref sig .tc := ⟨.hbm, 67, rfl⟩
abbrev main_v41 : Ref sig .tc := ⟨.hbm, 68, rfl⟩
abbrev main_cst_3 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call1_v0 : Ref sig .tc := ⟨.hbm, 76, rfl⟩
abbrev main_call1_call0_cst : Ref sig .tc := ⟨.hbm, 77, rfl⟩
abbrev main_call1_call0_v0 : Ref sig .tc := ⟨.hbm, 78, rfl⟩
abbrev main_call1_call0_v1 : Ref sig .tc := ⟨.hbm, 79, rfl⟩
abbrev main_call1_call0_v2 : Ref sig .tc := ⟨.hbm, 80, rfl⟩
abbrev main_call1_call0_v3 : Ref sig .tc := ⟨.hbm, 81, rfl⟩
abbrev main_call1_call0_v4 : Ref sig .tc := ⟨.hbm, 82, rfl⟩
abbrev main_call1_call0_v5 : Ref sig .tc := ⟨.hbm, 83, rfl⟩
abbrev main_call1_call0_v6 : Ref sig .tc := ⟨.hbm, 84, rfl⟩
abbrev main_call1_call0_v7 : Ref sig .tc := ⟨.hbm, 85, rfl⟩
abbrev main_call1_call0_v8 : Ref sig .tc := ⟨.hbm, 86, rfl⟩
abbrev main_call1_call0_v9 : Ref sig .tc := ⟨.hbm, 87, rfl⟩
abbrev main_call1_call0_v10 : Ref sig .tc := ⟨.hbm, 88, rfl⟩
abbrev main_call1_call0_v11 : Ref sig .tc := ⟨.hbm, 89, rfl⟩
abbrev main_call1_v1 : Ref sig .tc := ⟨.hbm, 90, rfl⟩
abbrev main_v48 : Ref sig .tc := ⟨.hbm, 91, rfl⟩
abbrev main_cst_4 : Ref sig .tc := ⟨.hbm, 92, rfl⟩
abbrev main_v49 : Ref sig .tc := ⟨.hbm, 93, rfl⟩
abbrev main_v50 : Ref sig .tc := ⟨.hbm, 94, rfl⟩

abbrev nD : Nat := 1
abbrev τ : Topo := Topo.v7x

variable {F : FTy → Type} [FloatOps F]
-- ==== Kernel5.lean ====
abbrev S8x4096x256 : Shape := ⟨3, ![8, 4096, 256]⟩
abbrev S8x4096x512 : Shape := ⟨3, ![8, 4096, 512]⟩
abbrev S8x4x64x128 : Shape := ⟨4, ![8, 4, 64, 128]⟩
abbrev S128 : Shape := ⟨1, ![128]⟩
abbrev S1x128 : Shape := ⟨2, ![1, 128]⟩
abbrev S1x2048x256 : Shape := ⟨3, ![1, 2048, 256]⟩
abbrev S1x2048x512 : Shape := ⟨3, ![1, 2048, 512]⟩
abbrev S1x4x64x128 : Shape := ⟨4, ![1, 4, 64, 128]⟩
abbrev S4x64x128 : Shape := ⟨3, ![4, 64, 128]⟩
abbrev S2048x256 : Shape := ⟨2, ![2048, 256]⟩
abbrev S1x64x128 : Shape := ⟨3, ![1, 64, 128]⟩
abbrev S64x128 : Shape := ⟨2, ![64, 128]⟩
abbrev S1x64x256 : Shape := ⟨3, ![1, 64, 256]⟩
abbrev S64x256 : Shape := ⟨2, ![64, 256]⟩
abbrev S1x64x512 : Shape := ⟨3, ![1, 64, 512]⟩
abbrev S64x512 : Shape := ⟨2, ![64, 512]⟩
abbrev S1x256 : Shape := ⟨2, ![1, 256]⟩
abbrev S8x256 : Shape := ⟨2, ![8, 256]⟩
abbrev S56x256 : Shape := ⟨2, ![56, 256]⟩
abbrev S128x256 : Shape := ⟨2, ![128, 256]⟩
abbrev S256x128 : Shape := ⟨2, ![256, 128]⟩
abbrev S128x128 : Shape := ⟨2, ![128, 128]⟩
abbrev S256x256 : Shape := ⟨2, ![256, 256]⟩
abbrev S64 : Shape := ⟨1, ![64]⟩
abbrev S64x1 : Shape := ⟨2, ![64, 1]⟩

abbrev nBuf : Space → Nat
  | .hbm => 10
  | .vmem => 19
  | .smem => 0
  | _ => 0

abbrev bufTy : (tb : Table) → Fin (tcTables nBuf tb) → BufTy
  | .hbm, ⟨0, _⟩ => ⟨S8x4096x256, .bf16⟩
  | .hbm, ⟨1, _⟩ => ⟨S8x4096x256, .bf16⟩
  | .hbm, ⟨2, _⟩ => ⟨S8x4096x512, .bf16⟩
  | .hbm, ⟨3, _⟩ => ⟨S8x4096x256, .f32⟩
  | .hbm, ⟨4, _⟩ => ⟨S8x4x64x128, .f32⟩
  | .hbm, ⟨5, _⟩ => ⟨S8x4096x512, .f32⟩
  | .hbm, ⟨6, _⟩ => ⟨S8x4096x512, .bf16⟩
  | .hbm, ⟨7, _⟩ => ⟨S128, .f32⟩
  | .hbm, ⟨8, _⟩ => ⟨S1x128, .f32⟩
  | .hbm, ⟨9, _⟩ => ⟨S8x4096x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x256, .f32⟩
  | .local _ .vmem, ⟨7, _⟩ => ⟨S1x2048x256, .f32⟩
  | .local _ .vmem, ⟨8, _⟩ => ⟨S1x4x64x128, .f32⟩
  | .local _ .vmem, ⟨9, _⟩ => ⟨S1x4x64x128, .f32⟩
  | .local _ .vmem, ⟨10, _⟩ => ⟨S1x2048x512, .f32⟩
  | .local _ .vmem, ⟨11, _⟩ => ⟨S1x2048x512, .f32⟩
  | .local _ .vmem, ⟨12, _⟩ => ⟨S1x2048x512, .bf16⟩
  | .local _ .vmem, ⟨13, _⟩ => ⟨S1x2048x512, .bf16⟩
  | .local _ .vmem, ⟨14, _⟩ => ⟨S1x128, .f32⟩
  | .local _ .vmem, ⟨15, _⟩ => ⟨S1x2048x512, .bf16⟩
  | .local _ .vmem, ⟨16, _⟩ => ⟨S1x2048x512, .bf16⟩
  | .local _ .vmem, ⟨17, _⟩ => ⟨S4x64x128, .f32⟩
  | .local _ .vmem, ⟨18, _⟩ => ⟨S2048x256, .f32⟩
  | _, _ => ⟨S8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S8x4096x256 : Shape := ⟨3, ![8, 4096, 256]⟩
abbrev S8x4096x512 : Shape := ⟨3, ![8, 4096, 512]⟩
abbrev S8x4x64x128 : Shape := ⟨4, ![8, 4, 64, 128]⟩
abbrev S128 : Shape := ⟨1, ![128]⟩
abbrev S8x4096x4x64 : Shape := ⟨4, ![8, 4096, 4, 64]⟩
abbrev S8x4x4096x64 : Shape := ⟨4, ![8, 4, 4096, 64]⟩
abbrev S8x4096x4x128 : Shape := ⟨4, ![8, 4096, 4, 128]⟩
abbrev S8x4x4096x128 : Shape := ⟨4, ![8, 4, 4096, 128]⟩
abbrev S8x4x64x64x64 : Shape := ⟨5, ![8, 4, 64, 64, 64]⟩
abbrev S8x4x64x64x128 : Shape := ⟨5, ![8, 4, 64, 64, 128]⟩
abbrev S_ : Shape := ⟨0, ![]⟩
abbrev S8x4x64x1x64 : Shape := ⟨5, ![8, 4, 64, 1, 64]⟩
abbrev S64x64 : Shape := ⟨2, ![64, 64]⟩
abbrev S64x8x4x64x128 : Shape := ⟨5, ![64, 8, 4, 64, 128]⟩
abbrev S8x4x64x64 : Shape := ⟨4, ![8, 4, 64, 64]⟩
abbrev S64x8x4x64 : Shape := ⟨4, ![64, 8, 4, 64]⟩
abbrev S1x8x4x64 : Shape := ⟨4, ![1, 8, 4, 64]⟩
abbrev S8x4x64 : Shape := ⟨3, ![8, 4, 64]⟩
abbrev S1x8x4x64x128 : Shape := ⟨5, ![1, 8, 4, 64, 128]⟩
abbrev S8x4x64x1 : Shape := ⟨4, ![8, 4, 64, 1]⟩
abbrev S8x4x4096 : Shape := ⟨3, ![8, 4, 4096]⟩
abbrev S8x4x4096x1 : Shape := ⟨4, ![8, 4, 4096, 1]⟩
abbrev S1x1x1x128 : Shape := ⟨4, ![1, 1, 1, 128]⟩

abbrev nBuf : Space → Nat
  | .hbm => 132
  | .vmem => 0
  | .smem => 0
  | _ => 0

abbrev hbmTy0_0 (i : Nat) : BufTy := match i % 128 with
  | 0 => ⟨S8x4096x256, .bf16⟩
  | 1 => ⟨S8x4096x256, .bf16⟩
  | 2 => ⟨S8x4096x512, .bf16⟩
  | 3 => ⟨S8x4096x256, .f32⟩
  | 4 => ⟨S8x4x64x128, .f32⟩
  | 5 => ⟨S8x4096x512, .f32⟩
  | 6 => ⟨S8x4096x512, .bf16⟩
  | 7 => ⟨S128, .f32⟩
  | 8 => ⟨S8x4096x256, .f32⟩
  | 9 => ⟨S8x4096x4x64, .f32⟩
  | 10 => ⟨S8x4x4096x64, .f32⟩
  | 11 => ⟨S8x4096x256, .f32⟩
  | 12 => ⟨S8x4096x4x64, .f32⟩
  | 13 => ⟨S8x4x4096x64, .f32⟩
  | 14 => ⟨S8x4096x512, .f32⟩
  | 15 => ⟨S8x4096x4x128, .f32⟩
  | 16 => ⟨S8x4x4096x128, .f32⟩
  | 17 => ⟨S8x4096x4x64, .f32⟩
  | 18 => ⟨S8x4x4096x64, .f32⟩
  | 19 => ⟨S8x4x4096x64, .f32⟩
  | 20 => ⟨S8x4x4096x64, .f32⟩
  | 21 => ⟨S8x4x4096x128, .f32⟩
  | 22 => ⟨S8x4x4096x64, .f32⟩
  | 23 => ⟨S8x4x64x64x64, .f32⟩
  | 24 => ⟨S8x4x64x64x64, .f32⟩
  | 25 => ⟨S8x4x64x64x64, .f32⟩
  | 26 => ⟨S8x4x64x64x128, .f32⟩
  | 27 => ⟨S_, .f32⟩
  | 28 => ⟨S_, .f32⟩
  | 29 => ⟨S8x4x64x64x64, .f32⟩
  | 30 => ⟨S8x4x64x1x64, .f32⟩
  | 31 => ⟨S8x4x64x64x64, .f32⟩
  | 32 => ⟨S8x4x64x64x64, .f32⟩
  | 33 => ⟨S8x4x64x64x64, .f32⟩
  | 34 => ⟨S8x4x64x64x64, .f32⟩
  | 35 => ⟨S8x4x64x64x64, .f32⟩
  | 36 => ⟨S8x4x64x64x64, .f32⟩
  | 37 => ⟨S8x4x64x64x64, .f32⟩
  | 38 => ⟨S8x4x64x64x64, .f32⟩
  | 39 => ⟨S8x4x64x64x64, .f32⟩
  | 40 => ⟨S_, .i1⟩
  | 41 => ⟨S64x64, .i1⟩
  | 42 => ⟨S64x64, .i32⟩
  | 43 => ⟨S_, .i32⟩
  | 44 => ⟨S64x64, .i32⟩
  | 45 => ⟨S64x64, .i32⟩
  | 46 => ⟨S64x64, .i32⟩
  | 47 => ⟨S64x64, .i1⟩
  | 48 => ⟨S_, .i1⟩
  | 49 => ⟨S64x64, .i1⟩
  | 50 => ⟨S64x64, .i1⟩
  | 51 => ⟨S8x4x64x64x64, .f32⟩
  | 52 => ⟨S_, .f32⟩
  | 53 => ⟨S_, .f32⟩
  | 54 => ⟨S8x4x64x64x64, .i1⟩
  | 55 => ⟨S8x4x64x64x64, .f32⟩
  | 56 => ⟨S8x4x64x64x64, .f32⟩
  | 57 => ⟨S8x4x64x64x128, .f32⟩
  | 58 => ⟨S64x8x4x64x128, .f32⟩
  | 59 => ⟨S8x4x64x64, .f32⟩
  | 60 => ⟨S8x4x64x64, .f32⟩
  | 61 => ⟨S64x8x4x64, .f32⟩
  | 62 => ⟨S_, .f32⟩
  | 63 => ⟨S64x8x4x64x128, .f32⟩
  | 64 => ⟨S_, .i32⟩
  | 65 => ⟨S64x8x4x64, .f32⟩
  | 66 => ⟨S64x8x4x64x128, .f32⟩
  | 67 => ⟨S_, .i32⟩
  | 68 => ⟨S8x4x64x128, .f32⟩
  | 69 => ⟨S64x8x4x64x128, .f32⟩
  | 70 => ⟨S_, .i32⟩
  | 71 => ⟨S_, .i1⟩
  | 72 => ⟨S_, .i32⟩
  | 73 => ⟨S_, .i32⟩
  | 74 => ⟨S_, .i32⟩
  | 75 => ⟨S1x8x4x64, .f32⟩
  | 76 => ⟨S8x4x64, .f32⟩
  | 77 => ⟨S_, .i32⟩
  | 78 => ⟨S_, .i32⟩
  | 79 => ⟨S_, .i32⟩
  | 80 => ⟨S_, .i32⟩
  | 81 => ⟨S1x8x4x64x128, .f32⟩
  | 82 => ⟨S8x4x64x128, .f32⟩
  | 83 => ⟨S8x4x64x1, .f32⟩
  | 84 => ⟨S8x4x64x128, .f32⟩
  | 85 => ⟨S8x4x64x128, .f32⟩
  | 86 => ⟨S8x4x64x128, .f32⟩
  | 87 => ⟨S1x8x4x64x128, .f32⟩
  | 88 => ⟨S_, .i32⟩
  | 89 => ⟨S_, .i32⟩
  | 90 => ⟨S_, .i32⟩
  | 91 => ⟨S_, .i32⟩
  | 92 => ⟨S64x8x4x64x128, .f32⟩
  | 93 => ⟨S_, .i32⟩
  | 94 => ⟨S_, .i32⟩
  | 95 => ⟨S8x4x64x64x128, .f32⟩
  | 96 => ⟨S8x4x64x64x128, .f32⟩
  | 97 => ⟨S8x4x4096x128, .f32⟩
  | 98 => ⟨S8x4096x4x128, .f32⟩
  | 99 => ⟨S8x4x4096x128, .f32⟩
  | 100 => ⟨S8x4x4096x128, .f32⟩
  | 101 => ⟨S8x4x4096x128, .f32⟩
  | 102 => ⟨S8x4x4096x128, .f32⟩
  | 103 => ⟨S_, .f32⟩
  | 104 => ⟨S8x4x4096, .f32⟩
  | 105 => ⟨S8x4x4096x1, .f32⟩
  | 106 => ⟨S_, .f32⟩
  | 107 => ⟨S8x4x4096x1, .f32⟩
  | 108 => ⟨S8x4x4096x1, .f32⟩
  | 109 => ⟨S_, .f32⟩
  | 110 => ⟨S8x4x4096x1, .f32⟩
  | 111 => ⟨S8x4x4096x1, .f32⟩
  | 112 => ⟨S8x4x4096x1, .f32⟩
  | 113 => ⟨S8x4x4096x128, .f32⟩
  | 114 => ⟨S8x4x4096x128, .f32⟩
  | 115 => ⟨S1x1x1x128, .f32⟩
  | 116 => ⟨S8x4x4096x128, .f32⟩
  | 117 => ⟨S8x4x4096x128, .f32⟩
  | 118 => ⟨S8x4096x4x128, .f32⟩
  | 119 => ⟨S8x4096x512, .f32⟩
  | 120 => ⟨S8x4096x512, .f32⟩
  | 121 => ⟨S8x4096x512, .f32⟩
  | 122 => ⟨S8x4096x512, .f32⟩
  | 123 => ⟨S_, .f32⟩
  | 124 => ⟨S8x4096x512, .f32⟩
  | 125 => ⟨S8x4096x512, .f32⟩
  | 126 => ⟨S_, .f32⟩
  | 127 => ⟨S8x4096x512, .f32⟩
  | _ => ⟨S8x4096x256, .bf16⟩

abbrev hbmTy0_1 (i : Nat) : BufTy := match i % 128 with
  | 0 => ⟨S8x4096x512, .f32⟩
  | 1 => ⟨S8x4096x512, .f32⟩
  | 2 => ⟨S8x4096x512, .f32⟩
  | 3 => ⟨S8x4096x512, .bf16⟩
  | _ => ⟨S8x4096x256, .bf16⟩

abbrev hbmTy (i : Nat) : BufTy := match i / 128 with
  | 0 => hbmTy0_0 i
  | 1 => hbmTy0_1 i
  | _ => ⟨S8x4096x256, .bf16⟩

abbrev bufTy : (tb : Table) → Fin (tcTables nBuf tb) → BufTy
  | .hbm, ⟨i, _⟩ => hbmTy i
  | _, _ => ⟨S8x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call4_call0_cst : Ref sig .tc := ⟨.hbm, 27, rfl⟩
abbrev main_call4_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_v30 : Ref sig .tc := ⟨.hbm, 41, rfl⟩
abbrev main_call5_v0 : Ref sig .tc := ⟨.hbm, 42, rfl⟩
abbrev main_call5_c : Ref sig .tc := ⟨.hbm, 43, rfl⟩
abbrev main_call5_v1 : Ref sig .tc := ⟨.hbm, 44, rfl⟩
abbrev main_call5_v2 : Ref sig .tc := ⟨.hbm, 45, rfl⟩
abbrev main_call5_v3 : Ref sig .tc := ⟨.hbm, 46, rfl⟩
abbrev main_call5_v4 : Ref sig .tc := ⟨.hbm, 47, rfl⟩
abbrev main_call5_c_0 : Ref sig .tc := ⟨.hbm, 48, rfl⟩
abbrev main_call5_v5 : Ref sig .tc := ⟨.hbm, 49, rfl⟩
abbrev main_v31 : Ref sig .tc := ⟨.hbm, 50, rfl⟩
abbrev main_v32 : Ref sig .tc := ⟨.hbm, 51, rfl⟩
abbrev main_cst : Ref sig .tc := ⟨.hbm, 52, rfl⟩
abbrev main_call6_v0 : Ref sig .tc := ⟨.hbm, 53, rfl⟩
abbrev main_call6_v1 : Ref sig .tc := ⟨.hbm, 54, rfl⟩
abbrev main_call6_v2 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_0 : Ref sig .tc := ⟨.hbm, 62, rfl⟩
abbrev main_v39 : Ref sig .tc := ⟨.hbm, 63, rfl⟩
abbrev main_c_1 : Ref sig .tc := ⟨.hbm, 64, rfl⟩
abbrev main_v40_0 : Ref sig .tc := ⟨.hbm, 65, rfl⟩
abbrev main_v40_1 : Ref sig .tc := ⟨.hbm, 66, rfl⟩
abbrev main_v40_2 : Ref sig .tc := ⟨.hbm, 67, rfl⟩
abbrev main_v40_3 : Ref sig .tc := ⟨.hbm, 68, rfl⟩
abbrev main_v40_4 : Ref sig .tc := ⟨.hbm, 69, rfl⟩
abbrev main_while0c_c_9 : Ref sig .tc := ⟨.hbm, 70, rfl⟩
abbrev main_while0c_v67 : Ref sig .tc := ⟨.hbm, 71, rfl⟩
abbrev main_while0b_call7_c : Ref sig .tc := ⟨.hbm, 72, rfl⟩
abbrev main_while0b_call7_c_0 : Ref sig .tc := ⟨.hbm, 73, rfl⟩
abbrev main_while0b_call7_c_1 : Ref sig .tc := ⟨.hbm, 74, rfl⟩
abbrev main_while0b_call7_v0 : Ref sig .tc := ⟨.hbm, 75, rfl⟩
abbrev main_while0b_v67 : Ref sig .tc := ⟨.hbm, 76, rfl⟩
abbrev main_while0b_call8_c : Ref sig .tc := ⟨.hbm, 77, rfl⟩
abbrev main_while0b_call8_c_0 : Ref sig .tc := ⟨.hbm, 78, rfl⟩
abbrev main_while0b_call8_c_1 : Ref sig .tc := ⟨.hbm, 79, rfl⟩
abbrev main_while0b_call8_c_2 : Ref sig .tc := ⟨.hbm, 80, rfl⟩
abbrev main_while0b_call8_v0 : Ref sig .tc := ⟨.hbm, 81, rfl⟩
abbrev main_while0b_v68 : Ref sig .tc := ⟨.hbm, 82, rfl⟩
abbrev main_while0b_v69 : Ref sig .tc := ⟨.hbm, 83, rfl⟩
abbrev main_while0b_v70 : Ref sig .tc := ⟨.hbm, 84, rfl⟩
abbrev main_while0b_v71 : Ref sig .tc := ⟨.hbm, 85, rfl⟩
abbrev main_while0b_v72 : Ref sig .tc := ⟨.hbm, 86, rfl⟩
abbrev main_while0b_call9_v0 : Ref sig .tc := ⟨.hbm, 87, rfl⟩
abbrev main_while0b_call9_c : Ref sig .tc := ⟨.hbm, 88, rfl⟩
abbrev main_while0b_call9_c_0 : Ref sig .tc := ⟨.hbm, 89, rfl⟩
abbrev main_while0b_call9_c_1 : Ref sig .tc := ⟨.hbm, 90, rfl⟩
abbrev main_while0b_call9_c_2 : Ref sig .tc := ⟨.hbm, 91, rfl⟩
abbrev main_while0b_v73 : Ref sig .tc := ⟨.hbm, 92, rfl⟩
abbrev main_while0b_c_9 : Ref sig .tc := ⟨.hbm, 93, rfl⟩
abbrev main_while0b_v74 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_cst_2 : Ref sig .tc := ⟨.hbm, 103, rfl⟩
abbrev main_v49 : Ref sig .tc := ⟨.hbm, 104, rfl⟩
abbrev main_v50 : Ref sig .tc := ⟨.hbm, 105, rfl⟩
abbrev main_cst_3 : Ref sig .tc := ⟨.hbm, 106, rfl⟩
abbrev main_v51 : Ref sig .tc := ⟨.hbm, 107, rfl⟩
abbrev main_v52 : Ref sig .tc := ⟨.hbm, 108, rfl⟩
abbrev main_cst_4 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_call11_v0 : Ref sig .tc := ⟨.hbm, 121, rfl⟩
abbrev main_call11_v1 : Ref sig .tc := ⟨.hbm, 122, rfl⟩
abbrev main_call11_cst : Ref sig .tc := ⟨.hbm, 123, rfl⟩
abbrev main_call11_v2 : Ref sig .tc := ⟨.hbm, 124, rfl⟩
abbrev main_call11_v3 : Ref sig .tc := ⟨.hbm, 125, rfl⟩
abbrev main_call11_cst_0 : Ref sig .tc := ⟨.hbm, 126, rfl⟩
abbrev main_call11_v4 : Ref sig .tc := ⟨.hbm, 127, rfl⟩
abbrev main_call11_v5 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩

abbrev nD : Nat := 1
abbrev τ : Topo := Topo.v7x

variable {F : FTy → Type} [FloatOps F]

abbrev main_while0_count : Scf.Loop 32 := ⟨0#32, 64#32, 1#32⟩
-- ==== Kernel6.lean ====
abbrev S8x256x256 : Shape := ⟨3, ![8, 256, 256]⟩
abbrev S8x256x512 : Shape := ⟨3, ![8, 256, 512]⟩
abbrev S8x4x64x128 : Shape := ⟨4, ![8, 4, 64, 128]⟩
abbrev S1x256x256 : Shape := ⟨3, ![1, 256, 256]⟩
abbrev S1x256x512 : Shape := ⟨3, ![1, 256, 512]⟩
abbrev S1x4x64x128 : Shape := ⟨4, ![1, 4, 64, 128]⟩
abbrev S256x256 : Shape := ⟨2, ![256, 256]⟩
abbrev S256x512 : Shape := ⟨2, ![256, 512]⟩
abbrev S64x128 : Shape := ⟨2, ![64, 128]⟩
abbrev S1x1x64x128 : Shape := ⟨4, ![1, 1, 64, 128]⟩

abbrev nBuf : Space → Nat
  | .hbm => 6
  | .vmem => 12
  | .smem => 0
  | _ => 0

abbrev bufTy : (tb : Table) → Fin (tcTables nBuf tb) → BufTy
  | .hbm, ⟨0, _⟩ => ⟨S8x256x256, .bf16⟩
  | .hbm, ⟨1, _⟩ => ⟨S8x256x512, .bf16⟩
  | .hbm, ⟨2, _⟩ => ⟨S8x256x256, .f32⟩
  | .hbm, ⟨3, _⟩ => ⟨S8x256x256, .f32⟩
  | .hbm, ⟨4, _⟩ => ⟨S8x4x64x128, .f32⟩
  | .hbm, ⟨5, _⟩ => ⟨S8x4x64x128, .f32⟩
  | .local _ .vmem, ⟨0, _⟩ => ⟨S1x256x256, .bf16⟩
  | .local _ .vmem, ⟨1, _⟩ => ⟨S1x256x256, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x4x64x128, .f32⟩
  | .local _ .vmem, ⟨9, _⟩ => ⟨S1x4x64x128, .f32⟩
  | .local _ .vmem, ⟨10, _⟩ => ⟨S1x4x64x128, .f32⟩
  | .local _ .vmem, ⟨11, _⟩ => ⟨S1x4x64x128, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S8x256x256 : Shape := ⟨3, ![8, 256, 256]⟩
abbrev S8x256x512 : Shape := ⟨3, ![8, 256, 512]⟩
abbrev S8x256x4x64 : Shape := ⟨4, ![8, 256, 4, 64]⟩
abbrev S8x4x256x64 : Shape := ⟨4, ![8, 4, 256, 64]⟩
abbrev S8x256x4x128 : Shape := ⟨4, ![8, 256, 4, 128]⟩
abbrev S8x4x256x128 : Shape := ⟨4, ![8, 4, 256, 128]⟩
abbrev S_ : Shape := ⟨0, ![]⟩
abbrev S8x4x1x64 : Shape := ⟨4, ![8, 4, 1, 64]⟩
abbrev S8x4x64x128 : Shape := ⟨4, ![8, 4, 64, 128]⟩

abbrev nBuf : Space → Nat
  | .hbm => 35
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S8x256x512, .bf16⟩
  | .hbm, ⟨2, _⟩ => ⟨S8x256x256, .f32⟩
  | .hbm, ⟨3, _⟩ => ⟨S8x256x256, .f32⟩
  | .hbm, ⟨4, _⟩ => ⟨S8x256x256, .f32⟩
  | .hbm, ⟨5, _⟩ => ⟨S8x256x4x64, .f32⟩
  | .hbm, ⟨6, _⟩ => ⟨S8x4x256x64, .f32⟩
  | .hbm, ⟨7, _⟩ => ⟨S8x256x512, .f32⟩
  | .hbm, ⟨8, _⟩ => ⟨S8x256x4x128, .f32⟩
  | .hbm, ⟨9, _⟩ => ⟨S8x4x256x128, .f32⟩
  | .hbm, ⟨10, _⟩ => ⟨S8x256x4x64, .f32⟩
  | .hbm, ⟨11, _⟩ => ⟨S8x4x256x64, .f32⟩
  | .hbm, ⟨12, _⟩ => ⟨S_, .f32⟩
  | .hbm, ⟨13, _⟩ => ⟨S_, .f32⟩
  | .hbm, ⟨14, _⟩ => ⟨S8x4x256x64, .f32⟩
  | .hbm, ⟨15, _⟩ => ⟨S8x4x1x64, .f32⟩
  | .hbm, ⟨16, _⟩ => ⟨S8x4x256x64, .f32⟩
  | .hbm, ⟨17, _⟩ => ⟨S8x4x256x64, .f32⟩
  | .hbm, ⟨18, _⟩ => ⟨S8x4x256x64, .f32⟩
  | .hbm, ⟨19, _⟩ => ⟨S8x4x256x64, .f32⟩
  | .hbm, ⟨20, _⟩ => ⟨S8x4x64x128, .f32⟩
  | .hbm, ⟨21, _⟩ => ⟨S8x4x256x64, .f32⟩
  | .hbm, ⟨22, _⟩ => ⟨S8x4x256x128, .f32⟩
  | .hbm, ⟨23, _⟩ => ⟨S8x256x4x64, .f32⟩
  | .hbm, ⟨24, _⟩ => ⟨S8x4x256x64, .f32⟩
  | .hbm, ⟨25, _⟩ => ⟨S8x4x256x64, .f32⟩
  | .hbm, ⟨26, _⟩ => ⟨S_, .f32⟩
  | .hbm, ⟨27, _⟩ => ⟨S_, .f32⟩
  | .hbm, ⟨28, _⟩ => ⟨S8x4x256x64, .f32⟩
  | .hbm, ⟨29, _⟩ => ⟨S8x4x1x64, .f32⟩
  | .hbm, ⟨30, _⟩ => ⟨S8x4x256x64, .f32⟩
  | .hbm, ⟨31, _⟩ => ⟨S8x4x256x64, .f32⟩
  | .hbm, ⟨32, _⟩ => ⟨S8x4x256x64, .f32⟩
  | .hbm, ⟨33, _⟩ => ⟨S8x4x256x64, .f32⟩
  | .hbm, ⟨34, _⟩ => ⟨S8x4x64x128, .f32⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_cst : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call4_call0_cst : Ref sig .tc := ⟨.hbm, 26, rfl⟩
abbrev main_call4_call0_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel7.lean ====
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1x6144 : Shape := ⟨2, ![1, 6144]⟩
abbrev S16x6144 : Shape := ⟨2, ![16, 6144]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S1x6144, .f32⟩
  | .hbm, ⟨9, _⟩ => ⟨S16x6144, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩
abbrev S7x6144 : Shape := ⟨2, ![7, 6144]⟩
abbrev S16x6144 : Shape := ⟨2, ![16, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x6144, .f32⟩
  | .hbm, ⟨14, _⟩ => ⟨S1x6144, .f32⟩
  | .hbm, ⟨15, _⟩ => ⟨S8x6144, .f32⟩
  | .hbm, ⟨16, _⟩ => ⟨S8x6144, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S6144, .f32⟩
  | .hbm, ⟨27, _⟩ => ⟨S6144, .f32⟩
  | .hbm, ⟨28, _⟩ => ⟨S7x6144, .f32⟩
  | .hbm, ⟨29, _⟩ => ⟨S1x6144, .f32⟩
  | .hbm, ⟨30, _⟩ => ⟨S16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Kernel8.lean ====
abbrev S4096x33 : Shape := ⟨2, ![4096, 33]⟩
abbrev S33x64 : Shape := ⟨2, ![33, 64]⟩
abbrev S64 : Shape := ⟨1, ![64]⟩
abbrev S64x64 : Shape := ⟨2, ![64, 64]⟩
abbrev S_ : Shape := ⟨0, ![]⟩
abbrev S4096x128 : Shape := ⟨2, ![4096, 128]⟩
abbrev S2048x128 : Shape := ⟨2, ![2048, 128]⟩
abbrev S2048x256 : Shape := ⟨2, ![2048, 256]⟩
abbrev S128x64 : Shape := ⟨2, ![128, 64]⟩
abbrev S128x128 : Shape := ⟨2, ![128, 128]⟩
abbrev S256x128 : Shape := ⟨2, ![256, 128]⟩
abbrev S128 : Shape := ⟨1, ![128]⟩
abbrev S1x128 : Shape := ⟨2, ![1, 128]⟩
abbrev S64x128 : Shape := ⟨2, ![64, 128]⟩

abbrev nBuf : Space → Nat
  | .hbm => 41
  | .vmem => 9
  | .smem => 0
  | _ => 0

abbrev bufTy : (tb : Table) → Fin (tcTables nBuf tb) → BufTy
  | .hbm, ⟨0, _⟩ => ⟨S4096x33, .f32⟩
  | .hbm, ⟨1, _⟩ => ⟨S33x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S_, .i32⟩
  | .hbm, ⟨9, _⟩ => ⟨S_, .f32⟩
  | .hbm, ⟨10, _⟩ => ⟨S4096x128, .f32⟩
  | .hbm, ⟨11, _⟩ => ⟨S2048x128, .f32⟩
  | .hbm, ⟨12, _⟩ => ⟨S2048x128, .f32⟩
  | .hbm, ⟨13, _⟩ => ⟨S2048x256, .f32⟩
  | .hbm, ⟨14, _⟩ => ⟨S_, .i32⟩
  | .hbm, ⟨15, _⟩ => ⟨S_, .f32⟩
  | .hbm, ⟨16, _⟩ => ⟨S128x64, .f32⟩
  | .hbm, ⟨17, _⟩ => ⟨S_, .f32⟩
  | .hbm, ⟨18, _⟩ => ⟨S128x64, .f32⟩
  | .hbm, ⟨19, _⟩ => ⟨S128x128, .f32⟩
  | .hbm, ⟨20, _⟩ => ⟨S128x128, .f32⟩
  | .hbm, ⟨21, _⟩ => ⟨S256x128, .f32⟩
  | .hbm, ⟨22, _⟩ => ⟨S128, .f32⟩
  | .hbm, ⟨23, _⟩ => ⟨S1x128, .f32⟩
  | .hbm, ⟨24, _⟩ => ⟨S_, .f32⟩
  | .hbm, ⟨25, _⟩ => ⟨S64x64, .f32⟩
  | .hbm, ⟨26, _⟩ => ⟨S64x128, .f32⟩
  | .hbm, ⟨27, _⟩ => ⟨S64x128, .f32⟩
  | .hbm, ⟨28, _⟩ => ⟨S128x128, .f32⟩
  | .hbm, ⟨29, _⟩ => ⟨S128, .f32⟩
  | .hbm, ⟨30, _⟩ => ⟨S1x128, .f32⟩
  | .hbm, ⟨31, _⟩ => ⟨S_, .f32⟩
  | .hbm, ⟨32, _⟩ => ⟨S64x64, .f32⟩
  | .hbm, ⟨33, _⟩ => ⟨S64x128, .f32⟩
  | .hbm, ⟨34, _⟩ => ⟨S64x128, .f32⟩
  | .hbm, ⟨35, _⟩ => ⟨S128x128, .f32⟩
  | .hbm, ⟨36, _⟩ => ⟨S128, .f32⟩
  | .hbm, ⟨37, _⟩ => ⟨S1x128, .f32⟩
  | .hbm, ⟨38, _⟩ => ⟨S128, .f32⟩
  | .hbm, ⟨39, _⟩ => ⟨S1x128, .f32⟩
  | .hbm, ⟨40, _⟩ => ⟨S2048x128, .f32⟩
  | .local _ .vmem, ⟨0, _⟩ => ⟨S2048x256, .f32⟩
  | .local _ .vmem, ⟨1, _⟩ => ⟨S256x128, .f32⟩
  | .local _ .vmem, ⟨2, _⟩ => ⟨S1x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S2048x128, .f32⟩
  | _, _ => ⟨S4096x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_call2_v0 : Ref sig .tc := ⟨.hbm, 19, rfl⟩
abbrev main_call2_v1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_call3_v0 : Ref sig .tc := ⟨.hbm, 26, rfl⟩
abbrev main_call3_v1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_call4_v0 : Ref sig .tc := ⟨.hbm, 33, rfl⟩
abbrev main_call4_v1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference8Ideal.lean ====
abbrev S4096x33 : Shape := ⟨2, ![4096, 33]⟩
abbrev S33x64 : Shape := ⟨2, ![33, 64]⟩
abbrev S64 : Shape := ⟨1, ![64]⟩
abbrev S64x64 : Shape := ⟨2, ![64, 64]⟩
abbrev S4096x64 : Shape := ⟨2, ![4096, 64]⟩
abbrev S1x64 : Shape := ⟨2, ![1, 64]⟩
abbrev S2048x64 : Shape := ⟨2, ![2048, 64]⟩
abbrev S2048x128 : Shape := ⟨2, ![2048, 128]⟩

abbrev nBuf : Space → Nat
  | .hbm => 35
  | .vmem => 0
  | .smem => 0
  | _ => 0

abbrev bufTy : (tb : Table) → Fin (tcTables nBuf tb) → BufTy
  | .hbm, ⟨0, _⟩ => ⟨S4096x33, .f32⟩
  | .hbm, ⟨1, _⟩ => ⟨S33x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S4096x64, .f32⟩
  | .hbm, ⟨9, _⟩ => ⟨S1x64, .f32⟩
  | .hbm, ⟨10, _⟩ => ⟨S4096x64, .f32⟩
  | .hbm, ⟨11, _⟩ => ⟨S4096x64, .f32⟩
  | .hbm, ⟨12, _⟩ => ⟨S1x64, .f32⟩
  | .hbm, ⟨13, _⟩ => ⟨S4096x64, .f32⟩
  | .hbm, ⟨14, _⟩ => ⟨S4096x64, .f32⟩
  | .hbm, ⟨15, _⟩ => ⟨S4096x64, .f32⟩
  | .hbm, ⟨16, _⟩ => ⟨S4096x64, .f32⟩
  | .hbm, ⟨17, _⟩ => ⟨S1x64, .f32⟩
  | .hbm, ⟨18, _⟩ => ⟨S4096x64, .f32⟩
  | .hbm, ⟨19, _⟩ => ⟨S4096x64, .f32⟩
  | .hbm, ⟨20, _⟩ => ⟨S1x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S1x64, .f32⟩
  | .hbm, ⟨26, _⟩ => ⟨S4096x64, .f32⟩
  | .hbm, ⟨27, _⟩ => ⟨S4096x64, .f32⟩
  | .hbm, ⟨28, _⟩ => ⟨S1x64, .f32⟩
  | .hbm, ⟨29, _⟩ => ⟨S4096x64, .f32⟩
  | .hbm, ⟨30, _⟩ => ⟨S4096x64, .f32⟩
  | .hbm, ⟨31, _⟩ => ⟨S4096x64, .f32⟩
  | .hbm, ⟨32, _⟩ => ⟨S2048x64, .f32⟩
  | .hbm, ⟨33, _⟩ => ⟨S2048x64, .f32⟩
  | .hbm, ⟨34, _⟩ => ⟨S2048x128, .f32⟩
  | _, _ => ⟨S4096x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Proof.RefTerms.lean ====
/-
  The reference's stages as functions of its arguments, and what its buffers hold where its loop begins.
-/
module

public import proofs.«01_k».proof.Proof.Gen.ReferenceIdeal.Run
public import Idealize.ShloMosaic.Lib.StableHlo.RunRead

@[expose] public section

set_option maxRecDepth 16384

noncomputable section

namespace Cert.ReferenceIdeal.Stages

open Cert.ReferenceIdeal Cert.ReferenceIdeal.Gen Cert.ReferenceIdeal.Value
open Idealize.ShloMosaic Idealize.ShloMosaic.TcCoe Idealize.ShloMosaic.Tactic Idealize.ShloMosaic.StableHlo

variable {F : FTy → Type} [FloatOps F]

/-- Heads and chunks out of rows: keys' width and values' width. -/
def toHeads (x : FVec F S8x4096x256 .f32) : FVec F S8x4x64x64x64 .f32 :=
  shapeCast S8x4x64x64x64 (transpose S8x4x4096x64 [0, 2, 1, 3] (shapeCast S8x4096x4x64 x shapeCasts_S8x4096x256_S8x4096x4x64)
    transposes_S8x4096x4x64_S8x4x4096x64_0_2_1_3) shapeCasts_S8x4x4096x64_S8x4x64x64x64
def toHeadsV (x : FVec F S8x4096x512 .f32) : FVec F S8x4x64x64x128 .f32 :=
  shapeCast S8x4x64x64x128 (transpose S8x4x4096x128 [0, 2, 1, 3] (shapeCast S8x4096x4x128 x shapeCasts_S8x4096x512_S8x4096x4x128)
    transposes_S8x4096x4x128_S8x4x4096x128_0_2_1_3) shapeCasts_S8x4x4096x128_S8x4x64x64x128

variable (q k : FVec F S8x4096x256 .bf16) (v : FVec F S8x4096x512 .bf16) (g : FVec F S8x4096x256 .f32)

/-- The running sums of the gates within each chunk, and each chunk's last. -/
def cums : FVec F S8x4x64x64x64 .f32 :=
  Host.reduceWindowAdd ![1, 1, 1, 64, 1] ![1, 1, 1, 1, 1] ![0, 0, 0, 63, 0] ![0, 0, 0, 0, 0] (toHeads g)
    (broadcastInDim S_ ![] bcast_S_S_ (constant S_ .f32 0x00000000#32))
    reduceWindows_S8x4x64x64x64_S8x4x64x64x64_w1s1p0_0_w1s1p0_0_w1s1p0_0_w64s1p63_0_w1s1p0_0 h_S_
def lasts : FVec F S8x4x64x1x64 .f32 :=
  extractStridedSlice S8x4x64x1x64 ![0, 0, 0, 63, 0] (cums g) slices_S8x4x64x64x64_S8x4x64x1x64_0_0_0_63_0

def queries : FVec F S8x4x64x64x64 .f32 := mulf (toHeads (extf .f32 q bitsLt_bf16_f32)) (Host.exp (cums g))
def keysIn : FVec F S8x4x64x64x64 .f32 := mulf (toHeads (extf .f32 k bitsLt_bf16_f32)) (Host.exp (Host.negf (cums g)))
def keysEnd : FVec F S8x4x64x64x64 .f32 :=
  mulf (toHeads (extf .f32 k bitsLt_bf16_f32))
    (Host.exp (subf (broadcastInDim S8x4x64x64x64 ![0, 1, 2, 3, 4] bcast_S8x4x64x1x64_S8x4x64x64x64_0_1_2_3_4 (lasts g)) (cums g)))
def values : FVec F S8x4x64x64x128 .f32 := toHeadsV (extf .f32 v bitsLt_bf16_f32)

/-- The lower triangle. -/
def lower : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

def scores : FVec F S8x4x64x64x64 .f32 :=
  select (broadcastInDim S8x4x64x64x64 ![3, 4] bcast_S64x64_S8x4x64x64x64_3_4 lower)
    (Host.dotGeneral dot_S8x4x64x64x64_S8x4x64x64x64_S8x4x64x64x64_4_4_3_3_012_012 none (queries q g) (keysIn k g))
    (broadcastInDim S8x4x64x64x64 ![] bcast_S_S8x4x64x64x64 (constant S_ .f32 0x00000000#32))

def intra : FVec F S8x4x64x64x128 .f32 :=
  Host.dotGeneral dot_S8x4x64x64x64_S8x4x64x64x128_S8x4x64x64x128_4_3_3_4_012_012 none (scores q k g) (values v)
def gains : FVec F S64x8x4x64x128 .f32 :=
  Host.dotGeneral dot_S8x4x64x64x64_S8x4x64x64x128_S64x8x4x64x128_3_3_4_4_201_201 none (keysEnd k g) (values v)
def decays : FVec F S64x8x4x64 .f32 :=
  transpose S64x8x4x64 [2, 0, 1, 3] (Host.exp (shapeCast S8x4x64x64 (lasts g) shapeCasts_S8x4x64x1x64_S8x4x64x64)) transposes_S8x4x64x64_S64x8x4x64_2_0_1_3

/-- The result out of the states at the chunks' starts. -/
def assemble (s : FVec F S64x8x4x64x128 .f32) : FVec F S8x4096x512 .f32 :=
  shapeCast S8x4096x512 (transpose S8x4096x4x128 [0, 2, 1, 3]
    (shapeCast S8x4x4096x128 (addf (intra q k v g)
      (Host.dotGeneral dot_S8x4x64x64x64_S64x8x4x64x128_S8x4x64x64x128_4_3_3_4_012_120 none (queries q g) s)) shapeCasts_S8x4x64x64x128_S8x4x4096x128)
    transposes_S8x4x4096x128_S8x4096x4x128_0_2_1_3) shapeCasts_S8x4096x4x128_S8x4096x512

section
variable (m : (ℓ : Loc nD τ sig) → Buf (Elt F) ℓ) (c : Dev nD)

abbrev aQ : FVec F S8x4096x256 .bf16 := m ((c : Thread nD τ).loc main_arg0)
abbrev aK : FVec F S8x4096x256 .bf16 := m ((c : Thread nD τ).loc main_arg1)
abbrev aV : FVec F S8x4096x512 .bf16 := m ((c : Thread nD τ).loc main_arg2)
abbrev aG : FVec F S8x4096x256 .f32 := m ((c : Thread nD τ).loc main_arg3)
abbrev aS : FVec F S8x4x64x128 .f32 := m ((c : Thread nD τ).loc main_arg4)

theorem entry_queries : entryContents preI m c (Proc.devRef .tc main_v18) = queries (aQ m c) (aG m c) := by
  simp only [entryContents, afterL_cons, afterL_nil]
  after_reads_simp
  rfl
theorem entry_intra : entryContents preI m c (Proc.devRef .tc main_v30) = intra (aQ m c) (aK m c) (aV m c) (aG m c) := by
  simp only [entryContents, afterL_cons, afterL_nil]
  after_reads_simp
  rfl
theorem entry_decays : entryContents preI m c (Proc.devRef .tc main_v36_0) = decays (aG m c) := by
  simp only [entryContents, afterL_cons, afterL_nil]
  after_reads_simp
  rfl
theorem entry_gains : entryContents preI m c (Proc.devRef .tc main_v36_1) = gains (aK m c) (aV m c) (aG m c) := by
  simp only [entryContents, afterL_cons, afterL_nil]
  after_reads_simp
  rfl
theorem entry_state : entryContents preI m c (Proc.devRef .tc main_v36_3) = aS m c := by
  simp only [entryContents, afterL_cons, afterL_nil]
  after_reads_simp
  rfl

/-- What the loop does not write keeps its contents through it. -/
theorem atK_keep (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) : ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc]
    exact atK_keep r hc h0 h1 h2 h3 h4 k

/-- The operations after the loop, from any contents. -/
theorem post_result (X : Valuation τ sig (Elt F)) : after hostOps0_7 X (Proc.devRef .tc main_v41)
    = shapeCast S8x4096x512 (transpose S8x4096x4x128 [0, 2, 1, 3]
      (shapeCast S8x4x4096x128 (addf (X (Proc.devRef .tc main_v30))
        (Host.dotGeneral dot_S8x4x64x64x64_S64x8x4x64x128_S8x4x64x64x128_4_3_3_4_012_120 none (X (Proc.devRef .tc main_v18)) (X (Proc.devRef .tc main_v36_4))))
        shapeCasts_S8x4x64x64x128_S8x4x4096x128)
      transposes_S8x4x4096x128_S8x4096x4x128_0_2_1_3) shapeCasts_S8x4096x4x128_S8x4096x512 := by
  after_reads_simp
  rfl

/-- The result, out of the states that the loop collected. -/
theorem final_result : finalContents condOps preI bodyI postI 64 m c (Proc.devRef .tc main_v41)
    = assemble (aQ m c) (aK m c) (aV m c) (aG m c) (atK m 64 c (Proc.devRef .tc main_v36_4)) := by
  have e1 := (atK_keep m c main_v18 (by decide) (by decide) (by decide) (by decide) (by decide) (by decide) 64).trans (entry_queries m c)
  have e2 := (atK_keep m c main_v30 (by decide) (by decide) (by decide) (by decide) (by decide) (by decide) 64).trans (entry_intra m c)
  refine (post_result _).trans ?_
  rw [after_of_writes_sub condOps _ condOps_writes (r := main_v30) (by decide), after_of_writes_sub condOps _ condOps_writes (r := main_v18) (by decide),
    after_of_writes_sub condOps _ condOps_writes (r := main_v36_4) (by decide),
    show atTrip condOps bodyI (entryContents preI m) 64 c = atK m 64 c from rfl, e1, e2]
  unfold assemble
  rfl

/-! ## The loop, trip by trip -/

theorem loop_decays (k : ℕ) : atK m k c (Proc.devRef .tc main_v36_0) = decays (aG m c) :=
  (atK_keep m c main_v36_0 (by decide) (by decide) (by decide) (by decide) (by decide) (by decide) k).trans (entry_decays m c)
theorem loop_gains (k : ℕ) : atK m k c (Proc.devRef .tc main_v36_1) = gains (aK m c) (aV m c) (aG m c) :=
  (atK_keep m c main_v36_1 (by decide) (by decide) (by decide) (by decide) (by decide) (by decide) k).trans (entry_gains m c)

end

end Cert.ReferenceIdeal.Stages
-- ==== Proof.Spec.lean ====
/-
  Gated linear attention of one head of one batch entry, chunk by chunk, over the extended reals: `Q`, `K` and `G` give
  the queries, keys and log gates by row and lane, `V` the values, `S₀` the state before the first row.
-/
module

public import Idealize.ShloMosaic.Lib.Pointwise

@[expose] public section

noncomputable section

namespace Cert.Gla

open Idealize.ShloMosaic

/-! ## Rows and lanes -/

/-- The rows of a batch entry, by number (zero beyond the last one). -/
def rows {w : ℕ} (x : (⟨3, ![8, 4096, w]⟩ : Shape).Idx → EReal) (b : Fin 8) : ℕ → Fin w → EReal :=
  fun t l => if h : t < 4096 then x (ix3 b ⟨t, h⟩ l) else 0

/-- The states a batch entry starts from. -/
def starts (x : (⟨4, ![8, 4, 64, 128]⟩ : Shape).Idx → EReal) (b : Fin 8) : Fin 4 → Fin 64 → Fin 128 → EReal :=
  fun h d e => x (ix4 b h d e)

theorem rows_lt {w : ℕ} (x : (⟨3, ![8, 4096, w]⟩ : Shape).Idx → EReal) (hx : ∀ i, x i < ⊤) (b : Fin 8) (t : ℕ) (l : Fin w) :
    rows x b t l < ⊤ := by
  unfold rows
  split
  · exact hx _
  · exact EReal.zero_lt_top

theorem rows_of_lt {w : ℕ} (x : (⟨3, ![8, 4096, w]⟩ : Shape).Idx → EReal) (b : Fin 8) (t : ℕ) (h : t < 4096) (l : Fin w) :
    rows x b t l = x (ix3 b ⟨t, h⟩ l) := dif_pos h

/-- Lane `d` of head `h` among the 256 lanes of queries, keys and gates; lane `e` of head `h` among the 512 of values. -/
def kl (h : Fin 4) (d : Fin 64) : Fin 256 := ⟨64 * h + d, by omega⟩
def vl (h : Fin 4) (e : Fin 128) : Fin 512 := ⟨128 * h + e, by omega⟩

/-- The lanes of head `h`. -/
def hk (Q : ℕ → Fin 256 → EReal) (h : Fin 4) : ℕ → Fin 64 → EReal := fun t d => Q t (kl h d)
def hv (V : ℕ → Fin 512 → EReal) (h : Fin 4) : ℕ → Fin 128 → EReal := fun t e => V t (vl h e)

/-! ## The recurrence -/

variable (Q K G : ℕ → Fin 64 → EReal) (V : ℕ → Fin 128 → EReal) (S₀ : Fin 64 → Fin 128 → EReal)

/-- The log gates of chunk `n` added up to row `c`. -/
def cum (n c : ℕ) (d : Fin 64) : EReal := ∑ s ∈ Finset.range (c + 1), G (64 * n + s) d

/-- The log of a chunk's decay. -/
def tot (n : ℕ) (d : Fin 64) : EReal := cum G n 63 d

/-- The masked score of row `c` of chunk `n` against row `s`. -/
def score (n : ℕ) (c s : Fin 64) : EReal :=
  if s ≤ c then ∑ d : Fin 64, (Q (64 * n + c) d * Ideal.exp (cum G n c d)) * (K (64 * n + s) d * Ideal.exp (-cum G n s d)) else 0

/-- What chunk `n` adds to the state. -/
def gain (n : ℕ) (d : Fin 64) (e : Fin 128) : EReal :=
  ∑ s : Fin 64, (K (64 * n + s) d * Ideal.exp (tot G n d - cum G n s d)) * V (64 * n + s) e

/-- The state before chunk `n`. -/
def state : ℕ → Fin 64 → Fin 128 → EReal
  | 0, d, e => S₀ d e
  | n + 1, d, e => Ideal.exp (tot G n d) * state n d e + gain K G V n d e

/-- The output at row `c` of chunk `n`. -/
def result (n : ℕ) (c : Fin 64) (e : Fin 128) : EReal :=
  (∑ s : Fin 64, score Q K G n c s * V (64 * n + s) e)
    + ∑ d : Fin 64, (Q (64 * n + c) d * Ideal.exp (cum G n c d)) * state K G V S₀ n d e

/-! ## Below infinity -/

theorem sum_lt_top {ι : Type} (s : Finset ι) (f : ι → EReal) (h : ∀ i, f i < ⊤) : ∑ i ∈ s, f i < ⊤ := by
  classical
  induction s using Finset.induction_on with
  | empty => simp
  | insert a s ha ih => rw [Finset.sum_insert ha]; exact EReal.add_lt_top (h a).ne ih.ne

theorem exp_sub_self {x : EReal} (h : x < ⊤) : Ideal.exp x - Ideal.exp x = 0 := by
  induction x with
  | bot => exact (sub_zero (0 : EReal))
  | top => exact absurd h (lt_irrefl _)
  | coe r => exact EReal.sub_self (EReal.coe_ne_top _) (EReal.coe_ne_bot _)

end Cert.Gla
-- ==== Proof.Window.lean ====
/-
  The host's running sum along the fourth axis of a five-axis array, read at an index: a window of the
  whole axis, padded low by one less.
-/
module

public import Idealize.ShloMosaic.Lib.Pointwise

@[expose] public section

noncomputable section

namespace Cert.Window

open Idealize.ShloMosaic

/-- A left fold that adds one term a position is the start plus the terms' sum. -/
theorem foldl_add {ι : Type} (f : ι → EReal) (L : List ι) (v : EReal) : L.foldl (fun r i => r + f i) v = v + (L.map f).sum := by
  induction L generalizing v with
  | nil => simp
  | cons a L ih => simp only [List.foldl_cons, ih, List.map_cons, List.sum_cons, add_assoc]

abbrev W5 : Shape := ⟨5, ![1, 1, 1, 64, 1]⟩

/-- A position of the window is its fourth coordinate. -/
def window : Fin 64 ≃ W5.Idx where
  toFun s := ix5 (0 : Fin 1) (0 : Fin 1) (0 : Fin 1) s (0 : Fin 1)
  invFun p := p 3
  left_inv _ := rfl
  right_inv p := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _

/-- A sum over 64 positions of which the first `63 - c` fall in the padding. -/
theorem shifted (f : ℕ → EReal) (c : Fin 64) :
    (∑ s : Fin 64, if 63 ≤ c.val + s.val then f (c.val + s.val - 63) else 0) = ∑ s ∈ Finset.range (c.val + 1), f s := by
  rw [Fin.sum_univ_eq_sum_range (fun s => if 63 ≤ c.val + s then f (c.val + s - 63) else 0), ← Finset.sum_filter]
  refine Finset.sum_bij' (fun s _ => c.val + s - 63) (fun s _ => s + 63 - c.val) ?_ ?_ ?_ ?_ ?_ <;>
    simp only [Finset.mem_filter, Finset.mem_range] <;> intros <;> first | trivial | omega

theorem cumsum_apply (x : (⟨5, ![8, 4, 64, 64, 64]⟩ : Shape).Idx → EReal) (init : (⟨0, ![]⟩ : Shape).Idx → EReal) (hinit : ∀ i, init i = 0)
    (h : (⟨5, ![8, 4, 64, 64, 64]⟩ : Shape).ReduceWindows (![1, 1, 1, 64, 1] : Fin 5 → Nat) ![1, 1, 1, 1, 1] ![0, 0, 0, 63, 0] ![0, 0, 0, 0, 0] ⟨5, ![8, 4, 64, 64, 64]⟩)
    (hu : 0 < (⟨0, ![]⟩ : Shape).numel) (b : Fin 8) (g : Fin 4) (n c d : Fin 64) (f : ℕ → EReal) (hf : ∀ s : Fin 64, f s = x (ix5 b g n s d)) :
    Host.reduceWindow (fun r y : EReal => r + y) (![1, 1, 1, 64, 1] : Fin 5 → Nat) ![1, 1, 1, 1, 1] ![0, 0, 0, 63, 0] ![0, 0, 0, 0, 0] x init h hu (ix5 b g n c d)
      = ∑ s ∈ Finset.range (c.val + 1), f s := by
  unfold Host.reduceWindow
  dsimp only
  rw [foldl_add, hinit, zero_add, ← Fin.sum_univ_def, ← shifted f c]
  refine Fintype.sum_equiv (W5.rowMajor.symm.trans window.symm) _ _ fun n' => ?_
  rw [Equiv.trans_apply]
  obtain ⟨s, hp⟩ := window.surjective (W5.rowMajor.symm n')
  rw [show window.symm (W5.rowMajor.symm n') = s by rw [← hp, Equiv.symm_apply_apply]]
  have p0 : (W5.rowMajor.symm n' 0).val = 0 := by rw [← hp]; rfl
  have p1 : (W5.rowMajor.symm n' 1).val = 0 := by rw [← hp]; rfl
  have p2 : (W5.rowMajor.symm n' 2).val = 0 := by rw [← hp]; rfl
  have p3 : (W5.rowMajor.symm n' 3).val = s.val := by rw [← hp]; rfl
  have p4 : (W5.rowMajor.symm n' 4).val = 0 := by rw [← hp]; rfl
  have hs : (x (ix5 b g n ⟨c.val + s.val - 63, by omega⟩ d)) = f (c.val + s.val - 63) :=
    (hf ⟨c.val + s.val - 63, by omega⟩).symm
  by_cases hle : 63 ≤ c.val + s.val
  · rw [if_pos hle, ← hs, dif_pos]
    · refine congrArg x (funext fun a => Fin.ext ?_)
      match a with
      | ⟨0, _⟩ => show b.val * 1 + (W5.rowMajor.symm n' 0).val - 0 = b.val; omega
      | ⟨1, _⟩ => show g.val * 1 + (W5.rowMajor.symm n' 1).val - 0 = g.val; omega
      | ⟨2, _⟩ => show n.val * 1 + (W5.rowMajor.symm n' 2).val - 0 = n.val; omega
      | ⟨3, _⟩ => show c.val * 1 + (W5.rowMajor.symm n' 3).val - 63 = c.val + s.val - 63; omega
      | ⟨4, _⟩ => show d.val * 1 + (W5.rowMajor.symm n' 4).val - 0 = d.val; omega
    · intro a
      match a with
      | ⟨0, _⟩ => show 0 ≤ b.val * 1 + (W5.rowMajor.symm n' 0).val ∧ b.val * 1 + (W5.rowMajor.symm n' 0).val - 0 < 8; omega
      | ⟨1, _⟩ => show 0 ≤ g.val * 1 + (W5.rowMajor.symm n' 1).val ∧ g.val * 1 + (W5.rowMajor.symm n' 1).val - 0 < 4; omega
      | ⟨2, _⟩ => show 0 ≤ n.val * 1 + (W5.rowMajor.symm n' 2).val ∧ n.val * 1 + (W5.rowMajor.symm n' 2).val - 0 < 64; omega
      | ⟨3, _⟩ => show 63 ≤ c.val * 1 + (W5.rowMajor.symm n' 3).val ∧ c.val * 1 + (W5.rowMajor.symm n' 3).val - 63 < 64; omega
      | ⟨4, _⟩ => show 0 ≤ d.val * 1 + (W5.rowMajor.symm n' 4).val ∧ d.val * 1 + (W5.rowMajor.symm n' 4).val - 0 < 64; omega
  · rw [if_neg hle, dif_neg]
    intro hin
    have h3 : 63 ≤ c.val * 1 + (W5.rowMajor.symm n' 3).val := (hin 3).1
    omega

end Cert.Window
-- ==== Proof.RefRead.lean ====
/-
  The reference's stages read at an index.
-/
module

public import proofs.«01_k».proof.Proof.RefTerms
public import proofs.«01_k».proof.Proof.Spec
public import proofs.«01_k».proof.Proof.Window
public import Idealize.ShloMosaic.Lib.Pipeline.Value
public import Idealize.ShloMosaic.Lib.Pointwise
public import Idealize.ShloMosaic.Lib.WordCmp
public import Idealize.ShloMosaic.Lib.DynamicIndex

@[expose] public section

set_option maxRecDepth 16384

noncomputable section

namespace Cert.ReferenceIdeal.Stages

open Cert.ReferenceIdeal Cert.ReferenceIdeal.Gen Cert.ReferenceIdeal.Value
open Idealize.ShloMosaic Idealize.ShloMosaic.TcCoe Cert.Gla

theorem toHeads_apply (x : FVec Ideal S8x4096x256 .f32) (b : Fin 8) (h : Fin 4) (n c d : Fin 64) :
    toHeads x (ix5 b h n c d) = x (ix3 b ⟨64 * n + c, by omega⟩ (kl h d)) := by
  pointwise [toHeads]
  exact congrArg₂ (fun r l => x (ix3 b r l)) (Fin.ext (by show (n : ℕ) * 64 + c = 64 * n + c; omega)) (Fin.ext (by show (h : ℕ) * 64 + d = 64 * h + d; omega))

theorem toHeadsV_apply (x : FVec Ideal S8x4096x512 .f32) (b : Fin 8) (h : Fin 4) (n c : Fin 64) (e : Fin 128) :
    toHeadsV x (ix5 b h n c e) = x (ix3 b ⟨64 * n + c, by omega⟩ (vl h e)) := by
  pointwise [toHeadsV]
  exact congrArg₂ (fun r l => x (ix3 b r l)) (Fin.ext (by show (n : ℕ) * 64 + c = 64 * n + c; omega)) (Fin.ext (by show (h : ℕ) * 128 + e = 128 * h + e; omega))

variable (q k : FVec Ideal S8x4096x256 .bf16) (v : FVec Ideal S8x4096x512 .bf16) (g : FVec Ideal S8x4096x256 .f32)

theorem scores_apply (b : Fin 8) (h : Fin 4) (n c s : Fin 64) :
    scores q k g (ix5 b h n c s) = if s ≤ c then ∑ d : Fin 64, queries q g (ix5 b h n c d) * keysIn k g (ix5 b h n s d) else 0 := by
  pointwise [scores, lower]
  rw [show IntOp.addi (BitVec.ofNat 32 (c : ℕ)) 0#32 = BitVec.ofNat 32 (c : ℕ) from BitVec.add_zero _, WordCmp.cmpi_sge_ofNat (by omega) (by omega)]
  by_cases hsc : s ≤ c
  · rw [if_pos hsc, decide_eq_true (show (s : ℕ) ≤ c from hsc)]
    rfl
  · rw [if_neg hsc, decide_eq_false (show ¬ (s : ℕ) ≤ c from hsc)]
    rfl

theorem intra_apply (b : Fin 8) (h : Fin 4) (n c : Fin 64) (e : Fin 128) :
    intra q k v g (ix5 b h n c e) = ∑ s : Fin 64, scores q k g (ix5 b h n c s) * values v (ix5 b h n s e) := by
  pointwise [intra]

theorem gains_apply (b : Fin 8) (h : Fin 4) (n d : Fin 64) (e : Fin 128) :
    gains k v g (ix5 n b h d e) = ∑ s : Fin 64, keysEnd k g (ix5 b h n s d) * values v (ix5 b h n s e) := by
  pointwise [gains]

theorem decays_apply (b : Fin 8) (h : Fin 4) (n d : Fin 64) :
    decays g (ix4 n b h d) = Ideal.exp (cums g (ix5 b h n 63 d)) := by
  pointwise [decays, lasts]

theorem queries_apply (b : Fin 8) (h : Fin 4) (n c d : Fin 64) :
    queries q g (ix5 b h n c d) = q (ix3 b ⟨64 * n + c, by omega⟩ (kl h d)) * Ideal.exp (cums g (ix5 b h n c d)) := by
  unfold queries
  pointwise
  rw [toHeads_apply]
  pointwise

theorem keysIn_apply (b : Fin 8) (h : Fin 4) (n c d : Fin 64) :
    keysIn k g (ix5 b h n c d) = k (ix3 b ⟨64 * n + c, by omega⟩ (kl h d)) * Ideal.exp (-cums g (ix5 b h n c d)) := by
  unfold keysIn
  pointwise
  rw [toHeads_apply]
  pointwise

theorem keysEnd_apply (b : Fin 8) (h : Fin 4) (n c d : Fin 64) :
    keysEnd k g (ix5 b h n c d) = k (ix3 b ⟨64 * n + c, by omega⟩ (kl h d)) * Ideal.exp (cums g (ix5 b h n 63 d) - cums g (ix5 b h n c d)) := by
  unfold keysEnd lasts
  pointwise
  rw [toHeads_apply]
  pointwise

theorem values_apply (b : Fin 8) (h : Fin 4) (n c : Fin 64) (e : Fin 128) :
    values v (ix5 b h n c e) = v (ix3 b ⟨64 * n + c, by omega⟩ (vl h e)) := by
  unfold values
  rw [toHeadsV_apply]
  pointwise

theorem assemble_apply (s : FVec Ideal S64x8x4x64x128 .f32) (b : Fin 8) (h : Fin 4) (n c : Fin 64) (e : Fin 128) :
    assemble q k v g s (ix3 b ⟨64 * n + c, by omega⟩ (vl h e))
      = intra q k v g (ix5 b h n c e) + ∑ d : Fin 64, queries q g (ix5 b h n c d) * s (ix5 n b h d e) := by
  have e1 : (⟨(vl h e : ℕ) / 128, by omega⟩ : Fin 4) = h := Fin.ext (by show (128 * (h : ℕ) + e) / 128 = h; omega)
  have e2 : (⟨(vl h e : ℕ) % 128, by omega⟩ : Fin 128) = e := Fin.ext (by show (128 * (h : ℕ) + e) % 128 = e; omega)
  pointwise [assemble]
  rw [e1, e2]

theorem cums_apply (b : Fin 8) (h : Fin 4) (n c d : Fin 64) (f : ℕ → EReal)
    (hf : ∀ s : Fin 64, f s = g (ix3 b ⟨64 * n + s, by omega⟩ (kl h d))) :
    cums g (ix5 b h n c d) = ∑ s ∈ Finset.range (c.val + 1), f s := by
  refine Window.cumsum_apply (toHeads g) _ (fun i => ?_) reduceWindows_S8x4x64x64x64_S8x4x64x64x64_w1s1p0_0_w1s1p0_0_w1s1p0_0_w64s1p63_0_w1s1p0_0 (by decide) b h n c d f fun s => ?_
  · show (constant S_ .f32 0x00000000#32 : FVec Ideal S_ .f32) ix0 = 0
    pointwise
  · rw [hf, toHeads_apply]

/-! ## One trip -/

section
variable (X : Valuation τ sig (Elt Ideal)) (n : Fin 64) (hn : X (Proc.devRef .tc main_v36_2) = fun _ => BitVec.ofNat 32 n)
variable (dc : FVec Ideal S64x8x4x64 .f32) (gn : FVec Ideal S64x8x4x64x128 .f32) (st : FVec Ideal S8x4x64x128 .f32) (all : FVec Ideal S64x8x4x64x128 .f32)

include hn in
theorem step_state (hd : X (Proc.devRef .tc main_v36_0) = dc) (hg : X (Proc.devRef .tc main_v36_1) = gn) (hs : X (Proc.devRef .tc main_v36_3) = st)
    (b : Fin 8) (h : Fin 4) (d : Fin 64) (e : Fin 128) :
    (step_main_v36_3 X : FVec Ideal S8x4x64x128 .f32) (ix4 b h d e) = dc (ix4 n b h d) * st (ix4 b h d e) + gn (ix5 n b h d e) := by
  unfold step_main_v36_3
  rw [hn, hd, hg, hs, id,
    Host.dynamicSlice_eq_extractStridedSlice S1x8x4x64 dc _ ![(n : ℕ), 0, 0, 0] _ ⟨rfl, fun a => by fin_cases a <;> dsimp <;> omega⟩
      (fun a => by fin_cases a; exacts [toInt_ofNat_of_lt (by omega), rfl, rfl, rfl]),
    Host.dynamicSlice_eq_extractStridedSlice S1x8x4x64x128 gn _ ![(n : ℕ), 0, 0, 0, 0] _ ⟨rfl, fun a => by fin_cases a <;> dsimp <;> omega⟩
      (fun a => by fin_cases a; exacts [toInt_ofNat_of_lt (by omega), rfl, rfl, rfl, rfl])]
  pointwise

include hn in
theorem step_stack (hs : X (Proc.devRef .tc main_v36_3) = st) (ha : X (Proc.devRef .tc main_v36_4) = all)
    (n' : Fin 64) (b : Fin 8) (h : Fin 4) (d : Fin 64) (e : Fin 128) :
    (step_main_v36_4 X : FVec Ideal S64x8x4x64x128 .f32) (ix5 n' b h d e) = if n' = n then st (ix4 b h d e) else all (ix5 n' b h d e) := by
  unfold step_main_v36_4
  have hfit : S64x8x4x64x128.Slices ![(n : ℕ), 0, 0, 0, 0] S1x8x4x64x128 := ⟨rfl, fun a => by fin_cases a <;> dsimp <;> omega⟩
  rw [hn, hs, ha, id]
  refine (congrFun (Host.dynamicUpdateSlice_eq_updateSlice all _ _ _ ![(n : ℕ), 0, 0, 0, 0] (fun a => ?_) hfit) _).trans ?_
  · fin_cases a
    · show (min (max ((BitVec.ofNat 32 (n : ℕ)).toInt) 0) ((64 - 1 : ℕ) : ℤ)).toNat = n
      rw [toInt_ofNat_of_lt (by omega)]
      omega
    all_goals rfl
  · by_cases hc : n' = n
    · subst hc
      rw [if_pos rfl]
      pointwise
      rw [dif_pos ⟨le_refl _, Nat.lt_succ_self _⟩]
    · rw [if_neg hc]
      pointwise
      rw [dif_neg fun hh => hc (Fin.ext (by omega))]
end

end Cert.ReferenceIdeal.Stages
-- ==== Proof.Chunk.lean ====
/-
  One chunk of the recurrence as the kernel computes it, and the 32 chunks of a block one after the other: the
  vectors a chunk makes of its rows, the states of the four heads after `n` chunks, and the pieces that the
  chunks write. Each vector is named after what it holds and is made of the payloads of the first chunk, which
  the other chunks repeat.
-/
module

public import proofs.«01_k».proof.Proof.Gen.KernelIdeal.Value

@[expose] public section

set_option maxRecDepth 16384

noncomputable section

namespace Cert.KernelIdeal.Chunk

open Idealize.ShloMosaic Idealize.ShloMosaic.TcCoe
open Cert.KernelIdeal.Gen

variable {F : FTy → Type} [FloatOps F]

/-- The bf16 zero that fills the blocks of the stacked operands. -/
def zeroB : F .bf16 := Scalar.ofBits .bf16 0x0000#16

/-- Queries times the exponential of the running sum of log gates. -/
def qIn (q : Vec F S1x64x256 .bf16) (b : Vec F S64x256 .f32) : FVec F S64x256 .bf16 := k0_pay17 (k0_pay16 q b)

/-- Keys over the exponential of the running sum. -/
def kIn (k : Vec F S1x64x256 .bf16) (b : Vec F S64x256 .f32) : FVec F S64x256 .f32 := k0_pay18 (k0_pay13 k) b

/-- The keys decayed to the end of the chunk, transposed, with the chunk's decay in the lanes after them. -/
def kEnd (k : Vec F S1x64x256 .bf16) (b : Vec F S64x256 .f32) : FVec F S256x128 .bf16 :=
  k0_pay19 (k0_pay13 k) b (k0_pay15 b)

/-- The masked scores of heads 0 and 1. -/
def att01 (q k : Vec F S1x64x256 .bf16) (b : Vec F S64x256 .f32) : FVec F S64x128 .bf16 := k0_pay23 (qIn q b) (kIn k b)

/-- The masked scores of heads 2 and 3. -/
def att23 (q k : Vec F S1x64x256 .bf16) (b : Vec F S64x256 .f32) : FVec F S64x128 .bf16 := k0_pay24 (qIn q b) (kIn k b)

/-- What the chunk adds to the state of a head (lanes below 128) beside its decay (the lanes above). -/
def inc (h : Fin 4) (k : Vec F S1x64x256 .bf16) (v : Vec F S1x64x512 .bf16) (b : Vec F S64x256 .f32) : FVec F S64x256 .f32 :=
  match h with
  | 0 => k0_pay25 (k0_pay14 v) (kEnd k b) k0_pay20 zeroB
  | 1 => k0_pay28 k0_pay20 (k0_pay26 (kEnd k b)) (k0_pay27 (k0_pay14 v) zeroB)
  | 2 => k0_pay29 (k0_pay14 v) (kEnd k b) k0_pay20 (k0_pay21 zeroB)
  | 3 => k0_pay30 (k0_pay14 v) (kEnd k b) k0_pay20 (k0_pay21 zeroB)

/-- The state after the chunk: the state before times the decay, plus what the chunk adds. -/
def step (x : FVec F S64x256 .f32) (s : FVec F S64x128 .f32) : FVec F S64x128 .f32 := k0_pay56 s x

/-- The rows of the output that the chunk writes, from the states before it. -/
def out (q k : Vec F S1x64x256 .bf16) (v : Vec F S1x64x512 .bf16) (b : Vec F S64x256 .f32) (s : Fin 4 → FVec F S64x128 .f32) :
    FVec F S1x64x512 .f32 :=
  k0_pay60 (s 0) (s 1) (s 2) (s 3) (qIn q b) (att01 q k b) (att23 q k b) (k0_pay53 v) (k0_pay54 v) (k0_pay55 v)

/-- The state of head `h` after `n` chunks. -/
def St (k : ℕ → Vec F S1x64x256 .bf16) (v : ℕ → Vec F S1x64x512 .bf16) (b : ℕ → Vec F S64x256 .f32)
    (s : Fin 4 → FVec F S64x128 .f32) : ℕ → Fin 4 → FVec F S64x128 .f32
  | 0, h => s h
  | n + 1, h => step (inc h (k n) (v n) (b n)) (St k v b s n h)

theorem inbO (n : ℕ) : ∀ a, (![0, 64 * (n % 32), 0] : Fin 3 → ℕ) a + (![1, 64, 512] : Fin 3 → ℕ) a ≤ S1x2048x512.size a := by
  have := Nat.mod_lt n (show 0 < 32 by decide)
  intro a; fin_cases a
  · show 0 + 1 ≤ 1; omega
  · show 64 * (n % 32) + 64 ≤ 2048; omega
  · show 0 + 512 ≤ 512; omega

theorem inbQ (n : ℕ) : ∀ a, (![0, 64 * (n % 32), 0] : Fin 3 → ℕ) a + (![1, 64, 256] : Fin 3 → ℕ) a ≤ S1x2048x256.size a := by
  have := Nat.mod_lt n (show 0 < 32 by decide)
  intro a; fin_cases a
  · show 0 + 1 ≤ 1; omega
  · show 64 * (n % 32) + 64 ≤ 2048; omega
  · show 0 + 256 ≤ 256; omega

theorem inbB (n : ℕ) : ∀ a, (![64 * (n % 32), 0] : Fin 2 → ℕ) a + (![64, 256] : Fin 2 → ℕ) a ≤ S2048x256.size a := by
  have := Nat.mod_lt n (show 0 < 32 by decide)
  intro a; fin_cases a
  · show 64 * (n % 32) + 64 ≤ 2048; omega
  · show 0 + 256 ≤ 256; omega

theorem inbS (h : Fin 4) : ∀ a, (![(h : ℕ), 0, 0] : Fin 3 → ℕ) a + (![1, 64, 128] : Fin 3 → ℕ) a ≤ S4x64x128.size a := by
  have := h.isLt
  intro a; fin_cases a
  · show (h : ℕ) + 1 ≤ 4; omega
  · show 0 + 64 ≤ 64; omega
  · show 0 + 128 ≤ 128; omega

/-- The rows of chunk `n` of the block of queries or keys, of values, of the output and of the running sums, and
    the place of head `h` in the state. -/
def rQ (n : ℕ) : Rect S1x2048x256 := Rect.unit ![0, 64 * (n % 32), 0] S1x64x256.size (inbQ n)
def rO (n : ℕ) : Rect S1x2048x512 := Rect.unit ![0, 64 * (n % 32), 0] ![1, 64, 512] (inbO n)
def rB (n : ℕ) : Rect S2048x256 := Rect.unit ![64 * (n % 32), 0] S64x256.size (inbB n)
def rS (h : Fin 4) : Rect S4x64x128 := Rect.unit ![(h : ℕ), 0, 0] ![1, 64, 128] (inbS h)

/-- The pieces of the output that the first `n` chunks write, the last first. -/
def pieces (q k : ℕ → Vec F S1x64x256 .bf16) (v : ℕ → Vec F S1x64x512 .bf16) (b : ℕ → Vec F S64x256 .f32)
    (s : Fin 4 → FVec F S64x128 .f32) : ℕ → List (View.Piece (Elt F) S1x2048x512 .f32)
  | 0 => []
  | n + 1 => ⟨rO n, out (q n) (k n) (v n) (b n) (St k v b s n)⟩ :: pieces q k v b s n

/-- The pieces of the states after the block, the last first. -/
def statePieces (s : Fin 4 → FVec F S64x128 .f32) : List (View.Piece (Elt F) S4x64x128 .f32) :=
  [⟨rS 3, k0_pay1 (s 3)⟩, ⟨rS 2, k0_pay1 (s 2)⟩, ⟨rS 1, k0_pay1 (s 1)⟩, ⟨rS 0, k0_pay1 (s 0)⟩]

end Cert.KernelIdeal.Chunk
-- ==== Proof.ChunkRead.lean ====
/-
  The vectors of a chunk read at an index: what each holds at a row and a lane, as extended reals.
-/
module

public import proofs.«01_k».proof.Proof.Chunk
public import proofs.«01_k».proof.Proof.Spec
public import Idealize.ShloMosaic.Lib.Pointwise
public import Idealize.ShloMosaic.Lib.WordCmp

@[expose] public section

set_option maxRecDepth 16384

noncomputable section

namespace Cert.KernelIdeal.Chunk

open Idealize.ShloMosaic Idealize.ShloMosaic.TcCoe
open Cert.KernelIdeal.Gen Cert.Gla

/-! ## Words -/

theorem pick {α : Type} (p : Prop) [Decidable p] (x y : α) : Scalar.select (BitVec.ofBool (decide p)) x y = if p then x else y := by
  by_cases h : p <;> simp [h, Scalar.select]

theorem pick_slt {α : Type} (a b : ℕ) (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat ha hb, pick]

theorem pick_sle {α : Type} (a b : ℕ) (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat ha hb, pick]

theorem pick_sge {α : Type} (a b : ℕ) (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat ha hb, pick]

theorem pick_eq {α : Type} (a b : ℕ) (ha : a < 2 ^ 32) (hb : b < 2 ^ 32) (x y : α) :
    Scalar.select (IntOp.cmpi .eq (BitVec.ofNat 32 a) (BitVec.ofNat 32 b)) x y = if a = b then x else y := by
  rw [WordCmp.cmpi_eq_ofNat ha hb, pick]

theorem pick_and {α : Type} (p r : Prop) [Decidable p] [Decidable r] (x y : α) :
    Scalar.select (IntOp.andi (BitVec.ofBool (decide p)) (BitVec.ofBool (decide r))) x y = if p ∧ r then x else y := by
  by_cases h : p <;> by_cases h' : r <;> simp [h, h', Scalar.select, IntOp.andi]

theorem and63 (a : ℕ) (ha : a < 2 ^ 32) : IntOp.andi (BitVec.ofNat 32 a) 63#32 = BitVec.ofNat 32 (a % 64) := by
  apply BitVec.eq_of_toNat_eq
  have h := Nat.and_two_pow_sub_one_eq_mod a 6
  simp only [IntOp.andi, BitVec.toNat_and, BitVec.toNat_ofNat]
  rw [Nat.mod_eq_of_lt ha, Nat.mod_eq_of_lt (show a % 64 < 2 ^ 32 by omega)]
  exact h

/-! ## Lanes -/

theorem qIn_apply (q : Vec Ideal S1x64x256 .bf16) (b : Vec Ideal S64x256 .f32) (c : Fin 64) (l : Fin 256) :
    qIn q b (ix2 c l) = q (ix3 0 c l) * Ideal.exp (b (ix2 c l)) := by
  pointwise [qIn, k0_pay17, k0_pay16]

theorem kIn_apply (k : Vec Ideal S1x64x256 .bf16) (b : Vec Ideal S64x256 .f32) (c : Fin 64) (l : Fin 256) :
    kIn k b (ix2 c l) = k (ix3 0 c l) * Ideal.exp (-b (ix2 c l)) := by
  pointwise [kIn, k0_pay18, k0_pay13]
  rw [zero_sub]

theorem sub_self_of {x : EReal} (h : x ≠ ⊤) (h' : x ≠ ⊥) : x - x = 0 := EReal.sub_self h h'

/-- The transposed operand: keys decayed to the end of the chunk, then the decay once and zeros. -/
theorem kEnd_apply (k : Vec Ideal S1x64x256 .bf16) (b : Vec Ideal S64x256 .f32) (l : Fin 256) (s : Fin 128)
    (ht : Ideal.exp (b (ix2 63 l)) - Ideal.exp (b (ix2 63 l)) = 0) :
    kEnd k b (ix2 l s) = if h : (s : ℕ) < 64 then k (ix3 0 ⟨s, h⟩ l) * Ideal.exp (b (ix2 63 l) - b (ix2 ⟨s, h⟩ l))
      else if (s : ℕ) = 64 then Ideal.exp (b (ix2 63 l)) else 0 := by
  pointwise [kEnd, k0_pay19, k0_pay13, k0_pay15]
  rw [ht]
  split
  · rfl
  · rename_i h
    have e0 : ∀ j : ℕ, j < 8 → ∀ x y : EReal, Scalar.select (IntOp.cmpi .eq (BitVec.ofNat 32 ((s : ℕ) - 64)) (BitVec.ofNat 32 j)) x y = if (s : ℕ) - 64 = j then x else y :=
      fun j hj x y => pick_eq _ _ (by omega) (by omega) x y
    rw [e0 0 (by omega), e0 1 (by omega), e0 2 (by omega)]
    split_ifs <;> first | rfl | omega | simp

/-! ## Sums over a stacked operand -/

theorem sum_low (f g : Fin 128 → EReal) :
    ∑ x : Fin 128, f x * Scalar.select (IntOp.cmpi .slt (BitVec.ofNat 32 (x : ℕ)) 64#32) (g x) 0
      = ∑ d : Fin 64, f ⟨d, by omega⟩ * g ⟨d, by omega⟩ := by
  rw [Fin.sum_univ_two_halves 64 64 rfl]
  have h1 : ∀ d : Fin 64, f ⟨64 + d, by omega⟩ * Scalar.select (IntOp.cmpi .slt (BitVec.ofNat 32 (64 + (d : ℕ))) 64#32) (g ⟨64 + d, by omega⟩) 0 = 0 := by
    intro d
    rw [pick_slt _ _ (by omega) (by omega), if_neg (by omega), mul_zero]
  rw [Finset.sum_eq_zero (fun d _ => h1 d), add_zero]
  refine Finset.sum_congr rfl fun d _ => ?_
  rw [pick_slt _ _ (by omega) (by omega), if_pos d.isLt]

theorem sum_high (f g : Fin 128 → EReal) :
    ∑ x : Fin 128, f x * Scalar.select (IntOp.cmpi .sge (BitVec.ofNat 32 (x : ℕ)) 64#32) (g x) 0
      = ∑ d : Fin 64, f ⟨64 + d, by omega⟩ * g ⟨64 + d, by omega⟩ := by
  rw [Fin.sum_univ_two_halves 64 64 rfl]
  have h1 : ∀ d : Fin 64, f ⟨d, by omega⟩ * Scalar.select (IntOp.cmpi .sge (BitVec.ofNat 32 (d : ℕ)) 64#32) (g ⟨d, by omega⟩) 0 = 0 := by
    intro d
    rw [pick_sge _ _ (by omega) (by omega), if_neg (by omega), mul_zero]
  rw [Finset.sum_eq_zero (fun d _ => h1 d), zero_add]
  refine Finset.sum_congr rfl fun d _ => ?_
  rw [pick_sge _ _ (by show 64 + (d : ℕ) < _; omega) (by omega), if_pos (by show 64 ≤ 64 + (d : ℕ); omega)]

/-- The three rows of ones take the three lanes after the keys, and nothing in the lower half of the columns. -/
theorem sum_ones (f : Fin 64 → EReal) (e : ℕ) (he : e < 256) :
    ∑ x : Fin 64, Scalar.select (IntOp.andi (IntOp.cmpi .slt (BitVec.ofNat 32 (x : ℕ)) 3#32)
        (IntOp.cmpi .sge (BitVec.ofNat 32 e) 128#32)) (f x) 0
      = if 128 ≤ e then f 0 + f 1 + f 2 else 0 := by
  have h1 : ∀ x : Fin 64, Scalar.select (IntOp.andi (IntOp.cmpi .slt (BitVec.ofNat 32 (x : ℕ)) 3#32)
        (IntOp.cmpi .sge (BitVec.ofNat 32 e) 128#32)) (f x) 0 = if (x : ℕ) < 3 ∧ 128 ≤ e then f x else 0 := by
    intro x
    rw [WordCmp.cmpi_slt_ofNat (by omega) (by omega), WordCmp.cmpi_sge_ofNat (by omega) (by omega), pick_and]
  rw [Finset.sum_congr rfl fun x _ => h1 x]
  by_cases h : 128 ≤ e
  · rw [if_pos h, Fin.sum_univ_two_halves 3 61 rfl]
    have h2 : ∀ x : Fin 61, (if (3 + (x : ℕ)) < 3 ∧ 128 ≤ e then f ⟨3 + x, by omega⟩ else 0) = 0 := fun x => if_neg (by omega)
    rw [Finset.sum_eq_zero (fun d _ => h2 d), add_zero, Fin.sum_univ_three]
    simp [h]
  · rw [if_neg h]
    exact Finset.sum_eq_zero fun x _ => if_neg (fun h' => h h'.2)

/-! ## The scores -/

/-- The masked scores: at lane `s` of the lower half those of the first head of the pair, of the upper half of the second. -/
theorem att01_apply (q k : Vec Ideal S1x64x256 .bf16) (b : Vec Ideal S64x256 .f32) (c : Fin 64) (p : Fin 2) (s : Fin 64) :
    att01 q k b (ix2 c ⟨64 * p + s, by omega⟩) = if s ≤ c then ∑ d : Fin 64, qIn q b (ix2 c (kl ⟨p, by omega⟩ d)) * kIn k b (ix2 s (kl ⟨p, by omega⟩ d)) else 0 := by
  pointwise [att01, k0_pay23, k0_pay22]
  rw [and63 _ (by omega), pick_sle _ _ (by omega) (by omega)]
  have hm : ((64 * (p : ℕ) + s) % 64 ≤ (c : ℕ)) = (s ≤ c) := by rw [Nat.mul_add_mod, Nat.mod_eq_of_lt s.isLt]; rfl
  simp only [hm]
  refine if_congr Iff.rfl ?_ rfl
  have hp := p.isLt
  obtain h | h : (p : ℕ) = 0 ∨ (p : ℕ) = 1 := by omega
  · simp only [h, Nat.mul_zero, Nat.zero_add, Fin.is_lt, ↓reduceDIte]
    exact (sum_low (fun x => qIn q b (ix2 c ⟨x, by omega⟩)) (fun x => kIn k b (ix2 s ⟨x, by omega⟩))).trans
      (Finset.sum_congr rfl fun d _ => by simp [kl])
  · have hn : ¬ 64 * 1 + (s : ℕ) < 64 := by omega
    simp only [h, hn, ↓reduceDIte]
    simp only [show 64 * 1 + (s : ℕ) - 64 = s by omega]
    exact (sum_high (fun x => qIn q b (ix2 c ⟨x, by omega⟩)) (fun x => kIn k b (ix2 s ⟨x, by omega⟩)))

theorem att23_apply (q k : Vec Ideal S1x64x256 .bf16) (b : Vec Ideal S64x256 .f32) (c : Fin 64) (p : Fin 2) (s : Fin 64) :
    att23 q k b (ix2 c ⟨64 * p + s, by omega⟩) = if s ≤ c then ∑ d : Fin 64, qIn q b (ix2 c (kl ⟨2 + p, by omega⟩ d)) * kIn k b (ix2 s (kl ⟨2 + p, by omega⟩ d)) else 0 := by
  pointwise [att23, k0_pay24, k0_pay22]
  rw [and63 _ (by omega), pick_sle _ _ (by omega) (by omega)]
  have hm : ((64 * (p : ℕ) + s) % 64 ≤ (c : ℕ)) = (s ≤ c) := by rw [Nat.mul_add_mod, Nat.mod_eq_of_lt s.isLt]; rfl
  simp only [hm]
  refine if_congr Iff.rfl ?_ rfl
  have hp := p.isLt
  obtain h | h : (p : ℕ) = 0 ∨ (p : ℕ) = 1 := by omega
  · simp only [h, Nat.mul_zero, Nat.zero_add, Fin.is_lt, ↓reduceDIte]
    exact (sum_low (fun x => qIn q b (ix2 c ⟨128 + x, by omega⟩)) (fun x => kIn k b (ix2 s ⟨128 + x, by omega⟩)))
  · have hn : ¬ 64 * 1 + (s : ℕ) < 64 := by omega
    simp only [h, hn, ↓reduceDIte]
    simp only [show 64 * 1 + (s : ℕ) - 64 = s by omega]
    exact (sum_high (fun x => qIn q b (ix2 c ⟨128 + x, by omega⟩)) (fun x => kIn k b (ix2 s ⟨128 + x, by omega⟩))).trans
      (Finset.sum_congr rfl fun d _ => by simp only [kl, ← Nat.add_assoc])

/-! ## What a chunk adds to a state -/

theorem inc_apply (h : Fin 4) (k : Vec Ideal S1x64x256 .bf16) (v : Vec Ideal S1x64x512 .bf16) (b : Vec Ideal S64x256 .f32)
    (d : Fin 64) (e : Fin 128) :
    inc h k v b (ix2 d ⟨e, by omega⟩) = ∑ s : Fin 64, kEnd k b (ix2 (kl h d) ⟨s, by omega⟩) * v (ix3 0 s (vl h e)) := by
  fin_cases h
  all_goals
    pointwise [inc, k0_pay25, k0_pay28, k0_pay29, k0_pay30, k0_pay26, k0_pay27, k0_pay14, k0_pay21, k0_pay20, zeroB]
    rw [sum_ones (fun x => _) _ (by omega), if_neg (by omega), add_zero]
    refine Finset.sum_congr rfl fun s _ => ?_
    simp [kl, vl]

theorem inc_decay (h : Fin 4) (k : Vec Ideal S1x64x256 .bf16) (v : Vec Ideal S1x64x512 .bf16) (b : Vec Ideal S64x256 .f32)
    (d : Fin 64) (e : Fin 128) (ht : Ideal.exp (b (ix2 63 (kl h d))) - Ideal.exp (b (ix2 63 (kl h d))) = 0) :
    inc h k v b (ix2 d ⟨128 + e, by omega⟩) = Ideal.exp (b (ix2 63 (kl h d))) := by
  have e0 := kEnd_apply k b (kl h d) 64 ht
  have e1 := kEnd_apply k b (kl h d) 65 ht
  have e2 := kEnd_apply k b (kl h d) 66 ht
  rw [dif_neg (by decide), if_pos (by decide)] at e0
  rw [dif_neg (by decide), if_neg (by decide)] at e1 e2
  refine Eq.trans ?_ (show kEnd k b (ix2 (kl h d) 64) + kEnd k b (ix2 (kl h d) 65) + kEnd k b (ix2 (kl h d) 66) = _ by
    rw [e0, e1, e2, add_zero, add_zero])
  clear e0 e1 e2 ht
  fin_cases h
  all_goals
    pointwise [inc, k0_pay25, k0_pay28, k0_pay29, k0_pay30, k0_pay26, k0_pay27, k0_pay14, k0_pay21, k0_pay20, zeroB]
    rw [sum_ones (fun x => _) _ (by omega), if_pos (by omega)]
    simp only [mul_zero, Finset.sum_const_zero, zero_add]
    simp [kl]

/-- The state after a chunk: decayed lane by lane, plus the chunk's keys and values. -/
theorem step_apply (x : FVec Ideal S64x256 .f32) (s : FVec Ideal S64x128 .f32) (d : Fin 64) (e : Fin 128) :
    step x s (ix2 d e) = x (ix2 d ⟨128 + e, by omega⟩) * s (ix2 d e) + x (ix2 d ⟨e, by omega⟩) := by
  pointwise [step, k0_pay56]

/-! ## The output -/

/-- The masked scores of head `h` at row `c` and the earlier row `s`. -/
def att (h : Fin 4) (q k : Vec Ideal S1x64x256 .bf16) (b : Vec Ideal S64x256 .f32) (c s : Fin 64) : EReal :=
  if s ≤ c then ∑ d : Fin 64, qIn q b (ix2 c (kl h d)) * kIn k b (ix2 s (kl h d)) else 0

/-- A product of a pair of heads: its 256 lanes are scores and queries of two heads, the operand's rows the values and
    states of the two. -/
theorem sum_pair (A Q : Fin 128 → EReal) (X Y Z W : Fin 64 → EReal) :
    ∑ x : Fin 256, (if h : (x : ℕ) < 128 then A ⟨x, h⟩ else Q ⟨x - 128, by omega⟩)
        * (if h : (x : ℕ) < 128 then (if h' : (x : ℕ) < 64 then X ⟨x, h'⟩ else Y ⟨x - 64, by omega⟩)
          else if h' : (x : ℕ) - 128 < 64 then Z ⟨x - 128, h'⟩ else W ⟨x - 128 - 64, by omega⟩)
      = ((∑ r : Fin 64, A ⟨r, by omega⟩ * X r) + ∑ r : Fin 64, A ⟨64 + r, by omega⟩ * Y r)
        + ((∑ d : Fin 64, Q ⟨d, by omega⟩ * Z d) + ∑ d : Fin 64, Q ⟨64 + d, by omega⟩ * W d) := by
  rw [Fin.sum_univ_two_halves 128 128 rfl]
  refine congrArg₂ (· + ·) ?_ ?_
  · rw [Fin.sum_univ_two_halves 64 64 rfl]
    refine congrArg₂ (· + ·) (Finset.sum_congr rfl fun r _ => ?_) (Finset.sum_congr rfl fun r _ => ?_)
    · rw [dif_pos (by show (r : ℕ) < 128; omega), dif_pos (by show (r : ℕ) < 128; omega), dif_pos (by show (r : ℕ) < 64; omega)]
    · rw [dif_pos (by show 64 + (r : ℕ) < 128; omega), dif_pos (by show 64 + (r : ℕ) < 128; omega), dif_neg (by show ¬ 64 + (r : ℕ) < 64; omega)]
      congr 2; apply Fin.ext; show 64 + (r : ℕ) - 64 = r; omega
  · rw [Fin.sum_univ_two_halves 64 64 rfl]
    refine congrArg₂ (· + ·) (Finset.sum_congr rfl fun r _ => ?_) (Finset.sum_congr rfl fun r _ => ?_)
    · rw [dif_neg (by show ¬ 128 + (r : ℕ) < 128; omega), dif_neg (by show ¬ 128 + (r : ℕ) < 128; omega), dif_pos (by show 128 + (r : ℕ) - 128 < 64; omega)]
      congr 2 <;> (apply Fin.ext; show 128 + (r : ℕ) - 128 = r; omega)
    · rw [dif_neg (by show ¬ 128 + (64 + (r : ℕ)) < 128; omega), dif_neg (by show ¬ 128 + (64 + (r : ℕ)) < 128; omega), dif_neg (by show ¬ 128 + (64 + (r : ℕ)) - 128 < 64; omega)]
      congr 2
      · apply Fin.ext; show 128 + (64 + (r : ℕ)) - 128 = 64 + r; omega
      · apply Fin.ext; show 128 + (64 + (r : ℕ)) - 128 - 64 = r; omega

theorem out_apply (q k : Vec Ideal S1x64x256 .bf16) (v : Vec Ideal S1x64x512 .bf16) (b : Vec Ideal S64x256 .f32)
    (s : Fin 4 → FVec Ideal S64x128 .f32) (h : Fin 4) (c : Fin 64) (e : Fin 128) :
    out q k v b s (ix3 0 c (vl h e)) = (∑ r : Fin 64, att h q k b c r * v (ix3 0 r (vl h e)))
      + ∑ d : Fin 64, qIn q b (ix2 c (kl h d)) * s h (ix2 d e) := by
  have a0 : ∀ r : Fin 64, att01 q k b (ix2 c ⟨r, by omega⟩) = att 0 q k b c r := fun r => by
    have := att01_apply q k b c 0 r
    simpa [att] using this
  have a1 : ∀ r : Fin 64, att01 q k b (ix2 c ⟨64 + r, by omega⟩) = att 1 q k b c r := att01_apply q k b c 1
  have a2 : ∀ r : Fin 64, att23 q k b (ix2 c ⟨r, by omega⟩) = att 2 q k b c r := fun r => by
    have := att23_apply q k b c 0 r
    simpa [att] using this
  have a3 : ∀ r : Fin 64, att23 q k b (ix2 c ⟨64 + r, by omega⟩) = att 3 q k b c r := att23_apply q k b c 1
  have z : ∀ f : Fin 64 → EReal, ∑ r : Fin 64, f r * (0 : EReal) = 0 := fun f => Finset.sum_eq_zero fun r _ => mul_zero _
  fin_cases h
  all_goals
    pointwise [out, k0_pay60, k0_pay53, k0_pay54, k0_pay55, vl]
  · rw [dif_pos (by omega)]
    refine (sum_pair (fun x => att01 q k b (ix2 c x)) (fun x => qIn q b (ix2 c ⟨x, by omega⟩)) (fun r => v (ix3 0 r ⟨e, by omega⟩)) (fun _ => 0)
      (fun d => s 0 (ix2 d e)) (fun _ => 0)).trans ?_
    simp only [a0, z, add_zero]
    simp [kl]
  · rw [dif_pos (by omega)]
    refine (sum_pair (fun x => att01 q k b (ix2 c x)) (fun x => qIn q b (ix2 c ⟨x, by omega⟩)) (fun _ => 0) (fun r => v (ix3 0 r ⟨128 + e, by omega⟩))
      (fun _ => 0) (fun d => s 1 (ix2 d e))).trans ?_
    simp only [a1, z, zero_add]
    rfl
  · refine (sum_pair (fun x => att23 q k b (ix2 c x)) (fun x => qIn q b (ix2 c ⟨128 + x, by omega⟩)) (fun r => v (ix3 0 r ⟨256 + e, by omega⟩)) (fun _ => 0)
      (fun d => s 2 (ix2 d e)) (fun _ => 0)).trans ?_
    simp only [a2, z, add_zero]
    rfl
  · rw [dif_neg (by omega)]
    simp only [show 384 + (e : ℕ) - 256 = 128 + e by omega, show ¬ 128 + (e : ℕ) < 128 by omega, ↓reduceDIte,
      show 128 + (e : ℕ) - 128 = e by omega]
    refine (sum_pair (fun x => att23 q k b (ix2 c x)) (fun x => qIn q b (ix2 c ⟨128 + x, by omega⟩)) (fun _ => 0) (fun r => v (ix3 0 r ⟨384 + e, by omega⟩))
      (fun _ => 0) (fun d => s 3 (ix2 d e))).trans ?_
    simp only [a3, z, zero_add]
    simp [kl, ← Nat.add_assoc]

end Cert.KernelIdeal.Chunk
-- ==== Proof.Scan.lean ====
/-
  The running sum of the log gates within a chunk, as the kernel computes it: six stages, each of which adds to a row
  the row 1, 2, 4, 8, 16 and 32 above it in the same chunk of 64 rows.
-/
module

public import proofs.«01_k».proof.Proof.ChunkRead

@[expose] public section

set_option maxRecDepth 16384

noncomputable section

namespace Cert.KernelIdeal.Chunk

open Idealize.ShloMosaic Idealize.ShloMosaic.TcCoe
open Cert.KernelIdeal.Gen

/-- One stage: to each row, the row `m` above it, where the chunk has one. -/
def stage {F : FTy → Type} [FloatOps F] (m : BitVec 32) (y : FVec F S2048x256 .f32) : FVec F S2048x256 .f32 :=
  addf y (select (cmpi .sge k0_pay3 (broadcast S2048x256 m)) (dynamicRotate 0 m none y rotates_S2048x256_d0)
    (broadcast S2048x256 (Scalar.ofBits .f32 0x00000000#32)))

/-- The running sums of a block of log gates. -/
def sums {F : FTy → Type} [FloatOps F] (x : Vec F S1x2048x256 .f32) : FVec F S2048x256 .f32 :=
  k0_pay8 k0_pay3 (k0_pay4 x) k0_pay5 (k0_pay6 x) k0_pay7

theorem sums_eq {F : FTy → Type} [FloatOps F] (x : Vec F S1x2048x256 .f32) :
    sums x = shapeCast S2048x256 (stage 32#32 (stage 16#32 (stage 8#32 (stage 4#32 (stage 2#32 (stage 1#32
      (shapeCast S2048x256 x shapeCasts_S1x2048x256_S2048x256))))))) shapeCasts_S2048x256_S2048x256 := rfl

/-- The row `s` of chunk `n` at a lane. -/
def row (y : FVec Ideal S2048x256 .f32) (n : Fin 32) (l : Fin 256) (s : ℕ) : EReal := y (ix2 ⟨64 * n + s % 64, by omega⟩ l)

/-- The last `m` rows of those up to row `c`, added up. -/
def part (f : ℕ → EReal) (m c : ℕ) : EReal := ∑ j ∈ Finset.range m, if j ≤ c then f (c - j) else 0

theorem stage_row (m : ℕ) (hm : m < 64) (y : FVec Ideal S2048x256 .f32) (n : Fin 32) (l : Fin 256) (c : ℕ) (hc : c < 64) :
    row (stage (BitVec.ofNat 32 m) y) n l c = row y n l c + if m ≤ c then row y n l (c - m) else 0 := by
  unfold row
  pointwise [stage, k0_pay3]
  rw [and63 _ (by omega), pick_sge _ _ (by omega) (by omega)]
  have e1 : (64 * (n : ℕ) + c % 64) % 64 = c := by omega
  rw [e1]
  refine congrArg _ ?_
  by_cases h : m ≤ c
  · rw [if_pos h, if_pos h]
    congr 2
    apply Fin.ext
    show (64 * (n : ℕ) + c % 64 + 2048 - (BitVec.ofNat 32 m).toNat % 2048) % 2048 = 64 * n + (c - m) % 64
    rw [BitVec.toNat_ofNat]
    omega
  · rw [if_neg h, if_neg h]

/-- A stage doubles the rows that are added up. -/
theorem part_double (f : ℕ → EReal) (m c : ℕ) : part f m c + (if m ≤ c then part f m (c - m) else 0) = part f (m + m) c := by
  unfold part
  rw [Finset.sum_range_add]
  refine congrArg _ ?_
  by_cases h : m ≤ c
  · rw [if_pos h]
    refine Finset.sum_congr rfl fun j _ => ?_
    by_cases h' : j ≤ c - m
    · rw [if_pos h', if_pos (by omega), Nat.sub_sub]
    · rw [if_neg h', if_neg (by omega)]
  · rw [if_neg h]
    exact (Finset.sum_eq_zero fun j _ => if_neg (by omega)).symm

theorem stage_part (f : ℕ → EReal) (m : ℕ) (hm : m < 64) (y : FVec Ideal S2048x256 .f32) (n : Fin 32) (l : Fin 256)
    (hy : ∀ c, c < 64 → row y n l c = part f m c) (c : ℕ) (hc : c < 64) :
    row (stage (BitVec.ofNat 32 m) y) n l c = part f (m + m) c := by
  rw [stage_row m hm y n l c hc, ← part_double, hy c hc]
  by_cases h : m ≤ c
  · rw [if_pos h, if_pos h, hy _ (by omega)]
  · rw [if_neg h, if_neg h]

/-- All the rows up to row `c`. -/
theorem part_all (f : ℕ → EReal) (c : ℕ) (hc : c < 64) : part f 64 c = ∑ s ∈ Finset.range (c + 1), f s := by
  unfold part
  rw [show 64 = (c + 1) + (63 - c) by omega, Finset.sum_range_add, Finset.sum_eq_zero (s := Finset.range (63 - c)) (fun j _ => if_neg (by omega)),
    add_zero, ← Finset.sum_range_reflect]
  refine Finset.sum_congr rfl fun j hj => ?_
  have := Finset.mem_range.mp hj
  rw [if_pos (by omega)]
  congr 1; omega

/-- The running sum at row `c` of chunk `n`: the log gates of the chunk's rows up to `c`. -/
theorem sums_apply (x : Vec Ideal S1x2048x256 .f32) (n : Fin 32) (c : Fin 64) (l : Fin 256) :
    sums x (ix2 ⟨64 * n + c, by omega⟩ l) = ∑ s ∈ Finset.range (c + 1), x (ix3 0 ⟨64 * n + s % 64, by omega⟩ l) := by
  have key := stage_part (row (shapeCast S2048x256 x shapeCasts_S1x2048x256_S2048x256) n l) 32 (by omega) _ n l
    (stage_part _ 16 (by omega) _ n l (stage_part _ 8 (by omega) _ n l (stage_part _ 4 (by omega) _ n l
      (stage_part _ 2 (by omega) _ n l (stage_part _ 1 (by omega) (shapeCast S2048x256 x shapeCasts_S1x2048x256_S2048x256) n l
        (fun c _ => by simp [part])))))) c c.isLt
  have hr : ∀ y : FVec Ideal S2048x256 .f32, y (ix2 ⟨64 * n + c, by omega⟩ l) = row y n l c := by
    intro y; unfold row; congr 2; apply Fin.ext; show 64 * (n : ℕ) + c = 64 * n + c % 64; omega
  rw [sums_eq]; refine (hr _).trans ?_
  refine Eq.trans ?_ (key.trans ((part_all _ c c.isLt).trans (Finset.sum_congr rfl fun s _ => ?_)))
  · unfold row; pointwise
  · unfold row; pointwise

end Cert.KernelIdeal.Chunk
-- ==== Proof.Block.lean ====
/-
  A grid point's block: what the point leaves in the output block and in the carried states, as functions of the
  blocks it is given, for a point that starts a batch (from the given states) and one that goes on (from the
  carried states).
-/
module

public import proofs.«01_k».proof.Proof.Scan
public import proofs.«01_k».proof.Proof.Gen.KernelIdeal.Frame

@[expose] public section

set_option maxRecDepth 65536

noncomputable section

namespace Cert.KernelIdeal.Chunk

open Idealize.ShloMosaic Idealize.ShloMosaic.TcCoe
open Cert.KernelIdeal.Gen

variable {F : FTy → Type} [FloatOps F]

/-! ## The loads of a chunk -/

def qC (x : Vec F S1x2048x256 .bf16) (n : ℕ) : Vec F S1x64x256 .bf16 := View.ld x (rQ n)
def vC (x : Vec F S1x2048x512 .bf16) (n : ℕ) : Vec F S1x64x512 .bf16 := View.ld x (rO n)
def bC (x : Vec F S1x2048x256 .f32) (n : ℕ) : Vec F S64x256 .f32 := View.ld (sums x) (rB n)

/-- The states a point starts from, out of the contents of the state buffer. -/
def sC (x : Vec F S4x64x128 .f32) (h : Fin 4) : FVec F S64x128 .f32 := k0_pay9 (View.ld x (rS h))

/-- The pieces of the output block, and the states the block ends in. -/
def blockPieces (x0 x1 : Vec F S1x2048x256 .bf16) (x2 : Vec F S1x2048x512 .bf16) (x3 : Vec F S1x2048x256 .f32) (s : Vec F S4x64x128 .f32) :
    List (View.Piece (Elt F) S1x2048x512 .f32) :=
  pieces (qC x0) (qC x1) (vC x2) (bC x3) (sC s) 32
def blockStates (x1 : Vec F S1x2048x256 .bf16) (x2 : Vec F S1x2048x512 .bf16) (x3 : Vec F S1x2048x256 .f32) (s : Vec F S4x64x128 .f32) :
    Fin 4 → FVec F S64x128 .f32 :=
  St (qC x1) (vC x2) (bC x3) (sC s) 32

theorem load_q (a : Memref sig .tc .vmem S1x2048x256 .bf16) (ha : a.IsWhole) (x : Vec F S1x2048x256 .bf16) :
    (fun n => View.readAt (Elt F) a.view (rQ n).toLoadRect (ha.unread x)) = qC x := by
  funext n
  rw [View.readAt_eq_ld, ha.read_unread]; rfl

theorem load_v (a : Memref sig .tc .vmem S1x2048x512 .bf16) (ha : a.IsWhole) (x : Vec F S1x2048x512 .bf16) :
    (fun n => View.readAt (Elt F) a.view (rO n).toLoadRect (ha.unread x)) = vC x := by
  funext n
  rw [View.readAt_eq_ld, ha.read_unread]; rfl

theorem zero3 : (![0, 0, 0] : Fin 3 → ℕ) = fun _ => 0 := by funext a; fin_cases a <;> rfl
theorem zero4 : (![0, 0, 0, 0] : Fin 4 → ℕ) = fun _ => 0 := by funext a; fin_cases a <;> rfl
theorem zero2 : (![0, 0] : Fin 2 → ℕ) = fun _ => 0 := by funext a; fin_cases a <;> rfl

/-- The one store of the running sums. -/
def sumsPieces (w : Vec F S1x2048x256 .f32) : List (View.Piece (Elt F) S2048x256 .f32) :=
  [⟨Rect.unit ![0, 0] S2048x256.size inb_S2048x256_S2048x256_0_0, sums w⟩]

/-- The store of the given states. -/
def startPieces (w : Vec F S1x4x64x128 .f32) : List (View.Piece (Elt F) S4x64x128 .f32) :=
  [⟨Rect.unit ![0, 0, 0] S4x64x128.size inb_S4x64x128_S4x64x128_0_0_0, k0_pay2 w⟩]

/-- A load of a whole block. -/
abbrev whole3 (a : Memref sig .tc .vmem S1x2048x256 .f32) (ha : a.IsWhole) (x : Vec F S1x2048x256 .f32) : Vec F S1x2048x256 .f32 :=
  View.readAt (Elt F) a.view (Rect.unit ![0, 0, 0] S1x2048x256.size inb_S1x2048x256_S1x2048x256_0_0_0).toLoadRect (ha.unread x)
abbrev whole4 (a : Memref sig .tc .vmem S1x4x64x128 .f32) (ha : a.IsWhole) (x : Vec F S1x4x64x128 .f32) : Vec F S1x4x64x128 .f32 :=
  View.readAt (Elt F) a.view (Rect.unit ![0, 0, 0, 0] S1x4x64x128.size inb_S1x4x64x128_S1x4x64x128_0_0_0_0).toLoadRect (ha.unread x)

theorem whole3_eq (a : Memref sig .tc .vmem S1x2048x256 .f32) (ha : a.IsWhole) (x : Vec F S1x2048x256 .f32) : whole3 a ha x = x := by
  unfold whole3
  rw [View.readAt_eq_ld, ha.read_unread]
  exact View.ld_unit_zero zero3 _ x
theorem whole4_eq (a : Memref sig .tc .vmem S1x4x64x128 .f32) (ha : a.IsWhole) (x : Vec F S1x4x64x128 .f32) : whole4 a ha x = x := by
  unfold whole4
  rw [View.readAt_eq_ld, ha.read_unread]
  exact View.ld_unit_zero zero4 _ x

theorem load_b (v : View sig .tc .vmem S2048x256 .f32) (w : Vec F S1x2048x256 .f32) :
    (fun n => v.readCov (Val := Elt F) (sumsPieces w) (rB n).toLoadRect) = bC w := by
  funext n
  rw [View.readCov_eq_canon', sumsPieces, View.canon_unit_zero zero2]; rfl

theorem load_start (v : View sig .tc .vmem S4x64x128 .f32) (w : Vec F S1x4x64x128 .f32) :
    (fun h : Fin 4 => k0_pay9 (v.readCov (Val := Elt F) (startPieces w) (rS h).toLoadRect)) = sC (k0_pay2 w) := by
  funext h
  rw [View.readCov_eq_canon', startPieces, View.canon_unit_zero zero3]; rfl

theorem load_carried (a : Memref sig .tc .vmem S4x64x128 .f32) (ha : a.IsWhole) (x : Vec F S4x64x128 .f32) :
    (fun h : Fin 4 => k0_pay9 (View.readAt (Elt F) a.view (rS h).toLoadRect (ha.unread x))) = sC x := by
  funext h
  rw [View.readAt_eq_ld, ha.read_unread]; rfl

/-! ## The two kinds of point -/

section
variable (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x512 .bf16) (harg4 : arg4.IsWhole) (arg5 : Memref sig .tc .vmem S1x2048x256 .f32) (harg5 : arg5.IsWhole) (arg6 : Memref sig .tc .vmem S1x4x64x128 .f32) (harg6 : arg6.IsWhole) (arg7 : Memref sig .tc .vmem S1x2048x512 .f32) (harg7 : arg7.IsWhole) (arg8 : Memref sig .tc .vmem S4x64x128 .f32) (harg8 : arg8.IsWhole) (arg9 : Memref sig .tc .vmem S2048x256 .f32) (harg9 : arg9.IsWhole)
    (x0 : Vec F S1x2048x256 .bf16) (x1 : Vec F S1x2048x256 .bf16) (x2 : Vec F S1x2048x512 .bf16) (x3 : Vec F S1x2048x256 .f32) (x4 : Vec F S1x4x64x128 .f32) (xs : Vec F S4x64x128 .f32)

theorem runA_out (hc0 : cond0_0 i) :
    (kernelRun0_A c i arg2 harg2 arg3 harg3 arg4 harg4 arg5 harg5 arg6 harg6 arg7 harg7 arg8 harg8 arg9 harg9 hc0 x0 x1 x2 x3 x4).1
      = blockPieces x0 x1 x2 x3 (k0_pay2 x4) := by
  refine Eq.trans (b := pieces (fun n => View.readAt (Elt F) arg2.view (rQ n).toLoadRect (harg2.unread x0))
    (fun n => View.readAt (Elt F) arg3.view (rQ n).toLoadRect (harg3.unread x1))
    (fun n => View.readAt (Elt F) arg4.view (rO n).toLoadRect (harg4.unread x2))
    (fun n => arg9.view.readCov (sumsPieces (whole3 arg5 harg5 x3)) (rB n).toLoadRect)
    (fun h : Fin 4 => k0_pay9 (arg8.view.readCov (startPieces (whole4 arg6 harg6 x4)) (rS h).toLoadRect)) 32) ?_ ?_
  · unfold kernelRun0_A; dsimp only; rfl
  · rw [load_q, load_q, load_v, load_b, load_start, whole3_eq, whole4_eq]; rfl

theorem runA_state (hc0 : cond0_0 i) :
    (kernelRun0_A c i arg2 harg2 arg3 harg3 arg4 harg4 arg5 harg5 arg6 harg6 arg7 harg7 arg8 harg8 arg9 harg9 hc0 x0 x1 x2 x3 x4).2.1
      = statePieces (blockStates x1 x2 x3 (k0_pay2 x4)) ++ startPieces x4 := by
  refine Eq.trans (b := statePieces (St
    (fun n => View.readAt (Elt F) arg3.view (rQ n).toLoadRect (harg3.unread x1))
    (fun n => View.readAt (Elt F) arg4.view (rO n).toLoadRect (harg4.unread x2))
    (fun n => arg9.view.readCov (sumsPieces (whole3 arg5 harg5 x3)) (rB n).toLoadRect)
    (fun h : Fin 4 => k0_pay9 (arg8.view.readCov (startPieces (whole4 arg6 harg6 x4)) (rS h).toLoadRect)) 32) ++ startPieces (whole4 arg6 harg6 x4)) ?_ ?_
  · unfold kernelRun0_A; dsimp only; rfl
  · rw [load_q, load_v, load_b, load_start, whole3_eq, whole4_eq]; rfl

theorem runB_out (hc0 : ¬cond0_0 i) :
    (kernelRun0_B c i arg2 harg2 arg3 harg3 arg4 harg4 arg5 harg5 arg6 harg6 arg7 harg7 arg8 harg8 arg9 harg9 hc0 x0 x1 x2 x3 x4 xs).1
      = blockPieces x0 x1 x2 x3 xs := by
  refine Eq.trans (b := pieces (fun n => View.readAt (Elt F) arg2.view (rQ n).toLoadRect (harg2.unread x0))
    (fun n => View.readAt (Elt F) arg3.view (rQ n).toLoadRect (harg3.unread x1))
    (fun n => View.readAt (Elt F) arg4.view (rO n).toLoadRect (harg4.unread x2))
    (fun n => arg9.view.readCov (sumsPieces (whole3 arg5 harg5 x3)) (rB n).toLoadRect)
    (fun h : Fin 4 => k0_pay9 (View.readAt (Elt F) arg8.view (rS h).toLoadRect (harg8.unread xs))) 32) ?_ ?_
  · unfold kernelRun0_B; dsimp only; rfl
  · rw [load_q, load_q, load_v, load_b, load_carried, whole3_eq]; rfl

theorem runB_state (hc0 : ¬cond0_0 i) :
    (kernelRun0_B c i arg2 harg2 arg3 harg3 arg4 harg4 arg5 harg5 arg6 harg6 arg7 harg7 arg8 harg8 arg9 harg9 hc0 x0 x1 x2 x3 x4 xs).2.1
      = statePieces (blockStates x1 x2 x3 xs) := by
  refine Eq.trans (b := statePieces (St
    (fun n => View.readAt (Elt F) arg3.view (rQ n).toLoadRect (harg3.unread x1))
    (fun n => View.readAt (Elt F) arg4.view (rO n).toLoadRect (harg4.unread x2))
    (fun n => arg9.view.readCov (sumsPieces (whole3 arg5 harg5 x3)) (rB n).toLoadRect)
    (fun h : Fin 4 => k0_pay9 (View.readAt (Elt F) arg8.view (rS h).toLoadRect (harg8.unread xs))) 32)) ?_ ?_
  · unfold kernelRun0_B; dsimp only; rfl
  · rw [load_q, load_v, load_b, load_carried, whole3_eq]; rfl

/-- What the two kinds of point leave in the output block and in the states. -/
theorem outA (hc0 : cond0_0 i) : out0_A_5 c i arg2 harg2 arg3 harg3 arg4 harg4 arg5 harg5 arg6 harg6 arg7 harg7 arg8 harg8 arg9 harg9 hc0 x0 x1 x2 x3 x4 = View.canon (blockPieces x0 x1 x2 x3 (k0_pay2 x4)) :=
  (View.read_writes_junk_eq_canon _ _).trans (congrArg View.canon (runA_out c i arg2 harg2 arg3 harg3 arg4 harg4 arg5 harg5 arg6 harg6 arg7 harg7 arg8 harg8 arg9 harg9 x0 x1 x2 x3 x4 hc0))
theorem stateA (hc0 : cond0_0 i) : sout0_A_0 c i arg2 harg2 arg3 harg3 arg4 harg4 arg5 harg5 arg6 harg6 arg7 harg7 arg8 harg8 arg9 harg9 hc0 x0 x1 x2 x3 x4 = View.canon (statePieces (blockStates x1 x2 x3 (k0_pay2 x4)) ++ startPieces x4) :=
  (View.read_writes_junk_eq_canon _ _).trans (congrArg View.canon (runA_state c i arg2 harg2 arg3 harg3 arg4 harg4 arg5 harg5 arg6 harg6 arg7 harg7 arg8 harg8 arg9 harg9 x0 x1 x2 x3 x4 hc0))
theorem outB (hc0 : ¬cond0_0 i) : out0_B_5 c i arg2 harg2 arg3 harg3 arg4 harg4 arg5 harg5 arg6 harg6 arg7 harg7 arg8 harg8 arg9 harg9 hc0 x0 x1 x2 x3 x4 xs = View.canon (blockPieces x0 x1 x2 x3 xs) :=
  (View.read_writes_junk_eq_canon _ _).trans (congrArg View.canon (runB_out c i arg2 harg2 arg3 harg3 arg4 harg4 arg5 harg5 arg6 harg6 arg7 harg7 arg8 harg8 arg9 harg9 x0 x1 x2 x3 x4 xs hc0))
end

end Cert.KernelIdeal.Chunk
-- ==== Proof.BlockRead.lean ====
/-
  A block of 32 chunks read at an index: the rows of the output and the states, in terms of the recurrence.
-/
module

public import proofs.«01_k».proof.Proof.Block
public import proofs.«01_k».proof.Proof.Spec

@[expose] public section

set_option maxRecDepth 16384

noncomputable section

namespace Cert.KernelIdeal.Chunk

open Idealize.ShloMosaic Idealize.ShloMosaic.TcCoe
open Cert.KernelIdeal.Gen Cert.Gla

theorem qC_apply (x : Vec Ideal S1x2048x256 .bf16) (n : Fin 32) (c : Fin 64) (l : Fin 256) :
    qC x n (ix3 0 c l) = x (ix3 0 ⟨64 * n + c, by omega⟩ l) := by
  pointwise [qC, rQ]
  simp only [Nat.mod_eq_of_lt n.isLt]

theorem vC_apply (x : Vec Ideal S1x2048x512 .bf16) (n : Fin 32) (c : Fin 64) (l : Fin 512) :
    vC x n (ix3 0 c l) = x (ix3 0 ⟨64 * n + c, by omega⟩ l) := by
  pointwise [vC, rO]
  simp only [Nat.mod_eq_of_lt n.isLt]

theorem bC_apply (x : Vec Ideal S1x2048x256 .f32) (n : Fin 32) (c : Fin 64) (l : Fin 256) :
    bC x n (ix2 c l) = ∑ s ∈ Finset.range (c + 1), x (ix3 0 ⟨64 * n + s % 64, by omega⟩ l) := by
  rw [← sums_apply]
  pointwise [bC, rB]
  simp only [Nat.mod_eq_of_lt n.isLt]

theorem sC_apply (x : Vec Ideal S4x64x128 .f32) (h : Fin 4) (d : Fin 64) (e : Fin 128) :
    sC x h (ix2 d e) = x (ix3 h d e) := by
  pointwise [sC, rS, k0_pay9]

theorem start_apply (x : Vec Ideal S1x4x64x128 .f32) (h : Fin 4) (d : Fin 64) (e : Fin 128) :
    k0_pay2 x (ix3 h d e) = x (ix4 0 h d e) := by
  pointwise [k0_pay2]

/-! ## The recurrence -/

section
variable (Q K G : ℕ → Fin 256 → EReal) (V : ℕ → Fin 512 → EReal) (S₀ : Fin 4 → Fin 64 → Fin 128 → EReal)
  (x0 x1 : Vec Ideal S1x2048x256 .bf16) (x2 : Vec Ideal S1x2048x512 .bf16) (x3 : Vec Ideal S1x2048x256 .f32)
  (xs : Vec Ideal S4x64x128 .f32) (j : ℕ)

/-- Block `j` of the rows of a batch entry, and the states before it. -/
structure IsBlock : Prop where
  q : ∀ (r : Fin 2048) (l : Fin 256), x0 (ix3 0 r l) = Q (2048 * j + r) l
  k : ∀ (r : Fin 2048) (l : Fin 256), x1 (ix3 0 r l) = K (2048 * j + r) l
  v : ∀ (r : Fin 2048) (l : Fin 512), x2 (ix3 0 r l) = V (2048 * j + r) l
  g : ∀ (r : Fin 2048) (l : Fin 256), x3 (ix3 0 r l) = G (2048 * j + r) l
  s : ∀ (h : Fin 4) (d : Fin 64) (e : Fin 128), xs (ix3 h d e) = state (hk K h) (hk G h) (hv V h) (S₀ h) (32 * j) d e
  lt : ∀ t l, G t l < ⊤

variable {Q K G V S₀ x0 x1 x2 x3 xs j}

theorem IsBlock.b (H : IsBlock Q K G V S₀ x0 x1 x2 x3 xs j) (n : Fin 32) (c : Fin 64) (h : Fin 4) (d : Fin 64) :
    bC x3 n (ix2 c (kl h d)) = cum (hk G h) (32 * j + n) c d := by
  rw [bC_apply]
  refine Finset.sum_congr rfl fun s hs => ?_
  have := Finset.mem_range.mp hs
  rw [H.g]
  show G _ _ = G _ _
  congr 1
  show 2048 * j + (64 * (n : ℕ) + s % 64) = 64 * (32 * j + n) + s
  omega

theorem IsBlock.decay (H : IsBlock Q K G V S₀ x0 x1 x2 x3 xs j) (n : Fin 32) (h : Fin 4) (d : Fin 64) :
    Ideal.exp (bC x3 n (ix2 63 (kl h d))) - Ideal.exp (bC x3 n (ix2 63 (kl h d))) = 0 := by
  rw [H.b n 63 h d]
  exact exp_sub_self (sum_lt_top _ _ fun s => H.lt _ _)

theorem IsBlock.row (n : Fin 32) (c : Fin 64) : 2048 * j + (64 * (n : ℕ) + c) = 64 * (32 * j + n) + c := by omega

theorem IsBlock.gain (H : IsBlock Q K G V S₀ x0 x1 x2 x3 xs j) (n : Fin 32) (h : Fin 4) (d : Fin 64) (e : Fin 128) :
    inc h (qC x1 n) (vC x2 n) (bC x3 n) (ix2 d ⟨e, by omega⟩) = Cert.Gla.gain (hk K h) (hk G h) (hv V h) (32 * j + n) d e := by
  rw [inc_apply]
  refine Finset.sum_congr rfl fun s _ => ?_
  rw [kEnd_apply _ _ _ _ (H.decay n h d), dif_pos s.isLt, H.b n 63 h d, qC_apply, vC_apply, H.k, H.v]
  rw [show (⟨((⟨s, by omega⟩ : Fin 128) : ℕ), s.isLt⟩ : Fin 64) = s from rfl, H.b n s h d]
  show K _ _ * _ * V _ _ = K _ _ * _ * V _ _
  rw [IsBlock.row n s]
  rfl

theorem IsBlock.states (H : IsBlock Q K G V S₀ x0 x1 x2 x3 xs j) (h : Fin 4) (d : Fin 64) (e : Fin 128) :
    ∀ n : ℕ, n ≤ 32 → St (qC x1) (vC x2) (bC x3) (sC xs) n h (ix2 d e) = state (hk K h) (hk G h) (hv V h) (S₀ h) (32 * j + n) d e
  | 0, _ => (sC_apply xs h d e).trans (H.s h d e)
  | n + 1, hn => by
    show step (inc h (qC x1 n) (vC x2 n) (bC x3 n)) _ (ix2 d e) = _
    rw [step_apply, H.states h d e n (by omega)]
    have h1 := H.gain ⟨n, by omega⟩ h d e
    have h2 := inc_decay h (qC x1 n) (vC x2 n) (bC x3 n) d e (H.decay ⟨n, by omega⟩ h d)
    have h3 := H.b ⟨n, by omega⟩ 63 h d
    rw [h2]
    refine congrArg₂ (· + ·) (congrArg (· * _) (congrArg Ideal.exp h3)) h1

theorem IsBlock.result (H : IsBlock Q K G V S₀ x0 x1 x2 x3 xs j) (n : Fin 32) (h : Fin 4) (c : Fin 64) (e : Fin 128) :
    out (qC x0 n) (qC x1 n) (vC x2 n) (bC x3 n) (St (qC x1) (vC x2) (bC x3) (sC xs) n) (ix3 0 c (vl h e))
      = Cert.Gla.result (hk Q h) (hk K h) (hk G h) (hv V h) (S₀ h) (32 * j + n) c e := by
  have hq : ∀ c d, qIn (qC x0 n) (bC x3 n) (ix2 c (kl h d)) = hk Q h (64 * (32 * j + n) + c) d * Ideal.exp (cum (hk G h) (32 * j + n) c d) := by
    intro c d
    rw [qIn_apply, qC_apply, H.q, H.b n c h d]
    show Q _ _ * _ = Q _ _ * _
    rw [IsBlock.row n c]
  have hkk : ∀ c d, kIn (qC x1 n) (bC x3 n) (ix2 c (kl h d)) = hk K h (64 * (32 * j + n) + c) d * Ideal.exp (-cum (hk G h) (32 * j + n) c d) := by
    intro c d
    rw [kIn_apply, qC_apply, H.k, H.b n c h d]
    show K _ _ * _ = K _ _ * _
    rw [IsBlock.row n c]
  rw [out_apply]
  refine congrArg₂ (· + ·) (Finset.sum_congr rfl fun r _ => ?_) (Finset.sum_congr rfl fun d _ => ?_)
  · rw [vC_apply, H.v]
    refine congrArg₂ (· * ·) ?_ ?_
    · unfold att score
      refine if_congr Iff.rfl (Finset.sum_congr rfl fun d _ => ?_) rfl
      rw [hq, hkk]
    · show V _ _ = V _ _
      rw [IsBlock.row n r]
  · rw [hq, H.states h d e n (by omega)]

/-! ## What the pieces leave -/

theorem piece_idx (n : Fin 32) (c : Fin 64) (l : Fin 512) :
    (ix3 0 ⟨64 * n + c, by omega⟩ l : S1x2048x512.Idx) = (rO n).emb (ix3 0 c l) := by
  funext a
  apply Fin.ext
  fin_cases a
  · rfl
  · show 64 * (n : ℕ) + c = 64 * (n % 32) + 1 * c
    omega
  · show (l : ℕ) = 0 + 1 * l
    omega

theorem canon_pieces (q k : ℕ → Vec Ideal S1x64x256 .bf16) (v : ℕ → Vec Ideal S1x64x512 .bf16) (b : ℕ → Vec Ideal S64x256 .f32)
    (s : Fin 4 → FVec Ideal S64x128 .f32) (n : Fin 32) (c : Fin 64) (l : Fin 512) :
    ∀ N : ℕ, n < N → N ≤ 32 → View.canon (Val := Elt Ideal) (pieces q k v b s N) (ix3 0 ⟨64 * n + c, by omega⟩ l)
      = out (q n) (k n) (v n) (b n) (St k v b s n) (ix3 0 c l)
  | 0, h, _ => absurd h (Nat.not_lt_zero _)
  | N + 1, h, hN => by
    by_cases e : (n : ℕ) = N
    · subst e
      rw [piece_idx]
      exact View.canon_cons_emb (rO n) _ _ _
    · refine (View.canon_cons_of_not_mem _ _ ?_).trans (canon_pieces q k v b s n c l N (by omega) (by omega))
      show _ ∉ (rO N).set
      rw [rO, Rect.mem_set_unit]
      intro h'
      have h1 := h' 1
      have h2 : (64 * (N % 32) : ℕ) ≤ 64 * n + c ∧ 64 * (n : ℕ) + c < 64 * (N % 32) + 64 := h1
      omega

theorem state_idx (h : Fin 4) (d : Fin 64) (e : Fin 128) : (ix3 h d e : S4x64x128.Idx) = (rS h).emb (ix3 0 d e) := by
  funext a
  apply Fin.ext
  fin_cases a
  · show (h : ℕ) = h + 1 * 0
    omega
  · show (d : ℕ) = 0 + 1 * d
    omega
  · show (e : ℕ) = 0 + 1 * e
    omega

theorem canon_states (s : Fin 4 → FVec Ideal S64x128 .f32) (L : List (View.Piece (Elt Ideal) S4x64x128 .f32)) (h : Fin 4)
    (d : Fin 64) (e : Fin 128) : View.canon (Val := Elt Ideal) (statePieces s ++ L) (ix3 h d e) = (s h (ix2 d e) : EReal) := by
  have off : ∀ h' : Fin 4, h' ≠ h → (ix3 h d e : S4x64x128.Idx) ∉ (rS h').set := by
    intro h' hne hm
    rw [rS, Rect.mem_set_unit] at hm
    have h2 : (h' : ℕ) ≤ h ∧ (h : ℕ) < h' + 1 := hm 0
    exact hne (Fin.ext (by omega))
  have on : ∀ L', View.canon (Val := Elt Ideal) ((⟨rS h, k0_pay1 (s h)⟩ : View.Piece (Elt Ideal) S4x64x128 .f32) :: L') (ix3 h d e) = (s h (ix2 d e) : EReal) := by
    intro L'
    rw [state_idx]
    refine (View.canon_cons_emb (rS h) _ _ _).trans ?_
    pointwise [k0_pay1]
  have skip : ∀ (h' : Fin 4) L', h' ≠ h → View.canon (Val := Elt Ideal) ((⟨rS h', k0_pay1 (s h')⟩ : View.Piece (Elt Ideal) S4x64x128 .f32) :: L') (ix3 h d e) = View.canon (Val := Elt Ideal) L' (ix3 h d e) :=
    fun h' L' hne => View.canon_cons_of_not_mem _ _ (off h' hne)
  unfold statePieces
  simp only [List.cons_append, List.nil_append]
  fin_cases h
  · exact (skip 3 _ (by decide)).trans ((skip 2 _ (by decide)).trans ((skip 1 _ (by decide)).trans (on _)))
  · exact (skip 3 _ (by decide)).trans ((skip 2 _ (by decide)).trans (on _))
  · exact (skip 3 _ (by decide)).trans (on _)
  · exact on _

/-- The output block, and the states after the block. -/
theorem IsBlock.out_block (H : IsBlock Q K G V S₀ x0 x1 x2 x3 xs j) (n : Fin 32) (h : Fin 4) (c : Fin 64) (e : Fin 128) :
    View.canon (Val := Elt Ideal) (blockPieces x0 x1 x2 x3 xs) (ix3 0 ⟨64 * n + c, by omega⟩ (vl h e))
      = Cert.Gla.result (hk Q h) (hk K h) (hk G h) (hv V h) (S₀ h) (32 * j + n) c e :=
  (canon_pieces _ _ _ _ _ n c (vl h e) 32 n.isLt le_rfl).trans (H.result n h c e)

theorem IsBlock.state_block (H : IsBlock Q K G V S₀ x0 x1 x2 x3 xs j) (L : List (View.Piece (Elt Ideal) S4x64x128 .f32))
    (h : Fin 4) (d : Fin 64) (e : Fin 128) :
    View.canon (Val := Elt Ideal) (statePieces (blockStates x1 x2 x3 xs) ++ L) (ix3 h d e)
      = state (hk K h) (hk G h) (hv V h) (S₀ h) (32 * (j + 1)) d e :=
  (canon_states _ L h d e).trans (H.states h d e 32 le_rfl)
end

end Cert.KernelIdeal.Chunk
-- ==== Proof.KernelValue.lean ====
/-
  The kernel's output array at an index, in terms of the recurrence over the chunks of its batch entry and head.
-/
module

public import proofs.«01_k».proof.Proof.BlockRead
public import proofs.«01_k».proof.Proof.Gen.KernelIdeal.Value
public import Idealize.ShloMosaic.Lib.Pipeline.ValueKit.Geometry

@[expose] public section

set_option maxRecDepth 16384

noncomputable section

namespace Cert.KernelIdeal.Chunk

open Cert.KernelIdeal Cert.KernelIdeal.Gen Cert.KernelIdeal.Value Cert.Gla
open Idealize.ShloMosaic Idealize.ShloMosaic.TcCoe

/-- Where the blocks of a point lie: batch entry and half of the rows. -/
theorem places : ∀ t : Fin cfg0.N, win0_0.index t = ![t.val / 2, t.val % 2, 0] ∧ win0_1.index t = ![t.val / 2, t.val % 2, 0]
    ∧ win0_2.index t = ![t.val / 2, t.val % 2, 0] ∧ win0_3.index t = ![t.val / 2, t.val % 2, 0]
    ∧ win0_4.index t = ![t.val / 2, 0, 0, 0] :=
  (by decide +kernel : ∀ t : Fin grid0.N, _)

section
variable (m : (ℓ : Loc nD τ sig) → Buf (Elt Ideal) ℓ) (c : Dev nD)

abbrev Qa := rows (m ((c : Thread nD τ).loc main_arg0))
abbrev Ka := rows (m ((c : Thread nD τ).loc main_arg1))
abbrev Va := rows (m ((c : Thread nD τ).loc main_arg2))
abbrev Ga := rows (m ((c : Thread nD τ).loc main_arg3))
abbrev Sa := starts (m ((c : Thread nD τ).loc main_arg4))

variable (b : Fin 8) (j : Fin 2) (t : Fin cfg0.N) (ht : t.val = 2 * b + j)

include ht in
theorem block_q (r : Fin 2048) (l : Fin 256) : iblk m c 0 t (ix3 0 r l) = Qa m c b (2048 * j + r) l := by
  rw [Qa, rows_of_lt _ _ _ (by omega)]
  blk_ext [iblk, V, places t]

include ht in
theorem block_k (r : Fin 2048) (l : Fin 256) : iblk m c 1 t (ix3 0 r l) = Ka m c b (2048 * j + r) l := by
  rw [Ka, rows_of_lt _ _ _ (by omega)]
  blk_ext [iblk, V, places t]

include ht in
theorem block_v (r : Fin 2048) (l : Fin 512) : iblk m c 2 t (ix3 0 r l) = Va m c b (2048 * j + r) l := by
  rw [Va, rows_of_lt _ _ _ (by omega)]
  blk_ext [iblk, V, places t]

include ht in
theorem block_g (r : Fin 2048) (l : Fin 256) : iblk m c 3 t (ix3 0 r l) = Ga m c b (2048 * j + r) l := by
  rw [Ga, rows_of_lt _ _ _ (by omega)]
  blk_ext [iblk, V, places t]

include ht in
theorem block_s (h : Fin 4) (d : Fin 64) (e : Fin 128) : iblk m c 4 t (ix4 0 h d e) = Sa m c b h d e := by
  show _ = m ((c : Thread nD τ).loc main_arg4) (ix4 b h d e)
  blk_ext [iblk, V, places t]

variable (hG : ∀ i : S8x4096x256.Idx, LT.lt (α := EReal) (m ((c : Thread nD τ).loc main_arg3) i) ⊤)

include ht hG in
theorem block_at (xs : Vec Ideal S4x64x128 .f32)
    (hs : ∀ (h : Fin 4) (d : Fin 64) (e : Fin 128), xs (ix3 h d e)
      = state (hk (Ka m c b) h) (hk (Ga m c b) h) (hv (Va m c b) h) (Sa m c b h) (32 * j) d e) :
    IsBlock (Qa m c b) (Ka m c b) (Ga m c b) (Va m c b) (Sa m c b) (iblk m c 0 t) (iblk m c 1 t) (iblk m c 2 t) (iblk m c 3 t) xs j where
  q := block_q m c b j t ht
  k := block_k m c b j t ht
  v := block_v m c b j t ht
  g := block_g m c b j t ht
  s := hs
  lt := fun t l => rows_lt _ hG b t l

end

section
variable (m : (ℓ : Loc nD τ sig) → Buf (Elt Ideal) ℓ) (c : Dev nD) (b : Fin 8)
  (hG : ∀ i : S8x4096x256.Idx, LT.lt (α := EReal) (m ((c : Thread nD τ).loc main_arg3) i) ⊤)

include hG in
/-- The first half of a batch entry: its rows of the output, and the states it leaves. -/
theorem first (t : Fin cfg0.N) (ht : t.val = 2 * b) :
    (∀ (n : Fin 32) (h : Fin 4) (cc : Fin 64) (e : Fin 128),
      (outsAt0 m c t.val t.isLt).1 (ix3 0 ⟨64 * n + cc, by omega⟩ (vl h e))
        = result (hk (Qa m c b) h) (hk (Ka m c b) h) (hk (Ga m c b) h) (hv (Va m c b) h) (Sa m c b h) n cc e)
    ∧ ∀ (h : Fin 4) (d : Fin 64) (e : Fin 128), (outsAt0 m c t.val t.isLt).2 (ix3 h d e)
        = state (hk (Ka m c b) h) (hk (Ga m c b) h) (hv (Va m c b) h) (Sa m c b h) 32 d e := by
  have H := block_at m c b 0 t (by simpa using ht) hG (k0_pay2 (iblk m c 4 t)) fun h d e => by
    rw [start_apply]
    exact block_s m c b 0 t (by simpa using ht) h d e
  rw [outsAt0_A m c t (by omega)]
  constructor
  · intro n h cc e
    dsimp only
    rw [outA]
    refine (H.out_block n h cc e).trans ?_
    rw [show 32 * ((0 : Fin 2) : ℕ) + n = n from Nat.zero_add _]
  · intro h d e
    dsimp only
    rw [stateA]
    exact H.state_block _ h d e

include hG in
/-- The second half. -/
theorem second (t : Fin cfg0.N) (ht : t.val = 2 * b + 1) (n : Fin 32) (h : Fin 4) (cc : Fin 64) (e : Fin 128) :
    (outsAt0 m c t.val t.isLt).1 (ix3 0 ⟨64 * n + cc, by omega⟩ (vl h e))
      = result (hk (Qa m c b) h) (hk (Ka m c b) h) (hk (Ga m c b) h) (hv (Va m c b) h) (Sa m c b h) (32 + n) cc e := by
  have ht' : t.val - 1 < cfg0.N := Nat.lt_of_le_of_lt (Nat.sub_le _ _) t.isLt
  have H := block_at m c b 1 t ht hG (outsAt0 m c (t.val - 1) ht').2 fun h d e =>
    (first m c b hG ⟨t.val - 1, ht'⟩ (by show t.val - 1 = _; omega)).2 h d e
  rw [outsAt0_B m c t (by omega)]
  dsimp only
  rw [outB]
  exact H.out_block n h cc e

include hG in
/-- THE OUTPUT ARRAY at an index. -/
theorem value (b : Fin 8) (n : Fin 64) (cc : Fin 64) (h : Fin 4) (e : Fin 128) :
    G5 m c (ix3 b ⟨64 * n + cc, by omega⟩ (vl h e))
      = result (hk (Qa m c b) h) (hk (Ka m c b) h) (hk (Ga m c b) h) (hv (Va m c b) h) (Sa m c b h) n cc e := by
  have hN : cfg0.N = 16 := N_0
  have hp : pt5Of (ix3 b ⟨64 * n + cc, by omega⟩ (vl h e)) = 2 * b + (64 * n + cc) / 2048 := by
    have : ((vl h e : Fin 512) : ℕ) < 512 := (vl h e).isLt
    show 2 * ((b : ℕ) / 1 - 0) + 1 * ((64 * n + cc) / 2048 - 0) + 1 * ((vl h e : ℕ) / 512 - 0) = _
    omega
  have hl : loc5Of (ix3 b ⟨64 * n + cc, by omega⟩ (vl h e)) = ix3 0 ⟨64 * (n % 32) + cc, by omega⟩ (vl h e) := by
    funext a
    apply Fin.ext
    match a with
    | ⟨0, _⟩ => show (b : ℕ) % 1 = 0; omega
    | ⟨1, _⟩ => show (64 * n + cc : ℕ) % 2048 = 64 * (n % 32) + cc; omega
    | ⟨2, _⟩ => exact Nat.mod_eq_of_lt (vl h e).isLt
  have hlt : pt5Of (ix3 b ⟨64 * n + cc, by omega⟩ (vl h e)) < cfg0.N := by rw [hp, hN]; omega
  unfold G5
  rw [dif_pos hlt, hl, ← outsAt0_sweep m c _ hlt]
  by_cases hn : (n : ℕ) < 32
  · have := (first m c b hG ⟨_, hlt⟩ (by dsimp only; rw [hp]; omega)).1 ⟨n, hn⟩ h cc e
    refine (congrArg (fun r => (outsAt0 m c _ hlt).1 (ix3 0 r (vl h e))) (Fin.ext ?_)).trans this
    show 64 * (n % 32 : ℕ) + cc = 64 * n + cc
    omega
  · have := second m c b hG ⟨_, hlt⟩ (by dsimp only; rw [hp]; omega) ⟨n - 32, by omega⟩ h cc e
    have e2 : 32 + (n - 32 : ℕ) = n := by omega
    refine (congrArg (fun r => (outsAt0 m c _ hlt).1 (ix3 0 r (vl h e))) (Fin.ext ?_)).trans
      (this.trans (by rw [show 32 + ((⟨n - 32, by omega⟩ : Fin 32) : ℕ) = n from e2]))
    show 64 * (n % 32 : ℕ) + cc = 64 * (n - 32) + cc
    omega
end

end Cert.KernelIdeal.Chunk
-- ==== Proof.Value.lean ====
/-
  The two programs' results: the reference's array at an index is the recurrence the kernel's array is, and the two
  agree where no gate is infinite.
-/
module

public import proofs.«01_k».proof.Proof.RefRead
public import proofs.«01_k».proof.Proof.KernelValue

@[expose] public section

set_option maxRecDepth 16384

noncomputable section

namespace Cert.ReferenceIdeal.Stages

open Cert.ReferenceIdeal Cert.ReferenceIdeal.Gen Cert.ReferenceIdeal.Value
open Idealize.ShloMosaic Idealize.ShloMosaic.TcCoe Idealize.ShloMosaic.StableHlo Cert.Gla

section
variable (q k : FVec Ideal S8x4096x256 .bf16) (v : FVec Ideal S8x4096x512 .bf16) (g : FVec Ideal S8x4096x256 .f32)

theorem cums_cum (b : Fin 8) (h : Fin 4) (n c d : Fin 64) : cums g (ix5 b h n c d) = cum (hk (rows g b) h) n c d :=
  cums_apply g b h n c d _ fun s => rows_of_lt g b _ (by omega) _

theorem queries_rows (b : Fin 8) (h : Fin 4) (n c d : Fin 64) :
    queries q g (ix5 b h n c d) = hk (rows q b) h (64 * n + c) d * Ideal.exp (cum (hk (rows g b) h) n c d) := by
  rw [queries_apply, cums_cum, hk, rows_of_lt]

theorem keysIn_rows (b : Fin 8) (h : Fin 4) (n c d : Fin 64) :
    keysIn k g (ix5 b h n c d) = hk (rows k b) h (64 * n + c) d * Ideal.exp (-cum (hk (rows g b) h) n c d) := by
  rw [keysIn_apply, cums_cum, hk, rows_of_lt]

theorem keysEnd_rows (b : Fin 8) (h : Fin 4) (n c d : Fin 64) :
    keysEnd k g (ix5 b h n c d)
      = hk (rows k b) h (64 * n + c) d * Ideal.exp (tot (hk (rows g b) h) n d - cum (hk (rows g b) h) n c d) := by
  rw [keysEnd_apply, cums_cum, cums_cum, hk, rows_of_lt]
  rfl

theorem values_rows (b : Fin 8) (h : Fin 4) (n c : Fin 64) (e : Fin 128) :
    values v (ix5 b h n c e) = hv (rows v b) h (64 * n + c) e := by
  rw [values_apply, hv, rows_of_lt]

theorem scores_score (b : Fin 8) (h : Fin 4) (n c s : Fin 64) :
    scores q k g (ix5 b h n c s) = score (hk (rows q b) h) (hk (rows k b) h) (hk (rows g b) h) n c s := by
  simp only [scores_apply, queries_rows, keysIn_rows, score]

theorem intra_rows (b : Fin 8) (h : Fin 4) (n c : Fin 64) (e : Fin 128) :
    intra q k v g (ix5 b h n c e)
      = ∑ s : Fin 64, score (hk (rows q b) h) (hk (rows k b) h) (hk (rows g b) h) n c s * hv (rows v b) h (64 * n + s) e := by
  simp only [intra_apply, scores_score, values_rows]

theorem gains_gain (b : Fin 8) (h : Fin 4) (n d : Fin 64) (e : Fin 128) :
    gains k v g (ix5 n b h d e) = gain (hk (rows k b) h) (hk (rows g b) h) (hv (rows v b) h) n d e := by
  simp only [gains_apply, keysEnd_rows, values_rows, gain]

theorem decays_tot (b : Fin 8) (h : Fin 4) (n d : Fin 64) : decays g (ix4 n b h d) = Ideal.exp (tot (hk (rows g b) h) n d) := by
  rw [decays_apply, cums_cum]
  rfl

end

/-! ## The loop -/

section
variable (m : (ℓ : Loc nD τ sig) → Buf (Elt Ideal) ℓ) (c : Dev nD)

/-- The state before chunk `n` of a head, from the arguments. -/
abbrev states (b : Fin 8) (h : Fin 4) : ℕ → Fin 64 → Fin 128 → EReal :=
  state (hk (rows (aK m c) b) h) (hk (rows (aG m c) b) h) (hv (rows (aV m c) b) h) (starts (aS m c) b h)

theorem counter (n : Fin 64) : atK m n c (Proc.devRef .tc main_v36_2) = fun _ => BitVec.ofNat 32 n := by
  rw [atK_ctr]
  funext i
  show 0#32 + BitVec.ofNat 32 n * 1#32 = _
  simp

theorem loop_state (n : ℕ) (hn : n ≤ 64) (b : Fin 8) (h : Fin 4) (d : Fin 64) (e : Fin 128) :
    (atK m n c (Proc.devRef .tc main_v36_3) : FVec Ideal S8x4x64x128 .f32) (ix4 b h d e) = states m c b h n d e := by
  induction n with
  | zero => exact congrFun (entry_state m c) _
  | succ n ih =>
    have hstep : atK m (n + 1) c (Proc.devRef .tc main_v36_3) = step_main_v36_3 (atK m n c) :=
      (trip_agree (atK m n c) main_v36_3 (by decide)).trans (STEP_main_v36_3 _)
    rw [hstep, step_state (atK m n c) ⟨n, by omega⟩ (counter m c ⟨n, by omega⟩) _ _ _ (loop_decays m c n) (loop_gains m c n) rfl,
      ih (by omega), decays_tot, gains_gain]
    rfl

theorem loop_stack (k : ℕ) (hk : k ≤ 64) (n : Fin 64) (hn : (n : ℕ) < k) (b : Fin 8) (h : Fin 4) (d : Fin 64) (e : Fin 128) :
    (atK m k c (Proc.devRef .tc main_v36_4) : FVec Ideal S64x8x4x64x128 .f32) (ix5 n b h d e) = states m c b h n d e := by
  induction k with
  | zero => omega
  | succ k ih =>
    have hstep : atK m (k + 1) c (Proc.devRef .tc main_v36_4) = step_main_v36_4 (atK m k c) :=
      (trip_agree (atK m k c) main_v36_4 (by decide)).trans (STEP_main_v36_4 _)
    rw [hstep, step_stack (atK m k c) ⟨k, by omega⟩ (counter m c ⟨k, by omega⟩) _ _ rfl rfl]
    by_cases hc : n = ⟨k, by omega⟩
    · rw [if_pos hc, loop_state m c k (by omega), hc]
    · rw [if_neg hc]
      exact ih (by omega) (by have : (n : ℕ) ≠ k := fun hh => hc (Fin.ext hh); omega)

/-- The reference's result at an index. -/
theorem value (b : Fin 8) (n cc : Fin 64) (h : Fin 4) (e : Fin 128) :
    (finalContents condOps preI bodyI postI 64 m c (Proc.devRef .tc main_v41) : FVec Ideal S8x4096x512 .f32) (ix3 b ⟨64 * n + cc, by omega⟩ (vl h e))
      = result (hk (rows (aQ m c) b) h) (hk (rows (aK m c) b) h) (hk (rows (aG m c) b) h) (hv (rows (aV m c) b) h) (starts (aS m c) b h) n cc e := by
  rw [final_result, assemble_apply, intra_rows]
  simp only [queries_rows, loop_stack m c 64 le_rfl _ (Fin.isLt _)]
  rfl

/-- What the operations after the loop write. -/
abbrev lastWrites : List (Ref sig .tc) := [main_v37, main_v38, main_v39, main_v40, main_v41]
theorem last_writes : (hostOps0_7 : List (HloOp τ sig (Elt Ideal))).Forall fun op => op.writes ⊆ (lastWrites.map (Proc.devRef (τ := τ) .tc)).toFinset :=
  StableHlo.forall_writes_sub_of_map rfl

/-- Every buffer that some operation writes. -/
abbrev written : List (Ref sig .tc) :=
  hostOps0_W ++ hostOps0_1_W ++ hostOps0_2_W ++ hostOps0_3_W ++ hostOps0_4_W ++ hostOps0_5_W ++ hostOps0_6_W ++ lastWrites
    ++ condOps_W ++ while0Ops0_W ++ while0Ops0_1_W ++ while0Ops0_2_W ++ while0Ops0_3_W ++ while0Ops0_4_W

/-- The others keep their contents. -/
theorem kept (r : Ref sig .tc) (h : r ∉ written) :
    finalContents condOps preI bodyI postI 64 m c (Proc.devRef .tc r) = m ((c : Thread nD τ).loc r) := by
  simp only [written, List.mem_append, not_or] at h
  obtain ⟨⟨⟨⟨⟨⟨⟨⟨⟨⟨⟨⟨⟨p0, p1⟩, p2⟩, p3⟩, p4⟩, p5⟩, p6⟩, p7⟩, hc⟩, w0⟩, w1⟩, w2⟩, w3⟩, w4⟩ := h
  refine (after_of_writes_sub hostOps0_7 _ last_writes p7).trans ((after_of_writes_sub condOps _ condOps_writes hc).trans
    ((atK_keep m c r hc w0 w1 w2 w3 w4 64).trans ?_))
  simp only [entryContents, afterL_cons, afterL_nil]
  rw [after_of_writes_sub hostOps0_6 _ hostOps0_6_writes p6, after_of_writes_sub hostOps0_5 _ hostOps0_5_writes p5,
    after_of_writes_sub hostOps0_4 _ hostOps0_4_writes p4, after_of_writes_sub hostOps0_3 _ hostOps0_3_writes p3,
    after_of_writes_sub hostOps0_2 _ hostOps0_2_writes p2, after_of_writes_sub hostOps0_1 _ hostOps0_1_writes p1,
    after_of_writes_sub hostOps0 _ hostOps0_writes p0]

end

end Cert.ReferenceIdeal.Stages

namespace Cert.Gla

open Idealize.ShloMosaic

/-- An index of the result is a chunk, a row of it, a head and a lane. -/
theorem index_split (i : (⟨3, ![8, 4096, 512]⟩ : Shape).Idx) :
    ∃ (b : Fin 8) (n cc : Fin 64) (h : Fin 4) (e : Fin 128), i = ix3 b ⟨64 * n + cc, by omega⟩ (vl h e) := by
  have h1 : (i 1).val < 4096 := (i 1).isLt
  have h2 : (i 2).val < 512 := (i 2).isLt
  refine ⟨i 0, ⟨(i 1).val / 64, by omega⟩, ⟨(i 1).val % 64, by omega⟩, ⟨(i 2).val / 128, by omega⟩, ⟨(i 2).val % 128, by omega⟩, ?_⟩
  funext a
  apply Fin.ext
  match a with
  | ⟨0, _⟩ => rfl
  | ⟨1, _⟩ => show (i 1).val = 64 * ((i 1).val / 64) + (i 1).val % 64; omega
  | ⟨2, _⟩ => show (i 2).val = 128 * ((i 2).val / 128) + (i 2).val % 128; omega

end Cert.Gla

namespace Cert.Proof

open Idealize.ShloMosaic Idealize.ShloMosaic.TcCoe Cert.Gla

/-- Memories that agree on the arguments, the gates below infinity, give one result. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hG : ∀ i : Cert.KernelIdeal.S8x4096x256.Idx,
      LT.lt (α := EReal) (m ((c : Thread Cert.KernelIdeal.nD Cert.KernelIdeal.τ).loc Cert.KernelIdeal.main_arg3) i) ⊤)
    (h0 : Cert.ReferenceIdeal.Stages.aQ m' c = m ((c : Thread Cert.KernelIdeal.nD Cert.KernelIdeal.τ).loc Cert.KernelIdeal.main_arg0))
    (h1 : Cert.ReferenceIdeal.Stages.aK m' c = m ((c : Thread Cert.KernelIdeal.nD Cert.KernelIdeal.τ).loc Cert.KernelIdeal.main_arg1))
    (h2 : Cert.ReferenceIdeal.Stages.aV m' c = m ((c : Thread Cert.KernelIdeal.nD Cert.KernelIdeal.τ).loc Cert.KernelIdeal.main_arg2))
    (h3 : Cert.ReferenceIdeal.Stages.aG m' c = m ((c : Thread Cert.KernelIdeal.nD Cert.KernelIdeal.τ).loc Cert.KernelIdeal.main_arg3))
    (h4 : Cert.ReferenceIdeal.Stages.aS m' c = m ((c : Thread Cert.KernelIdeal.nD Cert.KernelIdeal.τ).loc Cert.KernelIdeal.main_arg4)) :
    StableHlo.finalContents Cert.ReferenceIdeal.Value.condOps Cert.ReferenceIdeal.Value.preI Cert.ReferenceIdeal.Value.bodyI
      Cert.ReferenceIdeal.Value.postI 64 m' c (Proc.devRef .tc Cert.ReferenceIdeal.main_v41) = Cert.KernelIdeal.Value.G5 m c := by
  funext i
  obtain ⟨b, n, cc, h, e, rfl⟩ := index_split i
  refine (Cert.ReferenceIdeal.Stages.value m' c b n cc h e).trans ?_
  rw [h0, h1, h2, h3, h4]
  exact (Cert.KernelIdeal.Chunk.value m c hG b n cc h e).symm

end Cert.Proof
-- ==== Proof.MlpSpec.lean ====
/-
  The output projection and the feed-forward network of one row: what a row of the result is, from the row of the
  residual stream, the rows of the two mixers, the modulation of its batch entry and the weights.
-/
module

public import Idealize.ShloMosaic.Lib.Pointwise
public import Idealize.ShloMosaic.Lib.Pipeline.ValueKit.Acc

@[expose] public section

noncomputable section

namespace Cert.Mlp

open Idealize.ShloMosaic

/-- The constants of the row normalisation: the row length, what is added to the mean square, and one. -/
abbrev len : EReal := Ideal.ofBits .f32 0x44800000#32
abbrev eps : EReal := Ideal.ofBits .f32 0x358637BD#32
abbrev one : EReal := Ideal.ofBits .f32 0x3F800000#32

/-- A row over its root mean square. -/
def rms (v : Fin 1024 → EReal) (l : Fin 1024) : EReal := v l * Ideal.rsqrt (Ideal.div (∑ k, v k * v k) len + eps)

/-- The positive part, squared. -/
def sqRelu (a : EReal) : EReal := max a 0 * max a 0

/-- Part `p` of the modulation. -/
abbrev part (p : Fin 6) (l : Fin 1024) : Fin 6144 := ⟨1024 * p + l, by omega⟩

section
variable (x : Fin 1024 → EReal) (a b : Fin 512 → EReal) (md : Fin 6144 → EReal) (wo : Fin 1024 → Fin 1024 → EReal)
  (nm : Fin 1024 → EReal) (w1 : Fin 1024 → Fin 4096 → EReal) (w2 : Fin 4096 → Fin 1024 → EReal) (nf : Fin 1024 → EReal)

/-- The residual stream after the mixers: the two mixers' rows projected, gated and added. -/
def mixed (l : Fin 1024) : EReal :=
  x l + md (part 2 l) * (∑ k : Fin 512, a k * wo ⟨k, by omega⟩ l + ∑ k : Fin 512, b k * wo ⟨512 + k, by omega⟩ l)

/-- The network's input, from the row it normalises. -/
def modulated (v : Fin 1024 → EReal) (l : Fin 1024) : EReal := rms v l * nm l * (one + md (part 4 l)) + md (part 3 l)

/-- The network on a row. -/
def mlp (v : Fin 1024 → EReal) (l : Fin 1024) : EReal := ∑ j, sqRelu (∑ k, v k * w1 k j) * w2 j l

/-- The stream after the network, from the row before it. -/
def fed (v : Fin 1024 → EReal) (l : Fin 1024) : EReal := v l + md (part 5 l) * mlp w1 w2 (modulated md nm v) l

/-- A row of the result. -/
def row (l : Fin 1024) : EReal := rms (fed md nm w1 w2 (mixed x a b md wo)) l * nf l

end

/-- Lane `k` of stretch `s` of the hidden layer. -/
abbrev lane (s : Fin 4) (k : Fin 1024) : Fin 4096 := ⟨1024 * s + k, by omega⟩

/-- A sum over the hidden layer, in four stretches. -/
theorem sum_lanes (f : Fin 4096 → EReal) :
    ∑ k, f (lane 0 k) + ∑ k, f (lane 1 k) + ∑ k, f (lane 2 k) + ∑ k, f (lane 3 k) = ∑ j, f j := by
  have h := Fin.sum_univ_univ_mul_add 4 1024 fun n => if h : n < 4096 then f ⟨n, h⟩ else 0
  rw [Fin.sum_univ_four] at h
  refine Eq.trans ?_ (h.trans (Finset.sum_congr rfl fun j _ => dif_pos j.isLt))
  refine congrArg₂ (· + ·) (congrArg₂ (· + ·) (congrArg₂ (· + ·) ?_ ?_) ?_) ?_ <;>
    refine Finset.sum_congr rfl fun k _ => ?_ <;> rw [dif_pos (by simp; omega)] <;> congr 1

/-- A sum over the projection's axis, in two halves. -/
theorem sum_halves (f : Fin 1024 → EReal) :
    ∑ k : Fin 512, f ⟨k, by omega⟩ + ∑ k : Fin 512, f ⟨512 + k, by omega⟩ = ∑ k, f k := by
  have h := Fin.sum_univ_univ_mul_add 2 512 fun n => if h : n < 1024 then f ⟨n, h⟩ else 0
  rw [Fin.sum_univ_two] at h
  refine Eq.trans ?_ (h.trans (Finset.sum_congr rfl fun j _ => dif_pos j.isLt))
  refine congrArg₂ (· + ·) ?_ ?_ <;>
    refine Finset.sum_congr rfl fun k _ => ?_ <;> rw [dif_pos (by simp; omega)] <;> congr 1 <;> apply Fin.ext <;> simp

end Cert.Mlp
-- ==== Proof.MlpBlock.lean ====
/-
  The kernel's body at one grid point, read at an index of its output block.
-/
module

public import proofs.«01_k».proof.Proof.MlpSpec
public import proofs.«01_k».proof.Proof.Gen.Kernel2Ideal.Value
public import Idealize.ShloMosaic.Lib.Pointwise

@[expose] public section

set_option maxRecDepth 16384

noncomputable section

namespace Cert.Kernel2Ideal.Block

open Cert.Kernel2Ideal Cert.Kernel2Ideal.Gen Cert.Mlp
open Idealize.ShloMosaic Idealize.ShloMosaic.TcCoe

theorem pay5_apply (g : Vec Ideal S1x1x1024 .f32) (a : Vec Ideal S1x512x512 .bf16) (wa : Vec Ideal S512x1024 .bf16)
    (b : Vec Ideal S1x512x512 .bf16) (wb : Vec Ideal S512x1024 .bf16) (x : Vec Ideal S1x512x1024 .f32) (r : Fin 512) (l : Fin 1024) :
    k0_pay5 g a wa b wb x (ix2 r l)
      = (x (ix3 0 r l) : EReal) + g (ix3 0 0 l) * (∑ k : Fin 512, (a (ix3 0 r k) : EReal) * wa (ix2 k l) + ∑ k : Fin 512, (b (ix3 0 r k) : EReal) * wb (ix2 k l)) := by
  pointwise [k0_pay5]

theorem pay6_apply (g : Vec Ideal S1x1x1024 .f32) (a : Vec Ideal S1x512x512 .bf16) (wa : Vec Ideal S512x1024 .bf16)
    (b : Vec Ideal S1x512x512 .bf16) (wb : Vec Ideal S512x1024 .bf16) (x : Vec Ideal S1x512x1024 .f32) (r : Fin 512) :
    k0_pay6 g a wa b wb x (ix2 r 0)
      = Ideal.div (∑ k : Fin 1024, (k0_pay5 g a wa b wb x (ix2 r k) : EReal) * k0_pay5 g a wa b wb x (ix2 r k)) len := by
  unfold k0_pay6
  generalize k0_pay5 g a wa b wb x = v
  pointwise

theorem pay7_apply (s c : FVec Ideal S1x1024 .f32) (v : FVec Ideal S512x1024 .f32) (q : FVec Ideal S512x1 .f32) (n : Vec Ideal S1x1024 .f32)
    (r : Fin 512) (l : Fin 1024) :
    k0_pay7 s c v q n (ix2 r l)
      = (v (ix2 r l) : EReal) * Ideal.rsqrt (q (ix2 r 0) + eps) * n (ix2 0 l) * (one + c (ix2 0 l)) + s (ix2 0 l) := by
  pointwise [k0_pay7]

theorem pay8_apply (s c : FVec Ideal S1x1024 .f32) (v : FVec Ideal S512x1024 .f32) (q : FVec Ideal S512x1 .f32) (n : Vec Ideal S1x1024 .f32)
    (u0 d0 u1 d1 : Vec Ideal S1024x1024 .bf16) (r : Fin 512) (l : Fin 1024) :
    k0_pay8 s c v q n u0 d0 u1 d1 (ix2 r l)
      = ∑ j : Fin 1024, sqRelu (∑ k : Fin 1024, (k0_pay7 s c v q n (ix2 r k) : EReal) * u0 (ix2 k j)) * d0 (ix2 j l)
        + ∑ j : Fin 1024, sqRelu (∑ k : Fin 1024, (k0_pay7 s c v q n (ix2 r k) : EReal) * u1 (ix2 k j)) * d1 (ix2 j l) := by
  unfold k0_pay8
  generalize k0_pay7 s c v q n = h
  pointwise [sqRelu]

theorem pay9_apply (g : FVec Ideal S1x1024 .f32) (v : FVec Ideal S512x1024 .f32) (h : FVec Ideal S512x1024 .bf16) (p : FVec Ideal S512x1024 .f32)
    (u2 d2 u3 d3 : Vec Ideal S1024x1024 .bf16) (n : Vec Ideal S1x1024 .f32) (r : Fin 512) (l : Fin 1024) :
    k0_pay9 g v h p u2 d2 u3 d3 n (ix2 r l)
      = rms (fun l : Fin 1024 => (v (ix2 r l) : EReal) + g (ix2 0 l) * (p (ix2 r l)
          + ∑ j : Fin 1024, sqRelu (∑ k : Fin 1024, (h (ix2 r k) : EReal) * u2 (ix2 k j)) * d2 (ix2 j l)
          + ∑ j : Fin 1024, sqRelu (∑ k : Fin 1024, (h (ix2 r k) : EReal) * u3 (ix2 k j)) * d3 (ix2 j l))) l * n (ix2 0 l) := by
  pointwise [k0_pay9, sqRelu, rms]

section
variable (x0 : Vec Ideal S1x512x1024 .f32) (x1 x2 : Vec Ideal S1x512x512 .bf16) (x3 : Vec Ideal S1x1x6144 .f32)
  (x4 : Vec Ideal S1024x1024 .bf16) (x5 : Vec Ideal S1x1024 .f32) (x6 : Vec Ideal S1024x4096 .bf16)
  (x7 : Vec Ideal S4096x1024 .bf16) (x8 : Vec Ideal S1x1024 .f32)

/-- The gates, shift and scale the body reads are parts of its modulation row. -/
theorem part2 (l : Fin 1024) : View.ld x3 r0_0 (ix3 0 0 l) = x3 (ix3 0 0 (part 2 l)) := by
  pointwise
  rfl
theorem part3 (l : Fin 1024) : View.ld x3 r0_1 (ix3 0 0 l) = x3 (ix3 0 0 (part 3 l)) := by
  pointwise
  rfl
theorem part4 (l : Fin 1024) : View.ld x3 r0_2 (ix3 0 0 l) = x3 (ix3 0 0 (part 4 l)) := by
  pointwise
  rfl
theorem part5 (l : Fin 1024) : View.ld x3 r0_3 (ix3 0 0 l) = x3 (ix3 0 0 (part 5 l)) := by
  pointwise
  rfl

theorem cast2 (g : Vec Ideal S1x1x1024 .f32) (l : Fin 1024) : k0_pay2 g (ix2 0 l) = g (ix3 0 0 l) := by
  pointwise [k0_pay2]
theorem cast3 (g : Vec Ideal S1x1x1024 .f32) (l : Fin 1024) : k0_pay3 g (ix2 0 l) = g (ix3 0 0 l) := by
  pointwise [k0_pay3]
theorem cast4 (g : Vec Ideal S1x1x1024 .f32) (l : Fin 1024) : k0_pay4 g (ix2 0 l) = g (ix3 0 0 l) := by
  pointwise [k0_pay4]

/-- The stretches of the hidden layer, as the two weights hold them. -/
theorem up0 (k j : Fin 1024) : View.ld x6 r0_9 (ix2 k j) = x6 (ix2 k (lane 0 j)) := by
  pointwise
  exact congrArg (fun i => x6 (ix2 k i)) (Fin.ext (by show (j : ℕ) = 1024 * 0 + j; omega))
theorem up1 (k j : Fin 1024) : View.ld x6 r0_11 (ix2 k j) = x6 (ix2 k (lane 1 j)) := by
  pointwise
  rfl
theorem up2 (k j : Fin 1024) : View.ld x6 r0_13 (ix2 k j) = x6 (ix2 k (lane 2 j)) := by
  pointwise
  rfl
theorem up3 (k j : Fin 1024) : View.ld x6 r0_15 (ix2 k j) = x6 (ix2 k (lane 3 j)) := by
  pointwise
  rfl
theorem down0 (j l : Fin 1024) : View.ld x7 r0_10 (ix2 j l) = x7 (ix2 (lane 0 j) l) := by
  pointwise
  exact congrArg (fun i => x7 (ix2 i l)) (Fin.ext (by show (j : ℕ) = 1024 * 0 + j; omega))
theorem down1 (j l : Fin 1024) : View.ld x7 r0_12 (ix2 j l) = x7 (ix2 (lane 1 j) l) := by
  pointwise
  rfl
theorem down2 (j l : Fin 1024) : View.ld x7 r0_14 (ix2 j l) = x7 (ix2 (lane 2 j) l) := by
  pointwise
  rfl
theorem down3 (j l : Fin 1024) : View.ld x7 r0_16 (ix2 j l) = x7 (ix2 (lane 3 j) l) := by
  pointwise
  rfl

/-- The halves of the projection. -/
theorem half0 (k : Fin 512) (l : Fin 1024) : View.ld x4 r0_5 (ix2 k l) = x4 (ix2 ⟨k, by omega⟩ l) := by
  pointwise
theorem half1 (k : Fin 512) (l : Fin 1024) : View.ld x4 r0_6 (ix2 k l) = x4 (ix2 ⟨512 + k, by omega⟩ l) := by
  pointwise

/-- Rows of the blocks read whole. -/
theorem whole_x (r : Fin 512) (l : Fin 1024) : View.ld x0 r0_7 (ix3 0 r l) = x0 (ix3 0 r l) := by
  pointwise
theorem whole_y (r l : Fin 512) : View.ld x1 r0_4 (ix3 0 r l) = x1 (ix3 0 r l) := by
  pointwise
theorem whole_n (l : Fin 1024) : View.ld x5 r0_8 (ix2 0 l) = x5 (ix2 0 l) := by
  pointwise

/-! ## The body -/

/-- The stream after the mixers, in row `r` of the block. -/
abbrev mixedRow (r : Fin 512) : Fin 1024 → EReal :=
  mixed (fun l => x0 (ix3 0 r l)) (fun k => x1 (ix3 0 r k)) (fun k => x2 (ix3 0 r k)) (fun p => x3 (ix3 0 0 p)) (fun k l => x4 (ix2 k l))

theorem stream (r : Fin 512) (l : Fin 1024) : k0_pay12 x0 x1 x2 x3 x4 x5 x6 x7 x8 (ix2 r l) = mixedRow x0 x1 x2 x3 x4 r l := by
  unfold k0_pay12
  rw [pay5_apply]
  refine congrArg₂ (· + ·) (whole_x x0 r l) (congrArg₂ (· * ·) (part2 x3 l) (congrArg₂ (· + ·) ?_ ?_)) <;>
    refine Finset.sum_congr rfl fun k _ => ?_
  · exact congrArg₂ (· * ·) (whole_y x1 r k) (half0 x4 k l)
  · exact congrArg₂ (· * ·) (whole_y x2 r k) (half1 x4 k l)

theorem square (r : Fin 512) : k0_pay13 x0 x1 x2 x3 x4 x5 x6 x7 x8 (ix2 r 0)
    = Ideal.div (∑ k, mixedRow x0 x1 x2 x3 x4 r k * mixedRow x0 x1 x2 x3 x4 r k) len := by
  unfold k0_pay13
  rw [pay6_apply]
  have h := stream x0 x1 x2 x3 x4 x5 x6 x7 x8 r
  unfold k0_pay12 at h
  simp only [h]

/-- The network's input, in row `r`. -/
theorem input (r : Fin 512) (l : Fin 1024) :
    k0_pay7 (k0_pay10 x0 x1 x2 x3 x4 x5 x6 x7 x8) (k0_pay11 x0 x1 x2 x3 x4 x5 x6 x7 x8) (k0_pay12 x0 x1 x2 x3 x4 x5 x6 x7 x8)
        (k0_pay13 x0 x1 x2 x3 x4 x5 x6 x7 x8) (View.ld x5 r0_8) (ix2 r l)
      = modulated (fun p => x3 (ix3 0 0 p)) (fun l => x5 (ix2 0 l)) (mixedRow x0 x1 x2 x3 x4 r) l := by
  rw [pay7_apply, stream, square]
  unfold k0_pay10 k0_pay11
  rw [cast2, cast3, part3, part4, whole_n]
  rfl

theorem stretch (h h' : Fin 1024 → EReal) (s : Fin 4) (u d : Vec Ideal S1024x1024 .bf16) (l : Fin 1024) (hh : ∀ k, h k = h' k)
    (hu : ∀ k j, (u (ix2 k j) : EReal) = x6 (ix2 k (lane s j))) (hd : ∀ j l, (d (ix2 j l) : EReal) = x7 (ix2 (lane s j) l)) :
    ∑ j : Fin 1024, sqRelu (∑ k : Fin 1024, h k * u (ix2 k j)) * d (ix2 j l)
      = ∑ j : Fin 1024, sqRelu (∑ k : Fin 1024, h' k * x6 (ix2 k (lane s j))) * x7 (ix2 (lane s j) l) := by
  simp only [hh, hu, hd]

/-- WHAT THE BODY LEAVES in row `r` of its output block. -/
theorem out_apply (r : Fin 512) (l : Fin 1024) :
    out0_9 x0 x1 x2 x3 x4 x5 x6 x7 x8 (ix3 0 r l)
      = row (fun l => x0 (ix3 0 r l)) (fun k => x1 (ix3 0 r k)) (fun k => x2 (ix3 0 r k)) (fun p => x3 (ix3 0 0 p)) (fun k l => x4 (ix2 k l))
          (fun l => x5 (ix2 0 l)) (fun k j => x6 (ix2 k j)) (fun j l => x7 (ix2 j l)) (fun l => x8 (ix2 0 l)) l := by
  unfold out0_9
  rw [View.canon_cons_unit_lit _ _ _ (by decide)]
  have hp : ∀ v : FVec Ideal S512x1024 .f32, k0_pay1 v (ix3 0 r l) = v (ix2 r l) := fun v => by pointwise [k0_pay1]
  rw [hp, pay9_apply, whole_n]
  unfold row
  refine congrArg (fun f => rms f l * _) (funext fun l => ?_)
  rw [pay8_apply, cast4, part5, stream]
  unfold fed mlp
  rw [← sum_lanes]
  have hh := input x0 x1 x2 x3 x4 x5 x6 x7 x8 r
  exact congrArg (_ + _ * ·) (congrArg₂ (· + ·) (congrArg₂ (· + ·) (congrArg₂ (· + ·)
    (stretch x6 x7 _ _ 0 _ _ l hh (up0 x6) (down0 x7)) (stretch x6 x7 _ _ 1 _ _ l hh (up1 x6) (down1 x7)))
    (stretch x6 x7 _ _ 2 _ _ l hh (up2 x6) (down2 x7))) (stretch x6 x7 _ _ 3 _ _ l hh (up3 x6) (down3 x7)))

end

end Cert.Kernel2Ideal.Block
-- ==== Proof.MlpKernel.lean ====
/-
  The kernel's output array at an index: the row function at its row of the arguments.
-/
module

public import proofs.«01_k».proof.Proof.MlpBlock
public import Idealize.ShloMosaic.Lib.Pipeline.ValueKit.Geometry
public import Idealize.ShloMosaic.Lib.StableHlo.RunRead

@[expose] public section

set_option maxRecDepth 16384

noncomputable section

namespace Cert.Kernel2Ideal.Block

open Cert.Kernel2Ideal Cert.Kernel2Ideal.Gen Cert.Kernel2Ideal.Value Cert.Mlp
open Idealize.ShloMosaic Idealize.ShloMosaic.TcCoe Idealize.ShloMosaic.StableHlo

/-- Where the blocks of a point lie: batch entry and a 512-row stretch; the weights whole. -/
theorem places : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, 0, 0] ∧ win0_4.index t = ![0, 0]
    ∧ win0_5.index t = ![0, 0] ∧ win0_6.index t = ![0, 0] ∧ win0_7.index t = ![0, 0] ∧ win0_8.index t = ![0, 0]
    ∧ win0_9.index t = ![t.val / 8, t.val % 8, 0] ∧ win0_9.flush t = true :=
  (by decide +kernel : ∀ t : Fin grid0.N, _)

section
variable (m : (ℓ : Loc nD τ sig) → Buf (Elt Ideal) ℓ) (c : Dev nD)

/-- What the windows stage: the arguments, laid out anew. -/
theorem staged_mod (b : Fin 8) (p : Fin 6144) :
    (V m c main_v0 : FVec Ideal S8x1x6144 .f32) (ix3 b 0 p) = m ((c : Thread nD τ).loc main_arg3) (ix2 b p) := by
  have h : V m c main_v0 = broadcastInDim S8x1x6144 ![0, 2] bcast_S8x6144_S8x1x6144_0_2 (m ((c : Thread nD τ).loc main_arg3)) := by
    unfold V hostOps0
    after_reads_simp
  rw [h]
  pointwise

theorem staged_wo : V m c main_v1 = m ((c : Thread nD τ).loc main_arg4) := by
  unfold V hostOps0
  after_reads_simp
  rfl

theorem staged_nm (l : Fin 1024) :
    (V m c main_v2 : FVec Ideal S1x1024 .f32) (ix2 0 l) = m ((c : Thread nD τ).loc main_arg5) (ix1 l) := by
  have h : V m c main_v2 = broadcastInDim S1x1024 ![1] bcast_S1024_S1x1024_1 (m ((c : Thread nD τ).loc main_arg5)) := by
    unfold V hostOps0
    after_reads_simp
  rw [h]
  pointwise

theorem staged_w1 : V m c main_v3 = m ((c : Thread nD τ).loc main_arg6) := by
  unfold V hostOps0
  after_reads_simp
  rfl

theorem staged_w2 : V m c main_v4 = m ((c : Thread nD τ).loc main_arg7) := by
  unfold V hostOps0
  after_reads_simp
  rfl

theorem staged_nf (l : Fin 1024) :
    (V m c main_v5 : FVec Ideal S1x1024 .f32) (ix2 0 l) = m ((c : Thread nD τ).loc main_arg8) (ix1 l) := by
  have h : V m c main_v5 = broadcastInDim S1x1024 ![1] bcast_S1024_S1x1024_1 (m ((c : Thread nD τ).loc main_arg8)) := by
    unfold V hostOps0
    after_reads_simp
  rw [h]
  pointwise

variable (b : Fin 8) (j : Fin 8) (t : Fin cfg0.N) (ht : t.val = 8 * b + j) (r : Fin 512)

include ht in
theorem block_x (l : Fin 1024) :
    iblk m c 0 t (ix3 0 r l) = m ((c : Thread nD τ).loc main_arg0) (ix3 b ⟨512 * j + r, by omega⟩ l) := by
  rw [← V_main_arg0 m c]
  blk_ext [iblk, places t]

include ht in
theorem block_a (k : Fin 512) :
    iblk m c 1 t (ix3 0 r k) = m ((c : Thread nD τ).loc main_arg1) (ix3 b ⟨512 * j + r, by omega⟩ k) := by
  rw [← V_main_arg1 m c]
  blk_ext [iblk, places t]

include ht in
theorem block_b (k : Fin 512) :
    iblk m c 2 t (ix3 0 r k) = m ((c : Thread nD τ).loc main_arg2) (ix3 b ⟨512 * j + r, by omega⟩ k) := by
  rw [← V_main_arg2 m c]
  blk_ext [iblk, places t]

include ht in
theorem block_mod (p : Fin 6144) : iblk m c 3 t (ix3 0 0 p) = m ((c : Thread nD τ).loc main_arg3) (ix2 b p) := by
  rw [← staged_mod m c]
  blk_ext [iblk, places t]

theorem block_wo (k l : Fin 1024) : iblk m c 4 t (ix2 k l) = m ((c : Thread nD τ).loc main_arg4) (ix2 k l) := by
  rw [← staged_wo m c]
  blk_ext [iblk, places t]

theorem block_nm (l : Fin 1024) : iblk m c 5 t (ix2 0 l) = m ((c : Thread nD τ).loc main_arg5) (ix1 l) := by
  rw [← staged_nm m c]
  blk_ext [iblk, places t]

theorem block_w1 (k : Fin 1024) (i : Fin 4096) : iblk m c 6 t (ix2 k i) = m ((c : Thread nD τ).loc main_arg6) (ix2 k i) := by
  rw [← staged_w1 m c]
  blk_ext [iblk, places t]

theorem block_w2 (i : Fin 4096) (l : Fin 1024) : iblk m c 7 t (ix2 i l) = m ((c : Thread nD τ).loc main_arg7) (ix2 i l) := by
  rw [← staged_w2 m c]
  blk_ext [iblk, places t]

theorem block_nf (l : Fin 1024) : iblk m c 8 t (ix2 0 l) = m ((c : Thread nD τ).loc main_arg8) (ix1 l) := by
  rw [← staged_nf m c]
  blk_ext [iblk, places t]

end

section
variable (m : (ℓ : Loc nD τ sig) → Buf (Elt Ideal) ℓ) (c : Dev nD)

/-- THE OUTPUT ARRAY at an index. -/
theorem value (b j : Fin 8) (r : Fin 512) (l : Fin 1024) :
    ((dats m 0 c).arrAt 9 cfg0.N : FVec Ideal S8x4096x1024 .f32) (ix3 b ⟨512 * j + r, by omega⟩ l)
      = row (fun l => m ((c : Thread nD τ).loc main_arg0) (ix3 b ⟨512 * j + r, by omega⟩ l))
          (fun k => m ((c : Thread nD τ).loc main_arg1) (ix3 b ⟨512 * j + r, by omega⟩ k))
          (fun k => m ((c : Thread nD τ).loc main_arg2) (ix3 b ⟨512 * j + r, by omega⟩ k))
          (fun p => m ((c : Thread nD τ).loc main_arg3) (ix2 b p)) (fun k l => m ((c : Thread nD τ).loc main_arg4) (ix2 k l))
          (fun l => m ((c : Thread nD τ).loc main_arg5) (ix1 l)) (fun k i => m ((c : Thread nD τ).loc main_arg6) (ix2 k i))
          (fun i l => m ((c : Thread nD τ).loc main_arg7) (ix2 i l)) (fun l => m ((c : Thread nD τ).loc main_arg8) (ix1 l)) l := by
  have hN : cfg0.N = 64 := N_0
  obtain ⟨t, ht⟩ : ∃ t : Fin cfg0.N, t.val = 8 * b + j := ⟨⟨8 * b + j, by omega⟩, rfl⟩
  have h := congrFun ((blocks9 m c t (places t).2.2.2.2.2.2.2.2.2.2).trans (flushed9 m c t)) (ix3 0 r l)
  have e : ((cfg0.win 9).blk t).view.emb (ix3 0 r l) = (ix3 b ⟨512 * j + r, by omega⟩ l : S8x4096x1024.Idx) := by
    have hp := (places t).2.2.2.2.2.2.2.2.2.1
    have h0 : win0_9.index t 0 = t.val / 8 := congrFun hp 0
    have h1 : win0_9.index t 1 = t.val % 8 := congrFun hp 1
    have h2 : win0_9.index t 2 = 0 := congrFun hp 2
    funext a
    apply Fin.ext
    match a with
    | ⟨0, _⟩ => show win0_9.index t 0 * 1 + 1 * 0 = (b : ℕ); rw [h0]; omega
    | ⟨1, _⟩ => show win0_9.index t 1 * 512 + 1 * (r : ℕ) = 512 * j + r; rw [h1]; omega
    | ⟨2, _⟩ => show win0_9.index t 2 * 1024 + 1 * (l : ℕ) = l; rw [h2]; omega
  have h' : ((dats m 0 c).arrAt 9 cfg0.N : FVec Ideal S8x4096x1024 .f32) (((cfg0.win 9).blk t).view.emb (ix3 0 r l))
      = out0_9 (iblk m c 0 t) (iblk m c 1 t) (iblk m c 2 t) (iblk m c 3 t) (iblk m c 4 t) (iblk m c 5 t) (iblk m c 6 t) (iblk m c 7 t) (iblk m c 8 t) (ix3 0 r l) := h
  rw [e] at h'
  refine h'.trans ((out_apply _ _ _ _ _ _ _ _ _ r l).trans ?_)
  simp only [block_x m c b j t ht, block_a m c b j t ht, block_b m c b j t ht, block_mod m c b j t ht, block_wo, block_nm, block_w1, block_w2, block_nf]

end

end Cert.Kernel2Ideal.Block
-- ==== Proof.MlpRef.lean ====
/-
  The reference of the output call read at an index: the same row function.
-/
module

public import proofs.«01_k».proof.Proof.MlpSpec
public import proofs.«01_k».proof.Proof.Gen.Reference2Ideal.Run
public import Idealize.ShloMosaic.Lib.Pointwise

@[expose] public section

set_option maxRecDepth 16384

noncomputable section

namespace Cert.Reference2Ideal.Read

open Cert.Reference2Ideal Cert.Reference2Ideal.Gen Cert.Reference2Ideal.Value Cert.Mlp
open Idealize.ShloMosaic Idealize.ShloMosaic.TcCoe

section
variable (x : FVec Ideal S8x4096x1024 .f32) (a b : FVec Ideal S8x4096x512 .bf16) (md : FVec Ideal S8x6144 .f32)
  (wo : FVec Ideal S1024x1024 .f32) (nm : FVec Ideal S1024 .f32) (w1 : FVec Ideal S1024x4096 .f32)
  (w2 : FVec Ideal S4096x1024 .f32) (nf : FVec Ideal S1024 .f32)

/-- Part `p` of the modulation, over the rows. -/
def spread (p : FVec Ideal S8x1x1024 .f32) : FVec Ideal S8x4096x1024 .f32 :=
  broadcastInDim S8x4096x1024 ![0, 1, 2] bcast_S8x1x1024_S8x4096x1024_0_1_2 p

def gateMix : FVec Ideal S8x1x1024 .f32 :=
  extractStridedSlice S8x1x1024 ![0, 0, 2048] (broadcastInDim S8x1x6144 ![0, 2] bcast_S8x6144_S8x1x6144_0_2 md) slices_S8x1x6144_S8x1x1024_0_0_2048
def shift : FVec Ideal S8x1x1024 .f32 :=
  extractStridedSlice S8x1x1024 ![0, 0, 3072] (broadcastInDim S8x1x6144 ![0, 2] bcast_S8x6144_S8x1x6144_0_2 md) slices_S8x1x6144_S8x1x1024_0_0_3072
def scale : FVec Ideal S8x1x1024 .f32 :=
  extractStridedSlice S8x1x1024 ![0, 0, 4096] (broadcastInDim S8x1x6144 ![0, 2] bcast_S8x6144_S8x1x6144_0_2 md) slices_S8x1x6144_S8x1x1024_0_0_4096
def gateMlp : FVec Ideal S8x1x1024 .f32 :=
  extractStridedSlice S8x1x1024 ![0, 0, 5120] (broadcastInDim S8x1x6144 ![0, 2] bcast_S8x6144_S8x1x6144_0_2 md) slices_S8x1x6144_S8x1x1024_0_0_5120

def stream : FVec Ideal S8x4096x1024 .f32 :=
  addf x (mulf (spread (gateMix md)) (Host.dotGeneral dot_S8x4096x1024_S1024x1024_S8x4096x1024_2_0_01_1_n_n none
    (concatenate S8x4096x1024 2 [⟨S8x4096x512, (extf .f32 a bitsLt_bf16_f32)⟩, ⟨S8x4096x512, (extf .f32 b bitsLt_bf16_f32)⟩] concatenates_S8x4096x512_S8x4096x512_S8x4096x1024_d2) wo))

/-- Rows over their root mean square, times a weight. -/
def normed (v : FVec Ideal S8x4096x1024 .f32) (w : FVec Ideal S1024 .f32) : FVec Ideal S8x4096x1024 .f32 :=
  mulf (mulf v (broadcastInDim S8x4096x1024 ![0, 1, 2] bcast_S8x4096x1_S8x4096x1024_0_1_2 (Host.rsqrt (addf (Host.divf
      (broadcastInDim S8x4096x1 ![0, 1] bcast_S8x4096_S8x4096x1_0_1 (Host.reduceAdd (mulf v v) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 w))

def input (v : FVec Ideal S8x4096x1024 .f32) : FVec Ideal S8x4096x1024 .f32 :=
  addf (mulf (normed v nm) (spread (addf (broadcastInDim S8x1x1024 ![] bcast_S_S8x1x1024 (constant S_ .f32 0x3F800000#32)) (scale md)))) (spread (shift md))

def relu (v : FVec Ideal S8x4096x4096 .f32) : FVec Ideal S8x4096x4096 .f32 :=
  maximumf v (broadcastInDim S8x4096x4096 ![] bcast_S_S8x4096x4096 (constant S_ .f32 0x00000000#32))

def hidden (v : FVec Ideal S8x4096x1024 .f32) : FVec Ideal S8x4096x4096 .f32 :=
  relu (Host.dotGeneral dot_S8x4096x1024_S1024x4096_S8x4096x4096_2_0_01_1_n_n none v w1)

def after (v : FVec Ideal S8x4096x1024 .f32) : FVec Ideal S8x4096x1024 .f32 :=
  addf v (mulf (spread (gateMlp md)) (Host.dotGeneral dot_S8x4096x4096_S4096x1024_S8x4096x1024_2_0_01_1_n_n none
    (mulf (hidden w1 (input md nm v)) (hidden w1 (input md nm v))) w2))

def result : FVec Ideal S8x4096x1024 .f32 := normed (after md nm w1 w2 (stream x a b md wo)) nf

theorem spread_apply (p : FVec Ideal S8x1x1024 .f32) (i : Fin 8) (t : Fin 4096) (l : Fin 1024) :
    spread p (ix3 i t l) = p (ix3 i 0 l) := by
  pointwise [spread]

theorem gateMix_apply (i : Fin 8) (l : Fin 1024) : gateMix md (ix3 i 0 l) = md (ix2 i (part 2 l)) := by
  pointwise [gateMix]
  rfl
theorem shift_apply (i : Fin 8) (l : Fin 1024) : shift md (ix3 i 0 l) = md (ix2 i (part 3 l)) := by
  pointwise [shift]
  rfl
theorem scale_apply (i : Fin 8) (l : Fin 1024) : scale md (ix3 i 0 l) = md (ix2 i (part 4 l)) := by
  pointwise [scale]
  rfl
theorem gateMlp_apply (i : Fin 8) (l : Fin 1024) : gateMlp md (ix3 i 0 l) = md (ix2 i (part 5 l)) := by
  pointwise [gateMlp]
  rfl

theorem stream_apply (i : Fin 8) (t : Fin 4096) (l : Fin 1024) :
    stream x a b md wo (ix3 i t l)
      = mixed (fun l => x (ix3 i t l)) (fun k => a (ix3 i t k)) (fun k => b (ix3 i t k)) (fun p => md (ix2 i p)) (fun k l => wo (ix2 k l)) l := by
  unfold stream mixed
  beta_reduce
  rw [← gateMix_apply md, ← spread_apply (gateMix md) i t]
  generalize spread (gateMix md) = g
  pointwise

theorem normed_apply (v : FVec Ideal S8x4096x1024 .f32) (w : FVec Ideal S1024 .f32) (i : Fin 8) (t : Fin 4096) (l : Fin 1024) :
    normed v w (ix3 i t l) = rms (fun l => v (ix3 i t l)) l * w (ix1 l) := by
  pointwise [normed, rms]

theorem input_apply (v : FVec Ideal S8x4096x1024 .f32) (i : Fin 8) (t : Fin 4096) (l : Fin 1024) :
    input md nm v (ix3 i t l) = modulated (fun p => md (ix2 i p)) (fun l => nm (ix1 l)) (fun l => v (ix3 i t l)) l := by
  unfold modulated
  beta_reduce
  rw [← scale_apply md, ← shift_apply md, ← normed_apply v nm, ← spread_apply (shift md) i t]
  unfold input
  generalize normed v nm = n
  generalize spread (shift md) = s
  generalize scale md = c
  pointwise [spread]

theorem hidden_apply (v : FVec Ideal S8x4096x1024 .f32) (i : Fin 8) (t : Fin 4096) (j : Fin 4096) :
    hidden w1 v (ix3 i t j) = max (∑ k : Fin 1024, (v (ix3 i t k) : EReal) * w1 (ix2 k j)) 0 := by
  pointwise [hidden, relu]

theorem after_apply (v : FVec Ideal S8x4096x1024 .f32) (i : Fin 8) (t : Fin 4096) (l : Fin 1024) :
    after md nm w1 w2 v (ix3 i t l)
      = fed (fun p => md (ix2 i p)) (fun l => nm (ix1 l)) (fun k j => w1 (ix2 k j)) (fun j l => w2 (ix2 j l)) (fun l => v (ix3 i t l)) l := by
  unfold after fed mlp sqRelu
  simp only [← input_apply, ← hidden_apply]
  beta_reduce
  rw [← gateMlp_apply md, ← spread_apply (gateMlp md) i t]
  generalize spread (gateMlp md) = g
  generalize hidden w1 (input md nm v) = h
  pointwise

/-- THE REFERENCE'S RESULT at an index. -/
theorem result_apply (i : Fin 8) (t : Fin 4096) (l : Fin 1024) :
    result x a b md wo nm w1 w2 nf (ix3 i t l)
      = row (fun l => x (ix3 i t l)) (fun k => a (ix3 i t k)) (fun k => b (ix3 i t k)) (fun p => md (ix2 i p)) (fun k l => wo (ix2 k l))
          (fun l => nm (ix1 l)) (fun k j => w1 (ix2 k j)) (fun j l => w2 (ix2 j l)) (fun l => nf (ix1 l)) l := by
  unfold result row
  rw [normed_apply]
  simp only [after_apply, stream_apply]

end

/-- The run's term is that result of the arguments. -/
theorem res_eq (m : (ℓ : Loc nD τ sig) → Buf (Elt Ideal) ℓ) (c : Dev nD) :
    res_out0 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

end Cert.Reference2Ideal.Read
-- ==== Proof.MlpValue.lean ====
/-
  The output call: on equal arguments the reference's result is the kernel's array.
-/
module

public import proofs.«01_k».proof.Proof.MlpKernel
public import proofs.«01_k».proof.Proof.MlpRef

@[expose] public section

noncomputable section

namespace Cert.Mlp

open Idealize.ShloMosaic Idealize.ShloMosaic.TcCoe

/-- An index of the result is a batch entry, a 512-row stretch, a row of it and a lane. -/
theorem index_split (i : (⟨3, ![8, 4096, 1024]⟩ : Shape).Idx) :
    ∃ (b j : Fin 8) (r : Fin 512) (l : Fin 1024), i = ix3 b ⟨512 * j + r, by omega⟩ l := by
  have h1 : (i 1).val < 4096 := (i 1).isLt
  refine ⟨i 0, ⟨(i 1).val / 512, by omega⟩, ⟨(i 1).val % 512, by omega⟩, i 2, ?_⟩
  funext a
  apply Fin.ext
  match a with
  | ⟨0, _⟩ => rfl
  | ⟨1, _⟩ => show (i 1).val = 512 * ((i 1).val / 512) + (i 1).val % 512; omega
  | ⟨2, _⟩ => rfl

theorem results_eq (m : (ℓ : Loc Cert.Kernel2Ideal.nD Cert.Kernel2Ideal.τ Cert.Kernel2Ideal.sig) → Buf (Elt Ideal) ℓ) (c : Dev Cert.Kernel2Ideal.nD) :
    Cert.Reference2Ideal.Read.result (m ((c : Thread Cert.Kernel2Ideal.nD Cert.Kernel2Ideal.τ).loc Cert.Kernel2Ideal.main_arg0))
      (m ((c : Thread Cert.Kernel2Ideal.nD Cert.Kernel2Ideal.τ).loc Cert.Kernel2Ideal.main_arg1))
      (m ((c : Thread Cert.Kernel2Ideal.nD Cert.Kernel2Ideal.τ).loc Cert.Kernel2Ideal.main_arg2))
      (m ((c : Thread Cert.Kernel2Ideal.nD Cert.Kernel2Ideal.τ).loc Cert.Kernel2Ideal.main_arg3))
      (m ((c : Thread Cert.Kernel2Ideal.nD Cert.Kernel2Ideal.τ).loc Cert.Kernel2Ideal.main_arg4))
      (m ((c : Thread Cert.Kernel2Ideal.nD Cert.Kernel2Ideal.τ).loc Cert.Kernel2Ideal.main_arg5))
      (m ((c : Thread Cert.Kernel2Ideal.nD Cert.Kernel2Ideal.τ).loc Cert.Kernel2Ideal.main_arg6))
      (m ((c : Thread Cert.Kernel2Ideal.nD Cert.Kernel2Ideal.τ).loc Cert.Kernel2Ideal.main_arg7))
      (m ((c : Thread Cert.Kernel2Ideal.nD Cert.Kernel2Ideal.τ).loc Cert.Kernel2Ideal.main_arg8))
    = (Cert.Kernel2Ideal.Gen.dats m 0 c).arrAt 9 Cert.Kernel2Ideal.cfg0.N := by
  funext i
  obtain ⟨b, j, r, l, rfl⟩ := index_split i
  exact (Cert.Reference2Ideal.Read.result_apply _ _ _ _ _ _ _ _ _ b _ l).trans (Cert.Kernel2Ideal.Block.value m c b j r l).symm

end Cert.Mlp
-- ==== Proof.InSpec.lean ====
/-
  The input projection of one row: the normalised and modulated row, its projection on one column of the weight, the
  three-tap convolution over the rows of a grid line, and the logarithm of a decay gate.
-/
module

public import proofs.«01_k».proof.Proof.MlpSpec

@[expose] public section

noncomputable section

namespace Cert.InProj

open Idealize.ShloMosaic Cert.Mlp

/-- The projection's input, from the row it normalises. -/
def input (md : Fin 6144 → EReal) (nm : Fin 1024 → EReal) (v : Fin 1024 → EReal) (l : Fin 1024) : EReal :=
  rms v l * nm l * (one + md (part 1 l)) + md (part 0 l)

/-- A row on one column of the weight. -/
def proj (h w : Fin 1024 → EReal) : EReal := ∑ k, h k * w k

/-- The row before and the row after, around the end. -/
def before {n : ℕ} (t : Fin n) : Fin n := ⟨(t + (n - 1)) % n, Nat.mod_lt _ (Nat.zero_lt_of_lt t.isLt)⟩
def next {n : ℕ} (t : Fin n) : Fin n := ⟨(t + 1) % n, Nat.mod_lt _ (Nat.zero_lt_of_lt t.isLt)⟩

/-- The convolution with three taps along a line of 64 rows, zero beyond the line's two ends. -/
def conv {n : ℕ} (u : Fin n → EReal) (w : Fin 3 → EReal) (b : EReal) (t : Fin n) : EReal :=
  b + w 0 * (if (t : ℕ) % 64 = 0 then 0 else u (before t)) + w 1 * u t + w 2 * (if (t : ℕ) % 64 = 63 then 0 else u (next t))

/-- In a stretch of 512 rows the convolution is that of the whole: a line never crosses the stretch's ends. -/
theorem conv_stretch (u : Fin 4096 → EReal) (w : Fin 3 → EReal) (b : EReal) (j : Fin 8) (r : Fin 512) :
    conv (fun r : Fin 512 => u ⟨512 * j + r, by omega⟩) w b r = conv u w b ⟨512 * j + r, by omega⟩ := by
  have hr := r.isLt
  have hj := j.isLt
  have h0 : (512 * (j : ℕ) + r) % 64 = (r : ℕ) % 64 := by omega
  unfold conv
  refine congrArg₂ (· + ·) (congrArg (· + _) (congrArg (fun x => b + w 0 * x) ?_)) (congrArg (fun x => w 2 * x) ?_)
  · show (if (r : ℕ) % 64 = 0 then _ else _) = if (512 * (j : ℕ) + r) % 64 = 0 then _ else _
    rw [h0]
    by_cases h : (r : ℕ) % 64 = 0
    · rw [if_pos h, if_pos h]
    · rw [if_neg h, if_neg h]
      refine congrArg u (Fin.ext ?_)
      show 512 * (j : ℕ) + (r + 511) % 512 = (512 * j + r + 4095) % 4096
      omega
  · show (if (r : ℕ) % 64 = 63 then _ else _) = if (512 * (j : ℕ) + r) % 64 = 63 then _ else _
    rw [h0]
    by_cases h : (r : ℕ) % 64 = 63
    · rw [if_pos h, if_pos h]
    · rw [if_neg h, if_neg h]
      refine congrArg u (Fin.ext ?_)
      show 512 * (j : ℕ) + (r + 1) % 512 = (512 * j + r + 1) % 4096
      omega

/-- The softplus of a number's negative. -/
def softplus (z : EReal) : EReal := max (-z) 0 + Ideal.log1p (Ideal.exp (-(max (-z) (- -z))))

/-- The log of a decay gate: a sixteenth of the log of the sigmoid. -/
def gate (z : EReal) : EReal := Ideal.div (-(softplus z)) (Ideal.ofBits .f32 0x41800000#32)

/-- Dividing by sixteen is multiplying by a sixteenth. -/
theorem sixteenth (x : EReal) : x * Ideal.ofBits .f32 0x3D800000#32 = Ideal.div x (Ideal.ofBits .f32 0x41800000#32) := by
  have h1 : Ideal.ofBits .f32 0x41800000#32 = ((16 : ℝ) : EReal) := by
    simp [Ideal.ofBits, Ideal.ieee]
    rw [← EReal.coe_mul]
    norm_num
  have h2 : Ideal.ofBits .f32 0x3D800000#32 = (((16 : ℝ)⁻¹ : ℝ) : EReal) := by
    simp [Ideal.ofBits, Ideal.ieee]
    rw [← EReal.coe_mul]
    norm_num
  rw [h1, h2, Ideal.div, if_neg (by simp), EReal.coe_inv]

/-! ## A batch entry's results -/

section
variable (x : Fin 4096 → Fin 1024 → EReal) (md : Fin 6144 → EReal) (nm : Fin 1024 → EReal) (w : Fin 1024 → Fin 3104 → EReal)

/-- Column `p` of the projection, in row `t`. -/
def col (p : Fin 3104) (t : Fin 4096) : EReal := proj (input md nm (x t)) (fun k => w k p)

/-- Column `p` of the convolution, in row `t`. -/
def line (cw : Fin 3 → Fin 1536 → EReal) (cb : Fin 1536 → EReal) (p : Fin 1536) (t : Fin 4096) : EReal :=
  conv (col x md nm w ⟨p, by omega⟩) (fun j => cw j p) (cb p) t

/-- Lane `l` of a direction's log gates, in row `t`, its sixteen columns of the projection starting at `o`. -/
def decay (o : ℕ) (ho : o + 16 ≤ 3104) (gw : Fin 16 → Fin 256 → EReal) (gb : Fin 256 → EReal) (l : Fin 256) (t : Fin 4096) : EReal :=
  gate (∑ k : Fin 16, col x md nm w ⟨o + k, by omega⟩ t * gw k l + gb l)

end

/-- A sum over 128 lanes whose terms are zero outside sixteen. -/
theorem sum_sixteen (f : Fin 128 → EReal) (o : ℕ) (ho : o + 16 ≤ 128) (h : ∀ k : Fin 128, (k : ℕ) < o ∨ o + 16 ≤ k → f k = 0) :
    ∑ k, f k = ∑ k : Fin 16, f ⟨o + k, by omega⟩ := by
  refine (Fintype.sum_of_injective (fun k : Fin 16 => (⟨o + k, by omega⟩ : Fin 128)) ?_ _ _ ?_ fun k => rfl).symm
  · intro a b hab
    have := congrArg Fin.val hab
    exact Fin.ext (by simpa using this)
  · intro k hk
    refine h k ?_
    by_contra hn
    push Not at hn
    exact hk ⟨⟨(k : ℕ) - o, by omega⟩, Fin.ext (by show o + ((k : ℕ) - o) = k; omega)⟩

end Cert.InProj
-- ==== Proof.InBlock.lean ====
/-
  The projection kernel's body at one grid point, read at an index of its output blocks.
-/
module

public import proofs.«01_k».proof.Proof.InSpec
public import proofs.«01_k».proof.Proof.ChunkRead
public import proofs.«01_k».proof.Proof.Gen.Kernel3Ideal.Value
public import Idealize.ShloMosaic.Lib.Pointwise

@[expose] public section

set_option maxRecDepth 16384

noncomputable section

namespace Cert.Kernel3Ideal.Block

open Cert.Kernel3Ideal Cert.Kernel3Ideal.Gen Cert.Mlp Cert.InProj
open Idealize.ShloMosaic Idealize.ShloMosaic.TcCoe
open Cert.KernelIdeal.Chunk (and63 pick_eq)

/-! ## The stages of the body -/

theorem pay3_apply (x : Vec Ideal S1x512x1024 .f32) (s c : Vec Ideal S1x1x1024 .f32) (n : Vec Ideal S1x1024 .f32) (r : Fin 512) (l : Fin 1024) :
    k0_pay3 x s c n (ix2 r l)
      = rms (fun l => x (ix3 0 r l)) l * n (ix2 0 l) * (one + c (ix3 0 0 l)) + s (ix3 0 0 l) := by
  pointwise [k0_pay3, rms]

/-- A 512-column projection of the block. -/
def wide (h : FVec Ideal S512x1024 .bf16) (w : Vec Ideal S1024x512 .bf16) : FVec Ideal S512x512 .f32 :=
  matmul dot_S512x1024_S1024x512_S512x512_1_0_0_1_n_n none h (shapeCast S1024x512 w shapeCasts_S1024x512_S1024x512 : FVec Ideal S1024x512 .bf16) (constant S512x512 .f32 0x00000000#32)

theorem wide_apply (h : FVec Ideal S512x1024 .bf16) (w : Vec Ideal S1024x512 .bf16) (r l : Fin 512) :
    wide h w (ix2 r l) = proj (fun k => h (ix2 r k)) (fun k => w (ix2 k l)) := by
  pointwise [wide, proj]

/-- A 256-column projection of the block. -/
def narrow (h : FVec Ideal S512x1024 .bf16) (w : Vec Ideal S1024x256 .bf16) : FVec Ideal S512x256 .f32 :=
  matmul dot_S512x1024_S1024x256_S512x256_1_0_0_1_n_n none h (shapeCast S1024x256 w shapeCasts_S1024x256_S1024x256 : FVec Ideal S1024x256 .bf16) (constant S512x256 .f32 0x00000000#32)

theorem narrow_apply (h : FVec Ideal S512x1024 .bf16) (w : Vec Ideal S1024x256 .bf16) (r : Fin 512) (l : Fin 256) :
    narrow h w (ix2 r l) = proj (fun k => h (ix2 r k)) (fun k => w (ix2 k l)) := by
  pointwise [narrow, proj]

/-- Where a row stands in its line. -/
def place : IVec S512x512 32 := andi (iota .tc S512x512 32 [0] iota_S512x512_d0_w32) (broadcast S512x512 63#32)

/-- The rows before and after, zero at the line's ends. -/
def above (v : FVec Ideal S512x512 .f32) : FVec Ideal S512x512 .f32 :=
  select (cmpi .eq place (broadcast S512x512 0#32)) (broadcast S512x512 (Scalar.ofBits .f32 0x00000000#32)) (dynamicRotate 0 1#32 none v rotates_S512x512_d0)
def below (v : FVec Ideal S512x512 .f32) : FVec Ideal S512x512 .f32 :=
  select (cmpi .eq place (broadcast S512x512 63#32)) (broadcast S512x512 (Scalar.ofBits .f32 0x00000000#32)) (dynamicRotate 0 511#32 none v rotates_S512x512_d0)

theorem above_apply (v : FVec Ideal S512x512 .f32) (r l : Fin 512) :
    above v (ix2 r l) = if (r : ℕ) % 64 = 0 then 0 else v (ix2 (before r) l) := by
  pointwise [above, place]
  rw [and63 _ (by omega), pick_eq _ 0 (by omega) (by omega)]
  refine congrArg (fun i => if (r : ℕ) % 64 = 0 then 0 else v (ix2 i l)) (Fin.ext ?_)
  show ((r : ℕ) + 512 - 1) % 512 = (r + 511) % 512
  omega

theorem below_apply (v : FVec Ideal S512x512 .f32) (r l : Fin 512) :
    below v (ix2 r l) = if (r : ℕ) % 64 = 63 then 0 else v (ix2 (next r) l) := by
  pointwise [below, place]
  rw [and63 _ (by omega), pick_eq _ 63 (by omega) (by omega)]
  refine congrArg (fun i => if (r : ℕ) % 64 = 63 then 0 else v (ix2 i l)) (Fin.ext ?_)
  show ((r : ℕ) + 512 - 511) % 512 = (r + 1) % 512
  omega

/-- The convolution of the block. -/
def taps (v : FVec Ideal S512x512 .f32) (w : Vec Ideal S3x512 .f32) (b : Vec Ideal S1x512 .f32) : FVec Ideal S512x512 .f32 :=
  addf (addf (addf (broadcastTo S512x512 (shapeCast S1x512 b shapeCasts_S1x512_S1x512) broadcasts_S1x512_S512x512)
      (mulf (broadcastTo S512x512 (extractStridedSlice S1x512 ![0, 0] w slices_S3x512_o0_0_S1x512) broadcasts_S1x512_S512x512) (above v)))
      (mulf (broadcastTo S512x512 (extractStridedSlice S1x512 ![1, 0] w slices_S3x512_o1_0_S1x512) broadcasts_S1x512_S512x512) v))
    (mulf (broadcastTo S512x512 (extractStridedSlice S1x512 ![2, 0] w slices_S3x512_o2_0_S1x512) broadcasts_S1x512_S512x512) (below v))

theorem taps_apply (v : FVec Ideal S512x512 .f32) (w : Vec Ideal S3x512 .f32) (b : Vec Ideal S1x512 .f32) (r l : Fin 512) :
    taps v w b (ix2 r l) = conv (fun r => v (ix2 r l)) (fun j => w (ix2 j l)) (b (ix2 0 l)) r := by
  unfold conv
  beta_reduce
  rw [← above_apply, ← below_apply]
  unfold taps
  generalize above v = a
  generalize below v = d
  pointwise

theorem pay14_apply (h : FVec Ideal S512x128 .bf16) (w : Vec Ideal S128x512 .bf16) (b : Vec Ideal S1x512 .f32) (r l : Fin 512) :
    k0_pay14 h w b (ix2 r l) = gate (∑ k : Fin 128, (h (ix2 r k) : EReal) * w (ix2 k l) + b (ix2 0 l)) := by
  rw [gate, ← sixteenth]
  pointwise [k0_pay14, softplus]
  rw [if_neg (fun h => h rfl)]
  simp only [zero_sub]
  rfl

section
variable (x0 : Vec Ideal S1x512x1024 .f32) (x1 : Vec Ideal S1x1x6144 .f32) (x2 : Vec Ideal S1x1024 .f32) (x3 : Vec Ideal S1024x3200 .bf16)
  (x4 : Vec Ideal S128x512 .bf16) (x5 : Vec Ideal S1x512 .f32) (x6 : Vec Ideal S3x1536 .f32) (x7 : Vec Ideal S1x1536 .f32)

/-! ## The parts of the blocks the body reads -/

theorem part0 (l : Fin 1024) : View.ld x1 r0_1 (ix3 0 0 l) = x1 (ix3 0 0 (part 0 l)) := by
  pointwise
  exact congrArg (fun i => x1 (ix3 0 0 i)) (Fin.ext (by show (l : ℕ) = 1024 * 0 + l; omega))
theorem part1 (l : Fin 1024) : View.ld x1 r0_2 (ix3 0 0 l) = x1 (ix3 0 0 (part 1 l)) := by
  pointwise
  rfl
theorem whole_x (r : Fin 512) (l : Fin 1024) : View.ld x0 r0_0 (ix3 0 r l) = x0 (ix3 0 r l) := by
  pointwise
theorem whole_n (l : Fin 1024) : View.ld x2 r0_3 (ix2 0 l) = x2 (ix2 0 l) := by
  pointwise
theorem whole_w (k : Fin 128) (l : Fin 512) : View.ld x4 r0_19 (ix2 k l) = x4 (ix2 k l) := by
  pointwise
theorem whole_b (l : Fin 512) : View.ld x5 r0_20 (ix2 0 l) = x5 (ix2 0 l) := by
  pointwise

theorem cols_gate (k : Fin 1024) (l : Fin 128) : View.ld x3 r0_4 (ix2 k l) = x3 (ix2 k ⟨3072 + l, by omega⟩) := by
  pointwise
theorem cols0 (k : Fin 1024) (l : Fin 512) : View.ld x3 r0_5 (ix2 k l) = x3 (ix2 k ⟨l, by omega⟩) := by
  pointwise
theorem cols512 (k : Fin 1024) (l : Fin 512) : View.ld x3 r0_11 (ix2 k l) = x3 (ix2 k ⟨512 + l, by omega⟩) := by
  pointwise
theorem cols1024 (k : Fin 1024) (l : Fin 512) : View.ld x3 r0_15 (ix2 k l) = x3 (ix2 k ⟨1024 + l, by omega⟩) := by
  pointwise
theorem cols1536 (k : Fin 1024) (l : Fin 256) : View.ld x3 r0_9 (ix2 k l) = x3 (ix2 k ⟨1536 + l, by omega⟩) := by
  pointwise
theorem cols1792 (k : Fin 1024) (l : Fin 256) : View.ld x3 r0_18 (ix2 k l) = x3 (ix2 k ⟨1792 + l, by omega⟩) := by
  pointwise
theorem cols2048 (k : Fin 1024) (l : Fin 512) : View.ld x3 r0_21 (ix2 k l) = x3 (ix2 k ⟨2048 + l, by omega⟩) := by
  pointwise
theorem cols2560 (k : Fin 1024) (l : Fin 512) : View.ld x3 r0_14 (ix2 k l) = x3 (ix2 k ⟨2560 + l, by omega⟩) := by
  pointwise

theorem tap0 (j : Fin 3) (l : Fin 512) : View.ld x6 r0_6 (ix2 j l) = x6 (ix2 j ⟨l, by omega⟩) := by
  pointwise
theorem tap512 (j : Fin 3) (l : Fin 512) : View.ld x6 r0_12 (ix2 j l) = x6 (ix2 j ⟨512 + l, by omega⟩) := by
  pointwise
theorem tap1024 (j : Fin 3) (l : Fin 512) : View.ld x6 r0_16 (ix2 j l) = x6 (ix2 j ⟨1024 + l, by omega⟩) := by
  pointwise
theorem bias0 (l : Fin 512) : View.ld x7 r0_7 (ix2 0 l) = x7 (ix2 0 ⟨l, by omega⟩) := by
  pointwise
theorem bias512 (l : Fin 512) : View.ld x7 r0_13 (ix2 0 l) = x7 (ix2 0 ⟨512 + l, by omega⟩) := by
  pointwise
theorem bias1024 (l : Fin 512) : View.ld x7 r0_17 (ix2 0 l) = x7 (ix2 0 ⟨1024 + l, by omega⟩) := by
  pointwise

/-! ## The body -/

/-- The projection's input, in row `r` of the block. -/
abbrev inRow (r : Fin 512) : Fin 1024 → EReal :=
  input (fun p => x1 (ix3 0 0 p)) (fun l => x2 (ix2 0 l)) (fun l => x0 (ix3 0 r l))

/-- Column `p` of the projection, in row `r`. -/
abbrev column (p : Fin 3200) (r : Fin 512) : EReal := proj (inRow x0 x1 x2 r) (fun k => x3 (ix2 k p))

/-- Column `p` of the convolution, in row `r`. -/
abbrev short (p : Fin 1536) (r : Fin 512) : EReal :=
  conv (column x0 x1 x2 x3 ⟨p, by omega⟩) (fun j => x6 (ix2 j p)) (x7 (ix2 0 p)) r

/-- The block's normalised and modulated rows. -/
abbrev rows : FVec Ideal S512x1024 .bf16 := k0_pay3 (View.ld x0 r0_0) (View.ld x1 r0_1) (View.ld x1 r0_2) (View.ld x2 r0_3)

theorem rows_apply (r : Fin 512) (l : Fin 1024) : rows x0 x1 x2 (ix2 r l) = inRow x0 x1 x2 r l := by
  unfold rows
  rw [pay3_apply, whole_n, part0, part1]
  unfold inRow input
  exact congrArg (fun f => rms f l * _ * _ + _) (funext fun l => whole_x x0 r l)

/-- A projection's column, where the weight read has the weight's column `p`. -/
theorem column_eq (f : Fin 1024 → EReal) (p : Fin 3200) (r : Fin 512) (h : ∀ k, f k = x3 (ix2 k p)) :
    proj (fun k => rows x0 x1 x2 (ix2 r k)) f = column x0 x1 x2 x3 p r := by
  unfold proj
  exact Finset.sum_congr rfl fun k _ => congrArg₂ (· * ·) (rows_apply x0 x1 x2 r k) (h k)

/-- A convolution's column, where the weights read have the weights' column `p`. -/
theorem short_eq (w : Vec Ideal S1024x512 .bf16) (cw : Vec Ideal S3x512 .f32) (cb : Vec Ideal S1x512 .f32) (p : Fin 1536) (r l : Fin 512)
    (hw : ∀ k, w (ix2 k l) = x3 (ix2 k ⟨p, by omega⟩)) (hc : ∀ j, cw (ix2 j l) = x6 (ix2 j p)) (hb : cb (ix2 0 l) = x7 (ix2 0 p)) :
    taps (wide (rows x0 x1 x2) w) cw cb (ix2 r l) = short x0 x1 x2 x3 x6 x7 p r := by
  rw [taps_apply]
  have e1 : (fun r => wide (rows x0 x1 x2) w (ix2 r l)) = column x0 x1 x2 x3 ⟨p, by omega⟩ :=
    funext fun r => (wide_apply _ w r l).trans (column_eq x0 x1 x2 x3 _ _ r hw)
  have e2 : (fun j => (cw (ix2 j l) : EReal)) = fun j => x6 (ix2 j p) := funext hc
  rw [e1, e2, hb]

theorem lay512 (v : FVec Ideal S512x512 .bf16) (r l : Fin 512) : k0_pay11 v (ix3 0 r l) = v (ix2 r l) := by
  pointwise [k0_pay11]
theorem lay256 (v : FVec Ideal S512x256 .bf16) (r : Fin 512) (l : Fin 256) : k0_pay8 v (ix3 0 r l) = v (ix2 r l) := by
  pointwise [k0_pay8]
theorem layGate (v : FVec Ideal S512x256 .f32) (r : Fin 512) (l : Fin 256) : k0_pay1 v (ix3 0 r l) = v (ix2 r l) := by
  pointwise [k0_pay1]

/-- WHAT THE BODY LEAVES in row `r` of its output blocks: the convolved query. -/
theorem out8_apply (r l : Fin 512) :
    out0_8 x0 x1 x2 x3 x4 x5 x6 x7 (ix3 0 r l) = short x0 x1 x2 x3 x6 x7 ⟨l, by omega⟩ r := by
  unfold out0_8
  rw [View.canon_cons_unit_lit _ _ _ (by decide)]
  exact (lay512 (truncf .bf16 (taps (wide (rows x0 x1 x2) (View.ld x3 r0_5)) (View.ld x6 r0_6) (View.ld x7 r0_7)) bitsLt_bf16_f32) r l).trans
    (short_eq x0 x1 x2 x3 x6 x7 _ _ _ _ r l (fun k => cols0 x3 k l) (fun j => tap0 x6 j l) (bias0 x7 l))

/-- The product of the convolved key and value. -/
theorem out9_apply (r l : Fin 512) :
    out0_9 x0 x1 x2 x3 x4 x5 x6 x7 (ix3 0 r l)
      = short x0 x1 x2 x3 x6 x7 ⟨512 + l, by omega⟩ r * short x0 x1 x2 x3 x6 x7 ⟨1024 + l, by omega⟩ r := by
  unfold out0_9
  rw [View.canon_cons_unit_lit _ _ _ (by decide)]
  exact (lay512 (truncf .bf16 (mulf (taps (wide (rows x0 x1 x2) (View.ld x3 r0_11)) (View.ld x6 r0_12) (View.ld x7 r0_13))
      (taps (wide (rows x0 x1 x2) (View.ld x3 r0_15)) (View.ld x6 r0_16) (View.ld x7 r0_17))) bitsLt_bf16_f32) r l).trans
    (congrArg₂ (· * ·)
      (short_eq x0 x1 x2 x3 x6 x7 _ _ _ _ r l (fun k => cols512 x3 k l) (fun j => tap512 x6 j l) (bias512 x7 l))
      (short_eq x0 x1 x2 x3 x6 x7 _ _ _ _ r l (fun k => cols1024 x3 k l) (fun j => tap1024 x6 j l) (bias1024 x7 l)))

/-- The scaled query of the gated mixer. -/
theorem out10_apply (r : Fin 512) (l : Fin 256) :
    out0_10 x0 x1 x2 x3 x4 x5 x6 x7 (ix3 0 r l)
      = column x0 x1 x2 x3 ⟨1536 + l, by omega⟩ r * Ideal.ofBits .f32 0x3E000000#32 := by
  unfold out0_10
  rw [View.canon_cons_unit_lit _ _ _ (by decide)]
  refine (lay256 (truncf .bf16 (mulf (narrow (rows x0 x1 x2) (View.ld x3 r0_9)) (broadcast S512x256 (Scalar.ofBits .f32 0x3E000000#32))) bitsLt_bf16_f32) r l).trans ?_
  exact congrArg (· * _) ((narrow_apply _ _ r l).trans (column_eq x0 x1 x2 x3 _ _ r fun k => cols1536 x3 k l))

/-- Its key. -/
theorem out11_apply (r : Fin 512) (l : Fin 256) :
    out0_11 x0 x1 x2 x3 x4 x5 x6 x7 (ix3 0 r l) = column x0 x1 x2 x3 ⟨1792 + l, by omega⟩ r := by
  unfold out0_11
  rw [View.canon_cons_unit_lit _ _ _ (by decide)]
  exact (lay256 (truncf .bf16 (narrow (rows x0 x1 x2) (View.ld x3 r0_18)) bitsLt_bf16_f32) r l).trans
    ((narrow_apply _ _ r l).trans (column_eq x0 x1 x2 x3 _ _ r fun k => cols1792 x3 k l))

/-- Its value. -/
theorem out12_apply (r l : Fin 512) :
    out0_12 x0 x1 x2 x3 x4 x5 x6 x7 (ix3 0 r l) = column x0 x1 x2 x3 ⟨2048 + l, by omega⟩ r := by
  unfold out0_12
  rw [View.canon_cons_unit_lit _ _ _ (by decide)]
  exact (lay512 (truncf .bf16 (wide (rows x0 x1 x2) (View.ld x3 r0_21)) bitsLt_bf16_f32) r l).trans
    ((wide_apply _ _ r l).trans (column_eq x0 x1 x2 x3 _ _ r fun k => cols2048 x3 k l))

/-- Its output gate. -/
theorem out13_apply (r l : Fin 512) :
    out0_13 x0 x1 x2 x3 x4 x5 x6 x7 (ix3 0 r l) = column x0 x1 x2 x3 ⟨2560 + l, by omega⟩ r := by
  unfold out0_13
  rw [View.canon_cons_unit_lit _ _ _ (by decide)]
  exact (lay512 (truncf .bf16 (wide (rows x0 x1 x2) (View.ld x3 r0_14)) bitsLt_bf16_f32) r l).trans
    ((wide_apply _ _ r l).trans (column_eq x0 x1 x2 x3 _ _ r fun k => cols2560 x3 k l))

theorem pay4_apply (x : Vec Ideal S1x512x1024 .f32) (s c : Vec Ideal S1x1x1024 .f32) (n : Vec Ideal S1x1024 .f32) (w : Vec Ideal S1024x128 .bf16)
    (r : Fin 512) (l : Fin 128) :
    k0_pay4 x s c n w (ix2 r l) = proj (fun k => k0_pay3 x s c n (ix2 r k)) (fun k => w (ix2 k l)) := by
  unfold k0_pay4
  generalize k0_pay3 x s c n = h
  pointwise [proj]

/-- The log gates of both directions. -/
theorem gates_apply (r l : Fin 512) :
    k0_pay14 (k0_pay4 (View.ld x0 r0_0) (View.ld x1 r0_1) (View.ld x1 r0_2) (View.ld x2 r0_3) (View.ld x3 r0_4)) (View.ld x4 r0_19) (View.ld x5 r0_20) (ix2 r l)
      = gate (∑ k : Fin 128, column x0 x1 x2 x3 ⟨3072 + k, by omega⟩ r * x4 (ix2 k l) + x5 (ix2 0 l)) := by
  rw [pay14_apply]
  refine congrArg gate (congrArg₂ (· + ·) (Finset.sum_congr rfl fun k _ => congrArg₂ (· * ·) ?_ (whole_w x4 k l)) (whole_b x5 l))
  exact (pay4_apply _ _ _ _ _ r k).trans (column_eq x0 x1 x2 x3 _ _ r fun i => cols_gate x3 i k)

theorem out14_apply (r : Fin 512) (l : Fin 256) :
    out0_14 x0 x1 x2 x3 x4 x5 x6 x7 (ix3 0 r l)
      = gate (∑ k : Fin 128, column x0 x1 x2 x3 ⟨3072 + k, by omega⟩ r * x4 (ix2 k ⟨l, by omega⟩) + x5 (ix2 0 ⟨l, by omega⟩)) := by
  unfold out0_14
  rw [View.canon_cons_unit_lit _ _ _ (by decide), ← gates_apply]
  unfold k0_pay15 k0_pay18
  generalize k0_pay14 (F := Ideal) _ _ _ = v
  pointwise

theorem out15_apply (r : Fin 512) (l : Fin 256) :
    out0_15 x0 x1 x2 x3 x4 x5 x6 x7 (ix3 0 r l)
      = gate (∑ k : Fin 128, column x0 x1 x2 x3 ⟨3072 + k, by omega⟩ r * x4 (ix2 k ⟨256 + l, by omega⟩) + x5 (ix2 0 ⟨256 + l, by omega⟩)) := by
  unfold out0_15
  rw [View.canon_cons_unit_lit _ _ _ (by decide), layGate, ← gates_apply]
  unfold k0_pay16 k0_pay18
  generalize k0_pay14 (F := Ideal) _ _ _ = v
  pointwise

end

end Cert.Kernel3Ideal.Block
-- ==== Proof.InPlaced.lean ====
/-
  A matrix written into a larger one at a pair of index words, read at an entry.
-/
module

public import Idealize.ShloMosaic.Lib.Routing.OpsOne

@[expose] public section

namespace Cert.InProj

open Idealize.ShloMosaic Idealize.ShloMosaic.Routing Idealize.ShloMosaic.ValueIdx

section
variable {α : Type} {R C U W n : ℕ} (d : ScatterDims (shape2 R C) (shape1 2) (shape2 U W)) (huw : d.updateWindowDims = [0, 1])
  (hiw : d.insertedWindowDims = []) (hsd : d.scatterDimsToOperandDims = [0, 1]) (hivd : d.indexVectorDim = 0) (idx : IVec (shape1 2) n)
  (a b : ℕ) (ha : (idx (ix1 (0 : Fin 2))).toInt = a) (hb : (idx (ix1 (1 : Fin 2))).toInt = b)

include huw hiw hsd hivd ha hb in
/-- Entry `(k, e)` lands at `(r, c)` exactly when that is `(a + k, b + e)`. -/
theorem lands_placed (k : Fin U) (e : Fin W) (r : Fin R) (c : Fin C) :
    d.resultIdx? (ix2 k e) idx = some (ix2 r c) ↔ a + (k : ℕ) = r ∧ b + (e : ℕ) = c := by
  have hk : d.sKept = [0, 1] := by
    show (shape2 R C).kept d.insertedWindowDims = _
    rw [hiw]
    rfl
  have hwin : ∀ q : Fin 2, d.window (ix2 k e) q = ((ix2 k e : (shape2 U W).Idx) q).val := fun q => by
    unfold ScatterDims.window
    rw [dif_pos (by rw [hk]; fin_cases q <;> simp)]
    refine congrArg (fun t => ((ix2 k e : (shape2 U W).Idx) t).val) ?_
    simp only [huw, hk]
    fin_cases q <;> rfl
  rw [resultIdx?_ix2, start_pair d hsd hivd, start_pair d hsd hivd, hwin, hwin, ha, hb]
  show (a : Int) + (k : ℕ) = r ∧ (b : Int) + (e : ℕ) = c ↔ _
  omega

include huw hiw hsd hivd ha hb in
/-- Inside, the entry written. -/
theorem placed_in (x : (shape2 R C).Idx → α) (u : (shape2 U W).Idx → α) (k : Fin U) (e : Fin W) (r : Fin R) (c : Fin C)
    (hr : a + (k : ℕ) = r) (hc : b + (e : ℕ) = c) :
    Host.scatter d (fun _ b => b) x idx u (ix2 r c) = u (ix2 k e) := by
  refine scatter_set_hit d x idx u _ _ (fun t ht => ?_) (ix2 k e) ((lands_placed d huw hiw hsd hivd idx a b ha hb k e r c).2 ⟨hr, hc⟩)
  rw [eq_ix2 t] at ht ⊢
  have h := (lands_placed d huw hiw hsd hivd idx a b ha hb (t 0) (t 1) r c).1 ht
  exact congrArg₂ (fun p q => u (ix2 p q)) (Fin.ext (by omega)) (Fin.ext (by omega))

include huw hiw hsd hivd ha hb in
/-- Outside, the entry that was there. -/
theorem placed_out (x : (shape2 R C).Idx → α) (u : (shape2 U W).Idx → α) (r : Fin R) (c : Fin C)
    (h : (r : ℕ) < a ∨ a + U ≤ r ∨ (c : ℕ) < b ∨ b + W ≤ c) :
    Host.scatter d (fun _ b => b) x idx u (ix2 r c) = x (ix2 r c) := by
  refine scatter_set_miss d x idx u _ fun t ht => ?_
  rw [eq_ix2 t] at ht
  have h' := (lands_placed d huw hiw hsd hivd idx a b ha hb (t 0) (t 1) r c).1 ht
  have h0 : (t 0).val < U := (t 0).isLt
  have h1 : (t 1).val < W := (t 1).isLt
  omega

end

end Cert.InProj
-- ==== Proof.InKernel.lean ====
/-
  The projection kernel's output arrays at an index: the row functions at its row of the arguments.
-/
module

public import proofs.«01_k».proof.Proof.InBlock
public import proofs.«01_k».proof.Proof.InPlaced
public import Idealize.ShloMosaic.Lib.Pipeline.ValueKit.Geometry
public import Idealize.ShloMosaic.Lib.StableHlo.RunRead

@[expose] public section

set_option maxRecDepth 16384

noncomputable section

namespace Cert.Kernel3Ideal.Block

open Cert.Kernel3Ideal Cert.Kernel3Ideal.Gen Cert.Kernel3Ideal.Value Cert.Mlp Cert.InProj
open Idealize.ShloMosaic Idealize.ShloMosaic.TcCoe Idealize.ShloMosaic.StableHlo

/-- Where the blocks of a point lie: batch entry and a 512-row stretch; the weights whole. -/
theorem places : ∀ t : Fin cfg0.N, (win0_0.index t = ![t.val / 8, t.val % 8, 0] ∧ win0_1.index t = ![t.val / 8, 0, 0]
    ∧ win0_2.index t = ![0, 0] ∧ win0_3.index t = ![0, 0] ∧ win0_4.index t = ![0, 0] ∧ win0_5.index t = ![0, 0]
    ∧ win0_6.index t = ![0, 0] ∧ win0_7.index t = ![0, 0]) :=
  (by decide +kernel : ∀ t : Fin grid0.N, _)

theorem places_out : ∀ t : Fin cfg0.N, (win0_8.index t = ![t.val / 8, t.val % 8, 0] ∧ win0_9.index t = ![t.val / 8, t.val % 8, 0]
    ∧ win0_10.index t = ![t.val / 8, t.val % 8, 0] ∧ win0_11.index t = ![t.val / 8, t.val % 8, 0]
    ∧ win0_12.index t = ![t.val / 8, t.val % 8, 0] ∧ win0_13.index t = ![t.val / 8, t.val % 8, 0]
    ∧ win0_14.index t = ![t.val / 8, t.val % 8, 0] ∧ win0_15.index t = ![t.val / 8, t.val % 8, 0]) :=
  (by decide +kernel : ∀ t : Fin grid0.N, _)

theorem flushes : ∀ t : Fin cfg0.N, (win0_8.flush t = true ∧ win0_9.flush t = true ∧ win0_10.flush t = true ∧ win0_11.flush t = true
    ∧ win0_12.flush t = true ∧ win0_13.flush t = true ∧ win0_14.flush t = true ∧ win0_15.flush t = true) :=
  (by decide +kernel : ∀ t : Fin grid0.N, _)

section
variable (m : (ℓ : Loc nD τ sig) → Buf (Elt Ideal) ℓ) (c : Dev nD)

/-! ## What the windows stage: the arguments, laid out anew -/

theorem staged_mod (b : Fin 8) (p : Fin 6144) :
    (V m c main_v14 : FVec Ideal S8x1x6144 .f32) (ix3 b 0 p) = m ((c : Thread nD τ).loc main_arg1) (ix2 b p) := by
  have h : V m c main_v14 = broadcastInDim S8x1x6144 ![0, 2] bcast_S8x6144_S8x1x6144_0_2 (m ((c : Thread nD τ).loc main_arg1)) := by
    unfold V hostOps0 hostOps0_1 hostOps0_2
    simp only [List.flatten_cons, List.flatten_nil, List.cons_append, List.nil_append, List.append_nil]
    after_reads_simp
  rw [h]
  pointwise

theorem staged_nm (l : Fin 1024) :
    (V m c main_v15 : FVec Ideal S1x1024 .f32) (ix2 0 l) = m ((c : Thread nD τ).loc main_arg2) (ix1 l) := by
  have h : V m c main_v15 = broadcastInDim S1x1024 ![1] bcast_S1024_S1x1024_1 (m ((c : Thread nD τ).loc main_arg2)) := by
    unfold V hostOps0 hostOps0_1 hostOps0_2
    simp only [List.flatten_cons, List.flatten_nil, List.cons_append, List.nil_append, List.append_nil]
    after_reads_simp
  rw [h]
  pointwise

theorem staged_cb (p : Fin 1536) :
    (V m c main_v16 : FVec Ideal S1x1536 .f32) (ix2 0 p) = m ((c : Thread nD τ).loc main_arg5) (ix1 p) := by
  have h : V m c main_v16 = broadcastInDim S1x1536 ![1] bcast_S1536_S1x1536_1 (m ((c : Thread nD τ).loc main_arg5)) := by
    unfold V hostOps0 hostOps0_1 hostOps0_2
    simp only [List.flatten_cons, List.flatten_nil, List.cons_append, List.nil_append, List.append_nil]
    after_reads_simp
  rw [h]
  pointwise

theorem padded (x : FVec Ideal S1024x3104 .f32) (z : FVec Ideal S_ .f32) (k : Fin 1024) (p : Fin 3104) :
    pad S1024x3200 ![0, 0] ![0, 96] ![0, 0] x z pads_S1024x3104_S1024x3200_000_0960 h_S_ (ix2 k ⟨p, by omega⟩) = x (ix2 k p) := by
  pointwise

/-- The weight with its columns padded, in the argument's columns. -/
theorem staged_w (k : Fin 1024) (p : Fin 3104) :
    (V m c main_v1 : FVec Ideal S1024x3200 .bf16) (ix2 k ⟨p, by omega⟩) = m ((c : Thread nD τ).loc main_arg3) (ix2 k p) := by
  have h : V m c main_v1 = pad S1024x3200 ![0, 0] ![0, 96] ![0, 0] (m ((c : Thread nD τ).loc main_arg3) : FVec Ideal S1024x3104 .f32)
      (sitofp (F := Ideal) .f32 (constantI S_ 32 0#32)) pads_S1024x3104_S1024x3200_000_0960 h_S_ := by
    unfold V hostOps0 hostOps0_1 hostOps0_2
    simp only [List.flatten_cons, List.flatten_nil, List.cons_append, List.nil_append, List.append_nil]
    after_reads_simp
    rfl
  rw [h]
  exact padded _ _ k p

/-- The gates' biases, the two directions side by side. -/
theorem staged_gb : V m c main_v13 = broadcastInDim S1x512 ![1] bcast_S512_S1x512_1
    (concatenate S512 0 [⟨S256, m ((c : Thread nD τ).loc main_arg7)⟩, ⟨S256, m ((c : Thread nD τ).loc main_arg9)⟩] concatenates_S256_S256_S512_d0) := by
  unfold V hostOps0 hostOps0_1 hostOps0_2
  simp only [List.flatten_cons, List.flatten_nil, List.cons_append, List.nil_append, List.append_nil]
  after_reads_simp
  rfl

theorem staged_gb0 (l : Fin 256) :
    (V m c main_v13 : FVec Ideal S1x512 .f32) (ix2 0 ⟨l, by omega⟩) = m ((c : Thread nD τ).loc main_arg7) (ix1 l) := by
  rw [staged_gb]
  pointwise

theorem staged_gb1 (l : Fin 256) :
    (V m c main_v13 : FVec Ideal S1x512 .f32) (ix2 0 ⟨256 + l, by omega⟩) = m ((c : Thread nD τ).loc main_arg9) (ix1 l) := by
  rw [staged_gb]
  pointwise

/-- A pair of index words, and what they hold. -/
def pair (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

theorem pair0 (a b : BitVec 32) : pair a b (ix1 (0 : Fin 2)) = a := by
  pointwise [pair]
theorem pair1 (a b : BitVec 32) : pair a b (ix1 (1 : Fin 2)) = b := by
  pointwise [pair]

theorem staged_pair0 : V m c main_v5 = pair 0#32 0#32 := by
  unfold V hostOps0 hostOps0_1 hostOps0_2
  simp only [List.flatten_cons, List.flatten_nil, List.cons_append, List.nil_append, List.append_nil]
  after_reads_simp
  rfl

theorem staged_pair1 : V m c main_v9 = pair 16#32 256#32 := by
  unfold V hostOps0 hostOps0_1 hostOps0_2
  simp only [List.flatten_cons, List.flatten_nil, List.cons_append, List.nil_append, List.append_nil]
  after_reads_simp
  rfl

/-- A 16 by 256 matrix written into the gates' weight. -/
def put (a b : BitVec 32) (x : FVec Ideal S128x512 .f32) (u : FVec Ideal S16x256 .f32) : FVec Ideal S128x512 .f32 :=
  Host.scatter scatter_S128x512_S2_S16x256_01_n_01_0 (fun _ b => b) x (pair a b) u

theorem put_in (a b : BitVec 32) (a' b' : ℕ) (ha : a.toInt = a') (hb : b.toInt = b') (x : FVec Ideal S128x512 .f32) (u : FVec Ideal S16x256 .f32)
    (k : Fin 16) (e : Fin 256) (r : Fin 128) (c : Fin 512) (hr : a' + (k : ℕ) = r) (hc : b' + (e : ℕ) = c) :
    put a b x u (ix2 r c) = u (ix2 k e) :=
  placed_in (R := 128) (C := 512) (U := 16) (W := 256) scatter_S128x512_S2_S16x256_01_n_01_0 rfl rfl rfl rfl (pair a b) a' b'
    ((congrArg BitVec.toInt (pair0 a b)).trans ha) ((congrArg BitVec.toInt (pair1 a b)).trans hb) x u k e r c hr hc

theorem put_out (a b : BitVec 32) (a' b' : ℕ) (ha : a.toInt = a') (hb : b.toInt = b') (x : FVec Ideal S128x512 .f32) (u : FVec Ideal S16x256 .f32)
    (r : Fin 128) (c : Fin 512) (h : (r : ℕ) < a' ∨ a' + 16 ≤ r ∨ (c : ℕ) < b' ∨ b' + 256 ≤ c) :
    put a b x u (ix2 r c) = x (ix2 r c) :=
  placed_out (R := 128) (C := 512) (U := 16) (W := 256) scatter_S128x512_S2_S16x256_01_n_01_0 rfl rfl rfl rfl (pair a b) a' b'
    ((congrArg BitVec.toInt (pair0 a b)).trans ha) ((congrArg BitVec.toInt (pair1 a b)).trans hb) x u r c h

/-- A zero matrix with the two directions' weights on its diagonal. -/
def placedW (u v : FVec Ideal S16x256 .f32) : FVec Ideal S128x512 .f32 :=
  put 16#32 256#32 (put 0#32 0#32 (broadcastInDim S128x512 ![] bcast_S_S128x512 (constant (F := Ideal) S_ .f32 0x00000000#32)) u) v

section
variable (u v : FVec Ideal S16x256 .f32)

theorem zeros (i : Fin 128) (e : Fin 512) :
    broadcastInDim S128x512 ![] bcast_S_S128x512 (constant (F := Ideal) S_ .f32 0x00000000#32) (ix2 i e) = (0 : EReal) := by
  pointwise

/-- In the first direction's lanes: its weight, and zero below. -/
theorem placedW0 (k : Fin 16) (l : Fin 256) (r : Fin 128) (e : Fin 512) (hr : 0 + (k : ℕ) = r) (he : (l : ℕ) = e) :
    placedW u v (ix2 r e) = u (ix2 k l) :=
  (put_out _ _ 16 256 rfl rfl _ _ r e (by omega)).trans (put_in _ _ 0 0 rfl rfl _ _ k l r e (by omega) (by omega))

theorem placedW0_off (r : Fin 128) (e : Fin 512) (he : (e : ℕ) < 256) (h : 16 ≤ (r : ℕ)) : placedW u v (ix2 r e) = (0 : EReal) :=
  (put_out _ _ 16 256 rfl rfl _ _ r e (by omega)).trans ((put_out _ _ 0 0 rfl rfl _ _ r e (by omega)).trans (zeros r e))

/-- In the second direction's lanes: its weight, and zero above and below. -/
theorem placedW1 (k : Fin 16) (l : Fin 256) (r : Fin 128) (e : Fin 512) (hr : 16 + (k : ℕ) = r) (he : 256 + (l : ℕ) = e) :
    placedW u v (ix2 r e) = v (ix2 k l) :=
  put_in _ _ 16 256 rfl rfl _ _ k l r e hr he

theorem placedW1_off (r : Fin 128) (e : Fin 512) (he : 256 ≤ (e : ℕ)) (h : (r : ℕ) < 16 ∨ 16 + 16 ≤ (r : ℕ)) : placedW u v (ix2 r e) = (0 : EReal) :=
  (put_out _ _ 16 256 rfl rfl _ _ r e (by omega)).trans ((put_out _ _ 0 0 rfl rfl _ _ r e (by omega)).trans (zeros r e))

end

/-- The gates' second weights as staged. -/
theorem staged_gw (k : Fin 128) (l : Fin 512) : (V m c main_v11 : FVec Ideal S128x512 .bf16) (ix2 k l)
    = placedW (m ((c : Thread nD τ).loc main_arg6)) (m ((c : Thread nD τ).loc main_arg8)) (ix2 k l) := by
  have h : (V m c main_v11 : FVec Ideal S128x512 .bf16)
    = truncf .bf16 (Host.scatter scatter_S128x512_S2_S16x256_01_n_01_0 (fun _ b => b)
        (Host.scatter scatter_S128x512_S2_S16x256_01_n_01_0 (fun _ b => b)
          (broadcastInDim S128x512 ![] bcast_S_S128x512 (constant (F := Ideal) S_ .f32 0x00000000#32)) (V m c main_v5) (m ((c : Thread nD τ).loc main_arg6) : FVec Ideal S16x256 .f32))
        (V m c main_v9) (m ((c : Thread nD τ).loc main_arg8) : FVec Ideal S16x256 .f32) : FVec Ideal S128x512 .f32) bitsLt_bf16_f32 := by
    unfold V hostOps0 hostOps0_1 hostOps0_2
    simp only [List.flatten_cons, List.flatten_nil, List.cons_append, List.nil_append, List.append_nil]
    after_reads_simp
  rw [staged_pair0, staged_pair1] at h
  rw [h]
  unfold placedW put
  pointwise

/-! ## The blocks of a point -/

variable (b : Fin 8) (j : Fin 8) (t : Fin cfg0.N) (ht : t.val = 8 * b + j)

include ht in
theorem block_x (r : Fin 512) (l : Fin 1024) :
    iblk m c 0 t (ix3 0 r l) = m ((c : Thread nD τ).loc main_arg0) (ix3 b ⟨512 * j + r, by omega⟩ l) := by
  rw [← V_main_arg0 m c]
  blk_ext [iblk, places t]

include ht in
theorem block_mod (p : Fin 6144) : iblk m c 1 t (ix3 0 0 p) = m ((c : Thread nD τ).loc main_arg1) (ix2 b p) := by
  rw [← staged_mod m c]
  blk_ext [iblk, places t]

theorem block_nm (l : Fin 1024) : iblk m c 2 t (ix2 0 l) = m ((c : Thread nD τ).loc main_arg2) (ix1 l) := by
  rw [← staged_nm m c]
  blk_ext [iblk, places t]

theorem block_w (k : Fin 1024) (p : Fin 3104) : iblk m c 3 t (ix2 k ⟨p, Nat.lt_of_lt_of_le p.isLt (by decide)⟩) = m ((c : Thread nD τ).loc main_arg3) (ix2 k p) := by
  rw [← staged_w m c]
  blk_ext [iblk, places t]

theorem block_gw (k : Fin 128) (l : Fin 512) : iblk m c 4 t (ix2 k l)
    = placedW (m ((c : Thread nD τ).loc main_arg6)) (m ((c : Thread nD τ).loc main_arg8)) (ix2 k l) := by
  rw [← staged_gw m c]
  blk_ext [iblk, places t]

theorem block_gb (l : Fin 512) : iblk m c 5 t (ix2 0 l) = (V m c main_v13 : FVec Ideal S1x512 .f32) (ix2 0 l) := by
  blk_ext [iblk, places t]

theorem block_cw (k : Fin 3) (p : Fin 1536) : iblk m c 6 t (ix2 k p) = m ((c : Thread nD τ).loc main_arg4) (ix2 k p) := by
  rw [← V_main_arg4 m c]
  blk_ext [iblk, places t]

theorem block_cb (p : Fin 1536) : iblk m c 7 t (ix2 0 p) = m ((c : Thread nD τ).loc main_arg5) (ix1 p) := by
  rw [← staged_cb m c]
  blk_ext [iblk, places t]

/-! ## A batch entry's columns -/

/-- Column `p` of the projection of batch entry `b`, of the arguments. -/
abbrev argCol (b : Fin 8) (p : Fin 3104) : Fin 4096 → EReal :=
  col (fun t l => m ((c : Thread nD τ).loc main_arg0) (ix3 b t l)) (fun p => m ((c : Thread nD τ).loc main_arg1) (ix2 b p))
    (fun l => m ((c : Thread nD τ).loc main_arg2) (ix1 l)) (fun k p => m ((c : Thread nD τ).loc main_arg3) (ix2 k p)) p

/-- Column `p` of its convolution. -/
abbrev argLine (b : Fin 8) (p : Fin 1536) : Fin 4096 → EReal :=
  line (fun t l => m ((c : Thread nD τ).loc main_arg0) (ix3 b t l)) (fun p => m ((c : Thread nD τ).loc main_arg1) (ix2 b p))
    (fun l => m ((c : Thread nD τ).loc main_arg2) (ix1 l)) (fun k p => m ((c : Thread nD τ).loc main_arg3) (ix2 k p))
    (fun k p => m ((c : Thread nD τ).loc main_arg4) (ix2 k p)) (fun p => m ((c : Thread nD τ).loc main_arg5) (ix1 p)) p

include ht in
theorem column_arg (p : Fin 3104) (r : Fin 512) :
    column (iblk m c 0 t) (iblk m c 1 t) (iblk m c 2 t) (iblk m c 3 t) ⟨p, by omega⟩ r = argCol m c b p ⟨512 * j + r, by omega⟩ := by
  unfold column inRow argCol col
  simp only [block_x m c b j t ht, block_mod m c b j t ht, block_nm]
  exact congrArg (proj _) (funext fun k => block_w m c t k p)

include ht in
theorem short_arg (p : Fin 1536) (r : Fin 512) :
    short (iblk m c 0 t) (iblk m c 1 t) (iblk m c 2 t) (iblk m c 3 t) (iblk m c 6 t) (iblk m c 7 t) p r = argLine m c b p ⟨512 * j + r, by omega⟩ := by
  unfold short argLine line
  rw [← conv_stretch, block_cb]
  have e1 : column (iblk m c 0 t) (iblk m c 1 t) (iblk m c 2 t) (iblk m c 3 t) ⟨p, by omega⟩
      = fun r : Fin 512 => argCol m c b ⟨p, by omega⟩ ⟨512 * j + r, by omega⟩ := funext fun r => column_arg m c b j t ht ⟨p, by omega⟩ r
  have e2 : (fun k => (iblk m c 6 t (ix2 k p) : EReal)) = fun k => m ((c : Thread nD τ).loc main_arg4) (ix2 k p) := funext fun k => block_cw m c t k p
  exact congrArg₂ (fun u w => conv u w _ r) e1 e2

include ht in
theorem gate0_arg (r : Fin 512) (l : Fin 256) :
    gate (∑ k : Fin 128, column (iblk m c 0 t) (iblk m c 1 t) (iblk m c 2 t) (iblk m c 3 t) ⟨3072 + k, by omega⟩ r * iblk m c 4 t (ix2 k ⟨l, by omega⟩)
        + iblk m c 5 t (ix2 0 ⟨l, by omega⟩))
      = gate (∑ k : Fin 16, argCol m c b ⟨3072 + k, by omega⟩ ⟨512 * j + r, by omega⟩ * m ((c : Thread nD τ).loc main_arg6) (ix2 k l)
        + m ((c : Thread nD τ).loc main_arg7) (ix1 l)) := by
  refine congrArg gate (congrArg₂ (· + ·) ((sum_sixteen _ 0 (by omega) fun k hk => ?_).trans (Finset.sum_congr rfl fun k _ => congrArg₂ (· * ·) ?_ ?_)) ?_)
  · rw [block_gw, placedW0_off _ _ k _ l.isLt (by omega), mul_zero]
  · refine Eq.trans ?_ (column_arg m c b j t ht ⟨3072 + k, by omega⟩ r)
    exact congrArg (fun p => column (iblk m c 0 t) (iblk m c 1 t) (iblk m c 2 t) (iblk m c 3 t) p r) (Fin.ext (by show 3072 + (0 + (k : ℕ)) = 3072 + k; omega))
  · rw [block_gw]
    exact placedW0 _ _ k l _ _ rfl rfl
  · rw [block_gb, staged_gb0]

include ht in
theorem gate1_arg (r : Fin 512) (l : Fin 256) :
    gate (∑ k : Fin 128, column (iblk m c 0 t) (iblk m c 1 t) (iblk m c 2 t) (iblk m c 3 t) ⟨3072 + k, by omega⟩ r * iblk m c 4 t (ix2 k ⟨256 + l, by omega⟩)
        + iblk m c 5 t (ix2 0 ⟨256 + l, by omega⟩))
      = gate (∑ k : Fin 16, argCol m c b ⟨3088 + k, by omega⟩ ⟨512 * j + r, by omega⟩ * m ((c : Thread nD τ).loc main_arg8) (ix2 k l)
        + m ((c : Thread nD τ).loc main_arg9) (ix1 l)) := by
  refine congrArg gate (congrArg₂ (· + ·) ((sum_sixteen _ 16 (by omega) fun k hk => ?_).trans (Finset.sum_congr rfl fun k _ => congrArg₂ (· * ·) ?_ ?_)) ?_)
  · rw [block_gw, placedW1_off _ _ k _ (Nat.le_add_right 256 l) hk, mul_zero]
  · refine Eq.trans ?_ (column_arg m c b j t ht ⟨3088 + k, by omega⟩ r)
    exact congrArg (fun p => column (iblk m c 0 t) (iblk m c 1 t) (iblk m c 2 t) (iblk m c 3 t) p r) (Fin.ext (by show 3072 + (16 + (k : ℕ)) = 3088 + k; omega))
  · rw [block_gw]
    exact placedW1 _ _ k l _ _ rfl rfl
  · rw [block_gb, staged_gb1]

end

end Cert.Kernel3Ideal.Block
-- ==== Proof.InArrays.lean ====
/-
  The output arrays of the projection call, read at an index.
-/
module

public import proofs.«01_k».proof.Proof.InKernel

@[expose] public section

set_option maxRecDepth 16384

noncomputable section

namespace Cert.Kernel3Ideal.Block

open Cert.Kernel3Ideal Cert.Kernel3Ideal.Gen Cert.Kernel3Ideal.Value Cert.Mlp Cert.InProj
open Idealize.ShloMosaic Idealize.ShloMosaic.TcCoe

section
variable (m : (ℓ : Loc nD τ sig) → Buf (Elt Ideal) ℓ) (c : Dev nD)

theorem value8 (b j : Fin 8) (r : Fin 512) (l : Fin 512) :
    ((dats m 0 c).arrAt 8 cfg0.N : FVec Ideal S8x4096x512 .bf16) (ix3 b ⟨512 * j + r, by omega⟩ l)
      = argLine m c b ⟨l, by omega⟩ ⟨512 * j + r, by omega⟩ := by
  have hN : cfg0.N = 64 := N_0
  obtain ⟨t, ht⟩ : ∃ t : Fin cfg0.N, t.val = 8 * b + j := ⟨⟨8 * b + j, by omega⟩, rfl⟩
  have h := congrFun ((blocks8 m c t (flushes t).1).trans (flushed8 m c t)) (ix3 0 r l)
  have e : ((cfg0.win 8).blk t).view.emb (ix3 0 r l) = (ix3 b ⟨512 * j + r, by omega⟩ l : S8x4096x512.Idx) := by
    have hp := (places_out t).1
    have h0 : win0_8.index t 0 = t.val / 8 := congrFun hp 0
    have h1 : win0_8.index t 1 = t.val % 8 := congrFun hp 1
    have h2 : win0_8.index t 2 = 0 := congrFun hp 2
    funext a
    apply Fin.ext
    match a with
    | ⟨0, _⟩ => show win0_8.index t 0 * 1 + 1 * 0 = (b : ℕ); rw [h0]; omega
    | ⟨1, _⟩ => show win0_8.index t 1 * 512 + 1 * (r : ℕ) = 512 * j + r; rw [h1]; omega
    | ⟨2, _⟩ => show win0_8.index t 2 * 512 + 1 * (l : ℕ) = l; rw [h2]; omega
  have h' : ((dats m 0 c).arrAt 8 cfg0.N : FVec Ideal S8x4096x512 .bf16) (((cfg0.win 8).blk t).view.emb (ix3 0 r l))
      = out0_8 (iblk m c 0 t) (iblk m c 1 t) (iblk m c 2 t) (iblk m c 3 t) (iblk m c 4 t) (iblk m c 5 t) (iblk m c 6 t) (iblk m c 7 t) (ix3 0 r l) := h
  rw [e] at h'
  refine h'.trans ((out8_apply _ _ _ _ _ _ _ _ r l).trans ?_)
  exact short_arg m c b j t ht ⟨l, by omega⟩ r

theorem value9 (b j : Fin 8) (r : Fin 512) (l : Fin 512) :
    ((dats m 0 c).arrAt 9 cfg0.N : FVec Ideal S8x4096x512 .bf16) (ix3 b ⟨512 * j + r, by omega⟩ l)
      = argLine m c b ⟨512 + l, by omega⟩ ⟨512 * j + r, by omega⟩ * argLine m c b ⟨1024 + l, by omega⟩ ⟨512 * j + r, by omega⟩ := by
  have hN : cfg0.N = 64 := N_0
  obtain ⟨t, ht⟩ : ∃ t : Fin cfg0.N, t.val = 8 * b + j := ⟨⟨8 * b + j, by omega⟩, rfl⟩
  have h := congrFun ((blocks9 m c t (flushes t).2.1).trans (flushed9 m c t)) (ix3 0 r l)
  have e : ((cfg0.win 9).blk t).view.emb (ix3 0 r l) = (ix3 b ⟨512 * j + r, by omega⟩ l : S8x4096x512.Idx) := by
    have hp := (places_out t).2.1
    have h0 : win0_9.index t 0 = t.val / 8 := congrFun hp 0
    have h1 : win0_9.index t 1 = t.val % 8 := congrFun hp 1
    have h2 : win0_9.index t 2 = 0 := congrFun hp 2
    funext a
    apply Fin.ext
    match a with
    | ⟨0, _⟩ => show win0_9.index t 0 * 1 + 1 * 0 = (b : ℕ); rw [h0]; omega
    | ⟨1, _⟩ => show win0_9.index t 1 * 512 + 1 * (r : ℕ) = 512 * j + r; rw [h1]; omega
    | ⟨2, _⟩ => show win0_9.index t 2 * 512 + 1 * (l : ℕ) = l; rw [h2]; omega
  have h' : ((dats m 0 c).arrAt 9 cfg0.N : FVec Ideal S8x4096x512 .bf16) (((cfg0.win 9).blk t).view.emb (ix3 0 r l))
      = out0_9 (iblk m c 0 t) (iblk m c 1 t) (iblk m c 2 t) (iblk m c 3 t) (iblk m c 4 t) (iblk m c 5 t) (iblk m c 6 t) (iblk m c 7 t) (ix3 0 r l) := h
  rw [e] at h'
  refine h'.trans ((out9_apply _ _ _ _ _ _ _ _ r l).trans ?_)
  exact congrArg₂ (· * ·) (short_arg m c b j t ht ⟨512 + l, by omega⟩ r) (short_arg m c b j t ht ⟨1024 + l, by omega⟩ r)

theorem value10 (b j : Fin 8) (r : Fin 512) (l : Fin 256) :
    ((dats m 0 c).arrAt 10 cfg0.N : FVec Ideal S8x4096x256 .bf16) (ix3 b ⟨512 * j + r, by omega⟩ l)
      = argCol m c b ⟨1536 + l, by omega⟩ ⟨512 * j + r, by omega⟩ * Ideal.ofBits .f32 0x3E000000#32 := by
  have hN : cfg0.N = 64 := N_0
  obtain ⟨t, ht⟩ : ∃ t : Fin cfg0.N, t.val = 8 * b + j := ⟨⟨8 * b + j, by omega⟩, rfl⟩
  have h := congrFun ((blocks10 m c t (flushes t).2.2.1).trans (flushed10 m c t)) (ix3 0 r l)
  have e : ((cfg0.win 10).blk t).view.emb (ix3 0 r l) = (ix3 b ⟨512 * j + r, by omega⟩ l : S8x4096x256.Idx) := by
    have hp := (places_out t).2.2.1
    have h0 : win0_10.index t 0 = t.val / 8 := congrFun hp 0
    have h1 : win0_10.index t 1 = t.val % 8 := congrFun hp 1
    have h2 : win0_10.index t 2 = 0 := congrFun hp 2
    funext a
    apply Fin.ext
    match a with
    | ⟨0, _⟩ => show win0_10.index t 0 * 1 + 1 * 0 = (b : ℕ); rw [h0]; omega
    | ⟨1, _⟩ => show win0_10.index t 1 * 512 + 1 * (r : ℕ) = 512 * j + r; rw [h1]; omega
    | ⟨2, _⟩ => show win0_10.index t 2 * 256 + 1 * (l : ℕ) = l; rw [h2]; omega
  have h' : ((dats m 0 c).arrAt 10 cfg0.N : FVec Ideal S8x4096x256 .bf16) (((cfg0.win 10).blk t).view.emb (ix3 0 r l))
      = out0_10 (iblk m c 0 t) (iblk m c 1 t) (iblk m c 2 t) (iblk m c 3 t) (iblk m c 4 t) (iblk m c 5 t) (iblk m c 6 t) (iblk m c 7 t) (ix3 0 r l) := h
  rw [e] at h'
  refine h'.trans ((out10_apply _ _ _ _ _ _ _ _ r l).trans ?_)
  exact congrArg (· * Ideal.ofBits .f32 0x3E000000#32) (column_arg m c b j t ht ⟨1536 + l, by omega⟩ r)

theorem value11 (b j : Fin 8) (r : Fin 512) (l : Fin 256) :
    ((dats m 0 c).arrAt 11 cfg0.N : FVec Ideal S8x4096x256 .bf16) (ix3 b ⟨512 * j + r, by omega⟩ l)
      = argCol m c b ⟨1792 + l, by omega⟩ ⟨512 * j + r, by omega⟩ := by
  have hN : cfg0.N = 64 := N_0
  obtain ⟨t, ht⟩ : ∃ t : Fin cfg0.N, t.val = 8 * b + j := ⟨⟨8 * b + j, by omega⟩, rfl⟩
  have h := congrFun ((blocks11 m c t (flushes t).2.2.2.1).trans (flushed11 m c t)) (ix3 0 r l)
  have e : ((cfg0.win 11).blk t).view.emb (ix3 0 r l) = (ix3 b ⟨512 * j + r, by omega⟩ l : S8x4096x256.Idx) := by
    have hp := (places_out t).2.2.2.1
    have h0 : win0_11.index t 0 = t.val / 8 := congrFun hp 0
    have h1 : win0_11.index t 1 = t.val % 8 := congrFun hp 1
    have h2 : win0_11.index t 2 = 0 := congrFun hp 2
    funext a
    apply Fin.ext
    match a with
    | ⟨0, _⟩ => show win0_11.index t 0 * 1 + 1 * 0 = (b : ℕ); rw [h0]; omega
    | ⟨1, _⟩ => show win0_11.index t 1 * 512 + 1 * (r : ℕ) = 512 * j + r; rw [h1]; omega
    | ⟨2, _⟩ => show win0_11.index t 2 * 256 + 1 * (l : ℕ) = l; rw [h2]; omega
  have h' : ((dats m 0 c).arrAt 11 cfg0.N : FVec Ideal S8x4096x256 .bf16) (((cfg0.win 11).blk t).view.emb (ix3 0 r l))
      = out0_11 (iblk m c 0 t) (iblk m c 1 t) (iblk m c 2 t) (iblk m c 3 t) (iblk m c 4 t) (iblk m c 5 t) (iblk m c 6 t) (iblk m c 7 t) (ix3 0 r l) := h
  rw [e] at h'
  refine h'.trans ((out11_apply _ _ _ _ _ _ _ _ r l).trans ?_)
  exact column_arg m c b j t ht ⟨1792 + l, by omega⟩ r

theorem value12 (b j : Fin 8) (r : Fin 512) (l : Fin 512) :
    ((dats m 0 c).arrAt 12 cfg0.N : FVec Ideal S8x4096x512 .bf16) (ix3 b ⟨512 * j + r, by omega⟩ l)
      = argCol m c b ⟨2048 + l, by omega⟩ ⟨512 * j + r, by omega⟩ := by
  have hN : cfg0.N = 64 := N_0
  obtain ⟨t, ht⟩ : ∃ t : Fin cfg0.N, t.val = 8 * b + j := ⟨⟨8 * b + j, by omega⟩, rfl⟩
  have h := congrFun ((blocks12 m c t (flushes t).2.2.2.2.1).trans (flushed12 m c t)) (ix3 0 r l)
  have e : ((cfg0.win 12).blk t).view.emb (ix3 0 r l) = (ix3 b ⟨512 * j + r, by omega⟩ l : S8x4096x512.Idx) := by
    have hp := (places_out t).2.2.2.2.1
    have h0 : win0_12.index t 0 = t.val / 8 := congrFun hp 0
    have h1 : win0_12.index t 1 = t.val % 8 := congrFun hp 1
    have h2 : win0_12.index t 2 = 0 := congrFun hp 2
    funext a
    apply Fin.ext
    match a with
    | ⟨0, _⟩ => show win0_12.index t 0 * 1 + 1 * 0 = (b : ℕ); rw [h0]; omega
    | ⟨1, _⟩ => show win0_12.index t 1 * 512 + 1 * (r : ℕ) = 512 * j + r; rw [h1]; omega
    | ⟨2, _⟩ => show win0_12.index t 2 * 512 + 1 * (l : ℕ) = l; rw [h2]; omega
  have h' : ((dats m 0 c).arrAt 12 cfg0.N : FVec Ideal S8x4096x512 .bf16) (((cfg0.win 12).blk t).view.emb (ix3 0 r l))
      = out0_12 (iblk m c 0 t) (iblk m c 1 t) (iblk m c 2 t) (iblk m c 3 t) (iblk m c 4 t) (iblk m c 5 t) (iblk m c 6 t) (iblk m c 7 t) (ix3 0 r l) := h
  rw [e] at h'
  refine h'.trans ((out12_apply _ _ _ _ _ _ _ _ r l).trans ?_)
  exact column_arg m c b j t ht ⟨2048 + l, by omega⟩ r

theorem value13 (b j : Fin 8) (r : Fin 512) (l : Fin 512) :
    ((dats m 0 c).arrAt 13 cfg0.N : FVec Ideal S8x4096x512 .bf16) (ix3 b ⟨512 * j + r, by omega⟩ l)
      = argCol m c b ⟨2560 + l, by omega⟩ ⟨512 * j + r, by omega⟩ := by
  have hN : cfg0.N = 64 := N_0
  obtain ⟨t, ht⟩ : ∃ t : Fin cfg0.N, t.val = 8 * b + j := ⟨⟨8 * b + j, by omega⟩, rfl⟩
  have h := congrFun ((blocks13 m c t (flushes t).2.2.2.2.2.1).trans (flushed13 m c t)) (ix3 0 r l)
  have e : ((cfg0.win 13).blk t).view.emb (ix3 0 r l) = (ix3 b ⟨512 * j + r, by omega⟩ l : S8x4096x512.Idx) := by
    have hp := (places_out t).2.2.2.2.2.1
    have h0 : win0_13.index t 0 = t.val / 8 := congrFun hp 0
    have h1 : win0_13.index t 1 = t.val % 8 := congrFun hp 1
    have h2 : win0_13.index t 2 = 0 := congrFun hp 2
    funext a
    apply Fin.ext
    match a with
    | ⟨0, _⟩ => show win0_13.index t 0 * 1 + 1 * 0 = (b : ℕ); rw [h0]; omega
    | ⟨1, _⟩ => show win0_13.index t 1 * 512 + 1 * (r : ℕ) = 512 * j + r; rw [h1]; omega
    | ⟨2, _⟩ => show win0_13.index t 2 * 512 + 1 * (l : ℕ) = l; rw [h2]; omega
  have h' : ((dats m 0 c).arrAt 13 cfg0.N : FVec Ideal S8x4096x512 .bf16) (((cfg0.win 13).blk t).view.emb (ix3 0 r l))
      = out0_13 (iblk m c 0 t) (iblk m c 1 t) (iblk m c 2 t) (iblk m c 3 t) (iblk m c 4 t) (iblk m c 5 t) (iblk m c 6 t) (iblk m c 7 t) (ix3 0 r l) := h
  rw [e] at h'
  refine h'.trans ((out13_apply _ _ _ _ _ _ _ _ r l).trans ?_)
  exact column_arg m c b j t ht ⟨2560 + l, by omega⟩ r

theorem value14 (b j : Fin 8) (r : Fin 512) (l : Fin 256) :
    ((dats m 0 c).arrAt 14 cfg0.N : FVec Ideal S8x4096x256 .f32) (ix3 b ⟨512 * j + r, by omega⟩ l)
      = gate (∑ k : Fin 16, argCol m c b ⟨3072 + k, by omega⟩ ⟨512 * j + r, by omega⟩ * m ((c : Thread nD τ).loc main_arg6) (ix2 k l)
        + m ((c : Thread nD τ).loc main_arg7) (ix1 l)) := by
  have hN : cfg0.N = 64 := N_0
  obtain ⟨t, ht⟩ : ∃ t : Fin cfg0.N, t.val = 8 * b + j := ⟨⟨8 * b + j, by omega⟩, rfl⟩
  have h := congrFun ((blocks14 m c t (flushes t).2.2.2.2.2.2.1).trans (flushed14 m c t)) (ix3 0 r l)
  have e : ((cfg0.win 14).blk t).view.emb (ix3 0 r l) = (ix3 b ⟨512 * j + r, by omega⟩ l : S8x4096x256.Idx) := by
    have hp := (places_out t).2.2.2.2.2.2.1
    have h0 : win0_14.index t 0 = t.val / 8 := congrFun hp 0
    have h1 : win0_14.index t 1 = t.val % 8 := congrFun hp 1
    have h2 : win0_14.index t 2 = 0 := congrFun hp 2
    funext a
    apply Fin.ext
    match a with
    | ⟨0, _⟩ => show win0_14.index t 0 * 1 + 1 * 0 = (b : ℕ); rw [h0]; omega
    | ⟨1, _⟩ => show win0_14.index t 1 * 512 + 1 * (r : ℕ) = 512 * j + r; rw [h1]; omega
    | ⟨2, _⟩ => show win0_14.index t 2 * 256 + 1 * (l : ℕ) = l; rw [h2]; omega
  have h' : ((dats m 0 c).arrAt 14 cfg0.N : FVec Ideal S8x4096x256 .f32) (((cfg0.win 14).blk t).view.emb (ix3 0 r l))
      = out0_14 (iblk m c 0 t) (iblk m c 1 t) (iblk m c 2 t) (iblk m c 3 t) (iblk m c 4 t) (iblk m c 5 t) (iblk m c 6 t) (iblk m c 7 t) (ix3 0 r l) := h
  rw [e] at h'
  refine h'.trans ((out14_apply _ _ _ _ _ _ _ _ r l).trans ?_)
  exact gate0_arg m c b j t ht r l

theorem value15 (b j : Fin 8) (r : Fin 512) (l : Fin 256) :
    ((dats m 0 c).arrAt 15 cfg0.N : FVec Ideal S8x4096x256 .f32) (ix3 b ⟨512 * j + r, by omega⟩ l)
      = gate (∑ k : Fin 16, argCol m c b ⟨3088 + k, by omega⟩ ⟨512 * j + r, by omega⟩ * m ((c : Thread nD τ).loc main_arg8) (ix2 k l)
        + m ((c : Thread nD τ).loc main_arg9) (ix1 l)) := by
  have hN : cfg0.N = 64 := N_0
  obtain ⟨t, ht⟩ : ∃ t : Fin cfg0.N, t.val = 8 * b + j := ⟨⟨8 * b + j, by omega⟩, rfl⟩
  have h := congrFun ((blocks15 m c t (flushes t).2.2.2.2.2.2.2).trans (flushed15 m c t)) (ix3 0 r l)
  have e : ((cfg0.win 15).blk t).view.emb (ix3 0 r l) = (ix3 b ⟨512 * j + r, by omega⟩ l : S8x4096x256.Idx) := by
    have hp := (places_out t).2.2.2.2.2.2.2
    have h0 : win0_15.index t 0 = t.val / 8 := congrFun hp 0
    have h1 : win0_15.index t 1 = t.val % 8 := congrFun hp 1
    have h2 : win0_15.index t 2 = 0 := congrFun hp 2
    funext a
    apply Fin.ext
    match a with
    | ⟨0, _⟩ => show win0_15.index t 0 * 1 + 1 * 0 = (b : ℕ); rw [h0]; omega
    | ⟨1, _⟩ => show win0_15.index t 1 * 512 + 1 * (r : ℕ) = 512 * j + r; rw [h1]; omega
    | ⟨2, _⟩ => show win0_15.index t 2 * 256 + 1 * (l : ℕ) = l; rw [h2]; omega
  have h' : ((dats m 0 c).arrAt 15 cfg0.N : FVec Ideal S8x4096x256 .f32) (((cfg0.win 15).blk t).view.emb (ix3 0 r l))
      = out0_15 (iblk m c 0 t) (iblk m c 1 t) (iblk m c 2 t) (iblk m c 3 t) (iblk m c 4 t) (iblk m c 5 t) (iblk m c 6 t) (iblk m c 7 t) (ix3 0 r l) := h
  rw [e] at h'
  refine h'.trans ((out15_apply _ _ _ _ _ _ _ _ r l).trans ?_)
  exact gate1_arg m c b j t ht r l

end

end Cert.Kernel3Ideal.Block
-- ==== Proof.InRef.lean ====
/-
  The reference of the projection call read at an index: the same row functions.
-/
module

public import proofs.«01_k».proof.Proof.InSpec
public import proofs.«01_k».proof.Proof.Gen.Reference3Ideal.Run
public import Idealize.ShloMosaic.Lib.Pointwise

@[expose] public section

set_option maxRecDepth 16384

noncomputable section

namespace Cert.Reference3Ideal.Read

open Cert.Reference3Ideal Cert.Reference3Ideal.Gen Cert.Reference3Ideal.Value Cert.Mlp Cert.InProj
open Idealize.ShloMosaic Idealize.ShloMosaic.TcCoe

section
variable (x : FVec Ideal S8x4096x1024 .f32) (md : FVec Ideal S8x6144 .f32) (nm : FVec Ideal S1024 .f32) (w : FVec Ideal S1024x3104 .f32)
  (cw : FVec Ideal S3x1536 .f32) (cb : FVec Ideal S1536 .f32) (g : FVec Ideal S16x256 .f32) (gb : FVec Ideal S256 .f32)

/-- Part `p` of the modulation, over the rows. -/
def spread (p : FVec Ideal S8x1x1024 .f32) : FVec Ideal S8x4096x1024 .f32 :=
  broadcastInDim S8x4096x1024 ![0, 1, 2] bcast_S8x1x1024_S8x4096x1024_0_1_2 p

def shift : FVec Ideal S8x1x1024 .f32 :=
  extractStridedSlice S8x1x1024 ![0, 0, 0] (broadcastInDim S8x1x6144 ![0, 2] bcast_S8x6144_S8x1x6144_0_2 md) slices_S8x1x6144_S8x1x1024_0_0_0
def scale : FVec Ideal S8x1x1024 .f32 :=
  extractStridedSlice S8x1x1024 ![0, 0, 1024] (broadcastInDim S8x1x6144 ![0, 2] bcast_S8x6144_S8x1x6144_0_2 md) slices_S8x1x6144_S8x1x1024_0_0_1024

/-- Rows over their root mean square, times a weight. -/
def normed : FVec Ideal S8x4096x1024 .f32 :=
  mulf (mulf x (broadcastInDim S8x4096x1024 ![0, 1, 2] bcast_S8x4096x1_S8x4096x1024_0_1_2 (Host.rsqrt (addf (Host.divf
      (broadcastInDim S8x4096x1 ![0, 1] bcast_S8x4096_S8x4096x1_0_1 (Host.reduceAdd (mulf x x) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 nm))

def rows : FVec Ideal S8x4096x1024 .f32 :=
  addf (mulf (normed x nm) (spread (addf (broadcastInDim S8x1x1024 ![] bcast_S_S8x1x1024 (constant S_ .f32 0x3F800000#32)) (scale md)))) (spread (shift md))

def projected : FVec Ideal S8x4096x3104 .f32 :=
  Host.dotGeneral dot_S8x4096x1024_S1024x3104_S8x4096x3104_2_0_01_1_n_n none (rows x md nm) w

/-- Lines of 64 rows with a row of zeros before and after. -/
def edged (u : FVec Ideal S8x64x64x1536 .f32) : FVec Ideal S8x64x66x1536 .f32 :=
  pad S8x64x66x1536 ![0, 0, 1, 0] ![0, 0, 1, 0] ![0, 0, 0, 0] u (sitofp .f32 (constantI S_ 32 0#32)) pads_S8x64x64x1536_S8x64x66x1536_000_000_110_000 h_S_

def lines (p : FVec Ideal S8x4096x3104 .f32) : FVec Ideal S8x64x64x1536 .f32 :=
  shapeCast _ (extractStridedSlice S8x4096x1536 ![0, 0, 0] p slices_S8x4096x3104_S8x4096x1536_0_0_0) shapeCasts_S8x4096x1536_S8x64x64x1536

/-- A tap's weights over the lines. -/
def over (v : FVec Ideal S1536 .f32) : FVec Ideal S8x64x64x1536 .f32 :=
  broadcastInDim S8x64x64x1536 ![0, 1, 2, 3] bcast_S1x1x1x1536_S8x64x64x1536_0_1_2_3 (broadcastInDim S1x1x1x1536 ![3] bcast_S1536_S1x1x1x1536_3 v)

def convolved (u : FVec Ideal S8x64x64x1536 .f32) : FVec Ideal S8x64x64x1536 .f32 :=
  addf (addf (addf (over cb)
      (mulf (over (shapeCast _ (extractStridedSlice S1x1536 ![0, 0] cw slices_S3x1536_S1x1536_0_0) shapeCasts_S1x1536_S1536))
        (extractStridedSlice S8x64x64x1536 ![0, 0, 0, 0] (edged u) slices_S8x64x66x1536_S8x64x64x1536_0_0_0_0)))
      (mulf (over (shapeCast _ (extractStridedSlice S1x1536 ![1, 0] cw slices_S3x1536_S1x1536_1_0) shapeCasts_S1x1536_S1536))
        (extractStridedSlice S8x64x64x1536 ![0, 0, 1, 0] (edged u) slices_S8x64x66x1536_S8x64x64x1536_0_0_1_0)))
    (mulf (over (shapeCast _ (extractStridedSlice S1x1536 ![2, 0] cw slices_S3x1536_S1x1536_2_0) shapeCasts_S1x1536_S1536))
      (extractStridedSlice S8x64x64x1536 ![0, 0, 2, 0] (edged u) slices_S8x64x66x1536_S8x64x64x1536_0_0_2_0))

def mixed (p : FVec Ideal S8x4096x3104 .f32) : FVec Ideal S8x4096x1536 .f32 :=
  shapeCast _ (convolved cw cb (lines p)) shapeCasts_S8x64x64x1536_S8x4096x1536

/-- A sixteenth of the log of the sigmoid. -/
def logGate (z : FVec Ideal S8x4096x256 .f32) : FVec Ideal S8x4096x256 .f32 :=
  Host.divf (Host.negf (select
      (cmpf .une (subf (Host.negf z) (broadcastInDim S8x4096x256 ![] bcast_S_S8x4096x256 (constant S_ .f32 0x00000000#32)))
        (subf (Host.negf z) (broadcastInDim S8x4096x256 ![] bcast_S_S8x4096x256 (constant S_ .f32 0x00000000#32))))
      (addf (Host.negf z) (broadcastInDim S8x4096x256 ![] bcast_S_S8x4096x256 (constant S_ .f32 0x00000000#32)))
      (addf (maximumf (Host.negf z) (broadcastInDim S8x4096x256 ![] bcast_S_S8x4096x256 (constant S_ .f32 0x00000000#32)))
        (Host.log1p (Host.exp (Host.negf (Host.absf (subf (Host.negf z)
          (broadcastInDim S8x4096x256 ![] bcast_S_S8x4096x256 (constant S_ .f32 0x00000000#32))))))))))
    (broadcastInDim S8x4096x256 ![] bcast_S_S8x4096x256 (constant S_ .f32 0x41800000#32))

def gateIn (s : FVec Ideal S8x4096x16 .f32) : FVec Ideal S8x4096x256 .f32 :=
  addf (Host.dotGeneral dot_S8x4096x16_S16x256_S8x4096x256_2_0_01_1_n_n none s g)
    (broadcastInDim S8x4096x256 ![0, 1, 2] bcast_S1x1x256_S8x4096x256_0_1_2 (broadcastInDim S1x1x256 ![2] bcast_S256_S1x1x256_2 gb))

/-! ## The stages at an index -/

theorem spread_apply (p : FVec Ideal S8x1x1024 .f32) (i : Fin 8) (t : Fin 4096) (l : Fin 1024) :
    spread p (ix3 i t l) = p (ix3 i 0 l) := by
  pointwise [spread]

theorem shift_apply (i : Fin 8) (l : Fin 1024) : shift md (ix3 i 0 l) = md (ix2 i (part 0 l)) := by
  pointwise [shift]
  exact congrArg (fun p => md (ix2 i p)) (Fin.ext (by show (l : ℕ) = 1024 * 0 + l; omega))
theorem scale_apply (i : Fin 8) (l : Fin 1024) : scale md (ix3 i 0 l) = md (ix2 i (part 1 l)) := by
  pointwise [scale]
  rfl

theorem normed_apply (i : Fin 8) (t : Fin 4096) (l : Fin 1024) :
    normed x nm (ix3 i t l) = rms (fun l => x (ix3 i t l)) l * nm (ix1 l) := by
  pointwise [normed, rms]

theorem rows_apply (i : Fin 8) (t : Fin 4096) (l : Fin 1024) :
    rows x md nm (ix3 i t l) = input (fun p => md (ix2 i p)) (fun l => nm (ix1 l)) (fun l => x (ix3 i t l)) l := by
  unfold input
  beta_reduce
  rw [← scale_apply md, ← shift_apply md, ← normed_apply x nm, ← spread_apply (shift md) i t]
  unfold rows
  generalize normed x nm = n
  generalize spread (shift md) = s
  generalize scale md = c
  pointwise [spread]

theorem projected_apply (i : Fin 8) (t : Fin 4096) (p : Fin 3104) :
    projected x md nm w (ix3 i t p)
      = col (fun t l => x (ix3 i t l)) (fun p => md (ix2 i p)) (fun l => nm (ix1 l)) (fun k p => w (ix2 k p)) p t := by
  unfold col proj
  simp only [← rows_apply]
  unfold projected
  generalize rows x md nm = h
  pointwise

theorem edged_apply (u : FVec Ideal S8x64x64x1536 .f32) (i : Fin 8) (a : Fin 64) (s : Fin 66) (p : Fin 1536) :
    edged u (ix4 i a s p) = if h : 1 ≤ (s : ℕ) ∧ (s : ℕ) - 1 < 64 then u (ix4 i a ⟨s - 1, h.2⟩ p) else 0 := by
  have h0 : (FloatOps.sitofp .f32 0#32 : Ideal .f32) = (0 : EReal) := by
    show (((0#32 : BitVec 32).toInt : ℝ) : EReal) = 0
    simp
  pointwise [edged]
  rw [h0]

theorem lines_apply (q : FVec Ideal S8x4096x3104 .f32) (i : Fin 8) (a s : Fin 64) (p : Fin 1536) :
    lines q (ix4 i a s p) = q (ix3 i ⟨64 * a + s, by omega⟩ ⟨p, by omega⟩) := by
  pointwise [lines]
  exact congrArg (fun r => q (ix3 i r ⟨p, by omega⟩)) (Fin.ext (by show (a : ℕ) * 64 + s = 64 * a + s; omega))

theorem convolved_apply (u : FVec Ideal S8x64x64x1536 .f32) (i : Fin 8) (a s : Fin 64) (p : Fin 1536) :
    convolved cw cb u (ix4 i a s p)
      = cb (ix1 p) + cw (ix2 0 p) * edged u (ix4 i a ⟨s, by omega⟩ p) + cw (ix2 1 p) * edged u (ix4 i a ⟨1 + s, by omega⟩ p)
        + cw (ix2 2 p) * edged u (ix4 i a ⟨2 + s, by omega⟩ p) := by
  unfold convolved
  generalize edged u = e
  pointwise [over]

theorem mixed_split (q : FVec Ideal S8x4096x3104 .f32) (i : Fin 8) (t : Fin 4096) (p : Fin 1536) :
    mixed cw cb q (ix3 i t p) = convolved cw cb (lines q) (ix4 i ⟨t / 64, by omega⟩ ⟨t % 64, by omega⟩ p) := by
  unfold mixed
  generalize convolved cw cb (lines q) = e
  pointwise

/-- A column of the convolution is the convolution of the projection's column, line by line. -/
theorem mixed_conv (q : FVec Ideal S8x4096x3104 .f32) (i : Fin 8) (t : Fin 4096) (p : Fin 1536) :
    mixed cw cb q (ix3 i t p) = conv (fun t : Fin 4096 => q (ix3 i t ⟨p, by omega⟩)) (fun j => cw (ix2 j p)) (cb (ix1 p)) t := by
  have ht := t.isLt
  rw [mixed_split, convolved_apply]
  unfold conv
  refine congrArg₂ (· + ·) (congrArg₂ (· + ·) (congrArg (fun x => cb (ix1 p) + cw (ix2 0 p) * x) ?_) (congrArg (fun x => cw (ix2 1 p) * x) ?_))
    (congrArg (fun x => cw (ix2 2 p) * x) ?_)
  · rw [edged_apply]
    by_cases h : (t : ℕ) % 64 = 0
    · rw [if_pos h, dif_neg (by show ¬(1 ≤ (t : ℕ) % 64 ∧ (t : ℕ) % 64 - 1 < 64); omega)]
    · rw [if_neg h, dif_pos (by show 1 ≤ (t : ℕ) % 64 ∧ (t : ℕ) % 64 - 1 < 64; omega), lines_apply]
      refine congrArg (fun r => q (ix3 i r ⟨p, _⟩)) (Fin.ext ?_)
      show 64 * ((t : ℕ) / 64) + ((t : ℕ) % 64 - 1) = (t + 4095) % 4096
      omega
  · rw [edged_apply, dif_pos (by show 1 ≤ 1 + (t : ℕ) % 64 ∧ 1 + (t : ℕ) % 64 - 1 < 64; omega), lines_apply]
    refine congrArg (fun r => q (ix3 i r ⟨p, _⟩)) (Fin.ext ?_)
    show 64 * ((t : ℕ) / 64) + (1 + (t : ℕ) % 64 - 1) = t
    omega
  · rw [edged_apply]
    by_cases h : (t : ℕ) % 64 = 63
    · rw [if_pos h, dif_neg (by show ¬(1 ≤ 2 + (t : ℕ) % 64 ∧ 2 + (t : ℕ) % 64 - 1 < 64); omega)]
    · rw [if_neg h, dif_pos (by show 1 ≤ 2 + (t : ℕ) % 64 ∧ 2 + (t : ℕ) % 64 - 1 < 64; omega), lines_apply]
      refine congrArg (fun r => q (ix3 i r ⟨p, _⟩)) (Fin.ext ?_)
      show 64 * ((t : ℕ) / 64) + (2 + (t : ℕ) % 64 - 1) = (t + 1) % 4096
      omega

theorem logGate_apply (z : FVec Ideal S8x4096x256 .f32) (i : Fin 8) (t : Fin 4096) (l : Fin 256) :
    logGate z (ix3 i t l) = gate (z (ix3 i t l)) := by
  pointwise [logGate, gate, softplus]
  rw [if_neg (fun h => h rfl)]
  rfl

theorem gateIn_apply (s : FVec Ideal S8x4096x16 .f32) (i : Fin 8) (t : Fin 4096) (l : Fin 256) :
    gateIn g gb s (ix3 i t l) = (∑ k : Fin 16, (s (ix3 i t k) : EReal) * g (ix2 k l)) + gb (ix1 l) := by
  pointwise [gateIn]

/-! ## The results -/

/-- A batch entry's column of the projection and of the convolution, from the arguments. -/
abbrev colOf (i : Fin 8) (p : Fin 3104) : Fin 4096 → EReal :=
  col (fun t l => x (ix3 i t l)) (fun p => md (ix2 i p)) (fun l => nm (ix1 l)) (fun k p => w (ix2 k p)) p
abbrev lineOf (i : Fin 8) (p : Fin 1536) : Fin 4096 → EReal :=
  line (fun t l => x (ix3 i t l)) (fun p => md (ix2 i p)) (fun l => nm (ix1 l)) (fun k p => w (ix2 k p))
    (fun k p => cw (ix2 k p)) (fun p => cb (ix1 p)) p

theorem mixed_apply (i : Fin 8) (t : Fin 4096) (p : Fin 1536) :
    mixed cw cb (projected x md nm w) (ix3 i t p) = lineOf x md nm w cw cb i p t := by
  rw [mixed_conv]
  unfold lineOf line
  exact congrArg (fun u => conv u _ _ t) (funext fun t => projected_apply x md nm w i t ⟨p, by omega⟩)

def result0 : FVec Ideal S8x4096x512 .bf16 :=
  truncf .bf16 (extractStridedSlice S8x4096x512 ![0, 0, 0] (mixed cw cb (projected x md nm w)) slices_S8x4096x1536_S8x4096x512_0_0_0) bitsLt_bf16_f32

def result1 : FVec Ideal S8x4096x512 .bf16 :=
  truncf .bf16 (mulf (extractStridedSlice S8x4096x512 ![0, 0, 512] (mixed cw cb (projected x md nm w)) slices_S8x4096x1536_S8x4096x512_0_0_512) (extractStridedSlice S8x4096x512 ![0, 0, 1024] (mixed cw cb (projected x md nm w)) slices_S8x4096x1536_S8x4096x512_0_0_1024)) bitsLt_bf16_f32

def result2 : FVec Ideal S8x4096x256 .bf16 :=
  truncf .bf16 (mulf (extractStridedSlice S8x4096x256 ![0, 0, 1536] (projected x md nm w) slices_S8x4096x3104_S8x4096x256_0_0_1536) (broadcastInDim S8x4096x256 ![] bcast_S_S8x4096x256 (constant S_ .f32 0x3E000000#32))) bitsLt_bf16_f32

def result3 : FVec Ideal S8x4096x256 .bf16 :=
  truncf .bf16 (extractStridedSlice S8x4096x256 ![0, 0, 1792] (projected x md nm w) slices_S8x4096x3104_S8x4096x256_0_0_1792) bitsLt_bf16_f32

def result4 : FVec Ideal S8x4096x512 .bf16 :=
  truncf .bf16 (extractStridedSlice S8x4096x512 ![0, 0, 2048] (projected x md nm w) slices_S8x4096x3104_S8x4096x512_0_0_2048) bitsLt_bf16_f32

def result5 : FVec Ideal S8x4096x512 .bf16 :=
  truncf .bf16 (extractStridedSlice S8x4096x512 ![0, 0, 2560] (projected x md nm w) slices_S8x4096x3104_S8x4096x512_0_0_2560) bitsLt_bf16_f32

def result6 : FVec Ideal S8x4096x256 .f32 :=
  logGate (gateIn g gb (extractStridedSlice S8x4096x16 ![0, 0, 3072] (projected x md nm w) slices_S8x4096x3104_S8x4096x16_0_0_3072))

def result7 : FVec Ideal S8x4096x256 .f32 :=
  logGate (gateIn g gb (extractStridedSlice S8x4096x16 ![0, 0, 3088] (projected x md nm w) slices_S8x4096x3104_S8x4096x16_0_0_3088))

theorem result0_apply (i : Fin 8) (t : Fin 4096) (l : Fin 512) :
    result0 x md nm w cw cb (ix3 i t l) = lineOf x md nm w cw cb i ⟨l, by omega⟩ t := by
  rw [← mixed_apply]
  unfold result0
  generalize mixed cw cb (projected x md nm w) = q
  pointwise

theorem result1_apply (i : Fin 8) (t : Fin 4096) (l : Fin 512) :
    result1 x md nm w cw cb (ix3 i t l) = lineOf x md nm w cw cb i ⟨512 + l, by omega⟩ t * lineOf x md nm w cw cb i ⟨1024 + l, by omega⟩ t := by
  refine Eq.trans ?_ (congrArg₂ (· * ·) (mixed_apply x md nm w cw cb i t ⟨512 + l, by omega⟩) (mixed_apply x md nm w cw cb i t ⟨1024 + l, by omega⟩))
  unfold result1
  generalize mixed cw cb (projected x md nm w) = q
  pointwise

theorem result2_apply (i : Fin 8) (t : Fin 4096) (l : Fin 256) :
    result2 x md nm w (ix3 i t l) = colOf x md nm w i ⟨1536 + l, by omega⟩ t * Ideal.ofBits .f32 0x3E000000#32 := by
  unfold colOf
  rw [← projected_apply]
  unfold result2
  generalize projected x md nm w = q
  pointwise

theorem result3_apply (i : Fin 8) (t : Fin 4096) (l : Fin 256) :
    result3 x md nm w (ix3 i t l) = colOf x md nm w i ⟨1792 + l, by omega⟩ t := by
  unfold colOf
  rw [← projected_apply]
  unfold result3
  generalize projected x md nm w = q
  pointwise

theorem result4_apply (i : Fin 8) (t : Fin 4096) (l : Fin 512) :
    result4 x md nm w (ix3 i t l) = colOf x md nm w i ⟨2048 + l, by omega⟩ t := by
  unfold colOf
  rw [← projected_apply]
  unfold result4
  generalize projected x md nm w = q
  pointwise

theorem result5_apply (i : Fin 8) (t : Fin 4096) (l : Fin 512) :
    result5 x md nm w (ix3 i t l) = colOf x md nm w i ⟨2560 + l, by omega⟩ t := by
  unfold colOf
  rw [← projected_apply]
  unfold result5
  generalize projected x md nm w = q
  pointwise

theorem result6_apply (i : Fin 8) (t : Fin 4096) (l : Fin 256) :
    result6 x md nm w g gb (ix3 i t l) = gate (∑ k : Fin 16, colOf x md nm w i ⟨3072 + k, by omega⟩ t * g (ix2 k l) + gb (ix1 l)) := by
  unfold result6
  rw [logGate_apply, gateIn_apply]
  simp only [colOf, ← projected_apply]
  generalize projected x md nm w = q
  pointwise

theorem result7_apply (i : Fin 8) (t : Fin 4096) (l : Fin 256) :
    result7 x md nm w g gb (ix3 i t l) = gate (∑ k : Fin 16, colOf x md nm w i ⟨3088 + k, by omega⟩ t * g (ix2 k l) + gb (ix1 l)) := by
  unfold result7
  rw [logGate_apply, gateIn_apply]
  simp only [colOf, ← projected_apply]
  generalize projected x md nm w = q
  pointwise

end

/-! ## The run's results are these -/

section
variable (m : (ℓ : Loc nD τ sig) → Buf (Elt Ideal) ℓ) (c : Dev nD)

theorem res0_eq : res_out0 m c = result0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := rfl
theorem res1_eq : res_out1 m c = result1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := rfl
theorem res6_eq : res_out6 m c = result6 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := rfl
theorem res7_eq : res_out7 m c = result7 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) := rfl

/-- The run ends with the results, its arguments unchanged. -/
theorem run_results (ρ : Dev nD → PrngReg) :
    θ_run (defs (F := Ideal)) (onTc (τ := τ) (main (F := Ideal))) ⟨m, fun _ => 0, ρ⟩ fun r => ∀ c : Dev nD,
      r.2.mem ((c : Thread nD τ).loc main_v65) = result0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v67) = result1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v68) = result2 (m ((c : Thread nD τ).loc main_arg0)) (m ((c : Thread nD τ).loc main_arg1)) (m ((c : Thread nD τ).loc main_arg2)) (m ((c : Thread nD τ).loc main_arg3))
      ∧ r.2.mem ((c : Thread nD τ).loc main_v69) = result3 (m ((c : Thread nD τ).loc main_arg0)) (m ((c : Thread nD τ).loc main_arg1)) (m ((c : Thread nD τ).loc main_arg2)) (m ((c : Thread nD τ).loc main_arg3))
      ∧ r.2.mem ((c : Thread nD τ).loc main_v70) = result4 (m ((c : Thread nD τ).loc main_arg0)) (m ((c : Thread nD τ).loc main_arg1)) (m ((c : Thread nD τ).loc main_arg2)) (m ((c : Thread nD τ).loc main_arg3))
      ∧ r.2.mem ((c : Thread nD τ).loc main_v71) = result5 (m ((c : Thread nD τ).loc main_arg0)) (m ((c : Thread nD τ).loc main_arg1)) (m ((c : Thread nD τ).loc main_arg2)) (m ((c : Thread nD τ).loc main_arg3))
      ∧ r.2.mem ((c : Thread nD τ).loc main_v78) = result6 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))
      ∧ r.2.mem ((c : Thread nD τ).loc main_v85) = result7 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  refine (θ_run _ _ _).mono (fun r h c => ?_) (Cert.Reference3Ideal.Value.run m ρ)
  obtain ⟨h0, h1, h2, h3, h4, h5, h6, h7, h⟩ := h c
  exact ⟨h0.trans (res0_eq m c), h1.trans (res1_eq m c), h2, h3, h4, h5, h6.trans (res6_eq m c), h7.trans (res7_eq m c), h⟩

end

end Cert.Reference3Ideal.Read
-- ==== Proof.InValue.lean ====
/-
  The projection call: on equal arguments the reference's results are the kernel's arrays.
-/
module

public import proofs.«01_k».proof.Proof.InArrays
public import proofs.«01_k».proof.Proof.InRef

@[expose] public section

noncomputable section

namespace Cert.InProj

open Idealize.ShloMosaic Idealize.ShloMosaic.TcCoe

/-- An index of a result is a batch entry, a 512-row stretch, a row of it and a lane. -/
theorem index_split {n : ℕ} (i : (⟨3, ![8, 4096, n]⟩ : Shape).Idx) :
    ∃ (b j : Fin 8) (r : Fin 512) (l : Fin n), i = ix3 b ⟨512 * j + r, by omega⟩ l := by
  have h1 : (i 1).val < 4096 := (i 1).isLt
  refine ⟨i 0, ⟨(i 1).val / 512, by omega⟩, ⟨(i 1).val % 512, by omega⟩, i 2, ?_⟩
  funext a
  apply Fin.ext
  match a with
  | ⟨0, _⟩ => rfl
  | ⟨1, _⟩ => show (i 1).val = 512 * ((i 1).val / 512) + (i 1).val % 512; omega
  | ⟨2, _⟩ => rfl

section
open Cert.Kernel3Ideal
variable (m : (ℓ : Loc nD τ sig) → Buf (Elt Ideal) ℓ) (c : Dev nD)

theorem results0 : Cert.Reference3Ideal.Read.result0 (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
    = (Gen.dats m 0 c).arrAt 8 cfg0.N := by
  funext i
  obtain ⟨b, j, r, l, rfl⟩ := index_split i
  exact (Cert.Reference3Ideal.Read.result0_apply _ _ _ _ _ _ b _ l).trans (Block.value8 m c b j r l).symm

theorem results1 : Cert.Reference3Ideal.Read.result1 (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
    = (Gen.dats m 0 c).arrAt 9 cfg0.N := by
  funext i
  obtain ⟨b, j, r, l, rfl⟩ := index_split i
  exact (Cert.Reference3Ideal.Read.result1_apply _ _ _ _ _ _ b _ l).trans (Block.value9 m c b j r l).symm

theorem results2 : Cert.Reference3Ideal.Read.result2 (m ((c : Thread nD τ).loc main_arg0))
      (m ((c : Thread nD τ).loc main_arg1))
      (m ((c : Thread nD τ).loc main_arg2))
      (m ((c : Thread nD τ).loc main_arg3))
    = (Gen.dats m 0 c).arrAt 10 cfg0.N := by
  funext i
  obtain ⟨b, j, r, l, rfl⟩ := index_split i
  exact (Cert.Reference3Ideal.Read.result2_apply _ _ _ _ b _ l).trans (Block.value10 m c b j r l).symm

theorem results3 : Cert.Reference3Ideal.Read.result3 (m ((c : Thread nD τ).loc main_arg0))
      (m ((c : Thread nD τ).loc main_arg1))
      (m ((c : Thread nD τ).loc main_arg2))
      (m ((c : Thread nD τ).loc main_arg3))
    = (Gen.dats m 0 c).arrAt 11 cfg0.N := by
  funext i
  obtain ⟨b, j, r, l, rfl⟩ := index_split i
  exact (Cert.Reference3Ideal.Read.result3_apply _ _ _ _ b _ l).trans (Block.value11 m c b j r l).symm

theorem results4 : Cert.Reference3Ideal.Read.result4 (m ((c : Thread nD τ).loc main_arg0))
      (m ((c : Thread nD τ).loc main_arg1))
      (m ((c : Thread nD τ).loc main_arg2))
      (m ((c : Thread nD τ).loc main_arg3))
    = (Gen.dats m 0 c).arrAt 12 cfg0.N := by
  funext i
  obtain ⟨b, j, r, l, rfl⟩ := index_split i
  exact (Cert.Reference3Ideal.Read.result4_apply _ _ _ _ b _ l).trans (Block.value12 m c b j r l).symm

theorem results5 : Cert.Reference3Ideal.Read.result5 (m ((c : Thread nD τ).loc main_arg0))
      (m ((c : Thread nD τ).loc main_arg1))
      (m ((c : Thread nD τ).loc main_arg2))
      (m ((c : Thread nD τ).loc main_arg3))
    = (Gen.dats m 0 c).arrAt 13 cfg0.N := by
  funext i
  obtain ⟨b, j, r, l, rfl⟩ := index_split i
  exact (Cert.Reference3Ideal.Read.result5_apply _ _ _ _ b _ l).trans (Block.value13 m c b j r l).symm

theorem results6 : Cert.Reference3Ideal.Read.result6 (m ((c : Thread nD τ).loc main_arg0))
      (m ((c : Thread nD τ).loc main_arg1))
      (m ((c : Thread nD τ).loc main_arg2))
      (m ((c : Thread nD τ).loc main_arg3))
      (m ((c : Thread nD τ).loc main_arg6))
      (m ((c : Thread nD τ).loc main_arg7))
    = (Gen.dats m 0 c).arrAt 14 cfg0.N := by
  funext i
  obtain ⟨b, j, r, l, rfl⟩ := index_split i
  exact (Cert.Reference3Ideal.Read.result6_apply _ _ _ _ _ _ b _ l).trans (Block.value14 m c b j r l).symm

theorem results7 : Cert.Reference3Ideal.Read.result7 (m ((c : Thread nD τ).loc main_arg0))
      (m ((c : Thread nD τ).loc main_arg1))
      (m ((c : Thread nD τ).loc main_arg2))
      (m ((c : Thread nD τ).loc main_arg3))
      (m ((c : Thread nD τ).loc main_arg8))
      (m ((c : Thread nD τ).loc main_arg9))
    = (Gen.dats m 0 c).arrAt 15 cfg0.N := by
  funext i
  obtain ⟨b, j, r, l, rfl⟩ := index_split i
  exact (Cert.Reference3Ideal.Read.result7_apply _ _ _ _ _ _ b _ l).trans (Block.value15 m c b j r l).symm

end

end Cert.InProj
-- ==== Proof.CtxBlock.lean ====
/-
  The context projection's body at one grid point, read at an index of its output blocks.
-/
module

public import proofs.«01_k».proof.Proof.InSpec
public import proofs.«01_k».proof.Proof.Gen.Kernel4Ideal.Value
public import Idealize.ShloMosaic.Lib.Pointwise

@[expose] public section

set_option maxRecDepth 16384

noncomputable section

namespace Cert.Kernel4Ideal.Block

open Cert.Kernel4Ideal Cert.Kernel4Ideal.Gen Cert.Mlp Cert.InProj
open Idealize.ShloMosaic Idealize.ShloMosaic.TcCoe

/-! ## The stages of the body -/

theorem pay2_apply (x : Vec Ideal S1x256x1024 .f32) (s c : Vec Ideal S1x1x1024 .f32) (n : Vec Ideal S1x1024 .f32) (r : Fin 256) (l : Fin 1024) :
    k0_pay2 x s c n (ix2 r l)
      = rms (fun l => x (ix3 0 r l)) l * n (ix2 0 l) * (one + c (ix3 0 0 l)) + s (ix3 0 0 l) := by
  pointwise [k0_pay2, rms]

theorem pay1_apply (h : FVec Ideal S256x1024 .bf16) (w : Vec Ideal S1024x512 .bf16) (r : Fin 256) (l : Fin 512) :
    k0_pay1 h w (ix3 0 r l) = proj (fun k => h (ix2 r k)) (fun k => w (ix2 k l)) := by
  pointwise [k0_pay1, proj]

theorem pay7_apply (h : FVec Ideal S256x1024 .bf16) (w : Vec Ideal S1024x256 .bf16) (r l : Fin 256) :
    k0_pay7 h w (ix3 0 r l) = proj (fun k => h (ix2 r k)) (fun k => w (ix2 k l)) := by
  pointwise [k0_pay7, proj]

/-- The gates' low-rank columns, and their product with the second weights. -/
def thin (h : FVec Ideal S256x1024 .bf16) (w : Vec Ideal S1024x128 .bf16) : FVec Ideal S256x128 .bf16 :=
  truncf .bf16 (matmul dot_S256x1024_S1024x128_S256x128_1_0_0_1_n_n none h (shapeCast S1024x128 w shapeCasts_S1024x128_S1024x128 : FVec Ideal S1024x128 .bf16)
    (constant S256x128 .f32 0x00000000#32)) bitsLt_bf16_f32

theorem thin_apply (h : FVec Ideal S256x1024 .bf16) (w : Vec Ideal S1024x128 .bf16) (r : Fin 256) (l : Fin 128) :
    thin h w (ix2 r l) = proj (fun k => h (ix2 r k)) (fun k => w (ix2 k l)) := by
  pointwise [thin, proj]

def ranked (h : FVec Ideal S256x128 .bf16) (w : Vec Ideal S128x512 .bf16) : FVec Ideal S256x512 .f32 :=
  matmul dot_S256x128_S128x512_S256x512_1_0_0_1_n_n none h (shapeCast S128x512 w shapeCasts_S128x512_S128x512 : FVec Ideal S128x512 .bf16)
    (constant S256x512 .f32 0x00000000#32)

theorem ranked_apply (h : FVec Ideal S256x128 .bf16) (w : Vec Ideal S128x512 .bf16) (r : Fin 256) (l : Fin 512) :
    ranked h w (ix2 r l) = ∑ k : Fin 128, (h (ix2 r k) : EReal) * w (ix2 k l) := by
  pointwise [ranked]

theorem pay4_apply (z : FVec Ideal S256x512 .f32) (b : Vec Ideal S1x512 .f32) (r : Fin 256) (l : Fin 512) :
    k0_pay4 z b (ix2 r l) = gate (z (ix2 r l) + b (ix2 0 l)) := by
  rw [gate, ← sixteenth]
  pointwise [k0_pay4, softplus]
  rw [if_neg (fun h => h rfl)]
  simp only [zero_sub]
  rfl

theorem pay5_apply (z : FVec Ideal S256x512 .f32) (b : Vec Ideal S1x512 .f32) (r l : Fin 256) :
    k0_pay5 z b (ix3 0 r l) = gate (z (ix2 r ⟨l, by omega⟩) + b (ix2 0 ⟨l, by omega⟩)) := by
  rw [← pay4_apply]
  unfold k0_pay5
  generalize k0_pay4 (F := Ideal) z b = v
  pointwise

theorem pay6_apply (z : FVec Ideal S256x512 .f32) (b : Vec Ideal S1x512 .f32) (r l : Fin 256) :
    k0_pay6 z b (ix3 0 r l) = gate (z (ix2 r ⟨256 + l, by omega⟩) + b (ix2 0 ⟨256 + l, by omega⟩)) := by
  rw [← pay4_apply]
  unfold k0_pay6
  generalize k0_pay4 (F := Ideal) z b = v
  pointwise

section
variable (x0 : Vec Ideal S1x256x1024 .f32) (x1 : Vec Ideal S1x1x6144 .f32) (x2 : Vec Ideal S1x1024 .f32) (x3 : Vec Ideal S1024x3200 .bf16)
  (x4 : Vec Ideal S128x512 .bf16) (x5 : Vec Ideal S1x512 .f32)

/-! ## The parts of the blocks the body reads -/

theorem part0 (l : Fin 1024) : View.ld x1 r0_1 (ix3 0 0 l) = x1 (ix3 0 0 (part 0 l)) := by
  pointwise
  exact congrArg (fun i => x1 (ix3 0 0 i)) (Fin.ext (by show (l : ℕ) = 1024 * 0 + l; omega))
theorem part1 (l : Fin 1024) : View.ld x1 r0_2 (ix3 0 0 l) = x1 (ix3 0 0 (part 1 l)) := by
  pointwise
  rfl
theorem whole_x (r : Fin 256) (l : Fin 1024) : View.ld x0 r0_0 (ix3 0 r l) = x0 (ix3 0 r l) := by
  pointwise
theorem whole_n (l : Fin 1024) : View.ld x2 r0_3 (ix2 0 l) = x2 (ix2 0 l) := by
  pointwise
theorem whole_w (k : Fin 128) (l : Fin 512) : View.ld x4 r0_5 (ix2 k l) = x4 (ix2 k l) := by
  pointwise
theorem whole_b (l : Fin 512) : View.ld x5 r0_6 (ix2 0 l) = x5 (ix2 0 l) := by
  pointwise
theorem cols_gate (k : Fin 1024) (l : Fin 128) : View.ld x3 r0_4 (ix2 k l) = x3 (ix2 k ⟨3072 + l, by omega⟩) := by
  pointwise
theorem cols1792 (k : Fin 1024) (l : Fin 256) : View.ld x3 r0_8 (ix2 k l) = x3 (ix2 k ⟨1792 + l, by omega⟩) := by
  pointwise
theorem cols2048 (k : Fin 1024) (l : Fin 512) : View.ld x3 r0_9 (ix2 k l) = x3 (ix2 k ⟨2048 + l, by omega⟩) := by
  pointwise

/-! ## The body -/

/-- The projection's input, in row `r` of the block. -/
abbrev inRow (r : Fin 256) : Fin 1024 → EReal :=
  input (fun p => x1 (ix3 0 0 p)) (fun l => x2 (ix2 0 l)) (fun l => x0 (ix3 0 r l))

/-- Column `p` of the projection, in row `r`. -/
abbrev column (p : Fin 3200) (r : Fin 256) : EReal := proj (inRow x0 x1 x2 r) (fun k => x3 (ix2 k p))

theorem rows_apply (r : Fin 256) (l : Fin 1024) : k0_pay8 x0 x1 x2 x3 x4 x5 (ix2 r l) = inRow x0 x1 x2 r l := by
  unfold k0_pay8
  rw [pay2_apply, whole_n, part0, part1]
  unfold inRow input
  exact congrArg (fun f => rms f l * _ * _ + _) (funext fun l => whole_x x0 r l)

theorem column_eq (f : Fin 1024 → EReal) (p : Fin 3200) (r : Fin 256) (h : ∀ k, f k = x3 (ix2 k p)) :
    proj (fun k => k0_pay8 x0 x1 x2 x3 x4 x5 (ix2 r k)) f = column x0 x1 x2 x3 p r := by
  unfold proj
  exact Finset.sum_congr rfl fun k _ => congrArg₂ (· * ·) (rows_apply x0 x1 x2 x3 x4 x5 r k) (h k)

/-- The gates' product in row `r`. -/
theorem ranks_apply (r : Fin 256) (l : Fin 512) :
    k0_pay9 x0 x1 x2 x3 x4 x5 (ix2 r l) = ∑ k : Fin 128, column x0 x1 x2 x3 ⟨3072 + k, by omega⟩ r * x4 (ix2 k l) := by
  have h : k0_pay9 x0 x1 x2 x3 x4 x5 = ranked (thin (k0_pay8 x0 x1 x2 x3 x4 x5) (View.ld x3 r0_4)) (View.ld x4 r0_5) := rfl
  rw [h, ranked_apply]
  refine Finset.sum_congr rfl fun k _ => congrArg₂ (· * ·) ?_ (whole_w x4 k l)
  exact (thin_apply _ _ r k).trans (column_eq x0 x1 x2 x3 x4 x5 _ _ r fun i => cols_gate x3 i k)

/-- WHAT THE BODY LEAVES in row `r` of its output blocks: the keys, -/
theorem out6_apply (r l : Fin 256) :
    out0_6 x0 x1 x2 x3 x4 x5 (ix3 0 r l) = column x0 x1 x2 x3 ⟨1792 + l, by omega⟩ r := by
  unfold out0_6
  rw [View.canon_cons_unit_lit _ _ _ (by decide)]
  exact (pay7_apply _ _ r l).trans (column_eq x0 x1 x2 x3 x4 x5 _ _ r fun k => cols1792 x3 k l)

/-- the values, -/
theorem out7_apply (r : Fin 256) (l : Fin 512) :
    out0_7 x0 x1 x2 x3 x4 x5 (ix3 0 r l) = column x0 x1 x2 x3 ⟨2048 + l, by omega⟩ r := by
  unfold out0_7
  rw [View.canon_cons_unit_lit _ _ _ (by decide)]
  exact (pay1_apply _ _ r l).trans (column_eq x0 x1 x2 x3 x4 x5 _ _ r fun k => cols2048 x3 k l)

/-- and the log gates of the two directions. -/
theorem out8_apply (r l : Fin 256) :
    out0_8 x0 x1 x2 x3 x4 x5 (ix3 0 r l)
      = gate (∑ k : Fin 128, column x0 x1 x2 x3 ⟨3072 + k, by omega⟩ r * x4 (ix2 k ⟨l, by omega⟩) + x5 (ix2 0 ⟨l, by omega⟩)) := by
  unfold out0_8
  rw [View.canon_cons_unit_lit _ _ _ (by decide)]
  exact (pay5_apply _ _ r l).trans (congrArg gate (congrArg₂ (· + ·) (ranks_apply x0 x1 x2 x3 x4 x5 r _) (whole_b x5 _)))

theorem out9_apply (r l : Fin 256) :
    out0_9 x0 x1 x2 x3 x4 x5 (ix3 0 r l)
      = gate (∑ k : Fin 128, column x0 x1 x2 x3 ⟨3072 + k, by omega⟩ r * x4 (ix2 k ⟨256 + l, by omega⟩) + x5 (ix2 0 ⟨256 + l, by omega⟩)) := by
  unfold out0_9
  rw [View.canon_cons_unit_lit _ _ _ (by decide)]
  exact (pay6_apply _ _ r l).trans (congrArg gate (congrArg₂ (· + ·) (ranks_apply x0 x1 x2 x3 x4 x5 r _) (whole_b x5 _)))

end

end Cert.Kernel4Ideal.Block
-- ==== Proof.CtxKernel.lean ====
/-
  The context projection's output arrays at an index: the row functions at its row of the arguments.
-/
module

public import proofs.«01_k».proof.Proof.CtxBlock
public import proofs.«01_k».proof.Proof.InPlaced
public import Idealize.ShloMosaic.Lib.Pipeline.ValueKit.Geometry
public import Idealize.ShloMosaic.Lib.StableHlo.RunRead

@[expose] public section

set_option maxRecDepth 16384

noncomputable section

namespace Cert.Kernel4Ideal.Block

open Cert.Kernel4Ideal Cert.Kernel4Ideal.Gen Cert.Kernel4Ideal.Value Cert.Mlp Cert.InProj
open Idealize.ShloMosaic Idealize.ShloMosaic.TcCoe Idealize.ShloMosaic.StableHlo

/-- Where the blocks of a point lie: a batch entry each; the weights whole. -/
theorem places : ∀ t : Fin cfg0.N, (win0_0.index t = ![t.val, 0, 0] ∧ win0_1.index t = ![t.val, 0, 0]
    ∧ win0_2.index t = ![0, 0] ∧ win0_3.index t = ![0, 0] ∧ win0_4.index t = ![0, 0] ∧ win0_5.index t = ![0, 0]) :=
  (by decide +kernel : ∀ t : Fin grid0.N, _)

theorem places_out : ∀ t : Fin cfg0.N, (win0_6.index t = ![t.val, 0, 0] ∧ win0_7.index t = ![t.val, 0, 0]
    ∧ win0_8.index t = ![t.val, 0, 0] ∧ win0_9.index t = ![t.val, 0, 0]) :=
  (by decide +kernel : ∀ t : Fin grid0.N, _)

theorem flushes : ∀ t : Fin cfg0.N, (win0_6.flush t = true ∧ win0_7.flush t = true ∧ win0_8.flush t = true ∧ win0_9.flush t = true) :=
  (by decide +kernel : ∀ t : Fin grid0.N, _)

section
variable (m : (ℓ : Loc nD τ sig) → Buf (Elt Ideal) ℓ) (c : Dev nD)

/-! ## What the windows stage: the arguments, laid out anew -/

theorem staged_mod (b : Fin 8) (p : Fin 6144) :
    (V m c main_v15 : FVec Ideal S8x1x6144 .f32) (ix3 b 0 p) = m ((c : Thread nD τ).loc main_arg1) (ix1 p) := by
  have h : V m c main_v15 = broadcastInDim S8x1x6144 ![0, 1, 2] bcast_S1x1x6144_S8x1x6144_0_1_2
      (broadcastInDim S1x1x6144 ![2] bcast_S6144_S1x1x6144_2 (m ((c : Thread nD τ).loc main_arg1))) := by
    unfold V hostOps0 hostOps0_1 hostOps0_2
    simp only [List.flatten_cons, List.flatten_nil, List.cons_append, List.nil_append, List.append_nil]
    after_reads_simp
  rw [h]
  pointwise

theorem staged_nm (l : Fin 1024) :
    (V m c main_v16 : FVec Ideal S1x1024 .f32) (ix2 0 l) = m ((c : Thread nD τ).loc main_arg2) (ix1 l) := by
  have h : V m c main_v16 = broadcastInDim S1x1024 ![1] bcast_S1024_S1x1024_1 (m ((c : Thread nD τ).loc main_arg2)) := by
    unfold V hostOps0 hostOps0_1 hostOps0_2
    simp only [List.flatten_cons, List.flatten_nil, List.cons_append, List.nil_append, List.append_nil]
    after_reads_simp
  rw [h]
  pointwise

theorem padded (x : FVec Ideal S1024x3104 .f32) (z : FVec Ideal S_ .f32) (k : Fin 1024) (p : Fin 3104) :
    pad S1024x3200 ![0, 0] ![0, 96] ![0, 0] x z pads_S1024x3104_S1024x3200_000_0960 h_S_ (ix2 k ⟨p, by omega⟩) = x (ix2 k p) := by
  pointwise

/-- The weight with its columns padded, in the argument's columns. -/
theorem staged_w (k : Fin 1024) (p : Fin 3104) :
    (V m c main_v1 : FVec Ideal S1024x3200 .bf16) (ix2 k ⟨p, by omega⟩) = m ((c : Thread nD τ).loc main_arg3) (ix2 k p) := by
  have h : V m c main_v1 = pad S1024x3200 ![0, 0] ![0, 96] ![0, 0] (m ((c : Thread nD τ).loc main_arg3) : FVec Ideal S1024x3104 .f32)
      (sitofp (F := Ideal) .f32 (constantI S_ 32 0#32)) pads_S1024x3104_S1024x3200_000_0960 h_S_ := by
    unfold V hostOps0 hostOps0_1 hostOps0_2
    simp only [List.flatten_cons, List.flatten_nil, List.cons_append, List.nil_append, List.append_nil]
    after_reads_simp
    rfl
  rw [h]
  exact padded _ _ k p

/-- The gates' biases, the two directions side by side. -/
theorem staged_gb : V m c main_v13 = broadcastInDim S1x512 ![1] bcast_S512_S1x512_1
    (concatenate S512 0 [⟨S256, m ((c : Thread nD τ).loc main_arg5)⟩, ⟨S256, m ((c : Thread nD τ).loc main_arg7)⟩] concatenates_S256_S256_S512_d0) := by
  unfold V hostOps0 hostOps0_1 hostOps0_2
  simp only [List.flatten_cons, List.flatten_nil, List.cons_append, List.nil_append, List.append_nil]
  after_reads_simp
  rfl

theorem staged_gb0 (l : Fin 256) :
    (V m c main_v13 : FVec Ideal S1x512 .f32) (ix2 0 ⟨l, by omega⟩) = m ((c : Thread nD τ).loc main_arg5) (ix1 l) := by
  rw [staged_gb]
  pointwise

theorem staged_gb1 (l : Fin 256) :
    (V m c main_v13 : FVec Ideal S1x512 .f32) (ix2 0 ⟨256 + l, by omega⟩) = m ((c : Thread nD τ).loc main_arg7) (ix1 l) := by
  rw [staged_gb]
  pointwise

/-- A pair of index words, and what they hold. -/
def pair (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

theorem pair0 (a b : BitVec 32) : pair a b (ix1 (0 : Fin 2)) = a := by
  pointwise [pair]
theorem pair1 (a b : BitVec 32) : pair a b (ix1 (1 : Fin 2)) = b := by
  pointwise [pair]

theorem staged_pair0 : V m c main_v5 = pair 0#32 0#32 := by
  unfold V hostOps0 hostOps0_1 hostOps0_2
  simp only [List.flatten_cons, List.flatten_nil, List.cons_append, List.nil_append, List.append_nil]
  after_reads_simp
  rfl

theorem staged_pair1 : V m c main_v9 = pair 16#32 256#32 := by
  unfold V hostOps0 hostOps0_1 hostOps0_2
  simp only [List.flatten_cons, List.flatten_nil, List.cons_append, List.nil_append, List.append_nil]
  after_reads_simp
  rfl

/-- A 16 by 256 matrix written into the gates' weight. -/
def put (a b : BitVec 32) (x : FVec Ideal S128x512 .f32) (u : FVec Ideal S16x256 .f32) : FVec Ideal S128x512 .f32 :=
  Host.scatter scatter_S128x512_S2_S16x256_01_n_01_0 (fun _ b => b) x (pair a b) u

theorem put_in (a b : BitVec 32) (a' b' : ℕ) (ha : a.toInt = a') (hb : b.toInt = b') (x : FVec Ideal S128x512 .f32) (u : FVec Ideal S16x256 .f32)
    (k : Fin 16) (e : Fin 256) (r : Fin 128) (c : Fin 512) (hr : a' + (k : ℕ) = r) (hc : b' + (e : ℕ) = c) :
    put a b x u (ix2 r c) = u (ix2 k e) :=
  placed_in (R := 128) (C := 512) (U := 16) (W := 256) scatter_S128x512_S2_S16x256_01_n_01_0 rfl rfl rfl rfl (pair a b) a' b'
    ((congrArg BitVec.toInt (pair0 a b)).trans ha) ((congrArg BitVec.toInt (pair1 a b)).trans hb) x u k e r c hr hc

theorem put_out (a b : BitVec 32) (a' b' : ℕ) (ha : a.toInt = a') (hb : b.toInt = b') (x : FVec Ideal S128x512 .f32) (u : FVec Ideal S16x256 .f32)
    (r : Fin 128) (c : Fin 512) (h : (r : ℕ) < a' ∨ a' + 16 ≤ r ∨ (c : ℕ) < b' ∨ b' + 256 ≤ c) :
    put a b x u (ix2 r c) = x (ix2 r c) :=
  placed_out (R := 128) (C := 512) (U := 16) (W := 256) scatter_S128x512_S2_S16x256_01_n_01_0 rfl rfl rfl rfl (pair a b) a' b'
    ((congrArg BitVec.toInt (pair0 a b)).trans ha) ((congrArg BitVec.toInt (pair1 a b)).trans hb) x u r c h

/-- A zero matrix with the two directions' weights on its diagonal. -/
def placedW (u v : FVec Ideal S16x256 .f32) : FVec Ideal S128x512 .f32 :=
  put 16#32 256#32 (put 0#32 0#32 (broadcastInDim S128x512 ![] bcast_S_S128x512 (constant (F := Ideal) S_ .f32 0x00000000#32)) u) v

section
variable (u v : FVec Ideal S16x256 .f32)

theorem zeros (i : Fin 128) (e : Fin 512) :
    broadcastInDim S128x512 ![] bcast_S_S128x512 (constant (F := Ideal) S_ .f32 0x00000000#32) (ix2 i e) = (0 : EReal) := by
  pointwise

/-- In the first direction's lanes: its weight, and zero below. -/
theorem placedW0 (k : Fin 16) (l : Fin 256) (r : Fin 128) (e : Fin 512) (hr : 0 + (k : ℕ) = r) (he : (l : ℕ) = e) :
    placedW u v (ix2 r e) = u (ix2 k l) :=
  (put_out _ _ 16 256 rfl rfl _ _ r e (by omega)).trans (put_in _ _ 0 0 rfl rfl _ _ k l r e (by omega) (by omega))

theorem placedW0_off (r : Fin 128) (e : Fin 512) (he : (e : ℕ) < 256) (h : 16 ≤ (r : ℕ)) : placedW u v (ix2 r e) = (0 : EReal) :=
  (put_out _ _ 16 256 rfl rfl _ _ r e (by omega)).trans ((put_out _ _ 0 0 rfl rfl _ _ r e (by omega)).trans (zeros r e))

/-- In the second direction's lanes: its weight, and zero above and below. -/
theorem placedW1 (k : Fin 16) (l : Fin 256) (r : Fin 128) (e : Fin 512) (hr : 16 + (k : ℕ) = r) (he : 256 + (l : ℕ) = e) :
    placedW u v (ix2 r e) = v (ix2 k l) :=
  put_in _ _ 16 256 rfl rfl _ _ k l r e hr he

theorem placedW1_off (r : Fin 128) (e : Fin 512) (he : 256 ≤ (e : ℕ)) (h : (r : ℕ) < 16 ∨ 16 + 16 ≤ (r : ℕ)) : placedW u v (ix2 r e) = (0 : EReal) :=
  (put_out _ _ 16 256 rfl rfl _ _ r e (by omega)).trans ((put_out _ _ 0 0 rfl rfl _ _ r e (by omega)).trans (zeros r e))

end

/-- The gates' second weights as staged. -/
theorem staged_gw (k : Fin 128) (l : Fin 512) : (V m c main_v11 : FVec Ideal S128x512 .bf16) (ix2 k l)
    = placedW (m ((c : Thread nD τ).loc main_arg4)) (m ((c : Thread nD τ).loc main_arg6)) (ix2 k l) := by
  have h : (V m c main_v11 : FVec Ideal S128x512 .bf16)
    = truncf .bf16 (Host.scatter scatter_S128x512_S2_S16x256_01_n_01_0 (fun _ b => b)
        (Host.scatter scatter_S128x512_S2_S16x256_01_n_01_0 (fun _ b => b)
          (broadcastInDim S128x512 ![] bcast_S_S128x512 (constant (F := Ideal) S_ .f32 0x00000000#32)) (V m c main_v5) (m ((c : Thread nD τ).loc main_arg4) : FVec Ideal S16x256 .f32))
        (V m c main_v9) (m ((c : Thread nD τ).loc main_arg6) : FVec Ideal S16x256 .f32) : FVec Ideal S128x512 .f32) bitsLt_bf16_f32 := by
    unfold V hostOps0 hostOps0_1 hostOps0_2
    simp only [List.flatten_cons, List.flatten_nil, List.cons_append, List.nil_append, List.append_nil]
    after_reads_simp
  rw [staged_pair0, staged_pair1] at h
  rw [h]
  unfold placedW put
  pointwise

/-! ## The blocks of a point -/

variable (b : Fin 8) (t : Fin cfg0.N) (ht : t.val = b)

include ht in
theorem block_x (r : Fin 256) (l : Fin 1024) : iblk m c 0 t (ix3 0 r l) = m ((c : Thread nD τ).loc main_arg0) (ix3 b r l) := by
  rw [← V_main_arg0 m c]
  blk_ext [iblk, places t]

include ht in
theorem block_mod (p : Fin 6144) : iblk m c 1 t (ix3 0 0 p) = m ((c : Thread nD τ).loc main_arg1) (ix1 p) := by
  rw [← staged_mod m c b]
  blk_ext [iblk, places t]

theorem block_nm (l : Fin 1024) : iblk m c 2 t (ix2 0 l) = m ((c : Thread nD τ).loc main_arg2) (ix1 l) := by
  rw [← staged_nm m c]
  blk_ext [iblk, places t]

theorem block_w (k : Fin 1024) (p : Fin 3104) : iblk m c 3 t (ix2 k ⟨p, Nat.lt_of_lt_of_le p.isLt (by decide)⟩) = m ((c : Thread nD τ).loc main_arg3) (ix2 k p) := by
  rw [← staged_w m c]
  blk_ext [iblk, places t]

theorem block_gw (k : Fin 128) (l : Fin 512) : iblk m c 4 t (ix2 k l)
    = placedW (m ((c : Thread nD τ).loc main_arg4)) (m ((c : Thread nD τ).loc main_arg6)) (ix2 k l) := by
  rw [← staged_gw m c]
  blk_ext [iblk, places t]

theorem block_gb (l : Fin 512) : iblk m c 5 t (ix2 0 l) = (V m c main_v13 : FVec Ideal S1x512 .f32) (ix2 0 l) := by
  blk_ext [iblk, places t]

/-! ## A batch entry's columns -/

/-- Column `p` of the projection of a batch entry's context, in row `r`. -/
abbrev argCol (b : Fin 8) (p : Fin 3104) (r : Fin 256) : EReal :=
  proj (input (fun p => m ((c : Thread nD τ).loc main_arg1) (ix1 p)) (fun l => m ((c : Thread nD τ).loc main_arg2) (ix1 l))
    (fun l => m ((c : Thread nD τ).loc main_arg0) (ix3 b r l))) (fun k => m ((c : Thread nD τ).loc main_arg3) (ix2 k p))

include ht in
theorem column_arg (p : Fin 3104) (r : Fin 256) :
    column (iblk m c 0 t) (iblk m c 1 t) (iblk m c 2 t) (iblk m c 3 t) ⟨p, by omega⟩ r = argCol m c b p r := by
  unfold column inRow argCol
  simp only [block_x m c b t ht, block_mod m c b t ht, block_nm]
  exact congrArg (proj _) (funext fun k => block_w m c t k p)

include ht in
theorem gate0_arg (r l : Fin 256) :
    gate (∑ k : Fin 128, column (iblk m c 0 t) (iblk m c 1 t) (iblk m c 2 t) (iblk m c 3 t) ⟨3072 + k, by omega⟩ r * iblk m c 4 t (ix2 k ⟨l, by omega⟩)
        + iblk m c 5 t (ix2 0 ⟨l, by omega⟩))
      = gate (∑ k : Fin 16, argCol m c b ⟨3072 + k, by omega⟩ r * m ((c : Thread nD τ).loc main_arg4) (ix2 k l)
        + m ((c : Thread nD τ).loc main_arg5) (ix1 l)) := by
  refine congrArg gate (congrArg₂ (· + ·) ((sum_sixteen _ 0 (by omega) fun k hk => ?_).trans (Finset.sum_congr rfl fun k _ => congrArg₂ (· * ·) ?_ ?_)) ?_)
  · rw [block_gw, placedW0_off _ _ k _ l.isLt (by omega), mul_zero]
  · refine Eq.trans ?_ (column_arg m c b t ht ⟨3072 + k, by omega⟩ r)
    exact congrArg (fun p => column (iblk m c 0 t) (iblk m c 1 t) (iblk m c 2 t) (iblk m c 3 t) p r) (Fin.ext (by show 3072 + (0 + (k : ℕ)) = 3072 + k; omega))
  · rw [block_gw]
    exact placedW0 _ _ k l _ _ rfl rfl
  · rw [block_gb, staged_gb0]

include ht in
theorem gate1_arg (r l : Fin 256) :
    gate (∑ k : Fin 128, column (iblk m c 0 t) (iblk m c 1 t) (iblk m c 2 t) (iblk m c 3 t) ⟨3072 + k, by omega⟩ r * iblk m c 4 t (ix2 k ⟨256 + l, by omega⟩)
        + iblk m c 5 t (ix2 0 ⟨256 + l, by omega⟩))
      = gate (∑ k : Fin 16, argCol m c b ⟨3088 + k, by omega⟩ r * m ((c : Thread nD τ).loc main_arg6) (ix2 k l)
        + m ((c : Thread nD τ).loc main_arg7) (ix1 l)) := by
  refine congrArg gate (congrArg₂ (· + ·) ((sum_sixteen _ 16 (by omega) fun k hk => ?_).trans (Finset.sum_congr rfl fun k _ => congrArg₂ (· * ·) ?_ ?_)) ?_)
  · rw [block_gw, placedW1_off _ _ k _ (Nat.le_add_right 256 l) hk, mul_zero]
  · refine Eq.trans ?_ (column_arg m c b t ht ⟨3088 + k, by omega⟩ r)
    exact congrArg (fun p => column (iblk m c 0 t) (iblk m c 1 t) (iblk m c 2 t) (iblk m c 3 t) p r) (Fin.ext (by show 3072 + (16 + (k : ℕ)) = 3088 + k; omega))
  · rw [block_gw]
    exact placedW1 _ _ k l _ _ rfl rfl
  · rw [block_gb, staged_gb1]

end

/-! ## The output arrays -/

section
variable (m : (ℓ : Loc nD τ sig) → Buf (Elt Ideal) ℓ) (c : Dev nD)

theorem value6 (b : Fin 8) (r : Fin 256) (l : Fin 256) :
    ((dats m 0 c).arrAt 6 cfg0.N : FVec Ideal S8x256x256 .bf16) (ix3 b r l)
      = argCol m c b ⟨1792 + l, by omega⟩ r := by
  have hN : cfg0.N = 8 := N_0
  obtain ⟨t, ht⟩ : ∃ t : Fin cfg0.N, t.val = b := ⟨⟨b, by omega⟩, rfl⟩
  have h := congrFun ((blocks6 m c t (flushes t).1).trans (flushed6 m c t)) (ix3 0 r l)
  have e : ((cfg0.win 6).blk t).view.emb (ix3 0 r l) = (ix3 b r l : S8x256x256.Idx) := by
    have hp := (places_out t).1
    have h0 : win0_6.index t 0 = t.val := congrFun hp 0
    have h1 : win0_6.index t 1 = 0 := congrFun hp 1
    have h2 : win0_6.index t 2 = 0 := congrFun hp 2
    funext a
    apply Fin.ext
    match a with
    | ⟨0, _⟩ => show win0_6.index t 0 * 1 + 1 * 0 = (b : ℕ); rw [h0]; omega
    | ⟨1, _⟩ => show win0_6.index t 1 * 256 + 1 * (r : ℕ) = r; rw [h1]; omega
    | ⟨2, _⟩ => show win0_6.index t 2 * 256 + 1 * (l : ℕ) = l; rw [h2]; omega
  have h' : ((dats m 0 c).arrAt 6 cfg0.N : FVec Ideal S8x256x256 .bf16) (((cfg0.win 6).blk t).view.emb (ix3 0 r l))
      = out0_6 (iblk m c 0 t) (iblk m c 1 t) (iblk m c 2 t) (iblk m c 3 t) (iblk m c 4 t) (iblk m c 5 t) (ix3 0 r l) := h
  rw [e] at h'
  refine h'.trans ((out6_apply _ _ _ _ _ _ r l).trans ?_)
  exact column_arg m c b t ht ⟨1792 + l, by omega⟩ r

theorem value7 (b : Fin 8) (r : Fin 256) (l : Fin 512) :
    ((dats m 0 c).arrAt 7 cfg0.N : FVec Ideal S8x256x512 .bf16) (ix3 b r l)
      = argCol m c b ⟨2048 + l, by omega⟩ r := by
  have hN : cfg0.N = 8 := N_0
  obtain ⟨t, ht⟩ : ∃ t : Fin cfg0.N, t.val = b := ⟨⟨b, by omega⟩, rfl⟩
  have h := congrFun ((blocks7 m c t (flushes t).2.1).trans (flushed7 m c t)) (ix3 0 r l)
  have e : ((cfg0.win 7).blk t).view.emb (ix3 0 r l) = (ix3 b r l : S8x256x512.Idx) := by
    have hp := (places_out t).2.1
    have h0 : win0_7.index t 0 = t.val := congrFun hp 0
    have h1 : win0_7.index t 1 = 0 := congrFun hp 1
    have h2 : win0_7.index t 2 = 0 := congrFun hp 2
    funext a
    apply Fin.ext
    match a with
    | ⟨0, _⟩ => show win0_7.index t 0 * 1 + 1 * 0 = (b : ℕ); rw [h0]; omega
    | ⟨1, _⟩ => show win0_7.index t 1 * 256 + 1 * (r : ℕ) = r; rw [h1]; omega
    | ⟨2, _⟩ => show win0_7.index t 2 * 512 + 1 * (l : ℕ) = l; rw [h2]; omega
  have h' : ((dats m 0 c).arrAt 7 cfg0.N : FVec Ideal S8x256x512 .bf16) (((cfg0.win 7).blk t).view.emb (ix3 0 r l))
      = out0_7 (iblk m c 0 t) (iblk m c 1 t) (iblk m c 2 t) (iblk m c 3 t) (iblk m c 4 t) (iblk m c 5 t) (ix3 0 r l) := h
  rw [e] at h'
  refine h'.trans ((out7_apply _ _ _ _ _ _ r l).trans ?_)
  exact column_arg m c b t ht ⟨2048 + l, by omega⟩ r

theorem value8 (b : Fin 8) (r : Fin 256) (l : Fin 256) :
    ((dats m 0 c).arrAt 8 cfg0.N : FVec Ideal S8x256x256 .f32) (ix3 b r l)
      = gate (∑ k : Fin 16, argCol m c b ⟨3072 + k, by omega⟩ r * m ((c : Thread nD τ).loc main_arg4) (ix2 k l)
        + m ((c : Thread nD τ).loc main_arg5) (ix1 l)) := by
  have hN : cfg0.N = 8 := N_0
  obtain ⟨t, ht⟩ : ∃ t : Fin cfg0.N, t.val = b := ⟨⟨b, by omega⟩, rfl⟩
  have h := congrFun ((blocks8 m c t (flushes t).2.2.1).trans (flushed8 m c t)) (ix3 0 r l)
  have e : ((cfg0.win 8).blk t).view.emb (ix3 0 r l) = (ix3 b r l : S8x256x256.Idx) := by
    have hp := (places_out t).2.2.1
    have h0 : win0_8.index t 0 = t.val := congrFun hp 0
    have h1 : win0_8.index t 1 = 0 := congrFun hp 1
    have h2 : win0_8.index t 2 = 0 := congrFun hp 2
    funext a
    apply Fin.ext
    match a with
    | ⟨0, _⟩ => show win0_8.index t 0 * 1 + 1 * 0 = (b : ℕ); rw [h0]; omega
    | ⟨1, _⟩ => show win0_8.index t 1 * 256 + 1 * (r : ℕ) = r; rw [h1]; omega
    | ⟨2, _⟩ => show win0_8.index t 2 * 256 + 1 * (l : ℕ) = l; rw [h2]; omega
  have h' : ((dats m 0 c).arrAt 8 cfg0.N : FVec Ideal S8x256x256 .f32) (((cfg0.win 8).blk t).view.emb (ix3 0 r l))
      = out0_8 (iblk m c 0 t) (iblk m c 1 t) (iblk m c 2 t) (iblk m c 3 t) (iblk m c 4 t) (iblk m c 5 t) (ix3 0 r l) := h
  rw [e] at h'
  refine h'.trans ((out8_apply _ _ _ _ _ _ r l).trans ?_)
  exact gate0_arg m c b t ht r l

theorem value9 (b : Fin 8) (r : Fin 256) (l : Fin 256) :
    ((dats m 0 c).arrAt 9 cfg0.N : FVec Ideal S8x256x256 .f32) (ix3 b r l)
      = gate (∑ k : Fin 16, argCol m c b ⟨3088 + k, by omega⟩ r * m ((c : Thread nD τ).loc main_arg6) (ix2 k l)
        + m ((c : Thread nD τ).loc main_arg7) (ix1 l)) := by
  have hN : cfg0.N = 8 := N_0
  obtain ⟨t, ht⟩ : ∃ t : Fin cfg0.N, t.val = b := ⟨⟨b, by omega⟩, rfl⟩
  have h := congrFun ((blocks9 m c t (flushes t).2.2.2).trans (flushed9 m c t)) (ix3 0 r l)
  have e : ((cfg0.win 9).blk t).view.emb (ix3 0 r l) = (ix3 b r l : S8x256x256.Idx) := by
    have hp := (places_out t).2.2.2
    have h0 : win0_9.index t 0 = t.val := congrFun hp 0
    have h1 : win0_9.index t 1 = 0 := congrFun hp 1
    have h2 : win0_9.index t 2 = 0 := congrFun hp 2
    funext a
    apply Fin.ext
    match a with
    | ⟨0, _⟩ => show win0_9.index t 0 * 1 + 1 * 0 = (b : ℕ); rw [h0]; omega
    | ⟨1, _⟩ => show win0_9.index t 1 * 256 + 1 * (r : ℕ) = r; rw [h1]; omega
    | ⟨2, _⟩ => show win0_9.index t 2 * 256 + 1 * (l : ℕ) = l; rw [h2]; omega
  have h' : ((dats m 0 c).arrAt 9 cfg0.N : FVec Ideal S8x256x256 .f32) (((cfg0.win 9).blk t).view.emb (ix3 0 r l))
      = out0_9 (iblk m c 0 t) (iblk m c 1 t) (iblk m c 2 t) (iblk m c 3 t) (iblk m c 4 t) (iblk m c 5 t) (ix3 0 r l) := h
  rw [e] at h'
  refine h'.trans ((out9_apply _ _ _ _ _ _ r l).trans ?_)
  exact gate1_arg m c b t ht r l

end

end Cert.Kernel4Ideal.Block
-- ==== Proof.CtxRef.lean ====
/-
  The reference of the context projection read at an index: the same row functions.
-/
module

public import proofs.«01_k».proof.Proof.InSpec
public import proofs.«01_k».proof.Proof.Gen.Reference4Ideal.Run
public import Idealize.ShloMosaic.Lib.Pointwise

@[expose] public section

set_option maxRecDepth 16384

noncomputable section

namespace Cert.Reference4Ideal.Read

open Cert.Reference4Ideal Cert.Reference4Ideal.Gen Cert.Reference4Ideal.Value Cert.Mlp Cert.InProj
open Idealize.ShloMosaic Idealize.ShloMosaic.TcCoe

section
variable (x : FVec Ideal S8x256x1024 .f32) (md : FVec Ideal S6144 .f32) (nm : FVec Ideal S1024 .f32) (w : FVec Ideal S1024x3104 .f32)
  (g : FVec Ideal S16x256 .f32) (gb : FVec Ideal S256 .f32)

/-- A part of the modulation, over the rows. -/
def spread (p : FVec Ideal S1024 .f32) : FVec Ideal S8x256x1024 .f32 :=
  broadcastInDim S8x256x1024 ![0, 1, 2] bcast_S1x1x1024_S8x256x1024_0_1_2 (broadcastInDim S1x1x1024 ![2] bcast_S1024_S1x1x1024_2 p)

def shift : FVec Ideal S1024 .f32 := extractStridedSlice S1024 ![0] md slices_S6144_S1024_0
def scale : FVec Ideal S1024 .f32 := extractStridedSlice S1024 ![1024] md slices_S6144_S1024_1024

/-- Rows over their root mean square, times a weight. -/
def normed : FVec Ideal S8x256x1024 .f32 :=
  mulf (mulf x (broadcastInDim S8x256x1024 ![0, 1, 2] bcast_S8x256x1_S8x256x1024_0_1_2 (Host.rsqrt (addf (Host.divf
      (broadcastInDim S8x256x1 ![0, 1] bcast_S8x256_S8x256x1_0_1 (Host.reduceAdd (mulf x x) (constant S_ .f32 0x00000000#32) reducesTo_S8x256x1024_S8x256_d2 h_S_))
      (broadcastInDim S8x256x1 ![] bcast_S_S8x256x1 (constant S_ .f32 0x44800000#32)))
      (broadcastInDim S8x256x1 ![] bcast_S_S8x256x1 (constant S_ .f32 0x358637BD#32))))))
    (broadcastInDim S8x256x1024 ![0, 1, 2] bcast_S1x1x1024_S8x256x1024_0_1_2 (broadcastInDim S1x1x1024 ![2] bcast_S1024_S1x1x1024_2 nm))

def rows : FVec Ideal S8x256x1024 .f32 :=
  addf (mulf (normed x nm) (spread (addf (broadcastInDim S1024 ![] bcast_S_S1024 (constant S_ .f32 0x3F800000#32)) (scale md)))) (spread (shift md))

def projected : FVec Ideal S8x256x3104 .f32 :=
  Host.dotGeneral dot_S8x256x1024_S1024x3104_S8x256x3104_2_0_01_1_n_n none (rows x md nm) w

/-- A sixteenth of the log of the sigmoid. -/
def logGate (z : FVec Ideal S8x256x256 .f32) : FVec Ideal S8x256x256 .f32 :=
  Host.divf (Host.negf (select
      (cmpf .une (subf (Host.negf z) (broadcastInDim S8x256x256 ![] bcast_S_S8x256x256 (constant S_ .f32 0x00000000#32)))
        (subf (Host.negf z) (broadcastInDim S8x256x256 ![] bcast_S_S8x256x256 (constant S_ .f32 0x00000000#32))))
      (addf (Host.negf z) (broadcastInDim S8x256x256 ![] bcast_S_S8x256x256 (constant S_ .f32 0x00000000#32)))
      (addf (maximumf (Host.negf z) (broadcastInDim S8x256x256 ![] bcast_S_S8x256x256 (constant S_ .f32 0x00000000#32)))
        (Host.log1p (Host.exp (Host.negf (Host.absf (subf (Host.negf z)
          (broadcastInDim S8x256x256 ![] bcast_S_S8x256x256 (constant S_ .f32 0x00000000#32))))))))))
    (broadcastInDim S8x256x256 ![] bcast_S_S8x256x256 (constant S_ .f32 0x41800000#32))

def gateIn (s : FVec Ideal S8x256x16 .f32) : FVec Ideal S8x256x256 .f32 :=
  addf (Host.dotGeneral dot_S8x256x16_S16x256_S8x256x256_2_0_01_1_n_n none s g)
    (broadcastInDim S8x256x256 ![0, 1, 2] bcast_S1x1x256_S8x256x256_0_1_2 (broadcastInDim S1x1x256 ![2] bcast_S256_S1x1x256_2 gb))

/-! ## The stages at an index -/

theorem spread_apply (p : FVec Ideal S1024 .f32) (i : Fin 8) (t : Fin 256) (l : Fin 1024) :
    spread p (ix3 i t l) = p (ix1 l) := by
  pointwise [spread]

theorem shift_apply (l : Fin 1024) : shift md (ix1 l) = md (ix1 (part 0 l)) := by
  pointwise [shift]
  exact congrArg (fun p => md (ix1 p)) (Fin.ext (by show (l : ℕ) = 1024 * 0 + l; omega))
theorem scale_apply (l : Fin 1024) : scale md (ix1 l) = md (ix1 (part 1 l)) := by
  pointwise [scale]
  rfl

theorem normed_apply (i : Fin 8) (t : Fin 256) (l : Fin 1024) :
    normed x nm (ix3 i t l) = rms (fun l => x (ix3 i t l)) l * nm (ix1 l) := by
  pointwise [normed, rms]

theorem rows_apply (i : Fin 8) (t : Fin 256) (l : Fin 1024) :
    rows x md nm (ix3 i t l) = input (fun p => md (ix1 p)) (fun l => nm (ix1 l)) (fun l => x (ix3 i t l)) l := by
  unfold input
  beta_reduce
  rw [← scale_apply md, ← shift_apply md, ← normed_apply x nm, ← spread_apply (shift md) i t]
  unfold rows
  generalize normed x nm = n
  generalize spread (shift md) = s
  generalize scale md = c
  pointwise [spread]

/-- A batch entry's column of the projection, in row `t`. -/
abbrev colOf (i : Fin 8) (p : Fin 3104) (t : Fin 256) : EReal :=
  proj (input (fun p => md (ix1 p)) (fun l => nm (ix1 l)) (fun l => x (ix3 i t l))) (fun k => w (ix2 k p))

theorem projected_apply (i : Fin 8) (t : Fin 256) (p : Fin 3104) :
    projected x md nm w (ix3 i t p) = colOf x md nm w i p t := by
  unfold colOf proj
  simp only [← rows_apply]
  unfold projected
  generalize rows x md nm = h
  pointwise

theorem logGate_apply (z : FVec Ideal S8x256x256 .f32) (i : Fin 8) (t : Fin 256) (l : Fin 256) :
    logGate z (ix3 i t l) = gate (z (ix3 i t l)) := by
  pointwise [logGate, gate, softplus]
  rw [if_neg (fun h => h rfl)]
  rfl

theorem gateIn_apply (s : FVec Ideal S8x256x16 .f32) (i : Fin 8) (t : Fin 256) (l : Fin 256) :
    gateIn g gb s (ix3 i t l) = (∑ k : Fin 16, (s (ix3 i t k) : EReal) * g (ix2 k l)) + gb (ix1 l) := by
  pointwise [gateIn]

/-! ## The results -/

def result0 : FVec Ideal S8x256x256 .bf16 :=
  truncf .bf16 (extractStridedSlice S8x256x256 ![0, 0, 1792] (projected x md nm w) slices_S8x256x3104_S8x256x256_0_0_1792) bitsLt_bf16_f32

def result1 : FVec Ideal S8x256x512 .bf16 :=
  truncf .bf16 (extractStridedSlice S8x256x512 ![0, 0, 2048] (projected x md nm w) slices_S8x256x3104_S8x256x512_0_0_2048) bitsLt_bf16_f32

def result2 : FVec Ideal S8x256x256 .f32 :=
  logGate (gateIn g gb (extractStridedSlice S8x256x16 ![0, 0, 3072] (projected x md nm w) slices_S8x256x3104_S8x256x16_0_0_3072))

def result3 : FVec Ideal S8x256x256 .f32 :=
  logGate (gateIn g gb (extractStridedSlice S8x256x16 ![0, 0, 3088] (projected x md nm w) slices_S8x256x3104_S8x256x16_0_0_3088))

theorem result0_apply (i : Fin 8) (t : Fin 256) (l : Fin 256) :
    result0 x md nm w (ix3 i t l) = colOf x md nm w i ⟨1792 + l, by omega⟩ t := by
  rw [← projected_apply]
  unfold result0
  generalize projected x md nm w = q
  pointwise

theorem result1_apply (i : Fin 8) (t : Fin 256) (l : Fin 512) :
    result1 x md nm w (ix3 i t l) = colOf x md nm w i ⟨2048 + l, by omega⟩ t := by
  rw [← projected_apply]
  unfold result1
  generalize projected x md nm w = q
  pointwise

theorem result2_apply (i : Fin 8) (t : Fin 256) (l : Fin 256) :
    result2 x md nm w g gb (ix3 i t l) = gate (∑ k : Fin 16, colOf x md nm w i ⟨3072 + k, by omega⟩ t * g (ix2 k l) + gb (ix1 l)) := by
  unfold result2
  rw [logGate_apply, gateIn_apply]
  simp only [← projected_apply]
  generalize projected x md nm w = q
  pointwise

theorem result3_apply (i : Fin 8) (t : Fin 256) (l : Fin 256) :
    result3 x md nm w g gb (ix3 i t l) = gate (∑ k : Fin 16, colOf x md nm w i ⟨3088 + k, by omega⟩ t * g (ix2 k l) + gb (ix1 l)) := by
  unfold result3
  rw [logGate_apply, gateIn_apply]
  simp only [← projected_apply]
  generalize projected x md nm w = q
  pointwise

end

/-! ## The run's results are these -/

section
variable (m : (ℓ : Loc nD τ sig) → Buf (Elt Ideal) ℓ) (c : Dev nD)

theorem res2_eq : res_out2 m c = result2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := rfl
theorem res3_eq : res_out3 m c = result3 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := rfl

/-- The run ends with the results, its arguments unchanged. -/
theorem run_results (ρ : Dev nD → PrngReg) :
    θ_run (defs (F := Ideal)) (onTc (τ := τ) (main (F := Ideal))) ⟨m, fun _ => 0, ρ⟩ fun r => ∀ c : Dev nD,
      r.2.mem ((c : Thread nD τ).loc main_v35) = result0 (m ((c : Thread nD τ).loc main_arg0)) (m ((c : Thread nD τ).loc main_arg1)) (m ((c : Thread nD τ).loc main_arg2)) (m ((c : Thread nD τ).loc main_arg3))
      ∧ r.2.mem ((c : Thread nD τ).loc main_v36) = result1 (m ((c : Thread nD τ).loc main_arg0)) (m ((c : Thread nD τ).loc main_arg1)) (m ((c : Thread nD τ).loc main_arg2)) (m ((c : Thread nD τ).loc main_arg3))
      ∧ r.2.mem ((c : Thread nD τ).loc main_v43) = result2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v50) = result3 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run _ _ _).mono (fun r h c => ?_) (Cert.Reference4Ideal.Value.run m ρ)
  obtain ⟨h0, h1, h2, h3, h⟩ := h c
  exact ⟨h0, h1, h2.trans (res2_eq m c), h3.trans (res3_eq m c), h⟩

end

end Cert.Reference4Ideal.Read
-- ==== Proof.CtxValue.lean ====
/-
  The context projection: on equal arguments the reference's results are the kernel's arrays.
-/
module

public import proofs.«01_k».proof.Proof.CtxKernel
public import proofs.«01_k».proof.Proof.CtxRef

@[expose] public section

noncomputable section

namespace Cert.CtxProj

open Idealize.ShloMosaic Idealize.ShloMosaic.TcCoe

theorem index_split {n : ℕ} (i : (⟨3, ![8, 256, n]⟩ : Shape).Idx) : ∃ (b : Fin 8) (r : Fin 256) (l : Fin n), i = ix3 b r l := by
  refine ⟨i 0, i 1, i 2, ?_⟩
  funext a
  match a with
  | ⟨0, _⟩ => rfl
  | ⟨1, _⟩ => rfl
  | ⟨2, _⟩ => rfl

section
open Cert.Kernel4Ideal
variable (m : (ℓ : Loc nD τ sig) → Buf (Elt Ideal) ℓ) (c : Dev nD)

theorem results0 : Cert.Reference4Ideal.Read.result0 (m ((c : Thread nD τ).loc main_arg0))
      (m ((c : Thread nD τ).loc main_arg1))
      (m ((c : Thread nD τ).loc main_arg2))
      (m ((c : Thread nD τ).loc main_arg3))
    = (Gen.dats m 0 c).arrAt 6 cfg0.N := by
  funext i
  obtain ⟨b, r, l, rfl⟩ := index_split i
  exact (Cert.Reference4Ideal.Read.result0_apply _ _ _ _ b r l).trans (Block.value6 m c b r l).symm

theorem results1 : Cert.Reference4Ideal.Read.result1 (m ((c : Thread nD τ).loc main_arg0))
      (m ((c : Thread nD τ).loc main_arg1))
      (m ((c : Thread nD τ).loc main_arg2))
      (m ((c : Thread nD τ).loc main_arg3))
    = (Gen.dats m 0 c).arrAt 7 cfg0.N := by
  funext i
  obtain ⟨b, r, l, rfl⟩ := index_split i
  exact (Cert.Reference4Ideal.Read.result1_apply _ _ _ _ b r l).trans (Block.value7 m c b r l).symm

theorem results2 : Cert.Reference4Ideal.Read.result2 (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
    = (Gen.dats m 0 c).arrAt 8 cfg0.N := by
  funext i
  obtain ⟨b, r, l, rfl⟩ := index_split i
  exact (Cert.Reference4Ideal.Read.result2_apply _ _ _ _ _ _ b r l).trans (Block.value8 m c b r l).symm

theorem results3 : Cert.Reference4Ideal.Read.result3 (m ((c : Thread nD τ).loc main_arg0))
      (m ((c : Thread nD τ).loc main_arg1))
      (m ((c : Thread nD τ).loc main_arg2))
      (m ((c : Thread nD τ).loc main_arg3))
      (m ((c : Thread nD τ).loc main_arg6))
      (m ((c : Thread nD τ).loc main_arg7))
    = (Gen.dats m 0 c).arrAt 9 cfg0.N := by
  funext i
  obtain ⟨b, r, l, rfl⟩ := index_split i
  exact (Cert.Reference4Ideal.Read.result3_apply _ _ _ _ _ _ b r l).trans (Block.value9 m c b r l).symm

end

end Cert.CtxProj
-- ==== Proof.BackRefTerms.lean ====
/-
  The backward reference's stages as functions of its arguments, and what its buffers hold where its loop begins and
  after it.
-/
module

public import proofs.«01_k».proof.Proof.Gen.Reference5Ideal.Run
public import Idealize.ShloMosaic.Lib.StableHlo.RunRead

@[expose] public section

set_option maxRecDepth 16384

noncomputable section

namespace Cert.Reference5Ideal.Stages

open Cert.Reference5Ideal Cert.Reference5Ideal.Gen Cert.Reference5Ideal.Value
open Idealize.ShloMosaic Idealize.ShloMosaic.TcCoe Idealize.ShloMosaic.Tactic Idealize.ShloMosaic.StableHlo

variable {F : FTy → Type} [FloatOps F]

/-- Heads out of rows, keys' width and values' width, and chunks out of the heads' rows in reverse. -/
def heads (x : FVec F S8x4096x256 .f32) : FVec F S8x4x4096x64 .f32 :=
  transpose S8x4x4096x64 [0, 2, 1, 3] (shapeCast S8x4096x4x64 x shapeCasts_S8x4096x256_S8x4096x4x64)
    transposes_S8x4096x4x64_S8x4x4096x64_0_2_1_3
def toHeads (x : FVec F S8x4096x256 .f32) : FVec F S8x4x64x64x64 .f32 :=
  shapeCast S8x4x64x64x64 (Host.reverse [2] (heads x)) shapeCasts_S8x4x4096x64_S8x4x64x64x64
def headsV (x : FVec F S8x4096x512 .f32) : FVec F S8x4x4096x128 .f32 :=
  transpose S8x4x4096x128 [0, 2, 1, 3] (shapeCast S8x4096x4x128 x shapeCasts_S8x4096x512_S8x4096x4x128)
    transposes_S8x4096x4x128_S8x4x4096x128_0_2_1_3
def toHeadsV (x : FVec F S8x4096x512 .f32) : FVec F S8x4x64x64x128 .f32 :=
  shapeCast S8x4x64x64x128 (Host.reverse [2] (headsV x)) shapeCasts_S8x4x4096x128_S8x4x64x64x128

variable (q k : FVec F S8x4096x256 .bf16) (v : FVec F S8x4096x512 .bf16) (g : FVec F S8x4096x256 .f32)

/-- The running sums of the gates within each chunk, and each chunk's last. -/
def cums : FVec F S8x4x64x64x64 .f32 :=
  Host.reduceWindowAdd ![1, 1, 1, 64, 1] ![1, 1, 1, 1, 1] ![0, 0, 0, 63, 0] ![0, 0, 0, 0, 0] (toHeads g)
    (broadcastInDim S_ ![] bcast_S_S_ (constant S_ .f32 0x00000000#32))
    reduceWindows_S8x4x64x64x64_S8x4x64x64x64_w1s1p0_0_w1s1p0_0_w1s1p0_0_w64s1p63_0_w1s1p0_0 h_S_
def lasts : FVec F S8x4x64x1x64 .f32 :=
  extractStridedSlice S8x4x64x1x64 ![0, 0, 0, 63, 0] (cums g) slices_S8x4x64x64x64_S8x4x64x1x64_0_0_0_63_0

def queries : FVec F S8x4x64x64x64 .f32 := mulf (toHeads (extf .f32 q bitsLt_bf16_f32)) (Host.exp (cums g))
def keysIn : FVec F S8x4x64x64x64 .f32 := mulf (toHeads (extf .f32 k bitsLt_bf16_f32)) (Host.exp (Host.negf (cums g)))
def keysEnd : FVec F S8x4x64x64x64 .f32 :=
  mulf (toHeads (extf .f32 k bitsLt_bf16_f32))
    (Host.exp (subf (broadcastInDim S8x4x64x64x64 ![0, 1, 2, 3, 4] bcast_S8x4x64x1x64_S8x4x64x64x64_0_1_2_3_4 (lasts g)) (cums g)))
def values : FVec F S8x4x64x64x128 .f32 := toHeadsV (extf .f32 v bitsLt_bf16_f32)

/-- The lower triangle. -/
def lower : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

def scores : FVec F S8x4x64x64x64 .f32 :=
  select (broadcastInDim S8x4x64x64x64 ![3, 4] bcast_S64x64_S8x4x64x64x64_3_4 lower)
    (Host.dotGeneral dot_S8x4x64x64x64_S8x4x64x64x64_S8x4x64x64x64_4_4_3_3_012_012 none (queries q g) (keysIn k g))
    (broadcastInDim S8x4x64x64x64 ![] bcast_S_S8x4x64x64x64 (constant S_ .f32 0x00000000#32))

def intra : FVec F S8x4x64x64x128 .f32 :=
  Host.dotGeneral dot_S8x4x64x64x64_S8x4x64x64x128_S8x4x64x64x128_4_3_3_4_012_012 none (scores q k g) (values v)
def gains : FVec F S64x8x4x64x128 .f32 :=
  Host.dotGeneral dot_S8x4x64x64x64_S8x4x64x64x128_S64x8x4x64x128_3_3_4_4_201_201 none (keysEnd k g) (values v)
def decays : FVec F S64x8x4x64 .f32 :=
  transpose S64x8x4x64 [2, 0, 1, 3] (Host.exp (shapeCast S8x4x64x64 (lasts g) shapeCasts_S8x4x64x1x64_S8x4x64x64)) transposes_S8x4x64x64_S64x8x4x64_2_0_1_3

/-- The two directions added, out of the states at the chunks' starts. -/
def assemble (o : FVec F S8x4096x512 .f32) (s : FVec F S64x8x4x64x128 .f32) : FVec F S8x4x4096x128 .f32 :=
  addf (headsV o) (Host.reverse [2] (shapeCast S8x4x4096x128 (addf (intra q k v g)
      (Host.dotGeneral dot_S8x4x64x64x64_S64x8x4x64x128_S8x4x64x64x128_4_3_3_4_012_120 none (queries q g) s)) shapeCasts_S8x4x64x64x128_S8x4x4096x128))

/-- One over the root mean square of each head's row. -/
def scale (x : FVec F S8x4x4096x128 .f32) : FVec F S8x4x4096x1 .f32 :=
  Host.rsqrt (addf (Host.divf (broadcastInDim S8x4x4096x1 ![0, 1, 2] bcast_S8x4x4096_S8x4x4096x1_0_1_2
      (Host.reduceAdd (mulf x x) (constant S_ .f32 0x00000000#32) reducesTo_S8x4x4096x128_S8x4x4096_d3 h_S_))
    (broadcastInDim S8x4x4096x1 ![] bcast_S_S8x4x4096x1 (constant S_ .f32 0x43000000#32)))
    (broadcastInDim S8x4x4096x1 ![] bcast_S_S8x4x4096x1 (constant S_ .f32 0x358637BD#32)))

/-- The rows normalized and weighted, laid back. -/
def normed (x : FVec F S8x4x4096x128 .f32) (w : FVec F S128 .f32) : FVec F S8x4096x512 .f32 :=
  shapeCast S8x4096x512 (transpose S8x4096x4x128 [0, 2, 1, 3]
    (mulf (mulf x (broadcastInDim S8x4x4096x128 ![0, 1, 2, 3] bcast_S8x4x4096x1_S8x4x4096x128_0_1_2_3 (scale x)))
      (broadcastInDim S8x4x4096x128 ![0, 1, 2, 3] bcast_S1x1x1x128_S8x4x4096x128_0_1_2_3 (broadcastInDim S1x1x1x128 ![3] bcast_S128_S1x1x1x128_3 w)))
    transposes_S8x4x4096x128_S8x4096x4x128_0_2_1_3) shapeCasts_S8x4096x4x128_S8x4096x512

/-- A gate's input times its logistic function. -/
def silu (y : FVec F S8x4096x512 .f32) : FVec F S8x4096x512 .f32 :=
  mulf y (Host.divf (broadcastInDim S8x4096x512 ![] bcast_S_S8x4096x512 (constant S_ .f32 0x3F800000#32))
    (addf (broadcastInDim S8x4096x512 ![] bcast_S_S8x4096x512 (constant S_ .f32 0x3F800000#32)) (Host.exp (Host.negf y))))

/-- The result. -/
def gated (x : FVec F S8x4x4096x128 .f32) (y : FVec F S8x4096x512 .bf16) (w : FVec F S128 .f32) : FVec F S8x4096x512 .bf16 :=
  truncf .bf16 (mulf (normed x w) (silu (extf .f32 y bitsLt_bf16_f32))) bitsLt_bf16_f32

section
variable (m : (ℓ : Loc nD τ sig) → Buf (Elt F) ℓ) (c : Dev nD)

abbrev aQ : FVec F S8x4096x256 .bf16 := m ((c : Thread nD τ).loc main_arg0)
abbrev aK : FVec F S8x4096x256 .bf16 := m ((c : Thread nD τ).loc main_arg1)
abbrev aV : FVec F S8x4096x512 .bf16 := m ((c : Thread nD τ).loc main_arg2)
abbrev aG : FVec F S8x4096x256 .f32 := m ((c : Thread nD τ).loc main_arg3)
abbrev aS : FVec F S8x4x64x128 .f32 := m ((c : Thread nD τ).loc main_arg4)
abbrev aO : FVec F S8x4096x512 .f32 := m ((c : Thread nD τ).loc main_arg5)
abbrev aY : FVec F S8x4096x512 .bf16 := m ((c : Thread nD τ).loc main_arg6)
abbrev aW : FVec F S128 .f32 := m ((c : Thread nD τ).loc main_arg7)

theorem entry_queries : entryContents preI m c (Proc.devRef .tc main_v22) = queries (aQ m c) (aG m c) := by
  simp only [entryContents, afterL_cons, afterL_nil]
  after_reads_simp
  rfl
theorem entry_intra : entryContents preI m c (Proc.devRef .tc main_v34) = intra (aQ m c) (aK m c) (aV m c) (aG m c) := by
  simp only [entryContents, afterL_cons, afterL_nil]
  after_reads_simp
  rfl
theorem entry_decays : entryContents preI m c (Proc.devRef .tc main_v40_0) = decays (aG m c) := by
  simp only [entryContents, afterL_cons, afterL_nil]
  after_reads_simp
  rfl
theorem entry_gains : entryContents preI m c (Proc.devRef .tc main_v40_1) = gains (aK m c) (aV m c) (aG m c) := by
  simp only [entryContents, afterL_cons, afterL_nil]
  after_reads_simp
  rfl
theorem entry_state : entryContents preI m c (Proc.devRef .tc main_v40_3) = aS m c := by
  simp only [entryContents, afterL_cons, afterL_nil]
  after_reads_simp
  rfl

/-- What the loop does not write keeps its contents through it. -/
theorem atK_keep (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) : ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc]
    exact atK_keep r hc h0 h1 h2 h3 h4 k

/-- The operations after the loop, from any contents. -/
theorem post_result (X : Valuation τ sig (Elt F)) : afterL postI X (Proc.devRef .tc main_v66)
    = gated (addf (headsV (X (Proc.devRef .tc main_arg5))) (Host.reverse [2] (shapeCast S8x4x4096x128 (addf (X (Proc.devRef .tc main_v34))
        (Host.dotGeneral dot_S8x4x64x64x64_S64x8x4x64x128_S8x4x64x64x128_4_3_3_4_012_120 none (X (Proc.devRef .tc main_v22)) (X (Proc.devRef .tc main_v40_4))))
        shapeCasts_S8x4x64x64x128_S8x4x4096x128))) (X (Proc.devRef .tc main_arg6)) (X (Proc.devRef .tc main_arg7)) := by
  simp only [afterL_cons, afterL_nil]
  after_reads_simp
  rfl

theorem entry_arg (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) (h7 : r ∉ hostOps0_7_W) (h8 : r ∉ hostOps0_8_W)
    (h9 : r ∉ hostOps0_9_W) (h10 : r ∉ hostOps0_10_W) (h11 : r ∉ hostOps0_11_W) :
    entryContents preI m c (Proc.devRef .tc r) = m ((c : Thread nD τ).loc r) := by
  simp only [entryContents, afterL_cons, afterL_nil]
  rw [after_of_writes_sub hostOps0_11 _ hostOps0_11_writes h11, after_of_writes_sub hostOps0_10 _ hostOps0_10_writes h10,
    after_of_writes_sub hostOps0_9 _ hostOps0_9_writes h9, after_of_writes_sub hostOps0_8 _ hostOps0_8_writes h8,
    after_of_writes_sub hostOps0_7 _ hostOps0_7_writes h7, after_of_writes_sub hostOps0_6 _ hostOps0_6_writes h6,
    after_of_writes_sub hostOps0_5 _ hostOps0_5_writes h5, after_of_writes_sub hostOps0_4 _ hostOps0_4_writes h4,
    after_of_writes_sub hostOps0_3 _ hostOps0_3_writes h3, after_of_writes_sub hostOps0_2 _ hostOps0_2_writes h2,
    after_of_writes_sub hostOps0_1 _ hostOps0_1_writes h1, after_of_writes_sub hostOps0 _ hostOps0_writes h0]

/-- What nothing before the operations after the loop writes. -/
theorem loop_arg (r : Ref sig .tc) (hc : r ∉ condOps_W) (w0 : r ∉ while0Ops0_W) (w1 : r ∉ while0Ops0_1_W) (w2 : r ∉ while0Ops0_2_W)
    (w3 : r ∉ while0Ops0_3_W) (w4 : r ∉ while0Ops0_4_W) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) (h7 : r ∉ hostOps0_7_W)
    (h8 : r ∉ hostOps0_8_W) (h9 : r ∉ hostOps0_9_W) (h10 : r ∉ hostOps0_10_W) (h11 : r ∉ hostOps0_11_W) :
    after condOps (atK m 64 c) (Proc.devRef .tc r) = m ((c : Thread nD τ).loc r) :=
  (after_of_writes_sub condOps _ condOps_writes hc).trans ((atK_keep m c r hc w0 w1 w2 w3 w4 64).trans
    (entry_arg m c r h0 h1 h2 h3 h4 h5 h6 h7 h8 h9 h10 h11))

/-- The result, out of the states that the loop collected. -/
theorem final_result : finalContents condOps preI bodyI postI 64 m c (Proc.devRef .tc main_v66)
    = gated (assemble (aQ m c) (aK m c) (aV m c) (aG m c) (aO m c) (atK m 64 c (Proc.devRef .tc main_v40_4))) (aY m c) (aW m c) := by
  have e1 := (atK_keep m c main_v22 (by decide) (by decide) (by decide) (by decide) (by decide) (by decide) 64).trans (entry_queries m c)
  have e2 := (atK_keep m c main_v34 (by decide) (by decide) (by decide) (by decide) (by decide) (by decide) 64).trans (entry_intra m c)
  refine (post_result (after condOps (atK m 64 c))).trans ?_
  rw [after_of_writes_sub condOps _ condOps_writes (r := main_v34) (by decide), after_of_writes_sub condOps _ condOps_writes (r := main_v22) (by decide),
    after_of_writes_sub condOps _ condOps_writes (r := main_v40_4) (by decide), e1, e2,
    loop_arg m c main_arg5 (by decide) (by decide) (by decide) (by decide) (by decide) (by decide) (by decide) (by decide) (by decide) (by decide) (by decide) (by decide) (by decide) (by decide) (by decide) (by decide) (by decide) (by decide),
    loop_arg m c main_arg6 (by decide) (by decide) (by decide) (by decide) (by decide) (by decide) (by decide) (by decide) (by decide) (by decide) (by decide) (by decide) (by decide) (by decide) (by decide) (by decide) (by decide) (by decide),
    loop_arg m c main_arg7 (by decide) (by decide) (by decide) (by decide) (by decide) (by decide) (by decide) (by decide) (by decide) (by decide) (by decide) (by decide) (by decide) (by decide) (by decide) (by decide) (by decide) (by decide)]
  rfl

/-! ## The loop, trip by trip -/

theorem loop_decays (k : ℕ) : atK m k c (Proc.devRef .tc main_v40_0) = decays (aG m c) :=
  (atK_keep m c main_v40_0 (by decide) (by decide) (by decide) (by decide) (by decide) (by decide) k).trans (entry_decays m c)
theorem loop_gains (k : ℕ) : atK m k c (Proc.devRef .tc main_v40_1) = gains (aK m c) (aV m c) (aG m c) :=
  (atK_keep m c main_v40_1 (by decide) (by decide) (by decide) (by decide) (by decide) (by decide) k).trans (entry_gains m c)

end

end Cert.Reference5Ideal.Stages
-- ==== Proof.BackSpec.lean ====
/-
  The backward direction of the attention and the gate on the sum of both directions, over the extended reals: the
  recurrence runs over the rows of a batch entry in reverse.
-/
module

public import proofs.«01_k».proof.Proof.Spec

@[expose] public section

noncomputable section

namespace Cert.Gla

open Idealize.ShloMosaic

/-- The rows of a batch entry, the last first. -/
def back {w : ℕ} (x : (⟨3, ![8, 4096, w]⟩ : Shape).Idx → EReal) (b : Fin 8) : ℕ → Fin w → EReal :=
  fun t => rows x b (4095 - t)

theorem back_lt {w : ℕ} (x : (⟨3, ![8, 4096, w]⟩ : Shape).Idx → EReal) (hx : ∀ i, x i < ⊤) (b : Fin 8) (t : ℕ) (l : Fin w) :
    back x b t l < ⊤ := rows_lt x hx b _ l

theorem back_eq {w : ℕ} (x : (⟨3, ![8, 4096, w]⟩ : Shape).Idx → EReal) (b : Fin 8) (t r : ℕ) (hr : r < 4096) (l : Fin w)
    (h : 4095 - t = r) : back x b t l = x (ix3 b ⟨r, hr⟩ l) := by
  unfold back
  rw [h, rows_of_lt x b r hr l]

/-- The constants of the normalization. -/
abbrev headLen : EReal := Ideal.ofBits .f32 0x43000000#32
abbrev eps : EReal := Ideal.ofBits .f32 0x358637BD#32

/-- A head's row over its root mean square, weighted, times the gate's input times its logistic function. -/
def gate (x w g : Fin 128 → EReal) (e : Fin 128) : EReal :=
  x e * Ideal.rsqrt (Ideal.div (∑ k, x k * x k) headLen + eps) * w e * (g e * Ideal.logistic (g e))

/-- A row of the result: both directions added, then the gate. -/
def gatedRow (o₁ o₂ w g : Fin 128 → EReal) (e : Fin 128) : EReal := gate (fun e => o₁ e + o₂ e) w g e

end Cert.Gla
-- ==== Proof.BackRefRead.lean ====
/-
  The backward reference's stages read at an index.
-/
module

public import proofs.«01_k».proof.Proof.BackRefTerms
public import proofs.«01_k».proof.Proof.BackSpec
public import proofs.«01_k».proof.Proof.Window
public import Idealize.ShloMosaic.Lib.Pipeline.Value
public import Idealize.ShloMosaic.Lib.Pointwise
public import Idealize.ShloMosaic.Lib.WordCmp
public import Idealize.ShloMosaic.Lib.DynamicIndex

@[expose] public section

set_option maxRecDepth 16384

noncomputable section

namespace Cert.Reference5Ideal.Stages

open Cert.Reference5Ideal Cert.Reference5Ideal.Gen Cert.Reference5Ideal.Value
open Idealize.ShloMosaic Idealize.ShloMosaic.TcCoe Cert.Gla

/-- A head's rows in reverse. -/
theorem reverse_at (x : FVec Ideal S8x4x4096x64 .f32) (b : Fin 8) (h : Fin 4) (r : Fin 4096) (l : Fin 64) :
    Host.reverse [2] x (ix4 b h r l) = x (ix4 b h r.rev l) := by
  refine congrArg x (funext fun a => ?_)
  fin_cases a <;> rfl

theorem reverse_atV (x : FVec Ideal S8x4x4096x128 .f32) (b : Fin 8) (h : Fin 4) (r : Fin 4096) (l : Fin 128) :
    Host.reverse [2] x (ix4 b h r l) = x (ix4 b h r.rev l) := by
  refine congrArg x (funext fun a => ?_)
  fin_cases a <;> rfl

theorem heads_apply (x : FVec Ideal S8x4096x256 .f32) (b : Fin 8) (h : Fin 4) (r : Fin 4096) (d : Fin 64) :
    heads x (ix4 b h r d) = x (ix3 b r (kl h d)) := by
  pointwise [heads]
  exact congrArg (fun l => x (ix3 b r l)) (Fin.ext (by show (h : ℕ) * 64 + d = 64 * h + d; omega))

theorem headsV_apply (x : FVec Ideal S8x4096x512 .f32) (b : Fin 8) (h : Fin 4) (r : Fin 4096) (e : Fin 128) :
    headsV x (ix4 b h r e) = x (ix3 b r (vl h e)) := by
  pointwise [headsV]
  exact congrArg (fun l => x (ix3 b r l)) (Fin.ext (by show (h : ℕ) * 128 + e = 128 * h + e; omega))

theorem row_rev (n c : Fin 64) : (⟨64 * n + c, by omega⟩ : Fin 4096).rev = ⟨4095 - (64 * n + c), by omega⟩ :=
  Fin.ext (by rw [Fin.val_rev]; show 4096 - (64 * (n : ℕ) + c + 1) = 4095 - (64 * n + c); omega)

theorem toHeads_apply (x : FVec Ideal S8x4096x256 .f32) (b : Fin 8) (h : Fin 4) (n c d : Fin 64) :
    toHeads x (ix5 b h n c d) = x (ix3 b ⟨4095 - (64 * n + c), by omega⟩ (kl h d)) := by
  refine Eq.trans (b := Host.reverse [2] (heads x) (ix4 b h ⟨64 * n + c, by omega⟩ d)) ?_ ?_
  · unfold toHeads
    generalize Host.reverse [2] (heads x) = y
    pointwise
    exact congrArg (fun r => y (ix4 b h r d)) (Fin.ext (by show (n : ℕ) * 64 + c = 64 * n + c; omega))
  · rw [reverse_at, row_rev, heads_apply]

theorem toHeadsV_apply (x : FVec Ideal S8x4096x512 .f32) (b : Fin 8) (h : Fin 4) (n c : Fin 64) (e : Fin 128) :
    toHeadsV x (ix5 b h n c e) = x (ix3 b ⟨4095 - (64 * n + c), by omega⟩ (vl h e)) := by
  refine Eq.trans (b := Host.reverse [2] (headsV x) (ix4 b h ⟨64 * n + c, by omega⟩ e)) ?_ ?_
  · unfold toHeadsV
    generalize Host.reverse [2] (headsV x) = y
    pointwise
    exact congrArg (fun r => y (ix4 b h r e)) (Fin.ext (by show (n : ℕ) * 64 + c = 64 * n + c; omega))
  · rw [reverse_atV, row_rev, headsV_apply]

variable (q k : FVec Ideal S8x4096x256 .bf16) (v : FVec Ideal S8x4096x512 .bf16) (g : FVec Ideal S8x4096x256 .f32)

theorem scores_apply (b : Fin 8) (h : Fin 4) (n c s : Fin 64) :
    scores q k g (ix5 b h n c s) = if s ≤ c then ∑ d : Fin 64, queries q g (ix5 b h n c d) * keysIn k g (ix5 b h n s d) else 0 := by
  pointwise [scores, lower]
  rw [show IntOp.addi (BitVec.ofNat 32 (c : ℕ)) 0#32 = BitVec.ofNat 32 (c : ℕ) from BitVec.add_zero _, WordCmp.cmpi_sge_ofNat (by omega) (by omega)]
  by_cases hsc : s ≤ c
  · rw [if_pos hsc, decide_eq_true (show (s : ℕ) ≤ c from hsc)]
    rfl
  · rw [if_neg hsc, decide_eq_false (show ¬ (s : ℕ) ≤ c from hsc)]
    rfl

theorem intra_apply (b : Fin 8) (h : Fin 4) (n c : Fin 64) (e : Fin 128) :
    intra q k v g (ix5 b h n c e) = ∑ s : Fin 64, scores q k g (ix5 b h n c s) * values v (ix5 b h n s e) := by
  pointwise [intra]

theorem gains_apply (b : Fin 8) (h : Fin 4) (n d : Fin 64) (e : Fin 128) :
    gains k v g (ix5 n b h d e) = ∑ s : Fin 64, keysEnd k g (ix5 b h n s d) * values v (ix5 b h n s e) := by
  pointwise [gains]

theorem decays_apply (b : Fin 8) (h : Fin 4) (n d : Fin 64) :
    decays g (ix4 n b h d) = Ideal.exp (cums g (ix5 b h n 63 d)) := by
  pointwise [decays, lasts]

theorem queries_apply (b : Fin 8) (h : Fin 4) (n c d : Fin 64) :
    queries q g (ix5 b h n c d) = q (ix3 b ⟨4095 - (64 * n + c), by omega⟩ (kl h d)) * Ideal.exp (cums g (ix5 b h n c d)) := by
  unfold queries
  pointwise
  rw [toHeads_apply]
  pointwise

theorem keysIn_apply (b : Fin 8) (h : Fin 4) (n c d : Fin 64) :
    keysIn k g (ix5 b h n c d) = k (ix3 b ⟨4095 - (64 * n + c), by omega⟩ (kl h d)) * Ideal.exp (-cums g (ix5 b h n c d)) := by
  unfold keysIn
  pointwise
  rw [toHeads_apply]
  pointwise

theorem keysEnd_apply (b : Fin 8) (h : Fin 4) (n c d : Fin 64) :
    keysEnd k g (ix5 b h n c d) = k (ix3 b ⟨4095 - (64 * n + c), by omega⟩ (kl h d)) * Ideal.exp (cums g (ix5 b h n 63 d) - cums g (ix5 b h n c d)) := by
  unfold keysEnd lasts
  pointwise
  rw [toHeads_apply]
  pointwise

theorem values_apply (b : Fin 8) (h : Fin 4) (n c : Fin 64) (e : Fin 128) :
    values v (ix5 b h n c e) = v (ix3 b ⟨4095 - (64 * n + c), by omega⟩ (vl h e)) := by
  unfold values
  rw [toHeadsV_apply]
  pointwise

theorem assemble_apply (o : FVec Ideal S8x4096x512 .f32) (s : FVec Ideal S64x8x4x64x128 .f32) (b : Fin 8) (h : Fin 4) (n c : Fin 64) (e : Fin 128) :
    assemble q k v g o s (ix4 b h ⟨4095 - (64 * n + c), by omega⟩ e)
      = o (ix3 b ⟨4095 - (64 * n + c), by omega⟩ (vl h e))
        + (intra q k v g (ix5 b h n c e) + ∑ d : Fin 64, queries q g (ix5 b h n c d) * s (ix5 n b h d e)) := by
  unfold assemble
  rw [addf_apply, headsV_apply, reverse_atV, show (⟨4095 - (64 * (n : ℕ) + c), by omega⟩ : Fin 4096).rev = ⟨64 * n + c, by omega⟩ from
      Fin.ext (by rw [Fin.val_rev]; show 4096 - (4095 - (64 * (n : ℕ) + c) + 1) = 64 * n + c; omega)]
  refine congrArg (o _ + ·) ?_
  pointwise

/-! ## The gate -/

theorem silu_apply (y : FVec Ideal S8x4096x512 .f32) (i : S8x4096x512.Idx) : silu y i = y i * Ideal.logistic (y i) := by
  pointwise [silu]
  rfl

theorem gated_apply (x : FVec Ideal S8x4x4096x128 .f32) (y : FVec Ideal S8x4096x512 .bf16) (w : FVec Ideal S128 .f32) (b : Fin 8) (h : Fin 4)
    (r : Fin 4096) (e : Fin 128) :
    gated x y w (ix3 b r (vl h e))
      = gate (fun e => x (ix4 b h r e)) (fun e => w (ix1 e)) (fun e => y (ix3 b r (vl h e))) e := by
  have e1 : (⟨(vl h e : ℕ) / 128, by omega⟩ : Fin 4) = h := Fin.ext (by show (128 * (h : ℕ) + e) / 128 = h; omega)
  have e2 : (⟨(vl h e : ℕ) % 128, by omega⟩ : Fin 128) = e := Fin.ext (by show (128 * (h : ℕ) + e) % 128 = e; omega)
  unfold gated
  pointwise [normed, scale, gate]
  rw [silu_apply, e1, e2]
  pointwise

theorem cums_apply (b : Fin 8) (h : Fin 4) (n c d : Fin 64) (f : ℕ → EReal)
    (hf : ∀ s : Fin 64, f s = g (ix3 b ⟨4095 - (64 * n + s), by omega⟩ (kl h d))) :
    cums g (ix5 b h n c d) = ∑ s ∈ Finset.range (c.val + 1), f s := by
  refine Window.cumsum_apply (toHeads g) _ (fun i => ?_) reduceWindows_S8x4x64x64x64_S8x4x64x64x64_w1s1p0_0_w1s1p0_0_w1s1p0_0_w64s1p63_0_w1s1p0_0 (by decide) b h n c d f fun s => ?_
  · show (constant S_ .f32 0x00000000#32 : FVec Ideal S_ .f32) ix0 = 0
    pointwise
  · rw [hf, toHeads_apply]

/-! ## One trip -/

section
variable (X : Valuation τ sig (Elt Ideal)) (n : Fin 64) (hn : X (Proc.devRef .tc main_v40_2) = fun _ => BitVec.ofNat 32 n)
variable (dc : FVec Ideal S64x8x4x64 .f32) (gn : FVec Ideal S64x8x4x64x128 .f32) (st : FVec Ideal S8x4x64x128 .f32) (all : FVec Ideal S64x8x4x64x128 .f32)

include hn in
theorem step_state (hd : X (Proc.devRef .tc main_v40_0) = dc) (hg : X (Proc.devRef .tc main_v40_1) = gn) (hs : X (Proc.devRef .tc main_v40_3) = st)
    (b : Fin 8) (h : Fin 4) (d : Fin 64) (e : Fin 128) :
    (step_main_v40_3 X : FVec Ideal S8x4x64x128 .f32) (ix4 b h d e) = dc (ix4 n b h d) * st (ix4 b h d e) + gn (ix5 n b h d e) := by
  unfold step_main_v40_3
  rw [hn, hd, hg, hs, id,
    Host.dynamicSlice_eq_extractStridedSlice S1x8x4x64 dc _ ![(n : ℕ), 0, 0, 0] _ ⟨rfl, fun a => by fin_cases a <;> dsimp <;> omega⟩
      (fun a => by fin_cases a; exacts [toInt_ofNat_of_lt (by omega), rfl, rfl, rfl]),
    Host.dynamicSlice_eq_extractStridedSlice S1x8x4x64x128 gn _ ![(n : ℕ), 0, 0, 0, 0] _ ⟨rfl, fun a => by fin_cases a <;> dsimp <;> omega⟩
      (fun a => by fin_cases a; exacts [toInt_ofNat_of_lt (by omega), rfl, rfl, rfl, rfl])]
  pointwise

include hn in
theorem step_stack (hs : X (Proc.devRef .tc main_v40_3) = st) (ha : X (Proc.devRef .tc main_v40_4) = all)
    (n' : Fin 64) (b : Fin 8) (h : Fin 4) (d : Fin 64) (e : Fin 128) :
    (step_main_v40_4 X : FVec Ideal S64x8x4x64x128 .f32) (ix5 n' b h d e) = if n' = n then st (ix4 b h d e) else all (ix5 n' b h d e) := by
  unfold step_main_v40_4
  have hfit : S64x8x4x64x128.Slices ![(n : ℕ), 0, 0, 0, 0] S1x8x4x64x128 := ⟨rfl, fun a => by fin_cases a <;> dsimp <;> omega⟩
  rw [hn, hs, ha, id]
  refine (congrFun (Host.dynamicUpdateSlice_eq_updateSlice all _ _ _ ![(n : ℕ), 0, 0, 0, 0] (fun a => ?_) hfit) _).trans ?_
  · fin_cases a
    · show (min (max ((BitVec.ofNat 32 (n : ℕ)).toInt) 0) ((64 - 1 : ℕ) : ℤ)).toNat = n
      rw [toInt_ofNat_of_lt (by omega)]
      omega
    all_goals rfl
  · by_cases hc : n' = n
    · subst hc
      rw [if_pos rfl]
      pointwise
      rw [dif_pos ⟨le_refl _, Nat.lt_succ_self _⟩]
    · rw [if_neg hc]
      pointwise
      rw [dif_neg fun hh => hc (Fin.ext (by omega))]
end

end Cert.Reference5Ideal.Stages
-- ==== Proof.BackChunk.lean ====
/-
  One chunk of the backward recurrence as the kernel computes it, with the gate it puts on the output, and the 32
  chunks of a block one after the other, the last rows first: the vectors a chunk makes of its rows, the states of the four heads after `n` chunks, and the pieces that the
  chunks write. Each vector is named after what it holds and is made of the payloads of the first chunk, which
  the other chunks repeat.
-/
module

public import proofs.«01_k».proof.Proof.Gen.Kernel5Ideal.Skeleton

@[expose] public section

set_option maxRecDepth 16384

noncomputable section

namespace Cert.Kernel5Ideal.Chunk

open Idealize.ShloMosaic Idealize.ShloMosaic.TcCoe
open Cert.Kernel5Ideal.Gen

variable {F : FTy → Type} [FloatOps F]

/-- The bf16 zero that fills the blocks of the stacked operands. -/
def zeroB : F .bf16 := Scalar.ofBits .bf16 0x0000#16

/-- Queries times the exponential of the running sum of log gates. -/
def qIn (q : Vec F S1x64x256 .bf16) (b : Vec F S64x256 .f32) : FVec F S64x256 .bf16 := k0_pay21 (k0_pay20 q b)

/-- Keys over the exponential of the running sum. -/
def kIn (k : Vec F S1x64x256 .bf16) (b : Vec F S64x256 .f32) : FVec F S64x256 .f32 := k0_pay22 (k0_pay17 k) b

/-- The keys decayed to the end of the chunk, transposed, with the chunk's decay in the lanes after them. -/
def kEnd (k : Vec F S1x64x256 .bf16) (b : Vec F S64x256 .f32) : FVec F S256x128 .bf16 :=
  k0_pay23 (k0_pay17 k) b (k0_pay19 b)

/-- The masked scores of heads 0 and 1. -/
def att01 (q k : Vec F S1x64x256 .bf16) (b : Vec F S64x256 .f32) : FVec F S64x128 .bf16 := k0_pay27 (qIn q b) (kIn k b)

/-- The masked scores of heads 2 and 3. -/
def att23 (q k : Vec F S1x64x256 .bf16) (b : Vec F S64x256 .f32) : FVec F S64x128 .bf16 := k0_pay28 (qIn q b) (kIn k b)

/-- What the chunk adds to the state of a head (lanes below 128) beside its decay (the lanes above). -/
def inc (h : Fin 4) (k : Vec F S1x64x256 .bf16) (v : Vec F S1x64x512 .bf16) (b : Vec F S64x256 .f32) : FVec F S64x256 .f32 :=
  match h with
  | 0 => k0_pay29 (k0_pay18 v) (kEnd k b) k0_pay24 zeroB
  | 1 => k0_pay32 k0_pay24 (k0_pay30 (kEnd k b)) (k0_pay31 (k0_pay18 v) zeroB)
  | 2 => k0_pay33 (k0_pay18 v) (kEnd k b) k0_pay24 (k0_pay25 zeroB)
  | 3 => k0_pay34 (k0_pay18 v) (kEnd k b) k0_pay24 (k0_pay25 zeroB)

/-- The state after the chunk: the state before times the decay, plus what the chunk adds. -/
def step (x : FVec F S64x256 .f32) (s : FVec F S64x128 .f32) : FVec F S64x128 .f32 := k0_pay60 s x

/-- The chunk's rows before the gate: both directions added. -/
def both (q k : Vec F S1x64x256 .bf16) (v : Vec F S1x64x512 .bf16) (b : Vec F S64x256 .f32) (s : Fin 4 → FVec F S64x128 .f32)
    (o : Vec F S1x64x512 .f32) : FVec F S64x512 .f32 :=
  k0_pay64 (s 0) (s 1) (s 2) (s 3) (qIn q b) (att01 q k b) (att23 q k b) (k0_pay57 v) (k0_pay58 v) (k0_pay59 v) o

/-- Rows normalized head by head, weighted and gated. -/
def gated (x : FVec F S64x512 .f32) (g : Vec F S1x64x512 .bf16) (w : Vec F S1x128 .f32) : FVec F S1x64x512 .bf16 :=
  k0_pay69 x (k0_pay65 g) (k0_pay66 x w) (k0_pay67 x w) (k0_pay68 x) w w

/-- The rows of the output that the chunk writes, from the states before it. -/
def out (q k : Vec F S1x64x256 .bf16) (v : Vec F S1x64x512 .bf16) (b : Vec F S64x256 .f32) (s : Fin 4 → FVec F S64x128 .f32)
    (o : Vec F S1x64x512 .f32) (g : Vec F S1x64x512 .bf16) (w : Vec F S1x128 .f32) : FVec F S1x64x512 .bf16 :=
  gated (both q k v b s o) g w

/-- The state of head `h` after `n` chunks. -/
def St (k : ℕ → Vec F S1x64x256 .bf16) (v : ℕ → Vec F S1x64x512 .bf16) (b : ℕ → Vec F S64x256 .f32)
    (s : Fin 4 → FVec F S64x128 .f32) : ℕ → Fin 4 → FVec F S64x128 .f32
  | 0, h => s h
  | n + 1, h => step (inc h (k n) (v n) (b n)) (St k v b s n h)

theorem inbO (n : ℕ) : ∀ a, (![0, 64 * (31 - n % 32), 0] : Fin 3 → ℕ) a + (![1, 64, 512] : Fin 3 → ℕ) a ≤ S1x2048x512.size a := by
  have := Nat.mod_lt n (show 0 < 32 by decide)
  intro a; fin_cases a
  · show 0 + 1 ≤ 1; omega
  · show 64 * (31 - n % 32) + 64 ≤ 2048; omega
  · show 0 + 512 ≤ 512; omega

theorem inbQ (n : ℕ) : ∀ a, (![0, 64 * (31 - n % 32), 0] : Fin 3 → ℕ) a + (![1, 64, 256] : Fin 3 → ℕ) a ≤ S1x2048x256.size a := by
  have := Nat.mod_lt n (show 0 < 32 by decide)
  intro a; fin_cases a
  · show 0 + 1 ≤ 1; omega
  · show 64 * (31 - n % 32) + 64 ≤ 2048; omega
  · show 0 + 256 ≤ 256; omega

theorem inbB (n : ℕ) : ∀ a, (![64 * (31 - n % 32), 0] : Fin 2 → ℕ) a + (![64, 256] : Fin 2 → ℕ) a ≤ S2048x256.size a := by
  have := Nat.mod_lt n (show 0 < 32 by decide)
  intro a; fin_cases a
  · show 64 * (31 - n % 32) + 64 ≤ 2048; omega
  · show 0 + 256 ≤ 256; omega

theorem inbS (h : Fin 4) : ∀ a, (![(h : ℕ), 0, 0] : Fin 3 → ℕ) a + (![1, 64, 128] : Fin 3 → ℕ) a ≤ S4x64x128.size a := by
  have := h.isLt
  intro a; fin_cases a
  · show (h : ℕ) + 1 ≤ 4; omega
  · show 0 + 64 ≤ 64; omega
  · show 0 + 128 ≤ 128; omega

/-- The rows of the `n`-th chunk from the end of the block of queries or keys, of values, of the output and of the running sums, and
    the place of head `h` in the state. -/
def rQ (n : ℕ) : Rect S1x2048x256 := Rect.unit ![0, 64 * (31 - n % 32), 0] S1x64x256.size (inbQ n)
def rO (n : ℕ) : Rect S1x2048x512 := Rect.unit ![0, 64 * (31 - n % 32), 0] ![1, 64, 512] (inbO n)
def rB (n : ℕ) : Rect S2048x256 := Rect.unit ![64 * (31 - n % 32), 0] S64x256.size (inbB n)
def rS (h : Fin 4) : Rect S4x64x128 := Rect.unit ![(h : ℕ), 0, 0] ![1, 64, 128] (inbS h)

/-- The pieces of the output that the first `n` chunks write, the last first. -/
def pieces (q k : ℕ → Vec F S1x64x256 .bf16) (v : ℕ → Vec F S1x64x512 .bf16) (b : ℕ → Vec F S64x256 .f32)
    (s : Fin 4 → FVec F S64x128 .f32) (o : ℕ → Vec F S1x64x512 .f32) (g : ℕ → Vec F S1x64x512 .bf16) (w : Vec F S1x128 .f32) :
    ℕ → List (View.Piece (Elt F) S1x2048x512 .bf16)
  | 0 => []
  | n + 1 => ⟨rO n, out (q n) (k n) (v n) (b n) (St k v b s n) (o n) (g n) w⟩ :: pieces q k v b s o g w n

/-- The pieces of the states after the block, the last first. -/
def statePieces (s : Fin 4 → FVec F S64x128 .f32) : List (View.Piece (Elt F) S4x64x128 .f32) :=
  [⟨rS 3, k0_pay5 (s 3)⟩, ⟨rS 2, k0_pay4 (s 2)⟩, ⟨rS 1, k0_pay3 (s 1)⟩, ⟨rS 0, k0_pay2 (s 0)⟩]

end Cert.Kernel5Ideal.Chunk
-- ==== Proof.BackChunkRead.lean ====
/-
  The vectors of a chunk of the backward direction read at an index: what each holds at a row and a lane, as extended reals.
-/
module

public import proofs.«01_k».proof.Proof.BackChunk
public import proofs.«01_k».proof.Proof.ChunkRead
public import proofs.«01_k».proof.Proof.BackSpec
public import Idealize.ShloMosaic.Lib.Pointwise
public import Idealize.ShloMosaic.Lib.WordCmp

@[expose] public section

set_option maxRecDepth 16384

noncomputable section

namespace Cert.Kernel5Ideal.Chunk

open Idealize.ShloMosaic Idealize.ShloMosaic.TcCoe
open Cert.Kernel5Ideal.Gen Cert.Gla
open Cert.KernelIdeal.Chunk (pick pick_slt pick_sle pick_sge pick_eq pick_and and63 sum_low sum_high sum_ones sum_pair)

/-! ## Lanes -/

theorem qIn_apply (q : Vec Ideal S1x64x256 .bf16) (b : Vec Ideal S64x256 .f32) (c : Fin 64) (l : Fin 256) :
    qIn q b (ix2 c l) = q (ix3 0 c l) * Ideal.exp (b (ix2 c l)) := by
  pointwise [qIn, k0_pay21, k0_pay20]

theorem kIn_apply (k : Vec Ideal S1x64x256 .bf16) (b : Vec Ideal S64x256 .f32) (c : Fin 64) (l : Fin 256) :
    kIn k b (ix2 c l) = k (ix3 0 c l) * Ideal.exp (-b (ix2 c l)) := by
  pointwise [kIn, k0_pay22, k0_pay17]
  rw [zero_sub]

/-- The transposed operand: keys decayed to the end of the chunk, then the decay once and zeros. -/
theorem kEnd_apply (k : Vec Ideal S1x64x256 .bf16) (b : Vec Ideal S64x256 .f32) (l : Fin 256) (s : Fin 128)
    (ht : Ideal.exp (b (ix2 0 l)) - Ideal.exp (b (ix2 0 l)) = 0) :
    kEnd k b (ix2 l s) = if h : (s : ℕ) < 64 then k (ix3 0 ⟨s, h⟩ l) * Ideal.exp (b (ix2 0 l) - b (ix2 ⟨s, h⟩ l))
      else if (s : ℕ) = 64 then Ideal.exp (b (ix2 0 l)) else 0 := by
  pointwise [kEnd, k0_pay23, k0_pay17, k0_pay19]
  rw [ht]
  split
  · rfl
  · rename_i h
    have e0 : ∀ j : ℕ, j < 8 → ∀ x y : EReal, Scalar.select (IntOp.cmpi .eq (BitVec.ofNat 32 ((s : ℕ) - 64)) (BitVec.ofNat 32 j)) x y = if (s : ℕ) - 64 = j then x else y :=
      fun j hj x y => pick_eq _ _ (by omega) (by omega) x y
    rw [e0 0 (by omega), e0 1 (by omega), e0 2 (by omega)]
    split_ifs <;> first | rfl | omega | simp

/-! ## The scores -/

/-- The masked scores: at lane `s` of the lower half those of the first head of the pair, of the upper half of the second. -/
theorem att01_apply (q k : Vec Ideal S1x64x256 .bf16) (b : Vec Ideal S64x256 .f32) (c : Fin 64) (p : Fin 2) (s : Fin 64) :
    att01 q k b (ix2 c ⟨64 * p + s, by omega⟩) = if c ≤ s then ∑ d : Fin 64, qIn q b (ix2 c (kl ⟨p, by omega⟩ d)) * kIn k b (ix2 s (kl ⟨p, by omega⟩ d)) else 0 := by
  pointwise [att01, k0_pay27, k0_pay26]
  rw [and63 _ (by omega), pick_sge _ _ (by omega) (by omega)]
  have hm : ((c : ℕ) ≤ (64 * (p : ℕ) + s) % 64) = (c ≤ s) := by rw [Nat.mul_add_mod, Nat.mod_eq_of_lt s.isLt]; rfl
  simp only [hm]
  refine if_congr Iff.rfl ?_ rfl
  have hp := p.isLt
  obtain h | h : (p : ℕ) = 0 ∨ (p : ℕ) = 1 := by omega
  · simp only [h, Nat.mul_zero, Nat.zero_add, Fin.is_lt, ↓reduceDIte]
    exact (sum_low (fun x => qIn q b (ix2 c ⟨x, by omega⟩)) (fun x => kIn k b (ix2 s ⟨x, by omega⟩))).trans
      (Finset.sum_congr rfl fun d _ => by simp [kl])
  · have hn : ¬ 64 * 1 + (s : ℕ) < 64 := by omega
    simp only [h, hn, ↓reduceDIte]
    simp only [show 64 * 1 + (s : ℕ) - 64 = s by omega]
    exact (sum_high (fun x => qIn q b (ix2 c ⟨x, by omega⟩)) (fun x => kIn k b (ix2 s ⟨x, by omega⟩)))

theorem att23_apply (q k : Vec Ideal S1x64x256 .bf16) (b : Vec Ideal S64x256 .f32) (c : Fin 64) (p : Fin 2) (s : Fin 64) :
    att23 q k b (ix2 c ⟨64 * p + s, by omega⟩) = if c ≤ s then ∑ d : Fin 64, qIn q b (ix2 c (kl ⟨2 + p, by omega⟩ d)) * kIn k b (ix2 s (kl ⟨2 + p, by omega⟩ d)) else 0 := by
  pointwise [att23, k0_pay28, k0_pay26]
  rw [and63 _ (by omega), pick_sge _ _ (by omega) (by omega)]
  have hm : ((c : ℕ) ≤ (64 * (p : ℕ) + s) % 64) = (c ≤ s) := by rw [Nat.mul_add_mod, Nat.mod_eq_of_lt s.isLt]; rfl
  simp only [hm]
  refine if_congr Iff.rfl ?_ rfl
  have hp := p.isLt
  obtain h | h : (p : ℕ) = 0 ∨ (p : ℕ) = 1 := by omega
  · simp only [h, Nat.mul_zero, Nat.zero_add, Fin.is_lt, ↓reduceDIte]
    exact (sum_low (fun x => qIn q b (ix2 c ⟨128 + x, by omega⟩)) (fun x => kIn k b (ix2 s ⟨128 + x, by omega⟩)))
  · have hn : ¬ 64 * 1 + (s : ℕ) < 64 := by omega
    simp only [h, hn, ↓reduceDIte]
    simp only [show 64 * 1 + (s : ℕ) - 64 = s by omega]
    exact (sum_high (fun x => qIn q b (ix2 c ⟨128 + x, by omega⟩)) (fun x => kIn k b (ix2 s ⟨128 + x, by omega⟩))).trans
      (Finset.sum_congr rfl fun d _ => by simp only [kl, ← Nat.add_assoc])

/-! ## What a chunk adds to a state -/

theorem inc_apply (h : Fin 4) (k : Vec Ideal S1x64x256 .bf16) (v : Vec Ideal S1x64x512 .bf16) (b : Vec Ideal S64x256 .f32)
    (d : Fin 64) (e : Fin 128) :
    inc h k v b (ix2 d ⟨e, by omega⟩) = ∑ s : Fin 64, kEnd k b (ix2 (kl h d) ⟨s, by omega⟩) * v (ix3 0 s (vl h e)) := by
  fin_cases h
  all_goals
    pointwise [inc, k0_pay29, k0_pay32, k0_pay33, k0_pay34, k0_pay30, k0_pay31, k0_pay18, k0_pay25, k0_pay24, zeroB]
    rw [sum_ones (fun x => _) _ (by omega), if_neg (by omega), add_zero]
    refine Finset.sum_congr rfl fun s _ => ?_
    simp [kl, vl]

theorem inc_decay (h : Fin 4) (k : Vec Ideal S1x64x256 .bf16) (v : Vec Ideal S1x64x512 .bf16) (b : Vec Ideal S64x256 .f32)
    (d : Fin 64) (e : Fin 128) (ht : Ideal.exp (b (ix2 0 (kl h d))) - Ideal.exp (b (ix2 0 (kl h d))) = 0) :
    inc h k v b (ix2 d ⟨128 + e, by omega⟩) = Ideal.exp (b (ix2 0 (kl h d))) := by
  have e0 := kEnd_apply k b (kl h d) 64 ht
  have e1 := kEnd_apply k b (kl h d) 65 ht
  have e2 := kEnd_apply k b (kl h d) 66 ht
  rw [dif_neg (by decide), if_pos (by decide)] at e0
  rw [dif_neg (by decide), if_neg (by decide)] at e1 e2
  refine Eq.trans ?_ (show kEnd k b (ix2 (kl h d) 64) + kEnd k b (ix2 (kl h d) 65) + kEnd k b (ix2 (kl h d) 66) = _ by
    rw [e0, e1, e2, add_zero, add_zero])
  clear e0 e1 e2 ht
  fin_cases h
  all_goals
    pointwise [inc, k0_pay29, k0_pay32, k0_pay33, k0_pay34, k0_pay30, k0_pay31, k0_pay18, k0_pay25, k0_pay24, zeroB]
    rw [sum_ones (fun x => _) _ (by omega), if_pos (by omega)]
    simp only [mul_zero, Finset.sum_const_zero, zero_add]
    simp [kl]

/-- The state after a chunk: decayed lane by lane, plus the chunk's keys and values. -/
theorem step_apply (x : FVec Ideal S64x256 .f32) (s : FVec Ideal S64x128 .f32) (d : Fin 64) (e : Fin 128) :
    step x s (ix2 d e) = x (ix2 d ⟨128 + e, by omega⟩) * s (ix2 d e) + x (ix2 d ⟨e, by omega⟩) := by
  pointwise [step, k0_pay60]

/-! ## The output -/

/-- The masked scores of head `h` at row `c` and the row `s` that comes before it. -/
def att (h : Fin 4) (q k : Vec Ideal S1x64x256 .bf16) (b : Vec Ideal S64x256 .f32) (c s : Fin 64) : EReal :=
  if c ≤ s then ∑ d : Fin 64, qIn q b (ix2 c (kl h d)) * kIn k b (ix2 s (kl h d)) else 0

theorem both_apply (q k : Vec Ideal S1x64x256 .bf16) (v : Vec Ideal S1x64x512 .bf16) (b : Vec Ideal S64x256 .f32)
    (s : Fin 4 → FVec Ideal S64x128 .f32) (o : Vec Ideal S1x64x512 .f32) (h : Fin 4) (c : Fin 64) (e : Fin 128) :
    both q k v b s o (ix2 c (vl h e)) = ((∑ r : Fin 64, att h q k b c r * v (ix3 0 r (vl h e)))
      + ∑ d : Fin 64, qIn q b (ix2 c (kl h d)) * s h (ix2 d e)) + o (ix3 0 c (vl h e)) := by
  have a0 : ∀ r : Fin 64, att01 q k b (ix2 c ⟨r, by omega⟩) = att 0 q k b c r := fun r => by
    have := att01_apply q k b c 0 r
    simpa [att] using this
  have a1 : ∀ r : Fin 64, att01 q k b (ix2 c ⟨64 + r, by omega⟩) = att 1 q k b c r := att01_apply q k b c 1
  have a2 : ∀ r : Fin 64, att23 q k b (ix2 c ⟨r, by omega⟩) = att 2 q k b c r := fun r => by
    have := att23_apply q k b c 0 r
    simpa [att] using this
  have a3 : ∀ r : Fin 64, att23 q k b (ix2 c ⟨64 + r, by omega⟩) = att 3 q k b c r := att23_apply q k b c 1
  have z : ∀ f : Fin 64 → EReal, ∑ r : Fin 64, f r * (0 : EReal) = 0 := fun f => Finset.sum_eq_zero fun r _ => mul_zero _
  fin_cases h
  all_goals
    pointwise [both, k0_pay64, k0_pay57, k0_pay58, k0_pay59, vl]
    refine congrArg₂ (· + ·) ?_ (by simp)
  · rw [dif_pos (by omega)]
    refine (sum_pair (fun x => att01 q k b (ix2 c x)) (fun x => qIn q b (ix2 c ⟨x, by omega⟩)) (fun r => v (ix3 0 r ⟨e, by omega⟩)) (fun _ => 0)
      (fun d => s 0 (ix2 d e)) (fun _ => 0)).trans ?_
    simp only [a0, z, add_zero]
    simp [kl]
  · rw [dif_pos (by omega)]
    refine (sum_pair (fun x => att01 q k b (ix2 c x)) (fun x => qIn q b (ix2 c ⟨x, by omega⟩)) (fun _ => 0) (fun r => v (ix3 0 r ⟨128 + e, by omega⟩))
      (fun _ => 0) (fun d => s 1 (ix2 d e))).trans ?_
    simp only [a1, z, zero_add]
    rfl
  · refine (sum_pair (fun x => att23 q k b (ix2 c x)) (fun x => qIn q b (ix2 c ⟨128 + x, by omega⟩)) (fun r => v (ix3 0 r ⟨256 + e, by omega⟩)) (fun _ => 0)
      (fun d => s 2 (ix2 d e)) (fun _ => 0)).trans ?_
    simp only [a2, z, add_zero]
    rfl
  · rw [dif_neg (by omega)]
    simp only [show 384 + (e : ℕ) - 256 = 128 + e by omega, show ¬ 128 + (e : ℕ) < 128 by omega, ↓reduceDIte,
      show 128 + (e : ℕ) - 128 = e by omega]
    refine (sum_pair (fun x => att23 q k b (ix2 c x)) (fun x => qIn q b (ix2 c ⟨128 + x, by omega⟩)) (fun _ => 0) (fun r => v (ix3 0 r ⟨384 + e, by omega⟩))
      (fun _ => 0) (fun d => s 3 (ix2 d e))).trans ?_
    simp only [a3, z, zero_add]
    simp [kl, ← Nat.add_assoc]

/-! ## The gate -/

/-- A row of the output: normalized over its head's lanes, weighted, and gated. -/
theorem gated_apply (x : FVec Ideal S64x512 .f32) (g : Vec Ideal S1x64x512 .bf16) (w : Vec Ideal S1x128 .f32) (h : Fin 4)
    (c : Fin 64) (e : Fin 128) :
    gated x g w (ix3 0 c (vl h e))
      = gate (fun e => x (ix2 c (vl h e))) (fun e => w (ix2 0 e)) (fun e => g (ix3 0 c (vl h e))) e := by
  have he := e.isLt
  fin_cases h
  · pointwise [gated, gate, k0_pay69, k0_pay65, k0_pay66, k0_pay67, k0_pay68, vl]
  · pointwise [gated, gate, k0_pay69, k0_pay65, k0_pay66, k0_pay67, k0_pay68, vl]
  · pointwise [gated, gate, k0_pay69, k0_pay65, k0_pay66, k0_pay67, k0_pay68, vl]
    have h₁ : 256 + (256 + (e : ℕ) - 128 - 128) = 256 + (e : ℕ) := by omega
    have h₂ : 256 + (e : ℕ) - 128 - 128 = (e : ℕ) := by omega
    rw [dif_neg (by omega), dif_neg (by omega), dif_pos (by omega)]
    simp only [h₁, h₂, Fin.eta]
  · pointwise [gated, gate, k0_pay69, k0_pay65, k0_pay66, k0_pay67, k0_pay68, vl]
    have h₁ : 384 + (384 + (e : ℕ) - 128 - 128 - 128) = 384 + (e : ℕ) := by omega
    have h₂ : 384 + (e : ℕ) - 128 - 128 - 128 = (e : ℕ) := by omega
    rw [dif_neg (by omega), dif_neg (by omega), dif_neg (by omega)]
    simp only [h₁, h₂, Fin.eta]

end Cert.Kernel5Ideal.Chunk
-- ==== Proof.BackScan.lean ====
/-
  The running sum of the log gates within a chunk in the backward direction: six stages, each of which adds to a row
  the row 1, 2, 4, 8, 16 and 32 below it in the same chunk of 64 rows. With the chunk's rows counted from its end the
  stages are those of the forward direction.
-/
module

public import proofs.«01_k».proof.Proof.BackChunkRead
public import proofs.«01_k».proof.Proof.Scan

@[expose] public section

set_option maxRecDepth 16384

noncomputable section

namespace Cert.Kernel5Ideal.Chunk

open Idealize.ShloMosaic Idealize.ShloMosaic.TcCoe
open Cert.Kernel5Ideal.Gen
open Cert.KernelIdeal.Chunk (pick_slt and63 part part_double part_all)

/-- One stage: to each row, the row `m` below it, where the chunk has one; `r` is 2048 - m and `t` is 64 - m. -/
def stage {F : FTy → Type} [FloatOps F] (r t : BitVec 32) (y : FVec F S2048x256 .f32) : FVec F S2048x256 .f32 :=
  addf y (select (cmpi .slt k0_pay7 (broadcast S2048x256 t)) (dynamicRotate 0 r none y rotates_S2048x256_d0)
    (broadcast S2048x256 (Scalar.ofBits .f32 0x00000000#32)))

/-- The running sums of a block of log gates. -/
def sums {F : FTy → Type} [FloatOps F] (x : Vec F S1x2048x256 .f32) : FVec F S2048x256 .f32 :=
  k0_pay12 k0_pay7 (k0_pay8 x) k0_pay9 (k0_pay10 x) k0_pay11

theorem sums_eq {F : FTy → Type} [FloatOps F] (x : Vec F S1x2048x256 .f32) :
    sums x = shapeCast S2048x256 (stage 2016#32 32#32 (stage 2032#32 48#32 (stage 2040#32 56#32 (stage 2044#32 60#32
      (stage 2046#32 62#32 (stage 2047#32 63#32
      (shapeCast S2048x256 x shapeCasts_S1x2048x256_S2048x256))))))) shapeCasts_S2048x256_S2048x256 := rfl

/-- The row `s` from the end of chunk `n` at a lane. -/
def row (y : FVec Ideal S2048x256 .f32) (n : Fin 32) (l : Fin 256) (s : ℕ) : EReal :=
  y (ix2 ⟨64 * n + (63 - s % 64), by omega⟩ l)

theorem stage_row (m : ℕ) (h0 : 0 < m) (hm : m < 64) (y : FVec Ideal S2048x256 .f32) (n : Fin 32) (l : Fin 256) (c : ℕ) (hc : c < 64) :
    row (stage (BitVec.ofNat 32 (2048 - m)) (BitVec.ofNat 32 (64 - m)) y) n l c
      = row y n l c + if m ≤ c then row y n l (c - m) else 0 := by
  unfold row
  pointwise [stage, k0_pay7]
  rw [and63 _ (by omega), pick_slt _ _ (by omega) (by omega)]
  have e1 : (64 * (n : ℕ) + (63 - c % 64)) % 64 = 63 - c := by omega
  rw [e1]
  refine congrArg _ ?_
  by_cases h : m ≤ c
  · rw [if_pos h, if_pos (by omega)]
    congr 2
    apply Fin.ext
    show (64 * (n : ℕ) + (63 - c % 64) + 2048 - (BitVec.ofNat 32 (2048 - m)).toNat % 2048) % 2048 = 64 * n + (63 - (c - m) % 64)
    rw [BitVec.toNat_ofNat]
    omega
  · rw [if_neg h, if_neg (by omega)]

theorem stage_part (f : ℕ → EReal) (m : ℕ) (h0 : 0 < m) (hm : m < 64) (y : FVec Ideal S2048x256 .f32) (n : Fin 32) (l : Fin 256)
    (hy : ∀ c, c < 64 → row y n l c = part f m c) (c : ℕ) (hc : c < 64) :
    row (stage (BitVec.ofNat 32 (2048 - m)) (BitVec.ofNat 32 (64 - m)) y) n l c = part f (m + m) c := by
  rw [stage_row m h0 hm y n l c hc, ← part_double, hy c hc]
  by_cases h : m ≤ c
  · rw [if_pos h, if_pos h, hy _ (by omega)]
  · rw [if_neg h, if_neg h]

/-- The running sum at row `c` from the end of chunk `n`: the log gates of the chunk's rows from there on. -/
theorem sums_apply (x : Vec Ideal S1x2048x256 .f32) (n : Fin 32) (c : Fin 64) (l : Fin 256) :
    sums x (ix2 ⟨64 * n + (63 - c), by omega⟩ l) = ∑ s ∈ Finset.range (c + 1), x (ix3 0 ⟨64 * n + (63 - s % 64), by omega⟩ l) := by
  have key := stage_part (row (shapeCast S2048x256 x shapeCasts_S1x2048x256_S2048x256) n l) 32 (by omega) (by omega) _ n l
    (stage_part _ 16 (by omega) (by omega) _ n l (stage_part _ 8 (by omega) (by omega) _ n l (stage_part _ 4 (by omega) (by omega) _ n l
      (stage_part _ 2 (by omega) (by omega) _ n l (stage_part _ 1 (by omega) (by omega) (shapeCast S2048x256 x shapeCasts_S1x2048x256_S2048x256) n l
        (fun c _ => by simp [part])))))) c c.isLt
  have hr : ∀ y : FVec Ideal S2048x256 .f32, y (ix2 ⟨64 * n + (63 - c), by omega⟩ l) = row y n l c := by
    intro y; unfold row; congr 2; apply Fin.ext; show 64 * (n : ℕ) + (63 - c) = 64 * n + (63 - c % 64); omega
  rw [sums_eq]; refine (hr _).trans ?_
  refine Eq.trans ?_ (key.trans ((part_all _ c c.isLt).trans (Finset.sum_congr rfl fun s _ => ?_)))
  · unfold row; pointwise
  · unfold row; pointwise

end Cert.Kernel5Ideal.Chunk
-- ==== Proof.BackBlock.lean ====
/-
  A grid point's block in the backward direction: what the point leaves in the output block and in the carried states, as functions of the
  blocks it is given, for a point that starts a batch (from the given states) and one that goes on (from the
  carried states).
-/
module

public import proofs.«01_k».proof.Proof.BackScan
public import proofs.«01_k».proof.Proof.Gen.Kernel5Ideal.Frame

@[expose] public section

set_option maxRecDepth 65536

noncomputable section

namespace Cert.Kernel5Ideal.Chunk

open Idealize.ShloMosaic Idealize.ShloMosaic.TcCoe
open Cert.Kernel5Ideal.Gen

variable {F : FTy → Type} [FloatOps F]

/-! ## The loads of a chunk -/

def qC (x : Vec F S1x2048x256 .bf16) (n : ℕ) : Vec F S1x64x256 .bf16 := View.ld x (rQ n)
def vC (x : Vec F S1x2048x512 .bf16) (n : ℕ) : Vec F S1x64x512 .bf16 := View.ld x (rO n)
def oC (x : Vec F S1x2048x512 .f32) (n : ℕ) : Vec F S1x64x512 .f32 := View.ld x (rO n)
def bC (x : Vec F S1x2048x256 .f32) (n : ℕ) : Vec F S64x256 .f32 := View.ld (sums x) (rB n)

/-- The states a point starts from, out of the contents of the state buffer. -/
def sC (x : Vec F S4x64x128 .f32) (h : Fin 4) : FVec F S64x128 .f32 := k0_pay13 (View.ld x (rS h))

/-- The pieces of the output block, and the states the block ends in. -/
def blockPieces (x0 x1 : Vec F S1x2048x256 .bf16) (x2 : Vec F S1x2048x512 .bf16) (x3 : Vec F S1x2048x256 .f32) (s : Vec F S4x64x128 .f32)
    (x5 : Vec F S1x2048x512 .f32) (x6 : Vec F S1x2048x512 .bf16) (x7 : Vec F S1x128 .f32) :
    List (View.Piece (Elt F) S1x2048x512 .bf16) :=
  pieces (qC x0) (qC x1) (vC x2) (bC x3) (sC s) (oC x5) (vC x6) x7 32
def blockStates (x1 : Vec F S1x2048x256 .bf16) (x2 : Vec F S1x2048x512 .bf16) (x3 : Vec F S1x2048x256 .f32) (s : Vec F S4x64x128 .f32) :
    Fin 4 → FVec F S64x128 .f32 :=
  St (qC x1) (vC x2) (bC x3) (sC s) 32

theorem load_q (a : Memref sig .tc .vmem S1x2048x256 .bf16) (ha : a.IsWhole) (x : Vec F S1x2048x256 .bf16) :
    (fun n => View.readAt (Elt F) a.view (rQ n).toLoadRect (ha.unread x)) = qC x := by
  funext n
  rw [View.readAt_eq_ld, ha.read_unread]; rfl

theorem load_v (a : Memref sig .tc .vmem S1x2048x512 .bf16) (ha : a.IsWhole) (x : Vec F S1x2048x512 .bf16) :
    (fun n => View.readAt (Elt F) a.view (rO n).toLoadRect (ha.unread x)) = vC x := by
  funext n
  rw [View.readAt_eq_ld, ha.read_unread]; rfl

theorem load_o (a : Memref sig .tc .vmem S1x2048x512 .f32) (ha : a.IsWhole) (x : Vec F S1x2048x512 .f32) :
    (fun n => View.readAt (Elt F) a.view (rO n).toLoadRect (ha.unread x)) = oC x := by
  funext n
  rw [View.readAt_eq_ld, ha.read_unread]; rfl

theorem zero3 : (![0, 0, 0] : Fin 3 → ℕ) = fun _ => 0 := by funext a; fin_cases a <;> rfl
theorem zero4 : (![0, 0, 0, 0] : Fin 4 → ℕ) = fun _ => 0 := by funext a; fin_cases a <;> rfl
theorem zero2 : (![0, 0] : Fin 2 → ℕ) = fun _ => 0 := by funext a; fin_cases a <;> rfl

/-- The one store of the running sums. -/
def sumsPieces (w : Vec F S1x2048x256 .f32) : List (View.Piece (Elt F) S2048x256 .f32) :=
  [⟨Rect.unit ![0, 0] S2048x256.size inb_S2048x256_S2048x256_0_0, sums w⟩]

/-- The store of the given states. -/
def startPieces (w : Vec F S1x4x64x128 .f32) : List (View.Piece (Elt F) S4x64x128 .f32) :=
  [⟨Rect.unit ![0, 0, 0] S4x64x128.size inb_S4x64x128_S4x64x128_0_0_0, k0_pay6 w⟩]

/-- A load of a whole block. -/
abbrev whole3 (a : Memref sig .tc .vmem S1x2048x256 .f32) (ha : a.IsWhole) (x : Vec F S1x2048x256 .f32) : Vec F S1x2048x256 .f32 :=
  View.readAt (Elt F) a.view (Rect.unit ![0, 0, 0] S1x2048x256.size inb_S1x2048x256_S1x2048x256_0_0_0).toLoadRect (ha.unread x)
abbrev whole4 (a : Memref sig .tc .vmem S1x4x64x128 .f32) (ha : a.IsWhole) (x : Vec F S1x4x64x128 .f32) : Vec F S1x4x64x128 .f32 :=
  View.readAt (Elt F) a.view (Rect.unit ![0, 0, 0, 0] S1x4x64x128.size inb_S1x4x64x128_S1x4x64x128_0_0_0_0).toLoadRect (ha.unread x)

theorem whole3_eq (a : Memref sig .tc .vmem S1x2048x256 .f32) (ha : a.IsWhole) (x : Vec F S1x2048x256 .f32) : whole3 a ha x = x := by
  unfold whole3
  rw [View.readAt_eq_ld, ha.read_unread]
  exact View.ld_unit_zero zero3 _ x
theorem whole4_eq (a : Memref sig .tc .vmem S1x4x64x128 .f32) (ha : a.IsWhole) (x : Vec F S1x4x64x128 .f32) : whole4 a ha x = x := by
  unfold whole4
  rw [View.readAt_eq_ld, ha.read_unread]
  exact View.ld_unit_zero zero4 _ x

abbrev wholeW (a : Memref sig .tc .vmem S1x128 .f32) (ha : a.IsWhole) (x : Vec F S1x128 .f32) : Vec F S1x128 .f32 :=
  View.readAt (Elt F) a.view (Rect.unit ![0, 0] S1x128.size inb_S1x128_S1x128_0_0).toLoadRect (ha.unread x)
theorem wholeW_eq (a : Memref sig .tc .vmem S1x128 .f32) (ha : a.IsWhole) (x : Vec F S1x128 .f32) : wholeW a ha x = x := by
  unfold wholeW
  rw [View.readAt_eq_ld, ha.read_unread]
  exact View.ld_unit_zero zero2 _ x

theorem load_b (v : View sig .tc .vmem S2048x256 .f32) (w : Vec F S1x2048x256 .f32) :
    (fun n => v.readCov (Val := Elt F) (sumsPieces w) (rB n).toLoadRect) = bC w := by
  funext n
  rw [View.readCov_eq_canon', sumsPieces, View.canon_unit_zero zero2]; rfl

theorem load_start (v : View sig .tc .vmem S4x64x128 .f32) (w : Vec F S1x4x64x128 .f32) :
    (fun h : Fin 4 => k0_pay13 (v.readCov (Val := Elt F) (startPieces w) (rS h).toLoadRect)) = sC (k0_pay6 w) := by
  funext h
  rw [View.readCov_eq_canon', startPieces, View.canon_unit_zero zero3]; rfl

theorem load_carried (a : Memref sig .tc .vmem S4x64x128 .f32) (ha : a.IsWhole) (x : Vec F S4x64x128 .f32) :
    (fun h : Fin 4 => k0_pay13 (View.readAt (Elt F) a.view (rS h).toLoadRect (ha.unread x))) = sC x := by
  funext h
  rw [View.readAt_eq_ld, ha.read_unread]; rfl

/-! ## The two kinds of point -/

section
variable (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x512 .bf16) (harg4 : arg4.IsWhole) (arg5 : Memref sig .tc .vmem S1x2048x256 .f32) (harg5 : arg5.IsWhole) (arg6 : Memref sig .tc .vmem S1x4x64x128 .f32) (harg6 : arg6.IsWhole) (arg7 : Memref sig .tc .vmem S1x2048x512 .f32) (harg7 : arg7.IsWhole) (arg8 : Memref sig .tc .vmem S1x2048x512 .bf16) (harg8 : arg8.IsWhole) (arg9 : Memref sig .tc .vmem S1x128 .f32) (harg9 : arg9.IsWhole) (arg10 : Memref sig .tc .vmem S1x2048x512 .bf16) (harg10 : arg10.IsWhole) (arg11 : Memref sig .tc .vmem S4x64x128 .f32) (harg11 : arg11.IsWhole) (arg12 : Memref sig .tc .vmem S2048x256 .f32) (harg12 : arg12.IsWhole)
    (x0 : Vec F S1x2048x256 .bf16) (x1 : Vec F S1x2048x256 .bf16) (x2 : Vec F S1x2048x512 .bf16) (x3 : Vec F S1x2048x256 .f32) (x4 : Vec F S1x4x64x128 .f32) (x5 : Vec F S1x2048x512 .f32) (x6 : Vec F S1x2048x512 .bf16) (x7 : Vec F S1x128 .f32) (xs : Vec F S4x64x128 .f32)

theorem runA_out (hc0 : cond0_0 i) :
    (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1
      = blockPieces x0 x1 x2 x3 (k0_pay6 x4) x5 x6 x7 := by
  refine Eq.trans (b := pieces (fun n => View.readAt (Elt F) arg2.view (rQ n).toLoadRect (harg2.unread x0))
    (fun n => View.readAt (Elt F) arg3.view (rQ n).toLoadRect (harg3.unread x1))
    (fun n => View.readAt (Elt F) arg4.view (rO n).toLoadRect (harg4.unread x2))
    (fun n => arg12.view.readCov (sumsPieces (whole3 arg5 harg5 x3)) (rB n).toLoadRect)
    (fun h : Fin 4 => k0_pay13 (arg11.view.readCov (startPieces (whole4 arg6 harg6 x4)) (rS h).toLoadRect)) (fun n => View.readAt (Elt F) arg7.view (rO n).toLoadRect (harg7.unread x5))
    (fun n => View.readAt (Elt F) arg8.view (rO n).toLoadRect (harg8.unread x6)) (wholeW arg9 harg9 x7) 32) ?_ ?_
  · unfold kernelRun0_A; dsimp only; rfl
  · rw [load_q, load_q, load_v, load_v, load_o, wholeW_eq, load_b, load_start, whole3_eq, whole4_eq]; rfl

theorem runA_state (hc0 : cond0_0 i) :
    (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1
      = statePieces (blockStates x1 x2 x3 (k0_pay6 x4)) ++ startPieces x4 := by
  refine Eq.trans (b := statePieces (St
    (fun n => View.readAt (Elt F) arg3.view (rQ n).toLoadRect (harg3.unread x1))
    (fun n => View.readAt (Elt F) arg4.view (rO n).toLoadRect (harg4.unread x2))
    (fun n => arg12.view.readCov (sumsPieces (whole3 arg5 harg5 x3)) (rB n).toLoadRect)
    (fun h : Fin 4 => k0_pay13 (arg11.view.readCov (startPieces (whole4 arg6 harg6 x4)) (rS h).toLoadRect)) 32) ++ startPieces (whole4 arg6 harg6 x4)) ?_ ?_
  · unfold kernelRun0_A; dsimp only; rfl
  · rw [load_q, load_v, load_b, load_start, whole3_eq, whole4_eq]; rfl

theorem runB_out (hc0 : ¬cond0_0 i) :
    (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs).1
      = blockPieces x0 x1 x2 x3 xs x5 x6 x7 := by
  refine Eq.trans (b := pieces (fun n => View.readAt (Elt F) arg2.view (rQ n).toLoadRect (harg2.unread x0))
    (fun n => View.readAt (Elt F) arg3.view (rQ n).toLoadRect (harg3.unread x1))
    (fun n => View.readAt (Elt F) arg4.view (rO n).toLoadRect (harg4.unread x2))
    (fun n => arg12.view.readCov (sumsPieces (whole3 arg5 harg5 x3)) (rB n).toLoadRect)
    (fun h : Fin 4 => k0_pay13 (View.readAt (Elt F) arg11.view (rS h).toLoadRect (harg11.unread xs))) (fun n => View.readAt (Elt F) arg7.view (rO n).toLoadRect (harg7.unread x5))
    (fun n => View.readAt (Elt F) arg8.view (rO n).toLoadRect (harg8.unread x6)) (wholeW arg9 harg9 x7) 32) ?_ ?_
  · unfold kernelRun0_B; dsimp only; rfl
  · rw [load_q, load_q, load_v, load_v, load_o, wholeW_eq, load_b, load_carried, whole3_eq]; rfl

theorem runB_state (hc0 : ¬cond0_0 i) :
    (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs).2.1
      = statePieces (blockStates x1 x2 x3 xs) := by
  refine Eq.trans (b := statePieces (St
    (fun n => View.readAt (Elt F) arg3.view (rQ n).toLoadRect (harg3.unread x1))
    (fun n => View.readAt (Elt F) arg4.view (rO n).toLoadRect (harg4.unread x2))
    (fun n => arg12.view.readCov (sumsPieces (whole3 arg5 harg5 x3)) (rB n).toLoadRect)
    (fun h : Fin 4 => k0_pay13 (View.readAt (Elt F) arg11.view (rS h).toLoadRect (harg11.unread xs))) 32)) ?_ ?_
  · unfold kernelRun0_B; dsimp only; rfl
  · rw [load_q, load_v, load_b, load_carried, whole3_eq]; rfl

/-- What the two kinds of point leave in the output block and in the states. -/
theorem outA (hc0 : cond0_0 i) : out0_A_8 c i arg2 harg2 arg3 harg3 arg4 harg4 arg5 harg5 arg6 harg6 arg7 harg7 arg8 harg8 arg9 harg9 arg10 harg10 arg11 harg11 arg12 harg12 hc0 x0 x1 x2 x3 x4 x5 x6 x7 = View.canon (blockPieces x0 x1 x2 x3 (k0_pay6 x4) x5 x6 x7) :=
  (View.read_writes_junk_eq_canon _ _).trans (congrArg View.canon (runA_out c i arg2 harg2 arg3 harg3 arg4 harg4 arg5 harg5 arg6 harg6 arg7 harg7 arg8 harg8 arg9 harg9 arg10 harg10 arg11 harg11 arg12 harg12 x0 x1 x2 x3 x4 x5 x6 x7 hc0))
theorem stateA (hc0 : cond0_0 i) : sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 = View.canon (statePieces (blockStates x1 x2 x3 (k0_pay6 x4)) ++ startPieces x4) :=
  (View.read_writes_junk_eq_canon _ _).trans (congrArg View.canon (runA_state c i arg2 harg2 arg3 harg3 arg4 harg4 arg5 harg5 arg6 harg6 arg7 harg7 arg8 harg8 arg9 harg9 arg10 harg10 arg11 harg11 arg12 harg12 x0 x1 x2 x3 x4 x5 x6 x7 hc0))
theorem outB (hc0 : ¬cond0_0 i) : out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs = View.canon (blockPieces x0 x1 x2 x3 xs x5 x6 x7) :=
  (View.read_writes_junk_eq_canon _ _).trans (congrArg View.canon (runB_out c i arg2 harg2 arg3 harg3 arg4 harg4 arg5 harg5 arg6 harg6 arg7 harg7 arg8 harg8 arg9 harg9 arg10 harg10 arg11 harg11 arg12 harg12 x0 x1 x2 x3 x4 x5 x6 x7 xs hc0))
end

end Cert.Kernel5Ideal.Chunk
-- ==== Proof.BackBlockRead.lean ====
/-
  A block of 32 chunks of the backward direction read at an index: the rows of the output and the states, in terms of
  the recurrence over the rows in reverse.
-/
module

public import proofs.«01_k».proof.Proof.BackBlock
public import proofs.«01_k».proof.Proof.BackSpec

@[expose] public section

set_option maxRecDepth 16384

noncomputable section

namespace Cert.Kernel5Ideal.Chunk

open Idealize.ShloMosaic Idealize.ShloMosaic.TcCoe
open Cert.Kernel5Ideal.Gen Cert.Gla

theorem qC_apply (x : Vec Ideal S1x2048x256 .bf16) (n : Fin 32) (c : Fin 64) (l : Fin 256) :
    qC x n (ix3 0 c l) = x (ix3 0 ⟨64 * (31 - n) + c, by omega⟩ l) := by
  pointwise [qC, rQ]
  simp only [Nat.mod_eq_of_lt n.isLt]

theorem vC_apply (x : Vec Ideal S1x2048x512 .bf16) (n : Fin 32) (c : Fin 64) (l : Fin 512) :
    vC x n (ix3 0 c l) = x (ix3 0 ⟨64 * (31 - n) + c, by omega⟩ l) := by
  pointwise [vC, rO]
  simp only [Nat.mod_eq_of_lt n.isLt]

theorem oC_apply (x : Vec Ideal S1x2048x512 .f32) (n : Fin 32) (c : Fin 64) (l : Fin 512) :
    oC x n (ix3 0 c l) = x (ix3 0 ⟨64 * (31 - n) + c, by omega⟩ l) := by
  pointwise [oC, rO]
  simp only [Nat.mod_eq_of_lt n.isLt]

theorem bC_apply (x : Vec Ideal S1x2048x256 .f32) (n : Fin 32) (c : Fin 64) (l : Fin 256) :
    bC x n (ix2 c l) = ∑ s ∈ Finset.range (c.rev + 1), x (ix3 0 ⟨64 * (31 - n) + (63 - s % 64), by omega⟩ l) := by
  have h := sums_apply x ⟨31 - n, by omega⟩ c.rev l
  refine Eq.trans ?_ h
  pointwise [bC, rB]
  refine congrArg (fun r => sums x (ix2 r l)) (Fin.ext ?_)
  show 64 * (31 - (n : ℕ) % 32) + c = 64 * (31 - n) + (63 - (Fin.rev c : ℕ))
  rw [Fin.val_rev]
  omega

theorem sC_apply (x : Vec Ideal S4x64x128 .f32) (h : Fin 4) (d : Fin 64) (e : Fin 128) :
    sC x h (ix2 d e) = x (ix3 h d e) := by
  pointwise [sC, rS, k0_pay13]

theorem start_apply (x : Vec Ideal S1x4x64x128 .f32) (h : Fin 4) (d : Fin 64) (e : Fin 128) :
    k0_pay6 x (ix3 h d e) = x (ix4 0 h d e) := by
  pointwise [k0_pay6]

/-! ## The recurrence -/

section
variable (Q K G : ℕ → Fin 256 → EReal) (V : ℕ → Fin 512 → EReal) (S₀ : Fin 4 → Fin 64 → Fin 128 → EReal)
  (x0 x1 : Vec Ideal S1x2048x256 .bf16) (x2 : Vec Ideal S1x2048x512 .bf16) (x3 : Vec Ideal S1x2048x256 .f32)
  (xs : Vec Ideal S4x64x128 .f32) (j : ℕ)

/-- Block `j` of the rows of a batch entry, and the states before it. -/
structure IsBlock : Prop where
  q : ∀ (r : Fin 2048) (l : Fin 256), x0 (ix3 0 r l) = Q (2048 * j + (2047 - r)) l
  k : ∀ (r : Fin 2048) (l : Fin 256), x1 (ix3 0 r l) = K (2048 * j + (2047 - r)) l
  v : ∀ (r : Fin 2048) (l : Fin 512), x2 (ix3 0 r l) = V (2048 * j + (2047 - r)) l
  g : ∀ (r : Fin 2048) (l : Fin 256), x3 (ix3 0 r l) = G (2048 * j + (2047 - r)) l
  s : ∀ (h : Fin 4) (d : Fin 64) (e : Fin 128), xs (ix3 h d e) = state (hk K h) (hk G h) (hv V h) (S₀ h) (32 * j) d e
  lt : ∀ t l, G t l < ⊤

variable {Q K G V S₀ x0 x1 x2 x3 xs j}

theorem IsBlock.row (n : Fin 32) (c : Fin 64) :
    2048 * j + (2047 - (64 * (31 - (n : ℕ)) + c)) = 64 * (32 * j + n) + (Fin.rev c : ℕ) := by
  rw [Fin.val_rev]
  omega

theorem IsBlock.b (H : IsBlock Q K G V S₀ x0 x1 x2 x3 xs j) (n : Fin 32) (c : Fin 64) (h : Fin 4) (d : Fin 64) :
    bC x3 n (ix2 c (kl h d)) = cum (hk G h) (32 * j + n) (Fin.rev c) d := by
  rw [bC_apply]
  refine Finset.sum_congr rfl fun s hs => ?_
  have := Finset.mem_range.mp hs
  have := (Fin.rev c).isLt
  rw [H.g]
  show G _ _ = G _ _
  congr 1
  show 2048 * j + (2047 - (64 * (31 - (n : ℕ)) + (63 - s % 64))) = 64 * (32 * j + n) + s
  omega

theorem IsBlock.total (H : IsBlock Q K G V S₀ x0 x1 x2 x3 xs j) (n : Fin 32) (h : Fin 4) (d : Fin 64) :
    bC x3 n (ix2 0 (kl h d)) = tot (hk G h) (32 * j + n) d := H.b n 0 h d

theorem IsBlock.decay (H : IsBlock Q K G V S₀ x0 x1 x2 x3 xs j) (n : Fin 32) (h : Fin 4) (d : Fin 64) :
    Ideal.exp (bC x3 n (ix2 0 (kl h d))) - Ideal.exp (bC x3 n (ix2 0 (kl h d))) = 0 := by
  rw [H.b n 0 h d]
  exact exp_sub_self (sum_lt_top _ _ fun s => H.lt _ _)

theorem IsBlock.gain (H : IsBlock Q K G V S₀ x0 x1 x2 x3 xs j) (n : Fin 32) (h : Fin 4) (d : Fin 64) (e : Fin 128) :
    inc h (qC x1 n) (vC x2 n) (bC x3 n) (ix2 d ⟨e, by omega⟩) = Cert.Gla.gain (hk K h) (hk G h) (hv V h) (32 * j + n) d e := by
  rw [inc_apply]
  refine Eq.trans (Finset.sum_congr rfl fun s _ => ?_) (Equiv.sum_comp Fin.revPerm _)
  rw [kEnd_apply _ _ _ _ (H.decay n h d), dif_pos s.isLt, H.total n h d, qC_apply, vC_apply, H.k, H.v]
  rw [show (⟨((⟨s, by omega⟩ : Fin 128) : ℕ), s.isLt⟩ : Fin 64) = s from rfl, H.b n s h d]
  show K _ _ * _ * V _ _ = K _ _ * _ * V _ _
  rw [IsBlock.row n s]
  rfl

theorem IsBlock.states (H : IsBlock Q K G V S₀ x0 x1 x2 x3 xs j) (h : Fin 4) (d : Fin 64) (e : Fin 128) :
    ∀ n : ℕ, n ≤ 32 → St (qC x1) (vC x2) (bC x3) (sC xs) n h (ix2 d e) = state (hk K h) (hk G h) (hv V h) (S₀ h) (32 * j + n) d e
  | 0, _ => (sC_apply xs h d e).trans (H.s h d e)
  | n + 1, hn => by
    show step (inc h (qC x1 n) (vC x2 n) (bC x3 n)) _ (ix2 d e) = _
    rw [step_apply, H.states h d e n (by omega)]
    have h1 := H.gain ⟨n, by omega⟩ h d e
    have h2 := inc_decay h (qC x1 n) (vC x2 n) (bC x3 n) d e (H.decay ⟨n, by omega⟩ h d)
    have h3 := H.total ⟨n, by omega⟩ h d
    rw [h2]
    refine congrArg₂ (· + ·) (congrArg (· * _) (congrArg Ideal.exp h3)) h1

/-- Row `c` of a chunk before the gate: the recurrence at the row's place from the chunk's end, plus the other direction. -/
theorem IsBlock.both (H : IsBlock Q K G V S₀ x0 x1 x2 x3 xs j) (x5 : Vec Ideal S1x2048x512 .f32) (n : Fin 32) (h : Fin 4)
    (c : Fin 64) (e : Fin 128) :
    Chunk.both (qC x0 n) (qC x1 n) (vC x2 n) (bC x3 n) (St (qC x1) (vC x2) (bC x3) (sC xs) n) (oC x5 n) (ix2 c (vl h e))
      = Cert.Gla.result (hk Q h) (hk K h) (hk G h) (hv V h) (S₀ h) (32 * j + n) c.rev e
        + x5 (ix3 0 ⟨64 * (31 - n) + c, by omega⟩ (vl h e)) := by
  have hq : ∀ c d, qIn (qC x0 n) (bC x3 n) (ix2 c (kl h d))
      = hk Q h (64 * (32 * j + n) + (Fin.rev c : ℕ)) d * Ideal.exp (cum (hk G h) (32 * j + n) (Fin.rev c) d) := by
    intro c d
    rw [qIn_apply, qC_apply, H.q, H.b n c h d]
    show Q _ _ * _ = Q _ _ * _
    rw [IsBlock.row n c]
  have hkk : ∀ c d, kIn (qC x1 n) (bC x3 n) (ix2 c (kl h d))
      = hk K h (64 * (32 * j + n) + (Fin.rev c : ℕ)) d * Ideal.exp (-cum (hk G h) (32 * j + n) (Fin.rev c) d) := by
    intro c d
    rw [kIn_apply, qC_apply, H.k, H.b n c h d]
    show K _ _ * _ = K _ _ * _
    rw [IsBlock.row n c]
  rw [both_apply, oC_apply]
  refine congrArg (· + _) (congrArg₂ (· + ·) (Eq.trans (Finset.sum_congr rfl fun r _ => ?_) (Equiv.sum_comp Fin.revPerm _))
    (Finset.sum_congr rfl fun d _ => ?_))
  · rw [vC_apply, H.v]
    refine congrArg₂ (· * ·) ?_ ?_
    · unfold att score
      refine if_congr Fin.rev_le_rev.symm (Finset.sum_congr rfl fun d _ => ?_) rfl
      rw [hq, hkk]
      rfl
    · show V _ _ = V _ _
      rw [IsBlock.row n r]
      rfl
  · rw [hq, H.states h d e n (by omega)]

theorem IsBlock.result (H : IsBlock Q K G V S₀ x0 x1 x2 x3 xs j) (x5 : Vec Ideal S1x2048x512 .f32) (x6 : Vec Ideal S1x2048x512 .bf16)
    (x7 : Vec Ideal S1x128 .f32) (n : Fin 32) (h : Fin 4) (c : Fin 64) (e : Fin 128) :
    out (qC x0 n) (qC x1 n) (vC x2 n) (bC x3 n) (St (qC x1) (vC x2) (bC x3) (sC xs) n) (oC x5 n) (vC x6 n) x7 (ix3 0 c (vl h e))
      = gatedRow (fun e => Cert.Gla.result (hk Q h) (hk K h) (hk G h) (hv V h) (S₀ h) (32 * j + n) c.rev e)
        (fun e => x5 (ix3 0 ⟨64 * (31 - n) + c, by omega⟩ (vl h e))) (fun e => x7 (ix2 0 e))
        (fun e => x6 (ix3 0 ⟨64 * (31 - n) + c, by omega⟩ (vl h e))) e := by
  rw [out, gated_apply, gatedRow]
  simp only [H.both, vC_apply]

/-! ## What the pieces leave -/

theorem piece_idx (n : Fin 32) (c : Fin 64) (l : Fin 512) :
    (ix3 0 ⟨64 * (31 - n) + c, by omega⟩ l : S1x2048x512.Idx) = (rO n).emb (ix3 0 c l) := by
  funext a
  apply Fin.ext
  fin_cases a
  · rfl
  · show 64 * (31 - (n : ℕ)) + c = 64 * (31 - n % 32) + 1 * c
    omega
  · show (l : ℕ) = 0 + 1 * l
    omega

theorem canon_pieces (q k : ℕ → Vec Ideal S1x64x256 .bf16) (v : ℕ → Vec Ideal S1x64x512 .bf16) (b : ℕ → Vec Ideal S64x256 .f32)
    (s : Fin 4 → FVec Ideal S64x128 .f32) (o : ℕ → Vec Ideal S1x64x512 .f32) (g : ℕ → Vec Ideal S1x64x512 .bf16) (w : Vec Ideal S1x128 .f32)
    (n : Fin 32) (c : Fin 64) (l : Fin 512) :
    ∀ N : ℕ, n < N → N ≤ 32 → View.canon (Val := Elt Ideal) (pieces q k v b s o g w N) (ix3 0 ⟨64 * (31 - n) + c, by omega⟩ l)
      = out (q n) (k n) (v n) (b n) (St k v b s n) (o n) (g n) w (ix3 0 c l)
  | 0, h, _ => absurd h (Nat.not_lt_zero _)
  | N + 1, h, hN => by
    by_cases e : (n : ℕ) = N
    · subst e
      rw [piece_idx]
      exact View.canon_cons_emb (rO n) _ _ _
    · refine (View.canon_cons_of_not_mem _ _ ?_).trans (canon_pieces q k v b s o g w n c l N (by omega) (by omega))
      show _ ∉ (rO N).set
      rw [rO, Rect.mem_set_unit]
      intro h'
      have h1 := h' 1
      have h2 : (64 * (31 - N % 32) : ℕ) ≤ 64 * (31 - n) + c ∧ 64 * (31 - (n : ℕ)) + c < 64 * (31 - N % 32) + 64 := h1
      omega

theorem state_idx (h : Fin 4) (d : Fin 64) (e : Fin 128) : (ix3 h d e : S4x64x128.Idx) = (rS h).emb (ix3 0 d e) := by
  funext a
  apply Fin.ext
  fin_cases a
  · show (h : ℕ) = h + 1 * 0
    omega
  · show (d : ℕ) = 0 + 1 * d
    omega
  · show (e : ℕ) = 0 + 1 * e
    omega

theorem canon_states (s : Fin 4 → FVec Ideal S64x128 .f32) (L : List (View.Piece (Elt Ideal) S4x64x128 .f32)) (h : Fin 4)
    (d : Fin 64) (e : Fin 128) : View.canon (Val := Elt Ideal) (statePieces s ++ L) (ix3 h d e) = (s h (ix2 d e) : EReal) := by
  have off : ∀ h' : Fin 4, h' ≠ h → (ix3 h d e : S4x64x128.Idx) ∉ (rS h').set := by
    intro h' hne hm
    rw [rS, Rect.mem_set_unit] at hm
    have h2 : (h' : ℕ) ≤ h ∧ (h : ℕ) < h' + 1 := hm 0
    exact hne (Fin.ext (by omega))
  have on : ∀ (w : FVec Ideal S1x64x128 .f32) L', w (ix3 0 d e) = s h (ix2 d e) →
      View.canon (Val := Elt Ideal) ((⟨rS h, w⟩ : View.Piece (Elt Ideal) S4x64x128 .f32) :: L') (ix3 h d e) = (s h (ix2 d e) : EReal) := by
    intro w L' hw
    rw [state_idx]
    exact (View.canon_cons_emb (rS h) _ _ _).trans hw
  have skip : ∀ (h' : Fin 4) (w : FVec Ideal S1x64x128 .f32) L', h' ≠ h →
      View.canon (Val := Elt Ideal) ((⟨rS h', w⟩ : View.Piece (Elt Ideal) S4x64x128 .f32) :: L') (ix3 h d e) = View.canon (Val := Elt Ideal) L' (ix3 h d e) :=
    fun h' w L' hne => View.canon_cons_of_not_mem _ _ (off h' hne)
  unfold statePieces
  simp only [List.cons_append, List.nil_append]
  fin_cases h
  · exact (skip 3 _ _ (by decide)).trans ((skip 2 _ _ (by decide)).trans ((skip 1 _ _ (by decide)).trans (on _ _ (by pointwise [k0_pay2]))))
  · exact (skip 3 _ _ (by decide)).trans ((skip 2 _ _ (by decide)).trans (on _ _ (by pointwise [k0_pay3])))
  · exact (skip 3 _ _ (by decide)).trans (on _ _ (by pointwise [k0_pay4]))
  · exact on _ _ (by pointwise [k0_pay5])

/-- The output block, and the states after the block. -/
theorem IsBlock.out_block (H : IsBlock Q K G V S₀ x0 x1 x2 x3 xs j) (x5 : Vec Ideal S1x2048x512 .f32) (x6 : Vec Ideal S1x2048x512 .bf16)
    (x7 : Vec Ideal S1x128 .f32) (n : Fin 32) (h : Fin 4) (c : Fin 64) (e : Fin 128) :
    View.canon (Val := Elt Ideal) (blockPieces x0 x1 x2 x3 xs x5 x6 x7) (ix3 0 ⟨64 * (31 - n) + c, by omega⟩ (vl h e))
      = gatedRow (fun e => Cert.Gla.result (hk Q h) (hk K h) (hk G h) (hv V h) (S₀ h) (32 * j + n) c.rev e)
        (fun e => x5 (ix3 0 ⟨64 * (31 - n) + c, by omega⟩ (vl h e))) (fun e => x7 (ix2 0 e))
        (fun e => x6 (ix3 0 ⟨64 * (31 - n) + c, by omega⟩ (vl h e))) e :=
  (canon_pieces _ _ _ _ _ _ _ _ n c (vl h e) 32 n.isLt le_rfl).trans (H.result x5 x6 x7 n h c e)

theorem IsBlock.state_block (H : IsBlock Q K G V S₀ x0 x1 x2 x3 xs j) (L : List (View.Piece (Elt Ideal) S4x64x128 .f32))
    (h : Fin 4) (d : Fin 64) (e : Fin 128) :
    View.canon (Val := Elt Ideal) (statePieces (blockStates x1 x2 x3 xs) ++ L) (ix3 h d e)
      = state (hk K h) (hk G h) (hv V h) (S₀ h) (32 * (j + 1)) d e :=
  (canon_states _ L h d e).trans (H.states h d e 32 le_rfl)
end

end Cert.Kernel5Ideal.Chunk
-- ==== Proof.BackKernelValue.lean ====
/-
  The backward call's output array at an index, in terms of the recurrence over the rows in reverse, the forward
  direction's output and the gate.
-/
module

public import proofs.«01_k».proof.Proof.BackBlockRead
public import proofs.«01_k».proof.Proof.Gen.Kernel5Ideal.Value
public import Idealize.ShloMosaic.Lib.Pipeline.ValueKit.Geometry
public import Idealize.ShloMosaic.Lib.StableHlo.RunRead

@[expose] public section

set_option maxRecDepth 16384

noncomputable section

namespace Cert.Kernel5Ideal.Chunk

open Cert.Kernel5Ideal Cert.Kernel5Ideal.Gen Cert.Kernel5Ideal.Value Cert.Gla
open Idealize.ShloMosaic Idealize.ShloMosaic.TcCoe

/-- Where the blocks of a point lie: batch entry and half of the rows, the second half first. -/
theorem places : ∀ t : Fin cfg0.N, win0_0.index t = ![t.val / 2, 1 - t.val % 2, 0] ∧ win0_1.index t = ![t.val / 2, 1 - t.val % 2, 0]
    ∧ win0_2.index t = ![t.val / 2, 1 - t.val % 2, 0] ∧ win0_3.index t = ![t.val / 2, 1 - t.val % 2, 0]
    ∧ win0_4.index t = ![t.val / 2, 0, 0, 0] ∧ win0_5.index t = ![t.val / 2, 1 - t.val % 2, 0]
    ∧ win0_6.index t = ![t.val / 2, 1 - t.val % 2, 0] ∧ win0_7.index t = ![0, 0] ∧ win0_8.index t = ![t.val / 2, 1 - t.val % 2, 0] :=
  (by decide +kernel : ∀ t : Fin grid0.N, _)

section
variable (m : (ℓ : Loc nD τ sig) → Buf (Elt Ideal) ℓ) (c : Dev nD)

abbrev Qa := back (m ((c : Thread nD τ).loc main_arg0))
abbrev Ka := back (m ((c : Thread nD τ).loc main_arg1))
abbrev Va := back (m ((c : Thread nD τ).loc main_arg2))
abbrev Ga := back (m ((c : Thread nD τ).loc main_arg3))
abbrev Sa := starts (m ((c : Thread nD τ).loc main_arg4))
abbrev Oa := back (m ((c : Thread nD τ).loc main_arg5))
abbrev Ya := back (m ((c : Thread nD τ).loc main_arg6))
abbrev Wa : Fin 128 → EReal := fun e => m ((c : Thread nD τ).loc main_arg7) (ix1 e)

theorem staged_w (e : Fin 128) : (V m c main_v0 : FVec Ideal S1x128 .f32) (ix2 0 e) = Wa m c e := by
  have h : V m c main_v0 = broadcastInDim S1x128 ![1] bcast_S128_S1x128_1 (m ((c : Thread nD τ).loc main_arg7)) := by
    unfold V hostOps0
    simp only [List.flatten_cons, List.flatten_nil, List.cons_append, List.nil_append, List.append_nil]
    after_reads_simp
  rw [h]
  pointwise

variable (b : Fin 8) (j : Fin 2) (t : Fin cfg0.N) (ht : t.val = 2 * b + j)

include ht in
theorem block_q (r : Fin 2048) (l : Fin 256) : iblk m c 0 t (ix3 0 r l) = Qa m c b (2048 * j + (2047 - r)) l := by
  rw [Qa, back_eq _ _ _ (2048 * (1 - j) + r) (by omega) _ (by omega)]
  blk_ext [iblk, V, places t]

include ht in
theorem block_k (r : Fin 2048) (l : Fin 256) : iblk m c 1 t (ix3 0 r l) = Ka m c b (2048 * j + (2047 - r)) l := by
  rw [Ka, back_eq _ _ _ (2048 * (1 - j) + r) (by omega) _ (by omega)]
  blk_ext [iblk, V, places t]

include ht in
theorem block_v (r : Fin 2048) (l : Fin 512) : iblk m c 2 t (ix3 0 r l) = Va m c b (2048 * j + (2047 - r)) l := by
  rw [Va, back_eq _ _ _ (2048 * (1 - j) + r) (by omega) _ (by omega)]
  blk_ext [iblk, V, places t]

include ht in
theorem block_g (r : Fin 2048) (l : Fin 256) : iblk m c 3 t (ix3 0 r l) = Ga m c b (2048 * j + (2047 - r)) l := by
  rw [Ga, back_eq _ _ _ (2048 * (1 - j) + r) (by omega) _ (by omega)]
  blk_ext [iblk, V, places t]

include ht in
theorem block_s (h : Fin 4) (d : Fin 64) (e : Fin 128) : iblk m c 4 t (ix4 0 h d e) = Sa m c b h d e := by
  show _ = m ((c : Thread nD τ).loc main_arg4) (ix4 b h d e)
  blk_ext [iblk, V, places t]

include ht in
theorem block_o (r : Fin 2048) (l : Fin 512) : iblk m c 5 t (ix3 0 r l) = Oa m c b (2048 * j + (2047 - r)) l := by
  rw [Oa, back_eq _ _ _ (2048 * (1 - j) + r) (by omega) _ (by omega)]
  blk_ext [iblk, V, places t]

include ht in
theorem block_y (r : Fin 2048) (l : Fin 512) : iblk m c 6 t (ix3 0 r l) = Ya m c b (2048 * j + (2047 - r)) l := by
  rw [Ya, back_eq _ _ _ (2048 * (1 - j) + r) (by omega) _ (by omega)]
  blk_ext [iblk, V, places t]

theorem block_w (t : Fin cfg0.N) (e : Fin 128) : iblk m c 7 t (ix2 0 e) = Wa m c e := by
  rw [← staged_w]
  blk_ext [iblk, places t]

/-- What the call leaves at row `cc` of chunk `n` of the rows in reverse. -/
abbrev target (n : ℕ) (cc : Fin 64) (h : Fin 4) (e : Fin 128) : EReal :=
  gatedRow (fun e => result (hk (Qa m c b) h) (hk (Ka m c b) h) (hk (Ga m c b) h) (hv (Va m c b) h) (Sa m c b h) n cc e)
    (fun e => Oa m c b (64 * n + cc) (vl h e)) (Wa m c) (fun e => Ya m c b (64 * n + cc) (vl h e)) e

variable (hG : ∀ i : S8x4096x256.Idx, LT.lt (α := EReal) (m ((c : Thread nD τ).loc main_arg3) i) ⊤)

include ht hG in
theorem block_at (xs : Vec Ideal S4x64x128 .f32)
    (hs : ∀ (h : Fin 4) (d : Fin 64) (e : Fin 128), xs (ix3 h d e)
      = state (hk (Ka m c b) h) (hk (Ga m c b) h) (hv (Va m c b) h) (Sa m c b h) (32 * j) d e) :
    IsBlock (Qa m c b) (Ka m c b) (Ga m c b) (Va m c b) (Sa m c b) (iblk m c 0 t) (iblk m c 1 t) (iblk m c 2 t) (iblk m c 3 t) xs j where
  q := block_q m c b j t ht
  k := block_k m c b j t ht
  v := block_v m c b j t ht
  g := block_g m c b j t ht
  s := hs
  lt := fun t l => back_lt _ hG b t l

include ht in
/-- The block a point leaves, by rows in reverse. -/
theorem block_out (xs : Vec Ideal S4x64x128 .f32)
    (H : IsBlock (Qa m c b) (Ka m c b) (Ga m c b) (Va m c b) (Sa m c b) (iblk m c 0 t) (iblk m c 1 t) (iblk m c 2 t) (iblk m c 3 t) xs j)
    (n : Fin 32) (h : Fin 4) (cc : Fin 64) (e : Fin 128) :
    View.canon (Val := Elt Ideal) (blockPieces (iblk m c 0 t) (iblk m c 1 t) (iblk m c 2 t) (iblk m c 3 t) xs (iblk m c 5 t) (iblk m c 6 t) (iblk m c 7 t))
        (ix3 0 ⟨64 * (31 - n) + cc, by omega⟩ (vl h e))
      = target m c b (32 * j + n) cc.rev h e := by
  rw [H.out_block]
  simp only [block_o m c b j t ht, block_y m c b j t ht, block_w, IsBlock.row]

end

section
variable (m : (ℓ : Loc nD τ sig) → Buf (Elt Ideal) ℓ) (c : Dev nD) (b : Fin 8)
  (hG : ∀ i : S8x4096x256.Idx, LT.lt (α := EReal) (m ((c : Thread nD τ).loc main_arg3) i) ⊤)

include hG in
/-- The second half of a batch entry, which comes first: its rows of the output, and the states it leaves. -/
theorem first (t : Fin cfg0.N) (ht : t.val = 2 * b) :
    (∀ (n : Fin 32) (h : Fin 4) (cc : Fin 64) (e : Fin 128),
      (outsAt0 m c t.val t.isLt).1 (ix3 0 ⟨64 * (31 - n) + cc, by omega⟩ (vl h e)) = target m c b n cc.rev h e)
    ∧ ∀ (h : Fin 4) (d : Fin 64) (e : Fin 128), (outsAt0 m c t.val t.isLt).2 (ix3 h d e)
        = state (hk (Ka m c b) h) (hk (Ga m c b) h) (hv (Va m c b) h) (Sa m c b h) 32 d e := by
  have H := block_at m c b 0 t (by simpa using ht) hG (k0_pay6 (iblk m c 4 t)) fun h d e => by
    rw [start_apply]
    exact block_s m c b 0 t (by simpa using ht) h d e
  rw [outsAt0_A m c t (by omega)]
  constructor
  · intro n h cc e
    dsimp only
    rw [outA]
    refine (block_out m c b 0 t (by simpa using ht) _ H n h cc e).trans ?_
    rw [show 32 * ((0 : Fin 2) : ℕ) + n = n from Nat.zero_add _]
  · intro h d e
    dsimp only
    rw [stateA]
    exact H.state_block _ h d e

include hG in
/-- The first half. -/
theorem second (t : Fin cfg0.N) (ht : t.val = 2 * b + 1) (n : Fin 32) (h : Fin 4) (cc : Fin 64) (e : Fin 128) :
    (outsAt0 m c t.val t.isLt).1 (ix3 0 ⟨64 * (31 - n) + cc, by omega⟩ (vl h e)) = target m c b (32 + n) cc.rev h e := by
  have ht' : t.val - 1 < cfg0.N := Nat.lt_of_le_of_lt (Nat.sub_le _ _) t.isLt
  have H := block_at m c b 1 t ht hG (outsAt0 m c (t.val - 1) ht').2 fun h d e =>
    (first m c b hG ⟨t.val - 1, ht'⟩ (by show t.val - 1 = _; omega)).2 h d e
  rw [outsAt0_B m c t (by omega)]
  dsimp only
  rw [outB]
  exact block_out m c b 1 t ht _ H n h cc e

/-- The array after all points, at an index of a point's block: what the point left there. -/
theorem array_at (j : Fin 2) (t : Fin cfg0.N) (ht : t.val = 2 * b + j) (r : Fin 2048) (l : Fin 512) :
    ((dats m 0 c).arrAt 8 cfg0.N : FVec Ideal S8x4096x512 .bf16) (ix3 b ⟨2048 * (1 - j) + r, by omega⟩ l)
      = (outsAt0 m c t.val t.isLt).1 (ix3 0 r l) := by
  have hf : (cfg0.win 8).flush t = true := (by decide +kernel : ∀ t : Fin cfg0.N, (cfg0.win 8).flush t = true) t
  have h := congrFun ((blocks8 m c t hf).trans (flushed8 m c t)) (ix3 0 r l)
  generalize (dats m 0 c).arrAt 8 cfg0.N = A at h ⊢
  refine Eq.trans ?_ h
  blk_ext [places t]

include hG in
/-- THE OUTPUT ARRAY at an index. -/
theorem value (n : Fin 64) (cc : Fin 64) (h : Fin 4) (e : Fin 128) :
    ((dats m 0 c).arrAt 8 cfg0.N : FVec Ideal S8x4096x512 .bf16) (ix3 b ⟨4095 - (64 * n + cc), by omega⟩ (vl h e))
      = target m c b n cc h e := by
  have hN : cfg0.N = 16 := N_0
  by_cases hn : (n : ℕ) < 32
  · have h1 := (first m c b hG ⟨2 * b, by rw [hN]; omega⟩ rfl).1 ⟨n, hn⟩ h cc.rev e
    rw [Fin.rev_rev] at h1
    refine Eq.trans (congrArg (fun r => ((dats m 0 c).arrAt 8 cfg0.N : FVec Ideal S8x4096x512 .bf16) (ix3 b r (vl h e))) (Fin.ext ?_))
      ((array_at m c b 0 ⟨2 * b, by rw [hN]; omega⟩ rfl ⟨64 * (31 - n) + cc.rev, by omega⟩ (vl h e)).trans h1)
    show 4095 - (64 * (n : ℕ) + cc) = 2048 * (1 - 0) + (64 * (31 - n) + (Fin.rev cc : ℕ))
    rw [Fin.val_rev]
    omega
  · have h1 := second m c b hG ⟨2 * b + 1, by rw [hN]; omega⟩ rfl ⟨n - 32, by omega⟩ h cc.rev e
    rw [Fin.rev_rev, show 32 + ((⟨n - 32, by omega⟩ : Fin 32) : ℕ) = n by show 32 + ((n : ℕ) - 32) = n; omega] at h1
    refine Eq.trans (congrArg (fun r => ((dats m 0 c).arrAt 8 cfg0.N : FVec Ideal S8x4096x512 .bf16) (ix3 b r (vl h e))) (Fin.ext ?_))
      ((array_at m c b 1 ⟨2 * b + 1, by rw [hN]; omega⟩ rfl ⟨64 * (31 - (n - 32)) + cc.rev, by omega⟩ (vl h e)).trans h1)
    show 4095 - (64 * (n : ℕ) + cc) = 2048 * (1 - 1) + (64 * (31 - (n - 32)) + (Fin.rev cc : ℕ))
    rw [Fin.val_rev]
    omega
end

end Cert.Kernel5Ideal.Chunk
-- ==== Proof.BackValue.lean ====
/-
  The two backward programs' results: the reference's array at an index is the gated recurrence the kernel's array is,
  and the two agree where no gate is infinite.
-/
module

public import proofs.«01_k».proof.Proof.BackRefRead
public import proofs.«01_k».proof.Proof.BackKernelValue
public import proofs.«01_k».proof.Proof.Value

@[expose] public section

set_option maxRecDepth 16384

noncomputable section

namespace Cert.Reference5Ideal.Stages

open Cert.Reference5Ideal Cert.Reference5Ideal.Gen Cert.Reference5Ideal.Value
open Idealize.ShloMosaic Idealize.ShloMosaic.TcCoe Idealize.ShloMosaic.StableHlo Cert.Gla

section
variable (q k : FVec Ideal S8x4096x256 .bf16) (v : FVec Ideal S8x4096x512 .bf16) (g : FVec Ideal S8x4096x256 .f32)

theorem cums_cum (b : Fin 8) (h : Fin 4) (n c d : Fin 64) : cums g (ix5 b h n c d) = cum (hk (back g b) h) n c d :=
  cums_apply g b h n c d _ fun s => back_eq g b _ _ (by omega) _ rfl

theorem queries_rows (b : Fin 8) (h : Fin 4) (n c d : Fin 64) :
    queries q g (ix5 b h n c d) = hk (back q b) h (64 * n + c) d * Ideal.exp (cum (hk (back g b) h) n c d) := by
  rw [queries_apply, cums_cum, hk, back_eq _ _ _ _ (by omega) _ rfl]

theorem keysIn_rows (b : Fin 8) (h : Fin 4) (n c d : Fin 64) :
    keysIn k g (ix5 b h n c d) = hk (back k b) h (64 * n + c) d * Ideal.exp (-cum (hk (back g b) h) n c d) := by
  rw [keysIn_apply, cums_cum, hk, back_eq _ _ _ _ (by omega) _ rfl]

theorem keysEnd_rows (b : Fin 8) (h : Fin 4) (n c d : Fin 64) :
    keysEnd k g (ix5 b h n c d)
      = hk (back k b) h (64 * n + c) d * Ideal.exp (tot (hk (back g b) h) n d - cum (hk (back g b) h) n c d) := by
  rw [keysEnd_apply, cums_cum, cums_cum, hk, back_eq _ _ _ _ (by omega) _ rfl]
  rfl

theorem values_rows (b : Fin 8) (h : Fin 4) (n c : Fin 64) (e : Fin 128) :
    values v (ix5 b h n c e) = hv (back v b) h (64 * n + c) e := by
  rw [values_apply, hv, back_eq _ _ _ _ (by omega) _ rfl]

theorem scores_score (b : Fin 8) (h : Fin 4) (n c s : Fin 64) :
    scores q k g (ix5 b h n c s) = score (hk (back q b) h) (hk (back k b) h) (hk (back g b) h) n c s := by
  simp only [scores_apply, queries_rows, keysIn_rows, score]

theorem intra_rows (b : Fin 8) (h : Fin 4) (n c : Fin 64) (e : Fin 128) :
    intra q k v g (ix5 b h n c e)
      = ∑ s : Fin 64, score (hk (back q b) h) (hk (back k b) h) (hk (back g b) h) n c s * hv (back v b) h (64 * n + s) e := by
  simp only [intra_apply, scores_score, values_rows]

theorem gains_gain (b : Fin 8) (h : Fin 4) (n d : Fin 64) (e : Fin 128) :
    gains k v g (ix5 n b h d e) = gain (hk (back k b) h) (hk (back g b) h) (hv (back v b) h) n d e := by
  simp only [gains_apply, keysEnd_rows, values_rows, gain]

theorem decays_tot (b : Fin 8) (h : Fin 4) (n d : Fin 64) : decays g (ix4 n b h d) = Ideal.exp (tot (hk (back g b) h) n d) := by
  rw [decays_apply, cums_cum]
  rfl

end

/-! ## The loop -/

section
variable (m : (ℓ : Loc nD τ sig) → Buf (Elt Ideal) ℓ) (c : Dev nD)

/-- The state before chunk `n` of a head, from the arguments. -/
abbrev states (b : Fin 8) (h : Fin 4) : ℕ → Fin 64 → Fin 128 → EReal :=
  state (hk (back (aK m c) b) h) (hk (back (aG m c) b) h) (hv (back (aV m c) b) h) (starts (aS m c) b h)

theorem counter (n : Fin 64) : atK m n c (Proc.devRef .tc main_v40_2) = fun _ => BitVec.ofNat 32 n := by
  rw [atK_ctr]
  funext i
  show 0#32 + BitVec.ofNat 32 n * 1#32 = _
  simp

theorem loop_state (n : ℕ) (hn : n ≤ 64) (b : Fin 8) (h : Fin 4) (d : Fin 64) (e : Fin 128) :
    (atK m n c (Proc.devRef .tc main_v40_3) : FVec Ideal S8x4x64x128 .f32) (ix4 b h d e) = states m c b h n d e := by
  induction n with
  | zero => exact congrFun (entry_state m c) _
  | succ n ih =>
    have hstep : atK m (n + 1) c (Proc.devRef .tc main_v40_3) = step_main_v40_3 (atK m n c) :=
      (trip_agree (atK m n c) main_v40_3 (by decide)).trans (STEP_main_v40_3 _)
    rw [hstep, step_state (atK m n c) ⟨n, by omega⟩ (counter m c ⟨n, by omega⟩) _ _ _ (loop_decays m c n) (loop_gains m c n) rfl,
      ih (by omega), decays_tot, gains_gain]
    rfl

theorem loop_stack (k : ℕ) (hk : k ≤ 64) (n : Fin 64) (hn : (n : ℕ) < k) (b : Fin 8) (h : Fin 4) (d : Fin 64) (e : Fin 128) :
    (atK m k c (Proc.devRef .tc main_v40_4) : FVec Ideal S64x8x4x64x128 .f32) (ix5 n b h d e) = states m c b h n d e := by
  induction k with
  | zero => omega
  | succ k ih =>
    have hstep : atK m (k + 1) c (Proc.devRef .tc main_v40_4) = step_main_v40_4 (atK m k c) :=
      (trip_agree (atK m k c) main_v40_4 (by decide)).trans (STEP_main_v40_4 _)
    rw [hstep, step_stack (atK m k c) ⟨k, by omega⟩ (counter m c ⟨k, by omega⟩) _ _ rfl rfl]
    by_cases hc : n = ⟨k, by omega⟩
    · rw [if_pos hc, loop_state m c k (by omega), hc]
    · rw [if_neg hc]
      exact ih (by omega) (by have : (n : ℕ) ≠ k := fun hh => hc (Fin.ext hh); omega)

/-- Both directions added, at row `cc` of chunk `n` of the rows in reverse. -/
theorem both_at (b : Fin 8) (n cc : Fin 64) (h : Fin 4) (e : Fin 128) :
    assemble (aQ m c) (aK m c) (aV m c) (aG m c) (aO m c) (atK m 64 c (Proc.devRef .tc main_v40_4)) (ix4 b h ⟨4095 - (64 * n + cc), by omega⟩ e)
      = result (hk (back (aQ m c) b) h) (hk (back (aK m c) b) h) (hk (back (aG m c) b) h) (hv (back (aV m c) b) h) (starts (aS m c) b h) n cc e
        + back (aO m c) b (64 * n + cc) (vl h e) := by
  rw [assemble_apply, intra_rows, add_comm, back_eq (aO m c) b _ _ (by omega) _ rfl]
  simp only [queries_rows, loop_stack m c 64 le_rfl _ (Fin.isLt _)]
  rfl

/-- The reference's result at an index. -/
theorem value (b : Fin 8) (n cc : Fin 64) (h : Fin 4) (e : Fin 128) :
    (finalContents condOps preI bodyI postI 64 m c (Proc.devRef .tc main_v66) : FVec Ideal S8x4096x512 .bf16) (ix3 b ⟨4095 - (64 * n + cc), by omega⟩ (vl h e))
      = gatedRow (fun e => result (hk (back (aQ m c) b) h) (hk (back (aK m c) b) h) (hk (back (aG m c) b) h) (hv (back (aV m c) b) h) (starts (aS m c) b h) n cc e)
        (fun e => back (aO m c) b (64 * n + cc) (vl h e)) (fun e => aW m c (ix1 e)) (fun e => back (aY m c) b (64 * n + cc) (vl h e)) e := by
  rw [final_result, gated_apply, gatedRow]
  refine (congrArg (fun f => gate f (fun e => aW m c (ix1 e)) (fun e => aY m c (ix3 b ⟨4095 - (64 * n + cc), by omega⟩ (vl h e))) e)
    (funext fun e => both_at m c b n cc h e)).trans ?_
  refine congrArg (fun f => gate _ (fun e => aW m c (ix1 e)) f e) (funext fun e => ?_)
  exact (back_eq (aY m c) b _ _ (by omega) _ rfl).symm

/-- What the operations after the loop write. -/
abbrev post1 : List (Ref sig .tc) := [main_v41, main_v42, main_v43, main_v44, main_v45]
abbrev post2 : List (Ref sig .tc) := [main_v46]
abbrev post3 : List (Ref sig .tc) := [main_v47, main_v48, main_cst_2, main_v49, main_v50, main_cst_3, main_v51, main_v52, main_cst_4, main_v53,
  main_v54, main_v55, main_v56, main_v57, main_v58, main_v59, main_v60, main_v61, main_v62, main_v63]
abbrev post4 : List (Ref sig .tc) := [main_call11_v0, main_call11_v1, main_call11_cst, main_call11_v2, main_call11_v3, main_call11_cst_0,
  main_call11_v4, main_call11_v5, main_v64]
abbrev post5 : List (Ref sig .tc) := [main_v65, main_v66]
theorem writes1 : (hostOps0_12 : List (HloOp τ sig (Elt Ideal))).Forall fun op => op.writes ⊆ (post1.map (Proc.devRef (τ := τ) .tc)).toFinset :=
  StableHlo.forall_writes_sub_of_map rfl
theorem writes2 : (hostOps0_13 : List (HloOp τ sig (Elt Ideal))).Forall fun op => op.writes ⊆ (post2.map (Proc.devRef (τ := τ) .tc)).toFinset :=
  StableHlo.forall_writes_sub_of_map rfl
theorem writes3 : (hostOps0_14 : List (HloOp τ sig (Elt Ideal))).Forall fun op => op.writes ⊆ (post3.map (Proc.devRef (τ := τ) .tc)).toFinset :=
  StableHlo.forall_writes_sub_of_map rfl
theorem writes4 : (hostOps0_15 : List (HloOp τ sig (Elt Ideal))).Forall fun op => op.writes ⊆ (post4.map (Proc.devRef (τ := τ) .tc)).toFinset :=
  StableHlo.forall_writes_sub_of_map rfl
theorem writes5 : (hostOps0_16 : List (HloOp τ sig (Elt Ideal))).Forall fun op => op.writes ⊆ (post5.map (Proc.devRef (τ := τ) .tc)).toFinset :=
  StableHlo.forall_writes_sub_of_map rfl

/-- Every buffer that some operation writes. -/
abbrev written : List (Ref sig .tc) :=
  hostOps0_W ++ hostOps0_1_W ++ hostOps0_2_W ++ hostOps0_3_W ++ hostOps0_4_W ++ hostOps0_5_W ++ hostOps0_6_W ++ hostOps0_7_W ++ hostOps0_8_W ++ hostOps0_9_W
    ++ hostOps0_10_W ++ hostOps0_11_W ++ post1 ++ post2 ++ post3 ++ post4 ++ post5 ++ condOps_W
    ++ while0Ops0_W ++ while0Ops0_1_W ++ while0Ops0_2_W ++ while0Ops0_3_W ++ while0Ops0_4_W

/-- The others keep their contents. -/
theorem kept (r : Ref sig .tc) (h : r ∉ written) :
    finalContents condOps preI bodyI postI 64 m c (Proc.devRef .tc r) = m ((c : Thread nD τ).loc r) := by
  simp only [written, List.mem_append, not_or] at h
  obtain ⟨⟨⟨⟨⟨⟨⟨⟨⟨⟨⟨⟨⟨⟨⟨⟨⟨⟨⟨⟨⟨⟨p0, p1⟩, p2⟩, p3⟩, p4⟩, p5⟩, p6⟩, p7⟩, p8⟩, p9⟩, p10⟩, p11⟩, p12⟩, p13⟩, p14⟩, p15⟩, p16⟩, hc⟩, w0⟩, w1⟩, w2⟩, w3⟩, w4⟩ := h
  rw [show finalContents condOps preI bodyI postI 64 m c = afterL postI (after condOps (atK m 64 c)) from rfl]
  simp only [afterL_cons, afterL_nil]
  rw [after_of_writes_sub hostOps0_16 _ writes5 p16, after_of_writes_sub hostOps0_15 _ writes4 p15, after_of_writes_sub hostOps0_14 _ writes3 p14, after_of_writes_sub hostOps0_13 _ writes2 p13, after_of_writes_sub hostOps0_12 _ writes1 p12,
    after_of_writes_sub condOps _ condOps_writes hc, atK_keep m c r hc w0 w1 w2 w3 w4 64, entry_arg m c r p0 p1 p2 p3 p4 p5 p6 p7 p8 p9 p10 p11]

end

end Cert.Reference5Ideal.Stages

namespace Cert.Gla

open Idealize.ShloMosaic

/-- An index of the result is a chunk of the rows in reverse, a row of it, a head and a lane. -/
theorem index_split_back (i : (⟨3, ![8, 4096, 512]⟩ : Shape).Idx) :
    ∃ (b : Fin 8) (n cc : Fin 64) (h : Fin 4) (e : Fin 128), i = ix3 b ⟨4095 - (64 * n + cc), by omega⟩ (vl h e) := by
  obtain ⟨b, n, cc, h, e, rfl⟩ := index_split i
  refine ⟨b, n.rev, cc.rev, h, e, congrArg (fun r => ix3 b r (vl h e)) (Fin.ext ?_)⟩
  show 64 * (n : ℕ) + cc = 4095 - (64 * (Fin.rev n : ℕ) + (Fin.rev cc : ℕ))
  rw [Fin.val_rev, Fin.val_rev]
  omega

end Cert.Gla

namespace Cert.Proof

open Idealize.ShloMosaic Idealize.ShloMosaic.TcCoe Cert.Gla

/-- Memories that agree on the arguments, the gates below infinity, give one result. -/
theorem results_eq5 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (hG : ∀ i : Cert.Kernel5Ideal.S8x4096x256.Idx,
      LT.lt (α := EReal) (m ((c : Thread Cert.Kernel5Ideal.nD Cert.Kernel5Ideal.τ).loc Cert.Kernel5Ideal.main_arg3) i) ⊤)
    (h0 : Cert.Reference5Ideal.Stages.aQ m' c = m ((c : Thread Cert.Kernel5Ideal.nD Cert.Kernel5Ideal.τ).loc Cert.Kernel5Ideal.main_arg0))
    (h1 : Cert.Reference5Ideal.Stages.aK m' c = m ((c : Thread Cert.Kernel5Ideal.nD Cert.Kernel5Ideal.τ).loc Cert.Kernel5Ideal.main_arg1))
    (h2 : Cert.Reference5Ideal.Stages.aV m' c = m ((c : Thread Cert.Kernel5Ideal.nD Cert.Kernel5Ideal.τ).loc Cert.Kernel5Ideal.main_arg2))
    (h3 : Cert.Reference5Ideal.Stages.aG m' c = m ((c : Thread Cert.Kernel5Ideal.nD Cert.Kernel5Ideal.τ).loc Cert.Kernel5Ideal.main_arg3))
    (h4 : Cert.Reference5Ideal.Stages.aS m' c = m ((c : Thread Cert.Kernel5Ideal.nD Cert.Kernel5Ideal.τ).loc Cert.Kernel5Ideal.main_arg4))
    (h5 : Cert.Reference5Ideal.Stages.aO m' c = m ((c : Thread Cert.Kernel5Ideal.nD Cert.Kernel5Ideal.τ).loc Cert.Kernel5Ideal.main_arg5))
    (h6 : Cert.Reference5Ideal.Stages.aY m' c = m ((c : Thread Cert.Kernel5Ideal.nD Cert.Kernel5Ideal.τ).loc Cert.Kernel5Ideal.main_arg6))
    (h7 : Cert.Reference5Ideal.Stages.aW m' c = m ((c : Thread Cert.Kernel5Ideal.nD Cert.Kernel5Ideal.τ).loc Cert.Kernel5Ideal.main_arg7)) :
    StableHlo.finalContents Cert.Reference5Ideal.Value.condOps Cert.Reference5Ideal.Value.preI Cert.Reference5Ideal.Value.bodyI
      Cert.Reference5Ideal.Value.postI 64 m' c (Proc.devRef .tc Cert.Reference5Ideal.main_v66)
      = (Cert.Kernel5Ideal.Gen.dats m 0 c).arrAt 8 Cert.Kernel5Ideal.cfg0.N := by
  funext i
  obtain ⟨b, n, cc, h, e, rfl⟩ := index_split_back i
  refine (Cert.Reference5Ideal.Stages.value m' c b n cc h e).trans ?_
  rw [h0, h1, h2, h3, h4, h5, h6, h7]
  exact (Cert.Kernel5Ideal.Chunk.value m c b hG n cc h e).symm

end Cert.Proof
-- ==== Proof.StateSpec.lean ====
/-
  The states that the context leaves: per head the keys, decayed by the log gates of the rows still to come, against the
  values. The two directions differ in which rows are still to come: the later ones, or the earlier ones.
-/
module

public import proofs.«01_k».proof.Proof.Spec
public import Idealize.ShloMosaic.Lib.WordCmp

@[expose] public section

noncomputable section

namespace Cert.Gla

open Idealize.ShloMosaic

/-- The gates of the rows after row `t`, added up; and of the rows before it. -/
def later (g : Fin 256 → EReal) (t : Fin 256) : EReal := ∑ s : Fin 256, if t < s then g s else 0
def earlier (g : Fin 256 → EReal) (t : Fin 256) : EReal := ∑ s : Fin 256, if s < t then g s else 0

/-- Keys, decayed by `r`, against values. -/
def kept (k v r : Fin 256 → EReal) : EReal := ∑ t : Fin 256, k t * Ideal.exp (r t) * v t

theorem later_rev (g : Fin 256 → EReal) (t : Fin 256) : later (fun s => g s.rev) t = earlier g t.rev := by
  unfold later earlier
  refine Fintype.sum_equiv Fin.revPerm _ _ fun s => ?_
  simp only [Fin.revPerm_apply, Fin.rev_lt_rev]

theorem kept_rev (k v r : Fin 256 → EReal) : kept (fun t => k t.rev) (fun t => v t.rev) (fun t => r t.rev) = kept k v r := by
  unfold kept
  exact Fintype.sum_equiv Fin.revPerm _ _ fun s => rfl

/-- Finite gates: the whole sum less the sum up to a row is the sum after it. -/
theorem sum_sub (r : ℕ → ℝ) (t : ℕ) (ht : t < 256) :
    ∑ s ∈ Finset.range 256, r s - ∑ s ∈ Finset.range (t + 1), r s = ∑ s : Fin 256, if t < (s : ℕ) then r s else 0 := by
  rw [Fin.sum_univ_eq_sum_range (fun s => if t < s then r s else 0) 256, ← Finset.sum_filter]
  have h := Finset.sum_filter_add_sum_filter_not (Finset.range 256) (fun s => t < s) r
  have e : (Finset.range 256).filter (fun s => ¬ t < s) = Finset.range (t + 1) := by
    ext s
    simp only [Finset.mem_filter, Finset.mem_range]
    omega
  rw [e] at h
  linarith

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem remaining (g : Fin 256 → EReal) (hg : ∀ s, g s ≠ ⊤ ∧ g s ≠ ⊥) (f : ℕ → EReal) (hf : ∀ s : Fin 256, f s = g s) (t : Fin 256) :
    ∑ s ∈ Finset.range (255 + 1), f s - ∑ s ∈ Finset.range (t.val + 1), f s = later g t := by
  have hr : ∀ n ∈ Finset.range 256, f n = ((f n).toReal : EReal) := fun n hn => by
    have h := hf ⟨n, Finset.mem_range.1 hn⟩
    exact (EReal.coe_toReal (h ▸ (hg _).1) (h ▸ (hg _).2)).symm
  rw [Finset.sum_congr rfl hr,
    Finset.sum_congr rfl fun n hn => hr n (Finset.mem_range.2 (by have := Finset.mem_range.1 hn; omega)),
    ← coe_sum, ← coe_sum, ← EReal.coe_sub, sum_sub _ t.val t.isLt, coe_sum]
  refine Finset.sum_congr rfl fun s _ => ?_
  by_cases h : t < s
  · rw [if_pos (show t.val < s.val from h), if_pos h, ← hr s (Finset.mem_range.2 s.isLt), hf]
  · rw [if_neg (show ¬ t.val < s.val from h), if_neg h, EReal.coe_zero]

end Cert.Gla
-- ==== Proof.StateKernel.lean ====
/-
  The kernel of the context states: its output arrays at an index.
-/
module

public import proofs.«01_k».proof.Proof.StateSpec
public import proofs.«01_k».proof.Proof.Gen.Kernel6Ideal.Value
public import Idealize.ShloMosaic.Lib.Pipeline.ValueKit.Geometry
public import Idealize.ShloMosaic.Lib.StableHlo.RunRead

@[expose] public section

set_option maxRecDepth 16384

noncomputable section

namespace Cert.Kernel6Ideal.Block

open Cert.Kernel6Ideal Cert.Kernel6Ideal.Gen Cert.Kernel6Ideal.Value Cert.Gla
open Idealize.ShloMosaic Idealize.ShloMosaic.TcCoe

/-- A comparison as a number, times a value: the value where it holds. -/
theorem masked (p : Prop) [Decidable p] (x : EReal) :
    FloatOps.sitofp (F := Ideal) .f32 (BitVec.setWidth 32 (BitVec.ofBool (decide p))) * x = if p then x else 0 := by
  show (((BitVec.setWidth 32 (BitVec.ofBool (decide p))).toInt : ℝ) : EReal) * x = _
  by_cases h : p
  · rw [decide_eq_true h, if_pos h]
    simp
  · rw [decide_eq_false h, if_neg h]
    simp

/-- The two products of the body: a state over all lanes of keys and of values. -/
theorem pay10_apply (k : Vec Ideal S1x256x256 .bf16) (v : Vec Ideal S1x256x512 .bf16) (g : Vec Ideal S1x256x256 .f32) (d : Fin 256) (e : Fin 512) :
    k0_pay10 k v g (ix2 d e) = kept (fun t => k (ix3 0 t d)) (fun t => v (ix3 0 t e)) (later fun s => g (ix3 0 s d)) := by
  pointwise [k0_pay10, k0_pay7, k0_pay8, kept, later]
  refine Finset.sum_congr rfl fun t _ => congrArg (fun r => k (ix3 0 t d) * Ideal.exp r * v (ix3 0 t e)) (Finset.sum_congr rfl fun s _ => ?_)
  rw [WordCmp.cmpi_sgt_ofNat (by omega) (by omega)]
  exact masked _ _

theorem pay2_apply (k : Vec Ideal S1x256x256 .bf16) (v : Vec Ideal S1x256x512 .bf16) (g : Vec Ideal S1x256x256 .f32) (d : Fin 256) (e : Fin 512) :
    k0_pay2 (k0_pay7 k) (k0_pay8 v) k0_pay9 g (ix2 d e)
      = kept (fun t => k (ix3 0 t d)) (fun t => v (ix3 0 t e)) (earlier fun s => g (ix3 0 s d)) := by
  pointwise [k0_pay2, k0_pay7, k0_pay8, k0_pay9, kept, earlier]
  refine Finset.sum_congr rfl fun t _ => congrArg (fun r => k (ix3 0 t d) * Ideal.exp r * v (ix3 0 t e)) (Finset.sum_congr rfl fun s _ => ?_)
  rw [WordCmp.cmpi_slt_ofNat (by omega) (by omega)]
  exact masked _ _

section
variable (x0 : Vec Ideal S1x256x256 .bf16) (x1 : Vec Ideal S1x256x512 .bf16) (x2 x3 : Vec Ideal S1x256x256 .f32)

theorem whole_k (t d : Fin 256) : View.ld x0 r0_0 (ix3 0 t d) = x0 (ix3 0 t d) := by
  pointwise
theorem whole_v (t : Fin 256) (e : Fin 512) : View.ld x1 r0_1 (ix3 0 t e) = x1 (ix3 0 t e) := by
  pointwise
theorem whole_g (t d : Fin 256) : View.ld x2 r0_0 (ix3 0 t d) = x2 (ix3 0 t d) := by
  pointwise

/-- WHAT THE BODY LEAVES in its output blocks. -/
theorem out4_apply (h : Fin 4) (d : Fin 64) (e : Fin 128) :
    out0_4 x0 x1 x2 x3 (ix4 0 h d e)
      = kept (fun t => x0 (ix3 0 t (kl h d))) (fun t => x1 (ix3 0 t (vl h e))) (later fun s => x2 (ix3 0 s (kl h d))) := by
  unfold out0_4
  refine (canon4_eq (View.ld x0 r0_0) (View.ld x1 r0_1) (View.ld x2 r0_0) (ix4 0 h d e)).trans ?_
  have hi : ix4_0 (ix4 0 h d e) = (ix2 (kl h d) (vl h e) : S256x512.Idx) := by
    funext a
    apply Fin.ext
    match a with
    | ⟨0, _⟩ => show (h : ℕ) * 64 + d = 64 * h + d; omega
    | ⟨1, _⟩ => show (h : ℕ) * 128 + e = 128 * h + e; omega
  refine (congrArg (k0_pay10 (View.ld x0 r0_0) (View.ld x1 r0_1) (View.ld x2 r0_0)) hi).trans ((pay10_apply _ _ _ _ _).trans ?_)
  exact congr (congr (congrArg kept (funext fun t => whole_k x0 t _)) (funext fun t => whole_v x1 t _))
    (congrArg later (funext fun s => whole_g x2 s _))

theorem out5_apply (h : Fin 4) (d : Fin 64) (e : Fin 128) :
    out0_5 x0 x1 x2 x3 (ix4 0 h d e)
      = kept (fun t => x0 (ix3 0 t (kl h d))) (fun t => x1 (ix3 0 t (vl h e))) (earlier fun s => x3 (ix3 0 s (kl h d))) := by
  unfold out0_5 k0_pay15 k0_pay16 k0_pay17
  refine (canon5_eq (View.ld x0 r0_0) (View.ld x1 r0_1) (View.ld x3 r0_0) (ix4 0 h d e)).trans ?_
  have hi : ix5_0 (ix4 0 h d e) = (ix2 (kl h d) (vl h e) : S256x512.Idx) := by
    funext a
    apply Fin.ext
    match a with
    | ⟨0, _⟩ => show (h : ℕ) * 64 + d = 64 * h + d; omega
    | ⟨1, _⟩ => show (h : ℕ) * 128 + e = 128 * h + e; omega
  refine (congrArg (k0_pay2 (k0_pay7 (View.ld x0 r0_0)) (k0_pay8 (View.ld x1 r0_1)) k0_pay9 (View.ld x3 r0_0)) hi).trans ((pay2_apply _ _ _ _ _).trans ?_)
  exact congr (congr (congrArg kept (funext fun t => whole_k x0 t _)) (funext fun t => whole_v x1 t _))
    (congrArg earlier (funext fun s => whole_g x3 s _))

end

/-- Each point has one batch entry. -/
theorem places : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0, 0] ∧ win0_5.index t = ![t.val, 0, 0, 0]
    ∧ win0_4.flush t = true ∧ win0_5.flush t = true :=
  (by decide +kernel : ∀ t : Fin grid0.N, _)

section
variable (m : (ℓ : Loc nD τ sig) → Buf (Elt Ideal) ℓ) (c : Dev nD) (b : Fin 8) (t : Fin cfg0.N) (ht : t.val = b)

include ht in
theorem block_k (r l : Fin 256) : iblk m c 0 t (ix3 0 r l) = m ((c : Thread nD τ).loc main_arg0) (ix3 b r l) := by
  rw [← V_main_arg0 m c]
  blk_ext [iblk, places t]

include ht in
theorem block_v (r : Fin 256) (l : Fin 512) : iblk m c 1 t (ix3 0 r l) = m ((c : Thread nD τ).loc main_arg1) (ix3 b r l) := by
  rw [← V_main_arg1 m c]
  blk_ext [iblk, places t]

include ht in
theorem block_f (r l : Fin 256) : iblk m c 2 t (ix3 0 r l) = m ((c : Thread nD τ).loc main_arg2) (ix3 b r l) := by
  rw [← V_main_arg2 m c]
  blk_ext [iblk, places t]

include ht in
theorem block_b (r l : Fin 256) : iblk m c 3 t (ix3 0 r l) = m ((c : Thread nD τ).loc main_arg3) (ix3 b r l) := by
  rw [← V_main_arg3 m c]
  blk_ext [iblk, places t]

end

section
variable (m : (ℓ : Loc nD τ sig) → Buf (Elt Ideal) ℓ) (c : Dev nD)

/-- THE OUTPUT ARRAYS at an index. -/
theorem value4 (b : Fin 8) (h : Fin 4) (d : Fin 64) (e : Fin 128) :
    ((dats m 0 c).arrAt 4 cfg0.N : FVec Ideal S8x4x64x128 .f32) (ix4 b h d e)
      = kept (fun t => m ((c : Thread nD τ).loc main_arg0) (ix3 b t (kl h d))) (fun t => m ((c : Thread nD τ).loc main_arg1) (ix3 b t (vl h e)))
          (later fun s => m ((c : Thread nD τ).loc main_arg2) (ix3 b s (kl h d))) := by
  have hN : cfg0.N = 8 := N_0
  obtain ⟨t, ht⟩ : ∃ t : Fin cfg0.N, t.val = b := ⟨⟨b, by omega⟩, rfl⟩
  have hf := congrFun ((blocks4 m c t (places t).2.2.2.2.2.2.1).trans (flushed4 m c t)) (ix4 0 h d e)
  have he : ((cfg0.win 4).blk t).view.emb (ix4 0 h d e) = (ix4 b h d e : S8x4x64x128.Idx) := by
    have hp := (places t).2.2.2.2.1
    have h0 : win0_4.index t 0 = t.val := congrFun hp 0
    have h1 : win0_4.index t 1 = 0 := congrFun hp 1
    have h2 : win0_4.index t 2 = 0 := congrFun hp 2
    have h3 : win0_4.index t 3 = 0 := congrFun hp 3
    funext a
    apply Fin.ext
    match a with
    | ⟨0, _⟩ => show win0_4.index t 0 * 1 + 1 * 0 = (b : ℕ); rw [h0]; omega
    | ⟨1, _⟩ => show win0_4.index t 1 * 4 + 1 * (h : ℕ) = h; rw [h1]; omega
    | ⟨2, _⟩ => show win0_4.index t 2 * 64 + 1 * (d : ℕ) = d; rw [h2]; omega
    | ⟨3, _⟩ => show win0_4.index t 3 * 128 + 1 * (e : ℕ) = e; rw [h3]; omega
  have h' : ((dats m 0 c).arrAt 4 cfg0.N : FVec Ideal S8x4x64x128 .f32) (((cfg0.win 4).blk t).view.emb (ix4 0 h d e))
      = out0_4 (iblk m c 0 t) (iblk m c 1 t) (iblk m c 2 t) (iblk m c 3 t) (ix4 0 h d e) := hf
  rw [he] at h'
  refine h'.trans ((out4_apply _ _ _ _ h d e).trans ?_)
  simp only [block_k m c b t ht, block_v m c b t ht, block_f m c b t ht]

theorem value5 (b : Fin 8) (h : Fin 4) (d : Fin 64) (e : Fin 128) :
    ((dats m 0 c).arrAt 5 cfg0.N : FVec Ideal S8x4x64x128 .f32) (ix4 b h d e)
      = kept (fun t => m ((c : Thread nD τ).loc main_arg0) (ix3 b t (kl h d))) (fun t => m ((c : Thread nD τ).loc main_arg1) (ix3 b t (vl h e)))
          (earlier fun s => m ((c : Thread nD τ).loc main_arg3) (ix3 b s (kl h d))) := by
  have hN : cfg0.N = 8 := N_0
  obtain ⟨t, ht⟩ : ∃ t : Fin cfg0.N, t.val = b := ⟨⟨b, by omega⟩, rfl⟩
  have hf := congrFun ((blocks5 m c t (places t).2.2.2.2.2.2.2).trans (flushed5 m c t)) (ix4 0 h d e)
  have he : ((cfg0.win 5).blk t).view.emb (ix4 0 h d e) = (ix4 b h d e : S8x4x64x128.Idx) := by
    have hp := (places t).2.2.2.2.2.1
    have h0 : win0_5.index t 0 = t.val := congrFun hp 0
    have h1 : win0_5.index t 1 = 0 := congrFun hp 1
    have h2 : win0_5.index t 2 = 0 := congrFun hp 2
    have h3 : win0_5.index t 3 = 0 := congrFun hp 3
    funext a
    apply Fin.ext
    match a with
    | ⟨0, _⟩ => show win0_5.index t 0 * 1 + 1 * 0 = (b : ℕ); rw [h0]; omega
    | ⟨1, _⟩ => show win0_5.index t 1 * 4 + 1 * (h : ℕ) = h; rw [h1]; omega
    | ⟨2, _⟩ => show win0_5.index t 2 * 64 + 1 * (d : ℕ) = d; rw [h2]; omega
    | ⟨3, _⟩ => show win0_5.index t 3 * 128 + 1 * (e : ℕ) = e; rw [h3]; omega
  have h' : ((dats m 0 c).arrAt 5 cfg0.N : FVec Ideal S8x4x64x128 .f32) (((cfg0.win 5).blk t).view.emb (ix4 0 h d e))
      = out0_5 (iblk m c 0 t) (iblk m c 1 t) (iblk m c 2 t) (iblk m c 3 t) (ix4 0 h d e) := hf
  rw [he] at h'
  refine h'.trans ((out5_apply _ _ _ _ h d e).trans ?_)
  simp only [block_k m c b t ht, block_v m c b t ht, block_b m c b t ht]

end

end Cert.Kernel6Ideal.Block
-- ==== Proof.StateRef.lean ====
/-
  The reference of the context states read at an index.
-/
module

public import proofs.«01_k».proof.Proof.StateSpec
public import proofs.«01_k».proof.Proof.Window
public import proofs.«01_k».proof.Proof.Gen.Reference6Ideal.Run

@[expose] public section

set_option maxRecDepth 16384

noncomputable section

/-! ## The running sum along the third axis of a four-axis array -/

namespace Cert.Window

open Idealize.ShloMosaic

abbrev W4 : Shape := ⟨4, ![1, 1, 256, 1]⟩

/-- A position of the window is its third coordinate. -/
def window4 : Fin 256 ≃ W4.Idx where
  toFun s := ix4 (0 : Fin 1) (0 : Fin 1) s (0 : Fin 1)
  invFun p := p 2
  left_inv _ := rfl
  right_inv p := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _

/-- A sum over 256 positions of which the first `255 - c` fall in the padding. -/
theorem shifted4 (f : ℕ → EReal) (c : Fin 256) :
    (∑ s : Fin 256, if 255 ≤ c.val + s.val then f (c.val + s.val - 255) else 0) = ∑ s ∈ Finset.range (c.val + 1), f s := by
  rw [Fin.sum_univ_eq_sum_range (fun s => if 255 ≤ c.val + s then f (c.val + s - 255) else 0), ← Finset.sum_filter]
  refine Finset.sum_bij' (fun s _ => c.val + s - 255) (fun s _ => s + 255 - c.val) ?_ ?_ ?_ ?_ ?_ <;>
    simp only [Finset.mem_filter, Finset.mem_range] <;> intros <;> first | trivial | omega

theorem cumsum4_apply (x : (⟨4, ![8, 4, 256, 64]⟩ : Shape).Idx → EReal) (init : (⟨0, ![]⟩ : Shape).Idx → EReal) (hinit : ∀ i, init i = 0)
    (h : (⟨4, ![8, 4, 256, 64]⟩ : Shape).ReduceWindows (![1, 1, 256, 1] : Fin 4 → Nat) ![1, 1, 1, 1] ![0, 0, 255, 0] ![0, 0, 0, 0] ⟨4, ![8, 4, 256, 64]⟩)
    (hu : 0 < (⟨0, ![]⟩ : Shape).numel) (b : Fin 8) (g : Fin 4) (c : Fin 256) (d : Fin 64) (f : ℕ → EReal) (hf : ∀ s : Fin 256, f s = x (ix4 b g s d)) :
    Host.reduceWindow (fun r y : EReal => r + y) (![1, 1, 256, 1] : Fin 4 → Nat) ![1, 1, 1, 1] ![0, 0, 255, 0] ![0, 0, 0, 0] x init h hu (ix4 b g c d)
      = ∑ s ∈ Finset.range (c.val + 1), f s := by
  unfold Host.reduceWindow
  dsimp only
  rw [foldl_add, hinit, zero_add, ← Fin.sum_univ_def, ← shifted4 f c]
  refine Fintype.sum_equiv (W4.rowMajor.symm.trans window4.symm) _ _ fun n' => ?_
  rw [Equiv.trans_apply]
  obtain ⟨s, hp⟩ := window4.surjective (W4.rowMajor.symm n')
  rw [show window4.symm (W4.rowMajor.symm n') = s by rw [← hp, Equiv.symm_apply_apply]]
  have p0 : (W4.rowMajor.symm n' 0).val = 0 := by rw [← hp]; rfl
  have p1 : (W4.rowMajor.symm n' 1).val = 0 := by rw [← hp]; rfl
  have p2 : (W4.rowMajor.symm n' 2).val = s.val := by rw [← hp]; rfl
  have p3 : (W4.rowMajor.symm n' 3).val = 0 := by rw [← hp]; rfl
  have hs : (x (ix4 b g ⟨c.val + s.val - 255, by omega⟩ d)) = f (c.val + s.val - 255) :=
    (hf ⟨c.val + s.val - 255, by omega⟩).symm
  by_cases hle : 255 ≤ c.val + s.val
  · rw [if_pos hle, ← hs, dif_pos]
    · refine congrArg x (funext fun a => Fin.ext ?_)
      match a with
      | ⟨0, _⟩ => show b.val * 1 + (W4.rowMajor.symm n' 0).val - 0 = b.val; omega
      | ⟨1, _⟩ => show g.val * 1 + (W4.rowMajor.symm n' 1).val - 0 = g.val; omega
      | ⟨2, _⟩ => show c.val * 1 + (W4.rowMajor.symm n' 2).val - 255 = c.val + s.val - 255; omega
      | ⟨3, _⟩ => show d.val * 1 + (W4.rowMajor.symm n' 3).val - 0 = d.val; omega
    · intro a
      match a with
      | ⟨0, _⟩ => show 0 ≤ b.val * 1 + (W4.rowMajor.symm n' 0).val ∧ b.val * 1 + (W4.rowMajor.symm n' 0).val - 0 < 8; omega
      | ⟨1, _⟩ => show 0 ≤ g.val * 1 + (W4.rowMajor.symm n' 1).val ∧ g.val * 1 + (W4.rowMajor.symm n' 1).val - 0 < 4; omega
      | ⟨2, _⟩ => show 255 ≤ c.val * 1 + (W4.rowMajor.symm n' 2).val ∧ c.val * 1 + (W4.rowMajor.symm n' 2).val - 255 < 256; omega
      | ⟨3, _⟩ => show 0 ≤ d.val * 1 + (W4.rowMajor.symm n' 3).val ∧ d.val * 1 + (W4.rowMajor.symm n' 3).val - 0 < 64; omega
  · rw [if_neg hle, dif_neg]
    intro hin
    have h2 : 255 ≤ c.val * 1 + (W4.rowMajor.symm n' 2).val := (hin 2).1
    omega

end Cert.Window

namespace Cert.Reference6Ideal.Read

open Cert.Reference6Ideal Cert.Reference6Ideal.Gen Cert.Reference6Ideal.Value Cert.Gla
open Idealize.ShloMosaic Idealize.ShloMosaic.TcCoe

/-- Lanes split into heads, the heads before the rows. -/
def heads (x : FVec Ideal S8x256x256 .f32) : FVec Ideal S8x4x256x64 .f32 :=
  transpose S8x4x256x64 [0, 2, 1, 3] (shapeCast _ x shapeCasts_S8x256x256_S8x256x4x64) transposes_S8x256x4x64_S8x4x256x64_0_2_1_3
def headsV (x : FVec Ideal S8x256x512 .f32) : FVec Ideal S8x4x256x128 .f32 :=
  transpose S8x4x256x128 [0, 2, 1, 3] (shapeCast _ x shapeCasts_S8x256x512_S8x256x4x128) transposes_S8x256x4x128_S8x4x256x128_0_2_1_3

/-- The gates' running sums. -/
def sums (y : FVec Ideal S8x4x256x64 .f32) : FVec Ideal S8x4x256x64 .f32 :=
  Host.reduceWindowAdd ![1, 1, 256, 1] ![1, 1, 1, 1] ![0, 0, 255, 0] ![0, 0, 0, 0] y (broadcastInDim S_ ![] bcast_S_S_ (constant S_ .f32 0x00000000#32))
    reduceWindows_S8x4x256x64_S8x4x256x64_w1s1p0_0_w1s1p0_0_w256s1p255_0_w1s1p0_0 h_S_

/-- The state after the last row. -/
def final (k : FVec Ideal S8x4x256x64 .f32) (v : FVec Ideal S8x4x256x128 .f32) (y : FVec Ideal S8x4x256x64 .f32) : FVec Ideal S8x4x64x128 .f32 :=
  Host.dotGeneral dot_S8x4x256x64_S8x4x256x128_S8x4x64x128_2_2_3_3_01_01 none
    (mulf k (Host.exp (subf (broadcastInDim S8x4x256x64 ![0, 1, 2, 3] bcast_S8x4x1x64_S8x4x256x64_0_1_2_3
      (extractStridedSlice S8x4x1x64 ![0, 0, 255, 0] (sums y) slices_S8x4x256x64_S8x4x1x64_0_0_255_0)) (sums y)))) v

/-- The reference's results. -/
def result0 (k : FVec Ideal S8x256x256 .bf16) (v : FVec Ideal S8x256x512 .bf16) (g : FVec Ideal S8x256x256 .f32) : FVec Ideal S8x4x64x128 .f32 :=
  final (heads (extf .f32 k bitsLt_bf16_f32)) (headsV (extf .f32 v bitsLt_bf16_f32)) (heads g)
def result1 (k : FVec Ideal S8x256x256 .bf16) (v : FVec Ideal S8x256x512 .bf16) (g : FVec Ideal S8x256x256 .f32) : FVec Ideal S8x4x64x128 .f32 :=
  final (Host.reverse [2] (heads (extf .f32 k bitsLt_bf16_f32))) (Host.reverse [2] (headsV (extf .f32 v bitsLt_bf16_f32))) (Host.reverse [2] (heads g))

/-! ## The stages at an index -/

theorem reverse_at (x : FVec Ideal S8x4x256x64 .f32) (b : Fin 8) (h : Fin 4) (r : Fin 256) (l : Fin 64) :
    Host.reverse [2] x (ix4 b h r l) = x (ix4 b h r.rev l) := by
  refine congrArg x (funext fun a => ?_)
  fin_cases a <;> rfl

theorem reverse_atV (x : FVec Ideal S8x4x256x128 .f32) (b : Fin 8) (h : Fin 4) (r : Fin 256) (l : Fin 128) :
    Host.reverse [2] x (ix4 b h r l) = x (ix4 b h r.rev l) := by
  refine congrArg x (funext fun a => ?_)
  fin_cases a <;> rfl

theorem heads_apply (x : FVec Ideal S8x256x256 .f32) (b : Fin 8) (h : Fin 4) (r : Fin 256) (d : Fin 64) :
    heads x (ix4 b h r d) = x (ix3 b r (kl h d)) := by
  pointwise [heads]
  exact congrArg (fun l => x (ix3 b r l)) (Fin.ext (by show (h : ℕ) * 64 + d = 64 * h + d; omega))

theorem headsV_apply (x : FVec Ideal S8x256x512 .f32) (b : Fin 8) (h : Fin 4) (r : Fin 256) (e : Fin 128) :
    headsV x (ix4 b h r e) = x (ix3 b r (vl h e)) := by
  pointwise [headsV]
  exact congrArg (fun l => x (ix3 b r l)) (Fin.ext (by show (h : ℕ) * 128 + e = 128 * h + e; omega))

theorem sums_apply (y : FVec Ideal S8x4x256x64 .f32) (b : Fin 8) (h : Fin 4) (c : Fin 256) (d : Fin 64) (f : ℕ → EReal)
    (hf : ∀ s : Fin 256, f s = y (ix4 b h s d)) : sums y (ix4 b h c d) = ∑ s ∈ Finset.range (c.val + 1), f s := by
  refine Window.cumsum4_apply y _ (fun i => ?_) reduceWindows_S8x4x256x64_S8x4x256x64_w1s1p0_0_w1s1p0_0_w256s1p255_0_w1s1p0_0 (by decide) b h c d f hf
  show (constant S_ .f32 0x00000000#32 : FVec Ideal S_ .f32) ix0 = 0
  pointwise

theorem final_apply (k : FVec Ideal S8x4x256x64 .f32) (v : FVec Ideal S8x4x256x128 .f32) (y : FVec Ideal S8x4x256x64 .f32)
    (b : Fin 8) (h : Fin 4) (d : Fin 64) (e : Fin 128) (hy : ∀ s : Fin 256, (y (ix4 b h s d) : EReal) ≠ ⊤ ∧ (y (ix4 b h s d) : EReal) ≠ ⊥) :
    final k v y (ix4 b h d e) = kept (fun t => k (ix4 b h t d)) (fun t => v (ix4 b h t e)) (later fun s => y (ix4 b h s d)) := by
  have hs := sums_apply y b h
  unfold final
  generalize sums y = z at hs ⊢
  pointwise [kept]
  refine Finset.sum_congr rfl fun t _ => congrArg (fun r => k (ix4 b h t d) * Ideal.exp r * v (ix4 b h t e)) ?_
  let f : ℕ → EReal := fun n => if hn : n < 256 then y (ix4 b h ⟨n, hn⟩ d) else 0
  have hf : ∀ s : Fin 256, f s = y (ix4 b h s d) := fun s => dif_pos s.isLt
  refine (congrArg₂ (· - ·) (hs ⟨255, by omega⟩ d f hf) (hs t d f hf)).trans ?_
  exact remaining (fun s => y (ix4 b h s d)) hy f hf t

/-- THE REFERENCE'S RESULTS at an index, of finite gates. -/
theorem result0_apply (k : FVec Ideal S8x256x256 .bf16) (v : FVec Ideal S8x256x512 .bf16) (g : FVec Ideal S8x256x256 .f32)
    (hg : ∀ i, (g i : EReal) ≠ ⊤ ∧ (g i : EReal) ≠ ⊥) (b : Fin 8) (h : Fin 4) (d : Fin 64) (e : Fin 128) :
    result0 k v g (ix4 b h d e)
      = kept (fun t => k (ix3 b t (kl h d))) (fun t => v (ix3 b t (vl h e))) (later fun s => g (ix3 b s (kl h d))) := by
  unfold result0
  rw [final_apply _ _ _ b h d e fun s => by rw [heads_apply]; exact hg _]
  simp only [heads_apply, headsV_apply]
  rfl

theorem result1_apply (k : FVec Ideal S8x256x256 .bf16) (v : FVec Ideal S8x256x512 .bf16) (g : FVec Ideal S8x256x256 .f32)
    (hg : ∀ i, (g i : EReal) ≠ ⊤ ∧ (g i : EReal) ≠ ⊥) (b : Fin 8) (h : Fin 4) (d : Fin 64) (e : Fin 128) :
    result1 k v g (ix4 b h d e)
      = kept (fun t => k (ix3 b t (kl h d))) (fun t => v (ix3 b t (vl h e))) (earlier fun s => g (ix3 b s (kl h d))) := by
  unfold result1
  rw [final_apply _ _ _ b h d e fun s => by rw [reverse_at, heads_apply]; exact hg _]
  refine Eq.trans ?_ (kept_rev (fun t => k (ix3 b t (kl h d))) (fun t => v (ix3 b t (vl h e))) (earlier fun s => g (ix3 b s (kl h d))))
  refine congr (congr (congrArg kept (funext fun t => ?_)) (funext fun t => ?_)) ?_
  · rw [reverse_at, heads_apply]; rfl
  · rw [reverse_atV, headsV_apply]; rfl
  · refine (congrArg later (funext fun s => ?_)).trans (funext fun t => later_rev (fun s => g (ix3 b s (kl h d))) t)
    rw [reverse_at, heads_apply]

end Cert.Reference6Ideal.Read
-- ==== Proof.StateValue.lean ====
/-
  The context states: on equal arguments with finite gates the reference's results are the kernel's arrays.
-/
module

public import proofs.«01_k».proof.Proof.StateKernel
public import proofs.«01_k».proof.Proof.StateRef

@[expose] public section

noncomputable section

namespace Cert.Gla

open Idealize.ShloMosaic Idealize.ShloMosaic.TcCoe Cert.Kernel6Ideal

theorem index_split_state (i : S8x4x64x128.Idx) : ∃ (b : Fin 8) (h : Fin 4) (d : Fin 64) (e : Fin 128), i = ix4 b h d e := by
  refine ⟨i 0, i 1, i 2, i 3, ?_⟩
  funext a
  match a with
  | ⟨0, _⟩ => rfl
  | ⟨1, _⟩ => rfl
  | ⟨2, _⟩ => rfl
  | ⟨3, _⟩ => rfl

variable (m : (ℓ : Loc nD τ sig) → Buf (Elt Ideal) ℓ) (c : Dev nD)

theorem states0 (hg : ∀ i : S8x256x256.Idx, (show EReal from m ((c : Thread nD τ).loc main_arg2) i) ≠ ⊤ ∧ (show EReal from m ((c : Thread nD τ).loc main_arg2) i) ≠ ⊥) :
    Cert.Reference6Ideal.Read.result0 (m ((c : Thread nD τ).loc main_arg0)) (m ((c : Thread nD τ).loc main_arg1)) (m ((c : Thread nD τ).loc main_arg2))
      = (Gen.dats m 0 c).arrAt 4 cfg0.N := by
  funext i
  obtain ⟨b, h, d, e, rfl⟩ := index_split_state i
  exact (Cert.Reference6Ideal.Read.result0_apply _ _ _ hg b h d e).trans (Block.value4 m c b h d e).symm

theorem states1 (hg : ∀ i : S8x256x256.Idx, (show EReal from m ((c : Thread nD τ).loc main_arg3) i) ≠ ⊤ ∧ (show EReal from m ((c : Thread nD τ).loc main_arg3) i) ≠ ⊥) :
    Cert.Reference6Ideal.Read.result1 (m ((c : Thread nD τ).loc main_arg0)) (m ((c : Thread nD τ).loc main_arg1)) (m ((c : Thread nD τ).loc main_arg3))
      = (Gen.dats m 0 c).arrAt 5 cfg0.N := by
  funext i
  obtain ⟨b, h, d, e, rfl⟩ := index_split_state i
  exact (Cert.Reference6Ideal.Read.result1_apply _ _ _ hg b h d e).trans (Block.value5 m c b h d e).symm

end Cert.Gla
-- ==== Proof.ModKernel.lean ====
/-
  The modulation: what the kernel's output array holds at an index.
-/
module

public import proofs.«01_k».proof.Proof.Gen.Kernel7Ideal.Value
public import Idealize.ShloMosaic.Lib.Pipeline.ValueKit.Geometry
public import Idealize.ShloMosaic.Lib.StableHlo.RunRead
public import Idealize.ShloMosaic.Lib.Pointwise

@[expose] public section

set_option maxRecDepth 16384

noncomputable section

namespace Cert.Modulation

open Idealize.ShloMosaic

/-- A conditioning row times its logistic function, projected, plus a bias. -/
def modulated (a : Fin 1024 → EReal) (w : Fin 1024 → Fin 6144 → EReal) (b : Fin 6144 → EReal) (n : Fin 6144) : EReal :=
  (∑ l : Fin 1024, a l * Ideal.logistic (a l) * w l n) + b n

theorem modulated_zero (w : Fin 1024 → Fin 6144 → EReal) (b : Fin 6144 → EReal) (n : Fin 6144) : modulated (fun _ => 0) w b n = b n := by
  unfold modulated
  simp only [zero_mul, Finset.sum_const_zero, zero_add]

end Cert.Modulation

namespace Cert.Kernel7Ideal.Block

open Cert.Kernel7Ideal Cert.Kernel7Ideal.Gen Cert.Kernel7Ideal.Value Cert.Modulation
open Idealize.ShloMosaic Idealize.ShloMosaic.TcCoe Idealize.ShloMosaic.StableHlo

theorem pay_apply (x : Vec Ideal S16x1024 .f32) (w : Vec Ideal S1024x1024 .f32) (b : Vec Ideal S1x1024 .f32) (r : Fin 16) (n : Fin 1024) :
    k0_pay1 x w b (ix2 r n) = (∑ l : Fin 1024, x (ix2 r l) * Ideal.logistic (x (ix2 r l)) * w (ix2 l n)) + b (ix2 0 n) := by
  pointwise [k0_pay1]

section
variable (x0 : Vec Ideal S16x1024 .f32) (x1 : Vec Ideal S1024x1024 .f32) (x2 : Vec Ideal S1x1024 .f32)

theorem whole_x (r : Fin 16) (l : Fin 1024) : View.ld x0 r0_0 (ix2 r l) = x0 (ix2 r l) := by
  pointwise
theorem whole_w (k l : Fin 1024) : View.ld x1 r0_1 (ix2 k l) = x1 (ix2 k l) := by
  pointwise
theorem whole_b (l : Fin 1024) : View.ld x2 r0_2 (ix2 0 l) = x2 (ix2 0 l) := by
  pointwise

/-- WHAT THE BODY LEAVES in its output block. -/
theorem out_apply (r : Fin 16) (n : Fin 1024) :
    out0_3 x0 x1 x2 (ix2 r n) = (∑ l : Fin 1024, x0 (ix2 r l) * Ideal.logistic (x0 (ix2 r l)) * x1 (ix2 l n)) + x2 (ix2 0 n) := by
  unfold out0_3
  rw [View.canon_cons_unit_lit _ _ _ (by decide)]
  refine (pay_apply _ _ _ r n).trans ?_
  rw [whole_b]
  exact congrArg (· + _) (Finset.sum_congr rfl fun l _ => by rw [whole_x, whole_w])

end

/-- Each point has a stretch of 1024 columns. -/
theorem places : ∀ t : Fin cfg0.N, win0_0.index t = ![0, 0] ∧ win0_1.index t = ![0, t.val] ∧ win0_2.index t = ![0, t.val]
    ∧ win0_3.index t = ![0, t.val] ∧ win0_3.flush t = true :=
  (by decide +kernel : ∀ t : Fin grid0.N, _)

section
variable (m : (ℓ : Loc nD τ sig) → Buf (Elt Ideal) ℓ) (c : Dev nD)

/-- The rows: the batch's, the context's, and zeros. -/
def joined : FVec Ideal S16x1024 .f32 :=
  concatenate S16x1024 0 [⟨S8x1024, m ((c : Thread nD τ).loc main_arg0)⟩,
    ⟨S1x1024, broadcastInDim S1x1024 ![1] bcast_S1024_S1x1024_1 (m ((c : Thread nD τ).loc main_arg1))⟩,
    ⟨S7x1024, broadcastInDim S7x1024 ![] bcast_S_S7x1024 (constant (F := Ideal) S_ .f32 0x00000000#32)⟩] concatenates_S8x1024_S1x1024_S7x1024_S16x1024_d0

theorem joined0 (r : Fin 8) (l : Fin 1024) : joined m c (ix2 ⟨r, by omega⟩ l) = m ((c : Thread nD τ).loc main_arg0) (ix2 r l) := by
  pointwise [joined]

theorem joined1 (l : Fin 1024) : joined m c (ix2 ⟨8, by omega⟩ l) = m ((c : Thread nD τ).loc main_arg1) (ix1 l) := by
  pointwise [joined]

theorem joined2 (r : Fin 7) (l : Fin 1024) : joined m c (ix2 ⟨9 + r, by omega⟩ l) = (0 : EReal) := by
  pointwise [joined]
  rw [dif_neg (by omega), dif_neg (by omega)]

theorem staged_rows : V m c main_v2 = joined m c := by
  unfold V hostOps0
  after_reads_simp
  rfl

theorem staged_bias (n : Fin 6144) : (V m c main_v3 : FVec Ideal S1x6144 .f32) (ix2 0 n) = m ((c : Thread nD τ).loc main_arg3) (ix1 n) := by
  have h : V m c main_v3 = broadcastInDim S1x6144 ![1] bcast_S6144_S1x6144_1 (m ((c : Thread nD τ).loc main_arg3)) := by
    unfold V hostOps0
    after_reads_simp
  rw [h]
  pointwise

variable (j : Fin 6) (t : Fin cfg0.N) (ht : t.val = j)

theorem block_x (r : Fin 16) (l : Fin 1024) : iblk m c 0 t (ix2 r l) = joined m c (ix2 r l) := by
  rw [← staged_rows m c]
  blk_ext [iblk, places t]

include ht in
theorem block_w (l n : Fin 1024) : iblk m c 1 t (ix2 l n) = m ((c : Thread nD τ).loc main_arg2) (ix2 l ⟨1024 * j + n, by omega⟩) := by
  rw [← V_main_arg2 m c]
  blk_ext [iblk, places t]

include ht in
theorem block_b (n : Fin 1024) : iblk m c 2 t (ix2 0 n) = m ((c : Thread nD τ).loc main_arg3) (ix1 ⟨1024 * j + n, by omega⟩) := by
  rw [← staged_bias m c]
  blk_ext [iblk, places t]

/-- THE OUTPUT ARRAY at an index. -/
theorem value (r : Fin 16) (n : Fin 6144) :
    ((dats m 0 c).arrAt 3 cfg0.N : FVec Ideal S16x6144 .f32) (ix2 r n)
      = modulated (fun l => joined m c (ix2 r l)) (fun l n => m ((c : Thread nD τ).loc main_arg2) (ix2 l n))
          (fun n => m ((c : Thread nD τ).loc main_arg3) (ix1 n)) n := by
  have hN : cfg0.N = 6 := N_0
  obtain ⟨j, k, rfl⟩ : ∃ (j : Fin 6) (k : Fin 1024), n = ⟨1024 * j + k, by omega⟩ :=
    ⟨⟨n / 1024, by omega⟩, ⟨n % 1024, by omega⟩, Fin.ext (by show (n : ℕ) = 1024 * (n / 1024) + n % 1024; omega)⟩
  obtain ⟨t, ht⟩ : ∃ t : Fin cfg0.N, t.val = j := ⟨⟨j, by omega⟩, rfl⟩
  have hf := congrFun ((blocks3 m c t (places t).2.2.2.2).trans (flushed3 m c t)) (ix2 r k)
  have he : ((cfg0.win 3).blk t).view.emb (ix2 r k) = (ix2 r ⟨1024 * j + k, by omega⟩ : S16x6144.Idx) := by
    have hp := (places t).2.2.2.1
    have h0 : win0_3.index t 0 = 0 := congrFun hp 0
    have h1 : win0_3.index t 1 = t.val := congrFun hp 1
    funext a
    apply Fin.ext
    match a with
    | ⟨0, _⟩ => show win0_3.index t 0 * 16 + 1 * (r : ℕ) = r; rw [h0]; omega
    | ⟨1, _⟩ => show win0_3.index t 1 * 1024 + 1 * (k : ℕ) = 1024 * j + k; rw [h1]; omega
  have h' : ((dats m 0 c).arrAt 3 cfg0.N : FVec Ideal S16x6144 .f32) (((cfg0.win 3).blk t).view.emb (ix2 r k))
      = out0_3 (iblk m c 0 t) (iblk m c 1 t) (iblk m c 2 t) (ix2 r k) := hf
  rw [he] at h'
  refine h'.trans ((out_apply _ _ _ r k).trans ?_)
  simp only [block_x m c t, block_w m c j t ht, block_b m c j t ht]
  rfl

end

end Cert.Kernel7Ideal.Block
-- ==== Proof.ModValue.lean ====
/-
  The modulation: on equal arguments the reference's result is the kernel's array.
-/
module

public import proofs.«01_k».proof.Proof.ModKernel
public import proofs.«01_k».proof.Proof.Gen.Reference7Ideal.Run

@[expose] public section

set_option maxRecDepth 16384

noncomputable section

namespace Cert.Reference7Ideal.Read

open Cert.Reference7Ideal Cert.Reference7Ideal.Gen Cert.Reference7Ideal.Value Cert.Modulation
open Idealize.ShloMosaic Idealize.ShloMosaic.TcCoe

/-- A row times its logistic function: the batch's rows, the context's. -/
def siluB (x : FVec Ideal S8x1024 .f32) : FVec Ideal S8x1024 .f32 :=
  mulf x (Host.divf (broadcastInDim S8x1024 ![] bcast_S_S8x1024 (constant S_ .f32 0x3F800000#32))
    (addf (broadcastInDim S8x1024 ![] bcast_S_S8x1024 (constant S_ .f32 0x3F800000#32)) (Host.exp (Host.negf x))))
def siluC (x : FVec Ideal S1024 .f32) : FVec Ideal S1024 .f32 :=
  mulf x (Host.divf (broadcastInDim S1024 ![] bcast_S_S1024 (constant S_ .f32 0x3F800000#32))
    (addf (broadcastInDim S1024 ![] bcast_S_S1024 (constant S_ .f32 0x3F800000#32)) (Host.exp (Host.negf x))))

/-- The two modulations. -/
def modB (x : FVec Ideal S8x1024 .f32) (w : FVec Ideal S1024x6144 .f32) (b : FVec Ideal S6144 .f32) : FVec Ideal S8x6144 .f32 :=
  addf (Host.dotGeneral dot_S8x1024_S1024x6144_S8x6144_1_0_0_1_n_n none (siluB x) w)
    (broadcastInDim S8x6144 ![0, 1] bcast_S1x6144_S8x6144_0_1 (broadcastInDim S1x6144 ![1] bcast_S6144_S1x6144_1 b))
def modC (x : FVec Ideal S1024 .f32) (w : FVec Ideal S1024x6144 .f32) (b : FVec Ideal S6144 .f32) : FVec Ideal S6144 .f32 :=
  addf (Host.dotGeneral dot_S1024_S1024x6144_S6144_0_0_n_1_n_n none (siluC x) w) b

/-- The reference's result. -/
def result (x : FVec Ideal S8x1024 .f32) (y : FVec Ideal S1024 .f32) (w : FVec Ideal S1024x6144 .f32) (b : FVec Ideal S6144 .f32) : FVec Ideal S16x6144 .f32 :=
  concatenate S16x6144 0 [⟨S8x6144, modB x w b⟩, ⟨S1x6144, broadcastInDim S1x6144 ![1] bcast_S6144_S1x6144_1 (modC y w b)⟩,
    ⟨S7x6144, broadcastInDim S7x6144 ![1] bcast_S6144_S7x6144_1 b⟩] concatenates_S8x6144_S1x6144_S7x6144_S16x6144_d0

theorem siluB_apply (x : FVec Ideal S8x1024 .f32) (i : S8x1024.Idx) : siluB x i = x i * Ideal.logistic (x i) := by
  pointwise [siluB]
  rfl
theorem siluC_apply (x : FVec Ideal S1024 .f32) (i : S1024.Idx) : siluC x i = x i * Ideal.logistic (x i) := by
  pointwise [siluC]
  rfl

section
variable (x : FVec Ideal S8x1024 .f32) (y : FVec Ideal S1024 .f32) (w : FVec Ideal S1024x6144 .f32) (b : FVec Ideal S6144 .f32)

theorem modB_apply (r : Fin 8) (n : Fin 6144) :
    modB x w b (ix2 r n) = modulated (fun l => x (ix2 r l)) (fun l n => w (ix2 l n)) (fun n => b (ix1 n)) n := by
  have hs := siluB_apply x
  unfold modB
  generalize siluB x = z at hs ⊢
  pointwise [modulated, hs]

theorem modC_apply (n : Fin 6144) :
    modC y w b (ix1 n) = modulated (fun l => y (ix1 l)) (fun l n => w (ix2 l n)) (fun n => b (ix1 n)) n := by
  have hs := siluC_apply y
  unfold modC
  generalize siluC y = z at hs ⊢
  pointwise [modulated, hs]

theorem result0 (r : Fin 8) (n : Fin 6144) : result x y w b (ix2 ⟨r, by omega⟩ n) = modB x w b (ix2 r n) := by
  unfold result
  generalize modB x w b = z
  generalize modC y w b = z'
  pointwise

theorem result1 (n : Fin 6144) : result x y w b (ix2 ⟨8, by omega⟩ n) = modC y w b (ix1 n) := by
  unfold result
  generalize modB x w b = z
  generalize modC y w b = z'
  pointwise

theorem result2 (r : Fin 7) (n : Fin 6144) : result x y w b (ix2 ⟨9 + r, by omega⟩ n) = b (ix1 n) := by
  unfold result
  generalize modB x w b = z
  generalize modC y w b = z'
  pointwise
  rw [dif_neg (by omega), dif_neg (by omega)]

end

end Cert.Reference7Ideal.Read

namespace Cert.Modulation

open Idealize.ShloMosaic Idealize.ShloMosaic.TcCoe Cert.Kernel7Ideal

theorem index_split (i : S16x6144.Idx) : ∃ (r : Fin 16) (n : Fin 6144), i = ix2 r n := by
  refine ⟨i 0, i 1, ?_⟩
  funext a
  match a with
  | ⟨0, _⟩ => rfl
  | ⟨1, _⟩ => rfl

theorem row_split (r : Fin 16) : (∃ s : Fin 8, r = ⟨s, by omega⟩) ∨ r = ⟨8, by omega⟩ ∨ ∃ s : Fin 7, r = ⟨9 + s, by omega⟩ := by
  by_cases h : r.val < 8
  · exact Or.inl ⟨⟨r, h⟩, rfl⟩
  by_cases h' : r.val = 8
  · exact Or.inr (Or.inl (Fin.ext h'))
  · exact Or.inr (Or.inr ⟨⟨r - 9, by omega⟩, Fin.ext (by show (r : ℕ) = 9 + (r - 9); omega)⟩)

variable (m : (ℓ : Loc nD τ sig) → Buf (Elt Ideal) ℓ) (c : Dev nD)

theorem results_eq :
    Cert.Reference7Ideal.Read.result (m ((c : Thread nD τ).loc main_arg0)) (m ((c : Thread nD τ).loc main_arg1)) (m ((c : Thread nD τ).loc main_arg2))
        (m ((c : Thread nD τ).loc main_arg3))
      = (Gen.dats m 0 c).arrAt 3 cfg0.N := by
  funext i
  obtain ⟨r, n, rfl⟩ := index_split i
  refine Eq.trans ?_ (Block.value m c r n).symm
  rcases row_split r with ⟨s, rfl⟩ | rfl | ⟨s, rfl⟩
  · rw [funext (Block.joined0 m c s)]
    exact (Cert.Reference7Ideal.Read.result0 _ _ _ _ s n).trans (Cert.Reference7Ideal.Read.modB_apply _ _ _ s n)
  · rw [funext (Block.joined1 m c)]
    exact (Cert.Reference7Ideal.Read.result1 _ _ _ _ n).trans (Cert.Reference7Ideal.Read.modC_apply _ _ _ n)
  · rw [funext (Block.joined2 m c s), modulated_zero]
    exact Cert.Reference7Ideal.Read.result2 _ _ _ _ s n

end Cert.Modulation
-- ==== Proof.FilterKernel.lean ====
/-
  The filter network: what the kernel's output array holds at an index. Two lags share a row, the weights being placed twice in
  the corners of a matrix of zeros.
-/
module

public import proofs.«01_k».proof.Proof.Gen.Kernel8Ideal.Value
public import Idealize.ShloMosaic.Lib.Pipeline.ValueKit.Geometry
public import Idealize.ShloMosaic.Lib.StableHlo.RunRead
public import Idealize.ShloMosaic.Lib.Pointwise

@[expose] public section

set_option maxRecDepth 16384

noncomputable section

namespace Cert.Filter

open Idealize.ShloMosaic

/-- A layer: the sine of a frequency times the projected row and bias. -/
def layer {n : ℕ} (h : Fin n → EReal) (w : Fin n → Fin 64 → EReal) (b fr : Fin 64 → EReal) (q : Fin 64) : EReal :=
  Ideal.sin (fr q * ((∑ l : Fin n, h l * w l q) + b q))

/-- The three layers. -/
def net (z : Fin 33 → EReal) (w1 : Fin 33 → Fin 64 → EReal) (b1 : Fin 64 → EReal) (w2 : Fin 64 → Fin 64 → EReal) (b2 : Fin 64 → EReal)
    (w3 : Fin 64 → Fin 64 → EReal) (b3 fr : Fin 64 → EReal) : Fin 64 → EReal :=
  layer (layer (layer z w1 b1 fr) w2 b2 fr) w3 b3 fr

/-- A product with a column that is zero outside a stretch is the product over the stretch. -/
theorem sum_stretch {N k : ℕ} (o : ℕ) (ho : o + k ≤ N) (z w : Fin N → EReal) (z' w' : Fin k → EReal)
    (hz : ∀ l : Fin k, z ⟨o + l, by omega⟩ = z' l) (hw : ∀ l : Fin k, w ⟨o + l, by omega⟩ = w' l)
    (h0 : ∀ l : Fin N, l.val < o ∨ o + k ≤ l.val → w l = 0) : ∑ l : Fin N, z l * w l = ∑ l : Fin k, z' l * w' l := by
  refine (Fintype.sum_of_injective (fun l : Fin k => (⟨o + l, by omega⟩ : Fin N)) (fun a b h => ?_) _ _ (fun l hl => ?_) (fun l => ?_)).symm
  · have h' : o + (a : ℕ) = o + b := congrArg Fin.val h
    exact Fin.ext (by omega)
  · rw [h0 l ?_, mul_zero]
    by_contra hn
    exact hl ⟨⟨l - o, by omega⟩, Fin.ext (by show o + ((l : ℕ) - o) = l; omega)⟩
  · rw [hz, hw]

end Cert.Filter

namespace Cert.Kernel8Ideal.Block

open Cert.Kernel8Ideal Cert.Kernel8Ideal.Gen Cert.Kernel8Ideal.Value Cert.Filter
open Idealize.ShloMosaic Idealize.ShloMosaic.TcCoe Idealize.ShloMosaic.StableHlo

/-! ## The body's layers -/

def first (fr : FVec Ideal S1x128 .f32) (z : FVec Ideal S2048x256 .f32) (w : FVec Ideal S256x128 .f32) (b : FVec Ideal S1x128 .f32) : FVec Ideal S2048x128 .f32 :=
  sin (mulf (broadcastTo S2048x128 (shapeCast S1x128 fr shapeCasts_S1x128_S1x128) broadcasts_S1x128_S2048x128)
    (addf (matmul dot_S2048x256_S256x128_S2048x128_1_0_0_1_n_n (some .fp32) (shapeCast S2048x256 z shapeCasts_S2048x256_S2048x256)
        (shapeCast S256x128 w shapeCasts_S256x128_S256x128) (constant S2048x128 .f32 0x00000000#32))
      (broadcastTo S2048x128 (shapeCast S1x128 b shapeCasts_S1x128_S1x128) broadcasts_S1x128_S2048x128)))

def next (fr : FVec Ideal S1x128 .f32) (h : FVec Ideal S2048x128 .f32) (w : FVec Ideal S128x128 .f32) (b : FVec Ideal S1x128 .f32) : FVec Ideal S2048x128 .f32 :=
  sin (mulf (broadcastTo S2048x128 (shapeCast S1x128 fr shapeCasts_S1x128_S1x128) broadcasts_S1x128_S2048x128)
    (addf (matmul dot_S2048x128_S128x128_S2048x128_1_0_0_1_n_n (some .fp32) h
        (shapeCast S128x128 w shapeCasts_S128x128_S128x128) (constant S2048x128 .f32 0x00000000#32))
      (broadcastTo S2048x128 (shapeCast S1x128 b shapeCasts_S1x128_S1x128) broadcasts_S1x128_S2048x128)))

theorem first_apply (fr : FVec Ideal S1x128 .f32) (z : FVec Ideal S2048x256 .f32) (w : FVec Ideal S256x128 .f32) (b : FVec Ideal S1x128 .f32)
    (r : Fin 2048) (n : Fin 128) :
    first fr z w b (ix2 r n) = Ideal.sin (fr (ix2 0 n) * ((∑ l : Fin 256, z (ix2 r l) * w (ix2 l n)) + b (ix2 0 n))) := by
  pointwise [first]

theorem next_apply (fr : FVec Ideal S1x128 .f32) (h : FVec Ideal S2048x128 .f32) (w : FVec Ideal S128x128 .f32) (b : FVec Ideal S1x128 .f32)
    (r : Fin 2048) (n : Fin 128) :
    next fr h w b (ix2 r n) = Ideal.sin (fr (ix2 0 n) * ((∑ l : Fin 128, h (ix2 r l) * w (ix2 l n)) + b (ix2 0 n))) := by
  pointwise [next]

theorem pay_eq (v0 : Vec Ideal S1x128 .f32) (v2 : Vec Ideal S2048x256 .f32) (v4 : Vec Ideal S256x128 .f32) (v7 : Vec Ideal S1x128 .f32)
    (v14 : Vec Ideal S128x128 .f32) (v17 : Vec Ideal S1x128 .f32) (v24 : Vec Ideal S128x128 .f32) (v27 : Vec Ideal S1x128 .f32) :
    k0_pay1 v0 v2 v4 v7 v14 v17 v24 v27 = next v0 (next v0 (first v0 v2 v4 v7) v14 v17) v24 v27 := rfl

/-! ## The arguments as the host lays them out -/

def zero : FVec Ideal S_ .f32 := sitofp .f32 (constantI S_ 32 0#32)

theorem zero_eq (i : S_.Idx) : (zero i : EReal) = 0 := by
  show (((0#32 : BitVec 32).toInt : ℝ) : EReal) = 0
  simp

def padZ (z : FVec Ideal S4096x33 .f32) : FVec Ideal S4096x128 .f32 :=
  pad S4096x128 ![0, 0] ![0, 95] ![0, 0] z zero pads_S4096x33_S4096x128_000_0950 h_S_

def rows (z : FVec Ideal S4096x33 .f32) : FVec Ideal S2048x256 .f32 :=
  concatenate S2048x256 1 [⟨S2048x128, extractStridedSlice S2048x128 ![0, 0] (padZ z) slices_S4096x128_S2048x128_0_0⟩,
    ⟨S2048x128, extractStridedSlice S2048x128 ![2048, 0] (padZ z) slices_S4096x128_S2048x128_2048_0⟩] concatenates_S2048x128_S2048x128_S2048x256_d1

def padW (w : FVec Ideal S33x64 .f32) : FVec Ideal S128x64 .f32 :=
  pad S128x64 ![0, 0] ![95, 0] ![0, 0] w zero pads_S33x64_S128x64_0950_000 h_S_

/-- A matrix in two corners, zeros in the others. -/
def pairA (w : FVec Ideal S128x64 .f32) : FVec Ideal S256x128 .f32 :=
  concatenate S256x128 0
    [⟨S128x128, concatenate S128x128 1 [⟨S128x64, w⟩, ⟨S128x64, broadcastInDim S128x64 ![] bcast_S_S128x64 (constant (F := Ideal) S_ .f32 0x00000000#32)⟩] concatenates_S128x64_S128x64_S128x128_d1⟩,
     ⟨S128x128, concatenate S128x128 1 [⟨S128x64, broadcastInDim S128x64 ![] bcast_S_S128x64 (constant (F := Ideal) S_ .f32 0x00000000#32)⟩, ⟨S128x64, w⟩] concatenates_S128x64_S128x64_S128x128_d1⟩]
    concatenates_S128x128_S128x128_S256x128_d0

def pairB (w : FVec Ideal S64x64 .f32) : FVec Ideal S128x128 .f32 :=
  concatenate S128x128 0
    [⟨S64x128, concatenate S64x128 1 [⟨S64x64, w⟩, ⟨S64x64, broadcastInDim S64x64 ![] bcast_S_S64x64 (constant (F := Ideal) S_ .f32 0x00000000#32)⟩] concatenates_S64x64_S64x64_S64x128_d1⟩,
     ⟨S64x128, concatenate S64x128 1 [⟨S64x64, broadcastInDim S64x64 ![] bcast_S_S64x64 (constant (F := Ideal) S_ .f32 0x00000000#32)⟩, ⟨S64x64, w⟩] concatenates_S64x64_S64x64_S64x128_d1⟩]
    concatenates_S64x128_S64x128_S128x128_d0

def two (b : FVec Ideal S64 .f32) : FVec Ideal S1x128 .f32 :=
  broadcastInDim S1x128 ![1] bcast_S128_S1x128_1 (concatenate S128 0 [⟨S64, b⟩, ⟨S64, b⟩] concatenates_S64_S64_S128_d0)

theorem padZ_in (z : FVec Ideal S4096x33 .f32) (r : Fin 4096) (l : Fin 33) : padZ z (ix2 r ⟨l, by omega⟩) = z (ix2 r l) := by
  unfold padZ
  generalize zero = u
  pointwise

theorem padW_in (w : FVec Ideal S33x64 .f32) (l : Fin 33) (q : Fin 64) : padW w (ix2 ⟨l, by omega⟩ q) = w (ix2 l q) := by
  unfold padW
  generalize zero = u
  pointwise

theorem padW_out (w : FVec Ideal S33x64 .f32) (l : Fin 128) (q : Fin 64) (hl : 33 ≤ l.val) : padW w (ix2 l q) = (0 : EReal) := by
  have hu := zero_eq
  unfold padW
  generalize zero = u at hu ⊢
  pointwise [hu]
  rw [dif_neg (by omega)]

theorem rows0 (z : FVec Ideal S4096x33 .f32) (r : Fin 2048) (l : Fin 33) : rows z (ix2 r ⟨0 + l, by omega⟩) = z (ix2 ⟨r, by omega⟩ l) := by
  refine Eq.trans ?_ (padZ_in z ⟨r, by omega⟩ l)
  unfold rows
  generalize padZ z = u
  pointwise
  rw [dif_pos (by omega)]

theorem rows1 (z : FVec Ideal S4096x33 .f32) (r : Fin 2048) (l : Fin 33) : rows z (ix2 r ⟨128 + l, by omega⟩) = z (ix2 ⟨2048 + r, by omega⟩ l) := by
  refine Eq.trans ?_ (padZ_in z ⟨2048 + r, by omega⟩ l)
  unfold rows
  generalize padZ z = u
  pointwise

theorem pairA0 (w : FVec Ideal S128x64 .f32) (l : Fin 256) (q : Fin 64) :
    pairA w (ix2 l ⟨q, by omega⟩) = if h : l.val < 128 then w (ix2 ⟨l, h⟩ q) else (0 : EReal) := by
  pointwise [pairA]

theorem pairA1 (w : FVec Ideal S128x64 .f32) (l : Fin 256) (q : Fin 64) :
    pairA w (ix2 l ⟨64 + q, by omega⟩) = if h : l.val < 128 then (0 : EReal) else w (ix2 ⟨l - 128, by omega⟩ q) := by
  pointwise [pairA]

theorem pairB0 (w : FVec Ideal S64x64 .f32) (l : Fin 128) (q : Fin 64) :
    pairB w (ix2 l ⟨q, by omega⟩) = if h : l.val < 64 then w (ix2 ⟨l, h⟩ q) else (0 : EReal) := by
  pointwise [pairB]

theorem pairB1 (w : FVec Ideal S64x64 .f32) (l : Fin 128) (q : Fin 64) :
    pairB w (ix2 l ⟨64 + q, by omega⟩) = if h : l.val < 64 then (0 : EReal) else w (ix2 ⟨l - 64, by omega⟩ q) := by
  pointwise [pairB]

theorem two0 (b : FVec Ideal S64 .f32) (q : Fin 64) : two b (ix2 0 ⟨q, by omega⟩) = b (ix1 q) := by
  pointwise [two]

theorem two1 (b : FVec Ideal S64 .f32) (q : Fin 64) : two b (ix2 0 ⟨64 + q, by omega⟩) = b (ix1 q) := by
  pointwise [two]

section
variable (m : (ℓ : Loc nD τ sig) → Buf (Elt Ideal) ℓ) (c : Dev nD)

theorem staged_z : V m c main_v3 = rows (m ((c : Thread nD τ).loc main_arg0)) := by
  unfold V hostOps0 hostOps0_1 hostOps0_2 hostOps0_3 hostOps0_4 hostOps0_5 hostOps0_6 hostOps0_7 hostOps0_8 hostOps0_9 hostOps0_10
  simp only [List.flatten_cons, List.flatten_nil, List.cons_append, List.nil_append, List.append_nil]
  after_reads_simp
  rfl

theorem staged_w1 : V m c main_v6 = pairA (padW (m ((c : Thread nD τ).loc main_arg1))) := by
  unfold V hostOps0 hostOps0_1 hostOps0_2 hostOps0_3 hostOps0_4 hostOps0_5 hostOps0_6 hostOps0_7 hostOps0_8 hostOps0_9 hostOps0_10
  simp only [List.flatten_cons, List.flatten_nil, List.cons_append, List.nil_append, List.append_nil]
  after_reads_simp
  rfl

theorem staged_b1 : V m c main_v8 = two (m ((c : Thread nD τ).loc main_arg2)) := by
  unfold V hostOps0 hostOps0_1 hostOps0_2 hostOps0_3 hostOps0_4 hostOps0_5 hostOps0_6 hostOps0_7 hostOps0_8 hostOps0_9 hostOps0_10
  simp only [List.flatten_cons, List.flatten_nil, List.cons_append, List.nil_append, List.append_nil]
  after_reads_simp
  rfl

theorem staged_w2 : V m c main_v10 = pairB (m ((c : Thread nD τ).loc main_arg3)) := by
  unfold V hostOps0 hostOps0_1 hostOps0_2 hostOps0_3 hostOps0_4 hostOps0_5 hostOps0_6 hostOps0_7 hostOps0_8 hostOps0_9 hostOps0_10
  simp only [List.flatten_cons, List.flatten_nil, List.cons_append, List.nil_append, List.append_nil]
  after_reads_simp
  rfl

theorem staged_b2 : V m c main_v12 = two (m ((c : Thread nD τ).loc main_arg4)) := by
  unfold V hostOps0 hostOps0_1 hostOps0_2 hostOps0_3 hostOps0_4 hostOps0_5 hostOps0_6 hostOps0_7 hostOps0_8 hostOps0_9 hostOps0_10
  simp only [List.flatten_cons, List.flatten_nil, List.cons_append, List.nil_append, List.append_nil]
  after_reads_simp
  rfl

theorem staged_w3 : V m c main_v14 = pairB (m ((c : Thread nD τ).loc main_arg5)) := by
  unfold V hostOps0 hostOps0_1 hostOps0_2 hostOps0_3 hostOps0_4 hostOps0_5 hostOps0_6 hostOps0_7 hostOps0_8 hostOps0_9 hostOps0_10
  simp only [List.flatten_cons, List.flatten_nil, List.cons_append, List.nil_append, List.append_nil]
  after_reads_simp
  rfl

theorem staged_b3 : V m c main_v16 = two (m ((c : Thread nD τ).loc main_arg6)) := by
  unfold V hostOps0 hostOps0_1 hostOps0_2 hostOps0_3 hostOps0_4 hostOps0_5 hostOps0_6 hostOps0_7 hostOps0_8 hostOps0_9 hostOps0_10
  simp only [List.flatten_cons, List.flatten_nil, List.cons_append, List.nil_append, List.append_nil]
  after_reads_simp
  rfl

theorem staged_fr : V m c main_v18 = two (m ((c : Thread nD τ).loc main_arg7)) := by
  unfold V hostOps0 hostOps0_1 hostOps0_2 hostOps0_3 hostOps0_4 hostOps0_5 hostOps0_6 hostOps0_7 hostOps0_8 hostOps0_9 hostOps0_10
  simp only [List.flatten_cons, List.flatten_nil, List.cons_append, List.nil_append, List.append_nil]
  after_reads_simp
  rfl

end

/-- The one point has every array whole. -/
theorem places : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_8.flush t = true :=
  (by decide +kernel : ∀ t : Fin grid0.N, _)

/-! ## The layers on the two halves -/

section
variable (z : FVec Ideal S4096x33 .f32) (w1 : FVec Ideal S33x64 .f32) (b1 : FVec Ideal S64 .f32) (w2 : FVec Ideal S64x64 .f32)
  (b2 : FVec Ideal S64 .f32) (w3 : FVec Ideal S64x64 .f32) (b3 fr : FVec Ideal S64 .f32)

/-- The network of a row. -/
def line (t : Fin 4096) : Fin 64 → EReal :=
  net (fun l => z (ix2 t l)) (fun l q => w1 (ix2 l q)) (fun q => b1 (ix1 q)) (fun l q => w2 (ix2 l q)) (fun q => b2 (ix1 q))
    (fun l q => w3 (ix2 l q)) (fun q => b3 (ix1 q)) (fun q => fr (ix1 q))

theorem first0 (r : Fin 2048) (q : Fin 64) :
    first (two fr) (rows z) (pairA (padW w1)) (two b1) (ix2 r ⟨q, by omega⟩)
      = layer (fun l => z (ix2 ⟨r, by omega⟩ l)) (fun l q => w1 (ix2 l q)) (fun q => b1 (ix1 q)) (fun q => fr (ix1 q)) q := by
  rw [first_apply, two0, two0]
  unfold layer
  rw [sum_stretch 0 (by omega) (fun l => rows z (ix2 r l)) (fun l => pairA (padW w1) (ix2 l ⟨q, by omega⟩)) (fun l => z (ix2 ⟨r, by omega⟩ l))
    (fun l => w1 (ix2 l q)) (fun l => rows0 z r l) (fun l => ?_) (fun l hl => ?_)]
  · show pairA (padW w1) (ix2 ⟨0 + l, by omega⟩ ⟨q, by omega⟩) = w1 (ix2 l q)
    rw [pairA0, dif_pos (show 0 + (l : ℕ) < 128 by omega), ← padW_in w1 l q]
    congr 2
    exact Fin.ext (by simp)
  · show pairA (padW w1) (ix2 l ⟨q, by omega⟩) = 0
    rw [pairA0]
    split
    · exact padW_out w1 _ q (by show 33 ≤ l.val; omega)
    · rfl

theorem first1 (r : Fin 2048) (q : Fin 64) :
    first (two fr) (rows z) (pairA (padW w1)) (two b1) (ix2 r ⟨64 + q, by omega⟩)
      = layer (fun l => z (ix2 ⟨2048 + r, by omega⟩ l)) (fun l q => w1 (ix2 l q)) (fun q => b1 (ix1 q)) (fun q => fr (ix1 q)) q := by
  rw [first_apply, two1, two1]
  unfold layer
  rw [sum_stretch 128 (by omega) (fun l => rows z (ix2 r l)) (fun l => pairA (padW w1) (ix2 l ⟨64 + q, by omega⟩)) (fun l => z (ix2 ⟨2048 + r, by omega⟩ l))
    (fun l => w1 (ix2 l q)) (fun l => rows1 z r l) (fun l => ?_) (fun l hl => ?_)]
  · show pairA (padW w1) (ix2 ⟨128 + l, by omega⟩ ⟨64 + q, by omega⟩) = w1 (ix2 l q)
    rw [pairA1, dif_neg (show ¬ 128 + (l : ℕ) < 128 by omega), ← padW_in w1 l q]
    congr 2
    exact Fin.ext (by simp)
  · show pairA (padW w1) (ix2 l ⟨64 + q, by omega⟩) = 0
    rw [pairA1]
    split
    · rfl
    · exact padW_out w1 _ q (by show 33 ≤ l.val - 128; omega)

theorem next0 (h : FVec Ideal S2048x128 .f32) (w : FVec Ideal S64x64 .f32) (b : FVec Ideal S64 .f32) (g : Fin 64 → EReal) (r : Fin 2048)
    (hg : ∀ l : Fin 64, h (ix2 r ⟨l, by omega⟩) = g l) (q : Fin 64) :
    next (two fr) h (pairB w) (two b) (ix2 r ⟨q, by omega⟩) = layer g (fun l q => w (ix2 l q)) (fun q => b (ix1 q)) (fun q => fr (ix1 q)) q := by
  rw [next_apply, two0, two0]
  unfold layer
  rw [sum_stretch 0 (by omega) (fun l => h (ix2 r l)) (fun l => pairB w (ix2 l ⟨q, by omega⟩)) g
    (fun l => w (ix2 l q)) (fun l => ?_) (fun l => ?_) (fun l hl => ?_)]
  · rw [← hg]
    exact congrArg (fun k => h (ix2 r k)) (Fin.ext (by simp))
  · show pairB w (ix2 ⟨0 + l, by omega⟩ ⟨q, by omega⟩) = w (ix2 l q)
    rw [pairB0, dif_pos (show 0 + (l : ℕ) < 64 by omega)]
    congr 2
    exact Fin.ext (by simp)
  · show pairB w (ix2 l ⟨q, by omega⟩) = 0
    rw [pairB0, dif_neg (by omega)]

theorem next1 (h : FVec Ideal S2048x128 .f32) (w : FVec Ideal S64x64 .f32) (b : FVec Ideal S64 .f32) (g : Fin 64 → EReal) (r : Fin 2048)
    (hg : ∀ l : Fin 64, h (ix2 r ⟨64 + l, by omega⟩) = g l) (q : Fin 64) :
    next (two fr) h (pairB w) (two b) (ix2 r ⟨64 + q, by omega⟩) = layer g (fun l q => w (ix2 l q)) (fun q => b (ix1 q)) (fun q => fr (ix1 q)) q := by
  rw [next_apply, two1, two1]
  unfold layer
  rw [sum_stretch 64 (by omega) (fun l => h (ix2 r l)) (fun l => pairB w (ix2 l ⟨64 + q, by omega⟩)) g
    (fun l => w (ix2 l q)) hg (fun l => ?_) (fun l hl => ?_)]
  · show pairB w (ix2 ⟨64 + l, by omega⟩ ⟨64 + q, by omega⟩) = w (ix2 l q)
    rw [pairB1, dif_neg (show ¬ 64 + (l : ℕ) < 64 by omega)]
    congr 2
    exact Fin.ext (by simp)
  · show pairB w (ix2 l ⟨64 + q, by omega⟩) = 0
    rw [pairB1, dif_pos (by omega)]

/-- What the call leaves, of the arguments. -/
def paid : FVec Ideal S2048x128 .f32 :=
  next (two fr) (next (two fr) (first (two fr) (rows z) (pairA (padW w1)) (two b1)) (pairB w2) (two b2)) (pairB w3) (two b3)

theorem paid0 (r : Fin 2048) (q : Fin 64) :
    paid z w1 b1 w2 b2 w3 b3 fr (ix2 r ⟨q, by omega⟩) = line z w1 b1 w2 b2 w3 b3 fr ⟨r, by omega⟩ q :=
  next0 fr _ w3 b3 _ r (fun l => next0 fr _ w2 b2 _ r (fun l => first0 z w1 b1 fr r l) l) q

theorem paid1 (r : Fin 2048) (q : Fin 64) :
    paid z w1 b1 w2 b2 w3 b3 fr (ix2 r ⟨64 + q, by omega⟩) = line z w1 b1 w2 b2 w3 b3 fr ⟨2048 + r, by omega⟩ q :=
  next1 fr _ w3 b3 _ r (fun l => next1 fr _ w2 b2 _ r (fun l => first1 z w1 b1 fr r l) l) q

end

/-! ## The output array -/

theorem ext2 {A B : ℕ} {x y : (⟨2, ![A, B]⟩ : Shape).Idx → EReal} (h : ∀ (a : Fin A) (b : Fin B), x (ix2 a b) = y (ix2 a b)) : x = y := by
  funext i
  have e : i = ix2 (i 0) (i 1) := by
    funext a
    match a with
    | ⟨0, _⟩ => rfl
    | ⟨1, _⟩ => rfl
  rw [e]
  exact h _ _

theorem whole0 (x : Vec Ideal S1x128 .f32) : View.ld x r0_0 = x :=
  ext2 (fun a b => by obtain rfl : a = 0 := Fin.ext (by omega); pointwise)
theorem whole1 (x : Vec Ideal S2048x256 .f32) : View.ld x r0_1 = x := ext2 (fun a b => by pointwise)
theorem whole2 (x : Vec Ideal S256x128 .f32) : View.ld x r0_2 = x := ext2 (fun a b => by pointwise)
theorem whole3 (x : Vec Ideal S128x128 .f32) : View.ld x r0_3 = x := ext2 (fun a b => by pointwise)

theorem out_eq (x0 : Vec Ideal S2048x256 .f32) (x1 : Vec Ideal S256x128 .f32) (x2 : Vec Ideal S1x128 .f32) (x3 : Vec Ideal S128x128 .f32)
    (x4 : Vec Ideal S1x128 .f32) (x5 : Vec Ideal S128x128 .f32) (x6 x7 : Vec Ideal S1x128 .f32) (r : Fin 2048) (n : Fin 128) :
    out0_8 x0 x1 x2 x3 x4 x5 x6 x7 (ix2 r n) = next x7 (next x7 (first x7 x0 x1 x2) x3 x4) x5 x6 (ix2 r n) := by
  unfold out0_8
  rw [View.canon_cons_unit_lit _ _ _ (by decide), pay_eq, whole0, whole0, whole0, whole0, whole1, whole2, whole3, whole3]

section
variable (m : (ℓ : Loc nD τ sig) → Buf (Elt Ideal) ℓ) (c : Dev nD) (t : Fin cfg0.N)

theorem block0 : iblk m c 0 t = rows (m ((c : Thread nD τ).loc main_arg0)) := by
  rw [← staged_z m c]
  refine ext2 (fun a b => ?_)
  blk_ext [iblk, places t]
theorem block1 : iblk m c 1 t = pairA (padW (m ((c : Thread nD τ).loc main_arg1))) := by
  rw [← staged_w1 m c]
  refine ext2 (fun a b => ?_)
  blk_ext [iblk, places t]
theorem block2 : iblk m c 2 t = two (m ((c : Thread nD τ).loc main_arg2)) := by
  rw [← staged_b1 m c]
  refine ext2 (fun a b => ?_)
  blk_ext [iblk, places t]
theorem block3 : iblk m c 3 t = pairB (m ((c : Thread nD τ).loc main_arg3)) := by
  rw [← staged_w2 m c]
  refine ext2 (fun a b => ?_)
  blk_ext [iblk, places t]
theorem block4 : iblk m c 4 t = two (m ((c : Thread nD τ).loc main_arg4)) := by
  rw [← staged_b2 m c]
  refine ext2 (fun a b => ?_)
  blk_ext [iblk, places t]
theorem block5 : iblk m c 5 t = pairB (m ((c : Thread nD τ).loc main_arg5)) := by
  rw [← staged_w3 m c]
  refine ext2 (fun a b => ?_)
  blk_ext [iblk, places t]
theorem block6 : iblk m c 6 t = two (m ((c : Thread nD τ).loc main_arg6)) := by
  rw [← staged_b3 m c]
  refine ext2 (fun a b => ?_)
  blk_ext [iblk, places t]
theorem block7 : iblk m c 7 t = two (m ((c : Thread nD τ).loc main_arg7)) := by
  rw [← staged_fr m c]
  refine ext2 (fun a b => ?_)
  blk_ext [iblk, places t]

/-- THE OUTPUT ARRAY at an index. -/
theorem value (r : Fin 2048) (n : Fin 128) :
    ((dats m 0 c).arrAt 8 cfg0.N : FVec Ideal S2048x128 .f32) (ix2 r n)
      = paid (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (ix2 r n) := by
  have hN : cfg0.N = 1 := N_0
  obtain ⟨t, -⟩ : ∃ t : Fin cfg0.N, t.val = 0 := ⟨⟨0, by omega⟩, rfl⟩
  have hf := congrFun ((blocks8 m c t (places t).2.2.2.2.2.2.2.2.2).trans (flushed8 m c t)) (ix2 r n)
  have he : ((cfg0.win 8).blk t).view.emb (ix2 r n) = (ix2 r n : S2048x128.Idx) := by
    have hp := (places t).2.2.2.2.2.2.2.2.1
    have h0 : win0_8.index t 0 = 0 := congrFun hp 0
    have h1 : win0_8.index t 1 = 0 := congrFun hp 1
    funext a
    apply Fin.ext
    match a with
    | ⟨0, _⟩ => show win0_8.index t 0 * 2048 + 1 * (r : ℕ) = r; rw [h0]; omega
    | ⟨1, _⟩ => show win0_8.index t 1 * 128 + 1 * (n : ℕ) = n; rw [h1]; omega
  have h' : ((dats m 0 c).arrAt 8 cfg0.N : FVec Ideal S2048x128 .f32) (((cfg0.win 8).blk t).view.emb (ix2 r n))
      = out0_8 (iblk m c 0 t) (iblk m c 1 t) (iblk m c 2 t) (iblk m c 3 t) (iblk m c 4 t) (iblk m c 5 t) (iblk m c 6 t) (iblk m c 7 t) (ix2 r n) := hf
  rw [he] at h'
  refine h'.trans ((out_eq _ _ _ _ _ _ _ _ r n).trans ?_)
  rw [block0, block1, block2, block3, block4, block5, block6, block7]
  rfl

end

end Cert.Kernel8Ideal.Block
-- ==== Proof.FilterValue.lean ====
/-
  The filter network: on equal arguments the reference's result is the kernel's array.
-/
module

public import proofs.«01_k».proof.Proof.FilterKernel
public import proofs.«01_k».proof.Proof.Gen.Reference8Ideal.Run

@[expose] public section

set_option maxRecDepth 16384

noncomputable section

namespace Cert.Reference8Ideal.Read

open Cert.Reference8Ideal Cert.Reference8Ideal.Gen Cert.Reference8Ideal.Value Cert.Filter
open Idealize.ShloMosaic Idealize.ShloMosaic.TcCoe

/-- The first layer, a further layer, and the halves side by side. -/
def first (z : FVec Ideal S4096x33 .f32) (w : FVec Ideal S33x64 .f32) (b fr : FVec Ideal S64 .f32) : FVec Ideal S4096x64 .f32 :=
  Host.sin (mulf (broadcastInDim S4096x64 ![0, 1] bcast_S1x64_S4096x64_0_1 (broadcastInDim S1x64 ![1] bcast_S64_S1x64_1 fr))
    (addf (Host.dotGeneral dot_S4096x33_S33x64_S4096x64_1_0_0_1_n_n none z w)
      (broadcastInDim S4096x64 ![0, 1] bcast_S1x64_S4096x64_0_1 (broadcastInDim S1x64 ![1] bcast_S64_S1x64_1 b))))
def next (h : FVec Ideal S4096x64 .f32) (w : FVec Ideal S64x64 .f32) (b fr : FVec Ideal S64 .f32) : FVec Ideal S4096x64 .f32 :=
  Host.sin (mulf (broadcastInDim S4096x64 ![0, 1] bcast_S1x64_S4096x64_0_1 (broadcastInDim S1x64 ![1] bcast_S64_S1x64_1 fr))
    (addf (Host.dotGeneral dot_S4096x64_S64x64_S4096x64_1_0_0_1_n_n none h w)
      (broadcastInDim S4096x64 ![0, 1] bcast_S1x64_S4096x64_0_1 (broadcastInDim S1x64 ![1] bcast_S64_S1x64_1 b))))
def halves (h : FVec Ideal S4096x64 .f32) : FVec Ideal S2048x128 .f32 :=
  concatenate S2048x128 1 [⟨S2048x64, extractStridedSlice S2048x64 ![0, 0] h slices_S4096x64_S2048x64_0_0⟩,
    ⟨S2048x64, extractStridedSlice S2048x64 ![2048, 0] h slices_S4096x64_S2048x64_2048_0⟩] concatenates_S2048x64_S2048x64_S2048x128_d1

theorem first_apply (z : FVec Ideal S4096x33 .f32) (w : FVec Ideal S33x64 .f32) (b fr : FVec Ideal S64 .f32) (r : Fin 4096) (q : Fin 64) :
    first z w b fr (ix2 r q) = layer (fun l => z (ix2 r l)) (fun l q => w (ix2 l q)) (fun q => b (ix1 q)) (fun q => fr (ix1 q)) q := by
  pointwise [first, layer]

theorem next_apply (h : FVec Ideal S4096x64 .f32) (w : FVec Ideal S64x64 .f32) (b fr : FVec Ideal S64 .f32) (r : Fin 4096) (q : Fin 64) :
    next h w b fr (ix2 r q) = layer (fun l => h (ix2 r l)) (fun l q => w (ix2 l q)) (fun q => b (ix1 q)) (fun q => fr (ix1 q)) q := by
  pointwise [next, layer]

theorem halves0 (h : FVec Ideal S4096x64 .f32) (r : Fin 2048) (q : Fin 64) :
    halves h (ix2 r ⟨q, by omega⟩) = h (ix2 ⟨r, by omega⟩ q) := by
  pointwise [halves]

theorem halves1 (h : FVec Ideal S4096x64 .f32) (r : Fin 2048) (q : Fin 64) :
    halves h (ix2 r ⟨64 + q, by omega⟩) = h (ix2 ⟨2048 + r, by omega⟩ q) := by
  pointwise [halves]

section
variable (z : FVec Ideal S4096x33 .f32) (w1 : FVec Ideal S33x64 .f32) (b1 : FVec Ideal S64 .f32) (w2 : FVec Ideal S64x64 .f32)
  (b2 : FVec Ideal S64 .f32) (w3 : FVec Ideal S64x64 .f32) (b3 fr : FVec Ideal S64 .f32)

def hidden : FVec Ideal S4096x64 .f32 := next (next (first z w1 b1 fr) w2 b2 fr) w3 b3 fr

/-- The reference's result. -/
def result : FVec Ideal S2048x128 .f32 := halves (hidden z w1 b1 w2 b2 w3 b3 fr)

theorem hidden_apply (t : Fin 4096) (q : Fin 64) :
    hidden z w1 b1 w2 b2 w3 b3 fr (ix2 t q) = Cert.Kernel8Ideal.Block.line z w1 b1 w2 b2 w3 b3 fr t q := by
  unfold hidden Cert.Kernel8Ideal.Block.line net
  rw [next_apply]
  simp only [next_apply, first_apply]

end

end Cert.Reference8Ideal.Read

namespace Cert.Filter

open Idealize.ShloMosaic Idealize.ShloMosaic.TcCoe Cert.Kernel8Ideal

theorem lane_split (n : Fin 128) : (∃ q : Fin 64, n = ⟨q, by omega⟩) ∨ ∃ q : Fin 64, n = ⟨64 + q, by omega⟩ := by
  by_cases h : n.val < 64
  · exact Or.inl ⟨⟨n, h⟩, rfl⟩
  · exact Or.inr ⟨⟨n - 64, by omega⟩, Fin.ext (by show (n : ℕ) = 64 + (n - 64); omega)⟩

variable (m : (ℓ : Loc nD τ sig) → Buf (Elt Ideal) ℓ) (c : Dev nD)

theorem results_eq :
    Cert.Reference8Ideal.Read.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))
      = (Gen.dats m 0 c).arrAt 8 cfg0.N := by
  refine Block.ext2 (fun r n => ?_)
  refine Eq.trans ?_ (Block.value m c r n).symm
  rcases lane_split n with ⟨q, rfl⟩ | ⟨q, rfl⟩
  · exact (Cert.Reference8Ideal.Read.halves0 _ r q).trans
      ((Cert.Reference8Ideal.Read.hidden_apply _ _ _ _ _ _ _ _ _ q).trans (Block.paid0 _ _ _ _ _ _ _ _ r q).symm)
  · exact (Cert.Reference8Ideal.Read.halves1 _ r q).trans
      ((Cert.Reference8Ideal.Read.hidden_apply _ _ _ _ _ _ _ _ _ q).trans (Block.paid1 _ _ _ _ _ _ _ _ r q).symm)

end Cert.Filter

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Value
public import proofs.«01_k».proof.Proof.MlpValue
public import proofs.«01_k».proof.Proof.InValue
public import proofs.«01_k».proof.Proof.CtxValue
public import proofs.«01_k».proof.Proof.BackValue
public import proofs.«01_k».proof.Proof.StateValue
public import proofs.«01_k».proof.Proof.ModValue
public import proofs.«01_k».proof.Proof.FilterValue
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import Idealize.ShloMosaic.Adequacy
public import Idealize.ShloMosaic.Init

@[expose] public section

noncomputable section

namespace Cert.Proof

open Idealize.ShloMosaic Idealize.SL.Sem Cert.Kernel

theorem pre_facts : Cert.Pre_gates_below_infinity.Facts := ⟨by decide⟩

theorem frame_kernel : Cert.quiescent_Kernel (hKernel := Cert.Kernel.Gen.facts) := fun m ρ _ => Cert.Kernel.Gen.frame m ρ

/-- The idealized kernel's arguments are unchanged, whatever was asked of them. -/
theorem frame_kernelIdeal : Cert.quiescent_KernelIdeal (hKernelIdeal := Cert.KernelIdeal.Gen.facts) :=
  fun m ρ _ => Cert.KernelIdeal.Gen.frame m ρ

/-- The reference ends at its operations' contents, its arguments among the buffers none of them writes. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_v41)
            = StableHlo.finalContents Cert.ReferenceIdeal.Value.condOps Cert.ReferenceIdeal.Value.preI Cert.ReferenceIdeal.Value.bodyI
                Cert.ReferenceIdeal.Value.postI 64 m c (Proc.devRef .tc Cert.ReferenceIdeal.main_v41)
        ∧ ∀ r' ∈ [Cert.ReferenceIdeal.main_arg0, Cert.ReferenceIdeal.main_arg1, Cert.ReferenceIdeal.main_arg2, Cert.ReferenceIdeal.main_arg3, Cert.ReferenceIdeal.main_arg4],
            r.2.mem ((c.tc : Thread Cert.ReferenceIdeal.nD Cert.ReferenceIdeal.τ).loc r')
              = m ((c.tc : Thread Cert.ReferenceIdeal.nD Cert.ReferenceIdeal.τ).loc r'))
        ∧ r.2.sem = fun _ => 0) :=
  (θ_run _ _ _).mono (fun r h => ⟨fun c => ⟨h c _ (by decide), fun r' hr =>
      (h c r' (by revert r'; decide)).trans (Cert.ReferenceIdeal.Stages.kept m c r' (by revert r'; decide))⟩,
      sem_eq_zero_of_no_sems (by decide) r.2⟩)
    (Cert.ReferenceIdeal.Value.run_fold m ρ)

theorem frame_reference : Cert.quiescent_ReferenceIdeal (hReferenceIdeal := Cert.ReferenceIdeal.Gen.facts) := fun m ρ _ =>
  (θ_run _ _ _).mono (fun _ h => ⟨fun c => ⟨(h.1 c).2 _ (by simp), (h.1 c).2 _ (by simp), (h.1 c).2 _ (by simp), (h.1 c).2 _ (by simp), (h.1 c).2 _ (by simp)⟩, h.2⟩)
    (reference_run m ρ)

/-- What the precondition says of the gates. -/
theorem gates_lt (m : (ℓ : Loc Cert.KernelIdeal.nD Cert.KernelIdeal.τ Cert.KernelIdeal.sig) → Buf (Elt Ideal) ℓ)
    (h : Cert.Pre_KernelIdeal_gates_below_infinity (hPre_gates_below_infinity := pre_facts) m) (c : Dev Cert.KernelIdeal.nD) (i : Cert.KernelIdeal.S8x4096x256.Idx) :
    LT.lt (α := EReal) (m ((c.tc : Thread Cert.KernelIdeal.nD Cert.KernelIdeal.τ).loc Cert.KernelIdeal.main_arg3) i) ⊤ := by
  have hi : Idealize.ShloMosaic.Ideal.cmp .olt _ (FloatOps.ofBits (F := Ideal) .f32 0x7F800000#32) = 1#1 := congrFun (h c) i
  rw [show (FloatOps.ofBits (F := Ideal) .f32 0x7F800000#32 : EReal) = ⊤ from by
    show Idealize.ShloMosaic.Ideal.ofBits .f32 0x7F800000#32 = ⊤
    simp [Idealize.ShloMosaic.Ideal.ofBits, Idealize.ShloMosaic.Ideal.ieee]] at hi
  by_contra hn
  rw [show Idealize.ShloMosaic.Ideal.cmp .olt (m ((c.tc : Thread Cert.KernelIdeal.nD Cert.KernelIdeal.τ).loc Cert.KernelIdeal.main_arg3) i) ⊤
    = BitVec.ofBool (decide (LT.lt (α := EReal) (m ((c.tc : Thread Cert.KernelIdeal.nD Cert.KernelIdeal.τ).loc Cert.KernelIdeal.main_arg3) i) ⊤)) from rfl,
    decide_eq_false hn] at hi
  exact absurd hi (by decide)

theorem algebraic : Cert.algebraic_KernelIdeal_ReferenceIdeal_pre_gates_below_infinity (hKernelIdeal := Cert.KernelIdeal.Gen.facts)
    (hReferenceIdeal := Cert.ReferenceIdeal.Gen.facts) (hPre_gates_below_infinity := pre_facts) := by
  intro m ρ m' ρ' hpre hagree
  refine ⟨fun c => Cert.KernelIdeal.Value.G5 m c, Cert.KernelIdeal.Value.run m ρ, ?_⟩
  refine (θ_run _ _ _).mono (fun _ h c => ?_) (reference_run m' ρ')
  obtain ⟨a0, a1, a2, a3, a4⟩ := hagree c
  exact ⟨(h.1 c).1.trans (results_eq m m' c (gates_lt m hpre c) a0 a1 a2 a3 a4),
    (h.1 c).2 _ (by simp), (h.1 c).2 _ (by simp), (h.1 c).2 _ (by simp), (h.1 c).2 _ (by simp), (h.1 c).2 _ (by simp)⟩

/-! ## The output call -/

theorem frame_kernel2 : Cert.quiescent_Kernel2 (hKernel2 := Cert.Kernel2.Gen.facts) := fun m ρ _ => Cert.Kernel2.Gen.frame m ρ

theorem frame_kernel2Ideal : Cert.quiescent_Kernel2Ideal (hKernel2Ideal := Cert.Kernel2Ideal.Gen.facts) :=
  fun m ρ _ => Cert.Kernel2Ideal.Gen.frame m ρ

theorem frame_reference2 : Cert.quiescent_Reference2Ideal (hReference2Ideal := Cert.Reference2Ideal.Gen.facts) := fun m ρ _ =>
  (θ_run _ _ _).mono (fun r h => ⟨fun c => (h c).2, sem_eq_zero_of_no_sems (by decide) r.2⟩) (Cert.Reference2Ideal.Value.run m ρ)

theorem algebraic2 : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => (Cert.Kernel2Ideal.Gen.dats m 0 c).arrAt 9 Cert.Kernel2Ideal.cfg0.N, Cert.Kernel2Ideal.Value.run_blocks m ρ, ?_⟩
  refine (θ_run _ _ _).mono (fun _ h c => ⟨(h c).1.trans ?_, (h c).2⟩) (Cert.Reference2Ideal.Value.run m' ρ')
  obtain ⟨a0, a1, a2, a3, a4, a5, a6, a7, a8⟩ := hagree c
  refine (Cert.Reference2Ideal.Read.res_eq m' c).trans ?_
  rw [a0, a1, a2, a3, a4, a5, a6, a7, a8]
  exact Cert.Mlp.results_eq m c

/-! ## The input projection -/

theorem frame_kernel3 : Cert.quiescent_Kernel3 (hKernel3 := Cert.Kernel3.Gen.facts) := fun m ρ _ => Cert.Kernel3.Gen.frame m ρ

theorem frame_kernel3Ideal : Cert.quiescent_Kernel3Ideal (hKernel3Ideal := Cert.Kernel3Ideal.Gen.facts) := fun m ρ _ => Cert.Kernel3Ideal.Gen.frame m ρ

theorem frame_reference3 : Cert.quiescent_Reference3Ideal (hReference3Ideal := Cert.Reference3Ideal.Gen.facts) := fun m ρ _ =>
  (θ_run _ _ _).mono (fun r h => ⟨fun c => (h c).2.2.2.2.2.2.2.2, sem_eq_zero_of_no_sems (by decide) r.2⟩) (Cert.Reference3Ideal.Read.run_results m ρ)

theorem algebraic3 : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => (Cert.Kernel3Ideal.Gen.dats m 0 c).arrAt 8 Cert.Kernel3Ideal.cfg0.N, fun c => (Cert.Kernel3Ideal.Gen.dats m 0 c).arrAt 9 Cert.Kernel3Ideal.cfg0.N, fun c => (Cert.Kernel3Ideal.Gen.dats m 0 c).arrAt 10 Cert.Kernel3Ideal.cfg0.N, fun c => (Cert.Kernel3Ideal.Gen.dats m 0 c).arrAt 11 Cert.Kernel3Ideal.cfg0.N, fun c => (Cert.Kernel3Ideal.Gen.dats m 0 c).arrAt 12 Cert.Kernel3Ideal.cfg0.N, fun c => (Cert.Kernel3Ideal.Gen.dats m 0 c).arrAt 13 Cert.Kernel3Ideal.cfg0.N, fun c => (Cert.Kernel3Ideal.Gen.dats m 0 c).arrAt 14 Cert.Kernel3Ideal.cfg0.N, fun c => (Cert.Kernel3Ideal.Gen.dats m 0 c).arrAt 15 Cert.Kernel3Ideal.cfg0.N,
    Cert.Kernel3Ideal.Value.run_blocks m ρ, ?_⟩
  refine (θ_run _ _ _).mono (fun _ h c => ?_) (Cert.Reference3Ideal.Read.run_results m' ρ')
  obtain ⟨a0, a1, a2, a3, a4, a5, a6, a7, a8, a9⟩ := hagree c
  obtain ⟨h0, h1, h2, h3, h4, h5, h6, h7, h⟩ := h c
  rw [a0, a1, a2, a3, a4, a5] at h0 h1
  rw [a0, a1, a2, a3] at h2 h3 h4 h5
  rw [a0, a1, a2, a3, a6, a7] at h6
  rw [a0, a1, a2, a3, a8, a9] at h7
  exact ⟨h0.trans (Cert.InProj.results0 m c), h1.trans (Cert.InProj.results1 m c), h2.trans (Cert.InProj.results2 m c),
    h3.trans (Cert.InProj.results3 m c), h4.trans (Cert.InProj.results4 m c), h5.trans (Cert.InProj.results5 m c),
    h6.trans (Cert.InProj.results6 m c), h7.trans (Cert.InProj.results7 m c), h⟩

/-! ## The context's input projection -/

theorem frame_kernel4 : Cert.quiescent_Kernel4 (hKernel4 := Cert.Kernel4.Gen.facts) := fun m ρ _ => Cert.Kernel4.Gen.frame m ρ

theorem frame_kernel4Ideal : Cert.quiescent_Kernel4Ideal (hKernel4Ideal := Cert.Kernel4Ideal.Gen.facts) := fun m ρ _ => Cert.Kernel4Ideal.Gen.frame m ρ

theorem frame_reference4 : Cert.quiescent_Reference4Ideal (hReference4Ideal := Cert.Reference4Ideal.Gen.facts) := fun m ρ _ =>
  (θ_run _ _ _).mono (fun r h => ⟨fun c => (h c).2.2.2.2, sem_eq_zero_of_no_sems (by decide) r.2⟩) (Cert.Reference4Ideal.Read.run_results m ρ)

theorem algebraic4 : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => (Cert.Kernel4Ideal.Gen.dats m 0 c).arrAt 6 Cert.Kernel4Ideal.cfg0.N, fun c => (Cert.Kernel4Ideal.Gen.dats m 0 c).arrAt 7 Cert.Kernel4Ideal.cfg0.N, fun c => (Cert.Kernel4Ideal.Gen.dats m 0 c).arrAt 8 Cert.Kernel4Ideal.cfg0.N, fun c => (Cert.Kernel4Ideal.Gen.dats m 0 c).arrAt 9 Cert.Kernel4Ideal.cfg0.N,
    Cert.Kernel4Ideal.Value.run_blocks m ρ, ?_⟩
  refine (θ_run _ _ _).mono (fun _ h c => ?_) (Cert.Reference4Ideal.Read.run_results m' ρ')
  obtain ⟨a0, a1, a2, a3, a4, a5, a6, a7⟩ := hagree c
  obtain ⟨h0, h1, h2, h3, h⟩ := h c
  rw [a0, a1, a2, a3] at h0 h1
  rw [a0, a1, a2, a3, a4, a5] at h2
  rw [a0, a1, a2, a3, a6, a7] at h3
  exact ⟨h0.trans (Cert.CtxProj.results0 m c), h1.trans (Cert.CtxProj.results1 m c), h2.trans (Cert.CtxProj.results2 m c),
    h3.trans (Cert.CtxProj.results3 m c), h⟩

/-! ## The backward direction and its output gate -/

theorem pre_facts5 : Cert.Pre_gates_below_infinity_back.Facts := ⟨by decide⟩

theorem frame_kernel5 : Cert.quiescent_Kernel5 (hKernel5 := Cert.Kernel5.Gen.facts) := fun m ρ _ => Cert.Kernel5.Gen.frame m ρ

theorem frame_kernel5Ideal : Cert.quiescent_Kernel5Ideal (hKernel5Ideal := Cert.Kernel5Ideal.Gen.facts) := fun m ρ _ => Cert.Kernel5Ideal.Gen.frame m ρ

/-- The backward reference ends at its operations' contents, its arguments among the buffers none of them writes. -/
theorem reference5_run (m : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩
      (fun r => (∀ c : Dev Cert.Reference5Ideal.nD,
        r.2.mem ((c.tc : Thread Cert.Reference5Ideal.nD Cert.Reference5Ideal.τ).loc Cert.Reference5Ideal.main_v66)
            = StableHlo.finalContents Cert.Reference5Ideal.Value.condOps Cert.Reference5Ideal.Value.preI Cert.Reference5Ideal.Value.bodyI
                Cert.Reference5Ideal.Value.postI 64 m c (Proc.devRef .tc Cert.Reference5Ideal.main_v66)
        ∧ ∀ r' ∈ [Cert.Reference5Ideal.main_arg0, Cert.Reference5Ideal.main_arg1, Cert.Reference5Ideal.main_arg2, Cert.Reference5Ideal.main_arg3, Cert.Reference5Ideal.main_arg4,
              Cert.Reference5Ideal.main_arg5, Cert.Reference5Ideal.main_arg6, Cert.Reference5Ideal.main_arg7],
            r.2.mem ((c.tc : Thread Cert.Reference5Ideal.nD Cert.Reference5Ideal.τ).loc r')
              = m ((c.tc : Thread Cert.Reference5Ideal.nD Cert.Reference5Ideal.τ).loc r'))
        ∧ r.2.sem = fun _ => 0) :=
  (θ_run _ _ _).mono (fun r h => ⟨fun c => ⟨h c _ (by decide), fun r' hr =>
      (h c r' (by revert r'; decide)).trans (Cert.Reference5Ideal.Stages.kept m c r' (by revert r'; decide))⟩,
      sem_eq_zero_of_no_sems (by decide) r.2⟩)
    (Cert.Reference5Ideal.Value.run_fold m ρ)

theorem frame_reference5 : Cert.quiescent_Reference5Ideal (hReference5Ideal := Cert.Reference5Ideal.Gen.facts) := fun m ρ _ =>
  (θ_run _ _ _).mono (fun _ h => ⟨fun c => ⟨(h.1 c).2 _ (by simp), (h.1 c).2 _ (by simp), (h.1 c).2 _ (by simp), (h.1 c).2 _ (by simp), (h.1 c).2 _ (by simp), (h.1 c).2 _ (by simp), (h.1 c).2 _ (by simp), (h.1 c).2 _ (by simp)⟩, h.2⟩)
    (reference5_run m ρ)

/-- What the precondition of the backward direction says of the gates. -/
theorem gates_lt5 (m : (ℓ : Loc Cert.Kernel5Ideal.nD Cert.Kernel5Ideal.τ Cert.Kernel5Ideal.sig) → Buf (Elt Ideal) ℓ)
    (h : Cert.Pre_Kernel5Ideal_gates_below_infinity_back (hPre_gates_below_infinity_back := pre_facts5) m) (c : Dev Cert.Kernel5Ideal.nD) (i : Cert.Kernel5Ideal.S8x4096x256.Idx) :
    LT.lt (α := EReal) (m ((c.tc : Thread Cert.Kernel5Ideal.nD Cert.Kernel5Ideal.τ).loc Cert.Kernel5Ideal.main_arg3) i) ⊤ := by
  have hi : Idealize.ShloMosaic.Ideal.cmp .olt _ (FloatOps.ofBits (F := Ideal) .f32 0x7F800000#32) = 1#1 := congrFun (h c) i
  rw [show (FloatOps.ofBits (F := Ideal) .f32 0x7F800000#32 : EReal) = ⊤ from by
    show Idealize.ShloMosaic.Ideal.ofBits .f32 0x7F800000#32 = ⊤
    simp [Idealize.ShloMosaic.Ideal.ofBits, Idealize.ShloMosaic.Ideal.ieee]] at hi
  by_contra hn
  rw [show Idealize.ShloMosaic.Ideal.cmp .olt (m ((c.tc : Thread Cert.Kernel5Ideal.nD Cert.Kernel5Ideal.τ).loc Cert.Kernel5Ideal.main_arg3) i) ⊤
    = BitVec.ofBool (decide (LT.lt (α := EReal) (m ((c.tc : Thread Cert.Kernel5Ideal.nD Cert.Kernel5Ideal.τ).loc Cert.Kernel5Ideal.main_arg3) i) ⊤)) from rfl,
    decide_eq_false hn] at hi
  exact absurd hi (by decide)

theorem algebraic5 : Cert.algebraic_Kernel5Ideal_Reference5Ideal_pre_gates_below_infinity_back (hKernel5Ideal := Cert.Kernel5Ideal.Gen.facts)
    (hReference5Ideal := Cert.Reference5Ideal.Gen.facts) (hPre_gates_below_infinity_back := pre_facts5) := by
  intro m ρ m' ρ' hpre hagree
  refine ⟨fun c => (Cert.Kernel5Ideal.Gen.dats m 0 c).arrAt 8 Cert.Kernel5Ideal.cfg0.N, Cert.Kernel5Ideal.Value.run_blocks m ρ, ?_⟩
  refine (θ_run _ _ _).mono (fun _ h c => ?_) (reference5_run m' ρ')
  obtain ⟨a0, a1, a2, a3, a4, a5, a6, a7⟩ := hagree c
  exact ⟨(h.1 c).1.trans (results_eq5 m m' c (gates_lt5 m hpre c) a0 a1 a2 a3 a4 a5 a6 a7),
    (h.1 c).2 _ (by simp), (h.1 c).2 _ (by simp), (h.1 c).2 _ (by simp), (h.1 c).2 _ (by simp), (h.1 c).2 _ (by simp), (h.1 c).2 _ (by simp), (h.1 c).2 _ (by simp), (h.1 c).2 _ (by simp)⟩

/-! ## The context's start states -/

theorem pre_facts6 : Cert.Pre_gates_finite.Facts := ⟨by decide⟩

theorem frame_kernel6 : Cert.quiescent_Kernel6 (hKernel6 := Cert.Kernel6.Gen.facts) := fun m ρ _ => Cert.Kernel6.Gen.frame m ρ

theorem frame_kernel6Ideal : Cert.quiescent_Kernel6Ideal (hKernel6Ideal := Cert.Kernel6Ideal.Gen.facts) := fun m ρ _ => Cert.Kernel6Ideal.Gen.frame m ρ

theorem frame_reference6 : Cert.quiescent_Reference6Ideal (hReference6Ideal := Cert.Reference6Ideal.Gen.facts) := fun m ρ _ =>
  (θ_run _ _ _).mono (fun r h => ⟨fun c => (h c).2.2, sem_eq_zero_of_no_sems (by decide) r.2⟩) (Cert.Reference6Ideal.Value.run m ρ)

/-- A number whose size is below infinity is neither infinity. -/
theorem finite_of_size (x : EReal) (hi : Idealize.ShloMosaic.Ideal.cmp .olt (max x (-x)) (FloatOps.ofBits (F := Ideal) .f32 0x7F800000#32) = 1#1) :
    x ≠ ⊤ ∧ x ≠ ⊥ := by
  rw [show (FloatOps.ofBits (F := Ideal) .f32 0x7F800000#32 : EReal) = ⊤ from by
    show Idealize.ShloMosaic.Ideal.ofBits .f32 0x7F800000#32 = ⊤
    simp [Idealize.ShloMosaic.Ideal.ofBits, Idealize.ShloMosaic.Ideal.ieee]] at hi
  have hlt : max x (-x) < ⊤ := by
    by_contra hn
    rw [show Idealize.ShloMosaic.Ideal.cmp .olt (max x (-x)) ⊤ = BitVec.ofBool (decide (max x (-x) < ⊤)) from rfl, decide_eq_false hn] at hi
    exact absurd hi (by decide)
  refine ⟨fun h => ?_, fun h => ?_⟩ <;> subst h <;> simp at hlt

/-- What the precondition says of both directions' gates. -/
theorem gates_finite6 (m : (ℓ : Loc Cert.Kernel6Ideal.nD Cert.Kernel6Ideal.τ Cert.Kernel6Ideal.sig) → Buf (Elt Ideal) ℓ)
    (h : Cert.Pre_Kernel6Ideal_gates_finite (hPre_gates_finite := pre_facts6) m) (c : Dev Cert.Kernel6Ideal.nD) (i : Cert.Kernel6Ideal.S8x256x256.Idx) :
    ((show EReal from m ((c.tc : Thread Cert.Kernel6Ideal.nD Cert.Kernel6Ideal.τ).loc Cert.Kernel6Ideal.main_arg2) i) ≠ ⊤
      ∧ (show EReal from m ((c.tc : Thread Cert.Kernel6Ideal.nD Cert.Kernel6Ideal.τ).loc Cert.Kernel6Ideal.main_arg2) i) ≠ ⊥)
    ∧ ((show EReal from m ((c.tc : Thread Cert.Kernel6Ideal.nD Cert.Kernel6Ideal.τ).loc Cert.Kernel6Ideal.main_arg3) i) ≠ ⊤
      ∧ (show EReal from m ((c.tc : Thread Cert.Kernel6Ideal.nD Cert.Kernel6Ideal.τ).loc Cert.Kernel6Ideal.main_arg3) i) ≠ ⊥) := by
  have hi : Idealize.ShloMosaic.Ideal.cmp .olt _ (FloatOps.ofBits (F := Ideal) .f32 0x7F800000#32)
      &&& Idealize.ShloMosaic.Ideal.cmp .olt _ (FloatOps.ofBits (F := Ideal) .f32 0x7F800000#32) = 1#1 := congrFun (h c) i
  have both : ∀ a b : BitVec 1, a &&& b = 1#1 → a = 1#1 ∧ b = 1#1 := by decide
  obtain ⟨h2, h3⟩ := both _ _ hi
  exact ⟨finite_of_size _ h2, finite_of_size _ h3⟩

theorem algebraic6 : Cert.algebraic_Kernel6Ideal_Reference6Ideal_pre_gates_finite (hKernel6Ideal := Cert.Kernel6Ideal.Gen.facts)
    (hReference6Ideal := Cert.Reference6Ideal.Gen.facts) (hPre_gates_finite := pre_facts6) := by
  intro m ρ m' ρ' hpre hagree
  refine ⟨fun c => (Cert.Kernel6Ideal.Gen.dats m 0 c).arrAt 4 Cert.Kernel6Ideal.cfg0.N, fun c => (Cert.Kernel6Ideal.Gen.dats m 0 c).arrAt 5 Cert.Kernel6Ideal.cfg0.N,
    Cert.Kernel6Ideal.Value.run_blocks m ρ, ?_⟩
  refine (θ_run _ _ _).mono (fun _ h c => ?_) (Cert.Reference6Ideal.Value.run m' ρ')
  obtain ⟨a0, a1, a2, a3⟩ := hagree c
  obtain ⟨h0, h1, h⟩ := h c
  rw [a0, a1, a2] at h0
  rw [a0, a1, a3] at h1
  exact ⟨h0.trans (Cert.Gla.states0 m c fun i => (gates_finite6 m hpre c i).1), h1.trans (Cert.Gla.states1 m c fun i => (gates_finite6 m hpre c i).2), h⟩

/-! ## The modulation -/

theorem frame_kernel7 : Cert.quiescent_Kernel7 (hKernel7 := Cert.Kernel7.Gen.facts) := fun m ρ _ => Cert.Kernel7.Gen.frame m ρ

theorem frame_kernel7Ideal : Cert.quiescent_Kernel7Ideal (hKernel7Ideal := Cert.Kernel7Ideal.Gen.facts) := fun m ρ _ => Cert.Kernel7Ideal.Gen.frame m ρ

theorem frame_reference7 : Cert.quiescent_Reference7Ideal (hReference7Ideal := Cert.Reference7Ideal.Gen.facts) := fun m ρ _ =>
  (θ_run _ _ _).mono (fun r h => ⟨fun c => (h c).2, sem_eq_zero_of_no_sems (by decide) r.2⟩) (Cert.Reference7Ideal.Value.run m ρ)

theorem algebraic7 : Cert.algebraic_Kernel7Ideal_Reference7Ideal (hKernel7Ideal := Cert.Kernel7Ideal.Gen.facts)
    (hReference7Ideal := Cert.Reference7Ideal.Gen.facts) := by
  intro m ρ m' ρ' _ hagree
  refine ⟨fun c => (Cert.Kernel7Ideal.Gen.dats m 0 c).arrAt 3 Cert.Kernel7Ideal.cfg0.N, Cert.Kernel7Ideal.Value.run_blocks m ρ, ?_⟩
  refine (θ_run _ _ _).mono (fun _ h c => ?_) (Cert.Reference7Ideal.Value.run m' ρ')
  obtain ⟨a0, a1, a2, a3⟩ := hagree c
  obtain ⟨h0, h⟩ := h c
  rw [a0, a1, a2, a3] at h0
  exact ⟨h0.trans (Cert.Modulation.results_eq m c), h⟩

theorem frame_kernel8 : Cert.quiescent_Kernel8 (hKernel8 := Cert.Kernel8.Gen.facts) := fun m ρ _ => Cert.Kernel8.Gen.frame m ρ

theorem frame_kernel8Ideal : Cert.quiescent_Kernel8Ideal (hKernel8Ideal := Cert.Kernel8Ideal.Gen.facts) := fun m ρ _ => Cert.Kernel8Ideal.Gen.frame m ρ

theorem frame_reference8 : Cert.quiescent_Reference8Ideal (hReference8Ideal := Cert.Reference8Ideal.Gen.facts) := fun m ρ _ =>
  (θ_run _ _ _).mono (fun r h => ⟨fun c => (h c).2, sem_eq_zero_of_no_sems (by decide) r.2⟩) (Cert.Reference8Ideal.Value.run m ρ)

theorem algebraic8 : Cert.algebraic_Kernel8Ideal_Reference8Ideal (hKernel8Ideal := Cert.Kernel8Ideal.Gen.facts)
    (hReference8Ideal := Cert.Reference8Ideal.Gen.facts) := by
  intro m ρ m' ρ' _ hagree
  refine ⟨fun c => (Cert.Kernel8Ideal.Gen.dats m 0 c).arrAt 8 Cert.Kernel8Ideal.cfg0.N, Cert.Kernel8Ideal.Value.run_blocks m ρ, ?_⟩
  refine (θ_run _ _ _).mono (fun _ h c => ?_) (Cert.Reference8Ideal.Value.run m' ρ')
  obtain ⟨a0, a1, a2, a3, a4, a5, a6, a7⟩ := hagree c
  obtain ⟨h0, h⟩ := h c
  rw [a0, a1, a2, a3, a4, a5, a6, a7] at h0
  exact ⟨h0.trans (Cert.Filter.results_eq m c), h⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, pre_facts, pre_facts5, pre_facts6,
    frame_kernel, frame_kernelIdeal, fun m ρ _ => Cert.KernelIdeal.Gen.frame m ρ,
    frame_reference, fun m ρ _ => frame_reference m ρ trivial, frame_kernel2, frame_kernel2Ideal, frame_reference2,
    frame_kernel3, frame_kernel3Ideal, frame_reference3,
    frame_kernel4, frame_kernel4Ideal, frame_reference4,
    frame_kernel5, frame_kernel5Ideal, fun m ρ _ => Cert.Kernel5Ideal.Gen.frame m ρ,
    frame_reference5, fun m ρ _ => frame_reference5 m ρ trivial,
    frame_kernel6, frame_kernel6Ideal, fun m ρ _ => Cert.Kernel6Ideal.Gen.frame m ρ,
    frame_reference6, fun m ρ _ => frame_reference6 m ρ trivial,
    frame_kernel7, frame_kernel7Ideal, frame_reference7,
    frame_kernel8, frame_kernel8Ideal, frame_reference8,
    trivial, algebraic, trivial, algebraic2, trivial, algebraic3, trivial, algebraic4, trivial, algebraic5, trivial, algebraic6, trivial, algebraic7, trivial, algebraic8⟩

end Cert.Proof

end
